-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsRefIdeal (m : (ℓ : Loc Cert.RowsRefIdeal.nD Cert.RowsRefIdeal.τ Cert.RowsRefIdeal.sig) → Buf (Elt Ideal) ℓ) : Prop :=
  True

def Pre_Kvs (m : (ℓ : Loc Cert.Kvs.nD Cert.Kvs.τ Cert.Kvs.sig) → Buf (Elt Bits) ℓ) : Prop :=
  True

def Pre_KvsIdeal (m : (ℓ : Loc Cert.KvsIdeal.nD Cert.KvsIdeal.τ Cert.KvsIdeal.sig) → Buf (Elt Ideal) ℓ) : Prop :=
  True

def Pre_KvsRefIdeal (m : (ℓ : Loc Cert.KvsRefIdeal.nD Cert.KvsRefIdeal.τ Cert.KvsRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Cum (m : (ℓ : Loc Cert.Cum.nD Cert.Cum.τ Cert.Cum.sig) → Buf (Elt Bits) ℓ) : Prop :=
  True

def Pre_CumIdeal (m : (ℓ : Loc Cert.CumIdeal.nD Cert.CumIdeal.τ Cert.CumIdeal.sig) → Buf (Elt Ideal) ℓ) : Prop :=
  True

def Pre_CumIdeal_below_infinity [hPre_below_infinity : Cert.Pre_below_infinity.Facts] (m : (ℓ : Loc Cert.CumIdeal.nD Cert.CumIdeal.τ Cert.CumIdeal.sig) → Buf (Elt Ideal) ℓ) : Prop :=
  ∀ c : Dev Cert.CumIdeal.nD,
    (Cert.Pre_below_infinity.fn (F := Ideal) (m ((c.tc : Thread Cert.CumIdeal.nD Cert.CumIdeal.τ).loc Cert.CumIdeal.main_arg0))) = (fun _ => 1#1)

def Pre_CumRefIdeal (m : (ℓ : Loc Cert.CumRefIdeal.nD Cert.CumRefIdeal.τ Cert.CumRefIdeal.sig) → Buf (Elt Ideal) ℓ) : Prop :=
  True

def Pre_CumRefIdeal_below_infinity [hPre_below_infinity : Cert.Pre_below_infinity.Facts] (m : (ℓ : Loc Cert.CumRefIdeal.nD Cert.CumRefIdeal.τ Cert.CumRefIdeal.sig) → Buf (Elt Ideal) ℓ) : Prop :=
  ∀ c : Dev Cert.CumRefIdeal.nD,
    (Cert.Pre_below_infinity.fn (F := Ideal) (m ((c.tc : Thread Cert.CumRefIdeal.nD Cert.CumRefIdeal.τ).loc Cert.CumRefIdeal.main_arg0))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_RowsRefIdeal [hRowsRefIdeal : Cert.RowsRefIdeal.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1))
      ∧ r.2.sem = fun _ => 0)

def quiescent_Kvs [hKvs : Cert.Kvs.Facts] : Prop :=
  ∀ (m : (ℓ : Loc Cert.Kvs.nD Cert.Kvs.τ Cert.Kvs.sig) → Buf (Elt Bits) ℓ) (g : Dev Cert.Kvs.nD → PrngReg), Pre_Kvs m →
    θ_run (Cert.Kvs.defs (F := Bits)) (onTc (τ := Cert.Kvs.τ) (Cert.Kvs.main (F := Bits))) ⟨m, fun _ => 0, g⟩ (fun r => (∀ c : Dev Cert.Kvs.nD,
      r.2.mem ((c.tc : Thread Cert.Kvs.nD Cert.Kvs.τ).loc Cert.Kvs.main_arg0) = m ((c.tc : Thread Cert.Kvs.nD Cert.Kvs.τ).loc Cert.Kvs.main_arg0)
      ∧ r.2.mem ((c.tc : Thread Cert.Kvs.nD Cert.Kvs.τ).loc Cert.Kvs.main_arg1) = m ((c.tc : Thread Cert.Kvs.nD Cert.Kvs.τ).loc Cert.Kvs.main_arg1)
      ∧ r.2.mem ((c.tc : Thread Cert.Kvs.nD Cert.Kvs.τ).loc Cert.Kvs.main_arg2) = m ((c.tc : Thread Cert.Kvs.nD Cert.Kvs.τ).loc Cert.Kvs.main_arg2)
      ∧ r.2.mem ((c.tc : Thread Cert.Kvs.nD Cert.Kvs.τ).loc Cert.Kvs.main_arg3) = m ((c.tc : Thread Cert.Kvs.nD Cert.Kvs.τ).loc Cert.Kvs.main_arg3))
      ∧ r.2.sem = fun _ => 0)

def quiescent_KvsIdeal [hKvsIdeal : Cert.KvsIdeal.Facts] : Prop :=
  ∀ (m : (ℓ : Loc Cert.KvsIdeal.nD Cert.KvsIdeal.τ Cert.KvsIdeal.sig) → Buf (Elt Ideal) ℓ) (g : Dev Cert.KvsIdeal.nD → PrngReg), Pre_KvsIdeal m →
    θ_run (Cert.KvsIdeal.defs (F := Ideal)) (onTc (τ := Cert.KvsIdeal.τ) (Cert.KvsIdeal.main (F := Ideal))) ⟨m, fun _ => 0, g⟩ (fun r => (∀ c : Dev Cert.KvsIdeal.nD,
      r.2.mem ((c.tc : Thread Cert.KvsIdeal.nD Cert.KvsIdeal.τ).loc Cert.KvsIdeal.main_arg0) = m ((c.tc : Thread Cert.KvsIdeal.nD Cert.KvsIdeal.τ).loc Cert.KvsIdeal.main_arg0)
      ∧ r.2.mem ((c.tc : Thread Cert.KvsIdeal.nD Cert.KvsIdeal.τ).loc Cert.KvsIdeal.main_arg1) = m ((c.tc : Thread Cert.KvsIdeal.nD Cert.KvsIdeal.τ).loc Cert.KvsIdeal.main_arg1)
      ∧ r.2.mem ((c.tc : Thread Cert.KvsIdeal.nD Cert.KvsIdeal.τ).loc Cert.KvsIdeal.main_arg2) = m ((c.tc : Thread Cert.KvsIdeal.nD Cert.KvsIdeal.τ).loc Cert.KvsIdeal.main_arg2)
      ∧ r.2.mem ((c.tc : Thread Cert.KvsIdeal.nD Cert.KvsIdeal.τ).loc Cert.KvsIdeal.main_arg3) = m ((c.tc : Thread Cert.KvsIdeal.nD Cert.KvsIdeal.τ).loc Cert.KvsIdeal.main_arg3))
      ∧ r.2.sem = fun _ => 0)

def quiescent_KvsRefIdeal [hKvsRefIdeal : Cert.KvsRefIdeal.Facts] : Prop :=
  ∀ (m : (ℓ : Loc Cert.KvsRefIdeal.nD Cert.KvsRefIdeal.τ Cert.KvsRefIdeal.sig) → Buf (Elt Ideal) ℓ) (g : Dev Cert.KvsRefIdeal.nD → PrngReg), Pre_KvsRefIdeal m →
    θ_run (Cert.KvsRefIdeal.defs (F := Ideal)) (onTc (τ := Cert.KvsRefIdeal.τ) (Cert.KvsRefIdeal.main (F := Ideal))) ⟨m, fun _ => 0, g⟩ (fun r => (∀ c : Dev Cert.KvsRefIdeal.nD,
      r.2.mem ((c.tc : Thread Cert.KvsRefIdeal.nD Cert.KvsRefIdeal.τ).loc Cert.KvsRefIdeal.main_arg0) = m ((c.tc : Thread Cert.KvsRefIdeal.nD Cert.KvsRefIdeal.τ).loc Cert.KvsRefIdeal.main_arg0)
      ∧ r.2.mem ((c.tc : Thread Cert.KvsRefIdeal.nD Cert.KvsRefIdeal.τ).loc Cert.KvsRefIdeal.main_arg1) = m ((c.tc : Thread Cert.KvsRefIdeal.nD Cert.KvsRefIdeal.τ).loc Cert.KvsRefIdeal.main_arg1)
      ∧ r.2.mem ((c.tc : Thread Cert.KvsRefIdeal.nD Cert.KvsRefIdeal.τ).loc Cert.KvsRefIdeal.main_arg2) = m ((c.tc : Thread Cert.KvsRefIdeal.nD Cert.KvsRefIdeal.τ).loc Cert.KvsRefIdeal.main_arg2)
      ∧ r.2.mem ((c.tc : Thread Cert.KvsRefIdeal.nD Cert.KvsRefIdeal.τ).loc Cert.KvsRefIdeal.main_arg3) = m ((c.tc : Thread Cert.KvsRefIdeal.nD Cert.KvsRefIdeal.τ).loc Cert.KvsRefIdeal.main_arg3))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4)
      ∧ r.2.mem ((c.tc : Thread Cert.Kv.nD Cert.Kv.τ).loc Cert.Kv.main_arg5) = m ((c.tc : Thread Cert.Kv.nD Cert.Kv.τ).loc Cert.Kv.main_arg5)
      ∧ r.2.mem ((c.tc : Thread Cert.Kv.nD Cert.Kv.τ).loc Cert.Kv.main_arg6) = m ((c.tc : Thread Cert.Kv.nD Cert.Kv.τ).loc Cert.Kv.main_arg6))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
      ∧ r.2.mem ((c.tc : Thread Cert.KvIdeal.nD Cert.KvIdeal.τ).loc Cert.KvIdeal.main_arg5) = m ((c.tc : Thread Cert.KvIdeal.nD Cert.KvIdeal.τ).loc Cert.KvIdeal.main_arg5)
      ∧ r.2.mem ((c.tc : Thread Cert.KvIdeal.nD Cert.KvIdeal.τ).loc Cert.KvIdeal.main_arg6) = m ((c.tc : Thread Cert.KvIdeal.nD Cert.KvIdeal.τ).loc Cert.KvIdeal.main_arg6))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5)
      ∧ r.2.mem ((c.tc : Thread Cert.KvRefIdeal.nD Cert.KvRefIdeal.τ).loc Cert.KvRefIdeal.main_arg6) = m ((c.tc : Thread Cert.KvRefIdeal.nD Cert.KvRefIdeal.τ).loc Cert.KvRefIdeal.main_arg6))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Cum [hCum : Cert.Cum.Facts] : Prop :=
  ∀ (m : (ℓ : Loc Cert.Cum.nD Cert.Cum.τ Cert.Cum.sig) → Buf (Elt Bits) ℓ) (g : Dev Cert.Cum.nD → PrngReg), Pre_Cum m →
    θ_run (Cert.Cum.defs (F := Bits)) (onTc (τ := Cert.Cum.τ) (Cert.Cum.main (F := Bits))) ⟨m, fun _ => 0, g⟩ (fun r => (∀ c : Dev Cert.Cum.nD,
      r.2.mem ((c.tc : Thread Cert.Cum.nD Cert.Cum.τ).loc Cert.Cum.main_arg0) = m ((c.tc : Thread Cert.Cum.nD Cert.Cum.τ).loc Cert.Cum.main_arg0))
      ∧ r.2.sem = fun _ => 0)

def quiescent_CumIdeal [hCumIdeal : Cert.CumIdeal.Facts] : Prop :=
  ∀ (m : (ℓ : Loc Cert.CumIdeal.nD Cert.CumIdeal.τ Cert.CumIdeal.sig) → Buf (Elt Ideal) ℓ) (g : Dev Cert.CumIdeal.nD → PrngReg), Pre_CumIdeal m →
    θ_run (Cert.CumIdeal.defs (F := Ideal)) (onTc (τ := Cert.CumIdeal.τ) (Cert.CumIdeal.main (F := Ideal))) ⟨m, fun _ => 0, g⟩ (fun r => (∀ c : Dev Cert.CumIdeal.nD,
      r.2.mem ((c.tc : Thread Cert.CumIdeal.nD Cert.CumIdeal.τ).loc Cert.CumIdeal.main_arg0) = m ((c.tc : Thread Cert.CumIdeal.nD Cert.CumIdeal.τ).loc Cert.CumIdeal.main_arg0))
      ∧ r.2.sem = fun _ => 0)

def quiescent_CumIdeal_pre_below_infinity [hCumIdeal : Cert.CumIdeal.Facts] [hPre_below_infinity : Cert.Pre_below_infinity.Facts] : Prop :=
  ∀ (m : (ℓ : Loc Cert.CumIdeal.nD Cert.CumIdeal.τ Cert.CumIdeal.sig) → Buf (Elt Ideal) ℓ) (g : Dev Cert.CumIdeal.nD → PrngReg), Pre_CumIdeal_below_infinity m →
    θ_run (Cert.CumIdeal.defs (F := Ideal)) (onTc (τ := Cert.CumIdeal.τ) (Cert.CumIdeal.main (F := Ideal))) ⟨m, fun _ => 0, g⟩ (fun r => (∀ c : Dev Cert.CumIdeal.nD,
      r.2.mem ((c.tc : Thread Cert.CumIdeal.nD Cert.CumIdeal.τ).loc Cert.CumIdeal.main_arg0) = m ((c.tc : Thread Cert.CumIdeal.nD Cert.CumIdeal.τ).loc Cert.CumIdeal.main_arg0))
      ∧ r.2.sem = fun _ => 0)

def quiescent_CumRefIdeal [hCumRefIdeal : Cert.CumRefIdeal.Facts] : Prop :=
  ∀ (m : (ℓ : Loc Cert.CumRefIdeal.nD Cert.CumRefIdeal.τ Cert.CumRefIdeal.sig) → Buf (Elt Ideal) ℓ) (g : Dev Cert.CumRefIdeal.nD → PrngReg), Pre_CumRefIdeal m →
    θ_run (Cert.CumRefIdeal.defs (F := Ideal)) (onTc (τ := Cert.CumRefIdeal.τ) (Cert.CumRefIdeal.main (F := Ideal))) ⟨m, fun _ => 0, g⟩ (fun r => (∀ c : Dev Cert.CumRefIdeal.nD,
      r.2.mem ((c.tc : Thread Cert.CumRefIdeal.nD Cert.CumRefIdeal.τ).loc Cert.CumRefIdeal.main_arg0) = m ((c.tc : Thread Cert.CumRefIdeal.nD Cert.CumRefIdeal.τ).loc Cert.CumRefIdeal.main_arg0))
      ∧ r.2.sem = fun _ => 0)

def quiescent_CumRefIdeal_pre_below_infinity [hCumRefIdeal : Cert.CumRefIdeal.Facts] [hPre_below_infinity : Cert.Pre_below_infinity.Facts] : Prop :=
  ∀ (m : (ℓ : Loc Cert.CumRefIdeal.nD Cert.CumRefIdeal.τ Cert.CumRefIdeal.sig) → Buf (Elt Ideal) ℓ) (g : Dev Cert.CumRefIdeal.nD → PrngReg), Pre_CumRefIdeal_below_infinity m →
    θ_run (Cert.CumRefIdeal.defs (F := Ideal)) (onTc (τ := Cert.CumRefIdeal.τ) (Cert.CumRefIdeal.main (F := Ideal))) ⟨m, fun _ => 0, g⟩ (fun r => (∀ c : Dev Cert.CumRefIdeal.nD,
      r.2.mem ((c.tc : Thread Cert.CumRefIdeal.nD Cert.CumRefIdeal.τ).loc Cert.CumRefIdeal.main_arg0) = m ((c.tc : Thread Cert.CumRefIdeal.nD Cert.CumRefIdeal.τ).loc Cert.CumRefIdeal.main_arg0))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3)
      ∧ r.2.mem ((c.tc : Thread Cert.Ln.nD Cert.Ln.τ).loc Cert.Ln.main_arg4) = m ((c.tc : Thread Cert.Ln.nD Cert.Ln.τ).loc Cert.Ln.main_arg4)
      ∧ r.2.mem ((c.tc : Thread Cert.Ln.nD Cert.Ln.τ).loc Cert.Ln.main_arg5) = m ((c.tc : Thread Cert.Ln.nD Cert.Ln.τ).loc Cert.Ln.main_arg5))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
      ∧ r.2.mem ((c.tc : Thread Cert.LnIdeal.nD Cert.LnIdeal.τ).loc Cert.LnIdeal.main_arg5) = m ((c.tc : Thread Cert.LnIdeal.nD Cert.LnIdeal.τ).loc Cert.LnIdeal.main_arg5))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4)
      ∧ r.2.mem ((c.tc : Thread Cert.LnRefIdeal.nD Cert.LnRefIdeal.τ).loc Cert.LnRefIdeal.main_arg5) = m ((c.tc : Thread Cert.LnRefIdeal.nD Cert.LnRefIdeal.τ).loc Cert.LnRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Rows_RowsIdeal : Prop :=
  True

def algebraic_RowsIdeal_RowsRefIdeal [hRowsIdeal : Cert.RowsIdeal.Facts] [hRowsRefIdeal : Cert.RowsRefIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsRefIdeal.nD Cert.RowsRefIdeal.τ Cert.RowsRefIdeal.sig) → Buf (Elt Ideal) ℓ) (g' : Dev Cert.RowsRefIdeal.nD → PrngReg), Pre_RowsIdeal m →
    (∀ c : Dev Cert.RowsIdeal.nD,
      m' ((c.tc : Thread Cert.RowsRefIdeal.nD Cert.RowsRefIdeal.τ).loc Cert.RowsRefIdeal.main_arg0) = m ((c.tc : Thread Cert.RowsIdeal.nD Cert.RowsIdeal.τ).loc Cert.RowsIdeal.main_arg0)
      ∧ m' ((c.tc : Thread Cert.RowsRefIdeal.nD Cert.RowsRefIdeal.τ).loc Cert.RowsRefIdeal.main_arg1) = m ((c.tc : Thread Cert.RowsIdeal.nD Cert.RowsIdeal.τ).loc Cert.RowsIdeal.main_arg1)) →
    ∃ (v0 : (c : Dev Cert.RowsIdeal.nD) → Buf (Elt Ideal) ((c.tc : Thread Cert.RowsIdeal.nD Cert.RowsIdeal.τ).loc Cert.RowsIdeal.main_v3)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v3) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ θ_run (Cert.RowsRefIdeal.defs (F := Ideal)) (onTc (τ := Cert.RowsRefIdeal.τ) (Cert.RowsRefIdeal.main (F := Ideal))) ⟨m', fun _ => 0, g'⟩ (fun r => ∀ c : Dev Cert.RowsRefIdeal.nD,
          r.2.mem ((c.tc : Thread Cert.RowsRefIdeal.nD Cert.RowsRefIdeal.τ).loc Cert.RowsRefIdeal.main_v12) = v0 c
          ∧ r.2.mem ((c.tc : Thread Cert.RowsRefIdeal.nD Cert.RowsRefIdeal.τ).loc Cert.RowsRefIdeal.main_arg0) = m' ((c.tc : Thread Cert.RowsRefIdeal.nD Cert.RowsRefIdeal.τ).loc Cert.RowsRefIdeal.main_arg0)
          ∧ r.2.mem ((c.tc : Thread Cert.RowsRefIdeal.nD Cert.RowsRefIdeal.τ).loc Cert.RowsRefIdeal.main_arg1) = m' ((c.tc : Thread Cert.RowsRefIdeal.nD Cert.RowsRefIdeal.τ).loc Cert.RowsRefIdeal.main_arg1))

def preserves_Kvs_KvsIdeal : Prop :=
  True

def algebraic_KvsIdeal_KvsRefIdeal [hKvsIdeal : Cert.KvsIdeal.Facts] [hKvsRefIdeal : Cert.KvsRefIdeal.Facts] : Prop :=
  ∀ (m : (ℓ : Loc Cert.KvsIdeal.nD Cert.KvsIdeal.τ Cert.KvsIdeal.sig) → Buf (Elt Ideal) ℓ) (g : Dev Cert.KvsIdeal.nD → PrngReg)
    (m' : (ℓ : Loc Cert.KvsRefIdeal.nD Cert.KvsRefIdeal.τ Cert.KvsRefIdeal.sig) → Buf (Elt Ideal) ℓ) (g' : Dev Cert.KvsRefIdeal.nD → PrngReg), Pre_KvsIdeal m →
    (∀ c : Dev Cert.KvsIdeal.nD,
      m' ((c.tc : Thread Cert.KvsRefIdeal.nD Cert.KvsRefIdeal.τ).loc Cert.KvsRefIdeal.main_arg0) = m ((c.tc : Thread Cert.KvsIdeal.nD Cert.KvsIdeal.τ).loc Cert.KvsIdeal.main_arg0)
      ∧ m' ((c.tc : Thread Cert.KvsRefIdeal.nD Cert.KvsRefIdeal.τ).loc Cert.KvsRefIdeal.main_arg1) = m ((c.tc : Thread Cert.KvsIdeal.nD Cert.KvsIdeal.τ).loc Cert.KvsIdeal.main_arg1)
      ∧ m' ((c.tc : Thread Cert.KvsRefIdeal.nD Cert.KvsRefIdeal.τ).loc Cert.KvsRefIdeal.main_arg2) = m ((c.tc : Thread Cert.KvsIdeal.nD Cert.KvsIdeal.τ).loc Cert.KvsIdeal.main_arg2)
      ∧ m' ((c.tc : Thread Cert.KvsRefIdeal.nD Cert.KvsRefIdeal.τ).loc Cert.KvsRefIdeal.main_arg3) = m ((c.tc : Thread Cert.KvsIdeal.nD Cert.KvsIdeal.τ).loc Cert.KvsIdeal.main_arg3)) →
    ∃ (v0 : (c : Dev Cert.KvsIdeal.nD) → Buf (Elt Ideal) ((c.tc : Thread Cert.KvsIdeal.nD Cert.KvsIdeal.τ).loc Cert.KvsIdeal.main_v3)) (v1 : (c : Dev Cert.KvsIdeal.nD) → Buf (Elt Ideal) ((c.tc : Thread Cert.KvsIdeal.nD Cert.KvsIdeal.τ).loc Cert.KvsIdeal.main_v4)),
      θ_run (Cert.KvsIdeal.defs (F := Ideal)) (onTc (τ := Cert.KvsIdeal.τ) (Cert.KvsIdeal.main (F := Ideal))) ⟨m, fun _ => 0, g⟩ (fun r => ∀ c : Dev Cert.KvsIdeal.nD,
          r.2.mem ((c.tc : Thread Cert.KvsIdeal.nD Cert.KvsIdeal.τ).loc Cert.KvsIdeal.main_v3) = v0 c
          ∧ r.2.mem ((c.tc : Thread Cert.KvsIdeal.nD Cert.KvsIdeal.τ).loc Cert.KvsIdeal.main_v4) = v1 c
          ∧ r.2.mem ((c.tc : Thread Cert.KvsIdeal.nD Cert.KvsIdeal.τ).loc Cert.KvsIdeal.main_arg0) = m ((c.tc : Thread Cert.KvsIdeal.nD Cert.KvsIdeal.τ).loc Cert.KvsIdeal.main_arg0)
          ∧ r.2.mem ((c.tc : Thread Cert.KvsIdeal.nD Cert.KvsIdeal.τ).loc Cert.KvsIdeal.main_arg1) = m ((c.tc : Thread Cert.KvsIdeal.nD Cert.KvsIdeal.τ).loc Cert.KvsIdeal.main_arg1)
          ∧ r.2.mem ((c.tc : Thread Cert.KvsIdeal.nD Cert.KvsIdeal.τ).loc Cert.KvsIdeal.main_arg2) = m ((c.tc : Thread Cert.KvsIdeal.nD Cert.KvsIdeal.τ).loc Cert.KvsIdeal.main_arg2)
          ∧ r.2.mem ((c.tc : Thread Cert.KvsIdeal.nD Cert.KvsIdeal.τ).loc Cert.KvsIdeal.main_arg3) = m ((c.tc : Thread Cert.KvsIdeal.nD Cert.KvsIdeal.τ).loc Cert.KvsIdeal.main_arg3))
      ∧ θ_run (Cert.KvsRefIdeal.defs (F := Ideal)) (onTc (τ := Cert.KvsRefIdeal.τ) (Cert.KvsRefIdeal.main (F := Ideal))) ⟨m', fun _ => 0, g'⟩ (fun r => ∀ c : Dev Cert.KvsRefIdeal.nD,
          r.2.mem ((c.tc : Thread Cert.KvsRefIdeal.nD Cert.KvsRefIdeal.τ).loc Cert.KvsRefIdeal.main_v14) = v0 c
          ∧ r.2.mem ((c.tc : Thread Cert.KvsRefIdeal.nD Cert.KvsRefIdeal.τ).loc Cert.KvsRefIdeal.main_v16) = v1 c
          ∧ r.2.mem ((c.tc : Thread Cert.KvsRefIdeal.nD Cert.KvsRefIdeal.τ).loc Cert.KvsRefIdeal.main_arg0) = m' ((c.tc : Thread Cert.KvsRefIdeal.nD Cert.KvsRefIdeal.τ).loc Cert.KvsRefIdeal.main_arg0)
          ∧ r.2.mem ((c.tc : Thread Cert.KvsRefIdeal.nD Cert.KvsRefIdeal.τ).loc Cert.KvsRefIdeal.main_arg1) = m' ((c.tc : Thread Cert.KvsRefIdeal.nD Cert.KvsRefIdeal.τ).loc Cert.KvsRefIdeal.main_arg1)
          ∧ r.2.mem ((c.tc : Thread Cert.KvsRefIdeal.nD Cert.KvsRefIdeal.τ).loc Cert.KvsRefIdeal.main_arg2) = m' ((c.tc : Thread Cert.KvsRefIdeal.nD Cert.KvsRefIdeal.τ).loc Cert.KvsRefIdeal.main_arg2)
          ∧ r.2.mem ((c.tc : Thread Cert.KvsRefIdeal.nD Cert.KvsRefIdeal.τ).loc Cert.KvsRefIdeal.main_arg3) = m' ((c.tc : Thread Cert.KvsRefIdeal.nD Cert.KvsRefIdeal.τ).loc Cert.KvsRefIdeal.main_arg3))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)
      ∧ m' ((c.tc : Thread Cert.KvRefIdeal.nD Cert.KvRefIdeal.τ).loc Cert.KvRefIdeal.main_arg4) = m ((c.tc : Thread Cert.KvIdeal.nD Cert.KvIdeal.τ).loc Cert.KvIdeal.main_arg4)
      ∧ m' ((c.tc : Thread Cert.KvRefIdeal.nD Cert.KvRefIdeal.τ).loc Cert.KvRefIdeal.main_arg5) = m ((c.tc : Thread Cert.KvIdeal.nD Cert.KvIdeal.τ).loc Cert.KvIdeal.main_arg5)
      ∧ m' ((c.tc : Thread Cert.KvRefIdeal.nD Cert.KvRefIdeal.τ).loc Cert.KvRefIdeal.main_arg6) = m ((c.tc : Thread Cert.KvIdeal.nD Cert.KvIdeal.τ).loc Cert.KvIdeal.main_arg6)) →
    ∃ (v0 : (c : Dev Cert.KvIdeal.nD) → Buf (Elt Ideal) ((c.tc : Thread Cert.KvIdeal.nD Cert.KvIdeal.τ).loc Cert.KvIdeal.main_v16)) (v1 : (c : Dev Cert.KvIdeal.nD) → Buf (Elt Ideal) ((c.tc : Thread Cert.KvIdeal.nD Cert.KvIdeal.τ).loc Cert.KvIdeal.main_v17)) (v2 : (c : Dev Cert.KvIdeal.nD) → Buf (Elt Ideal) ((c.tc : Thread Cert.KvIdeal.nD Cert.KvIdeal.τ).loc Cert.KvIdeal.main_v13)) (v3 : (c : Dev Cert.KvIdeal.nD) → Buf (Elt Ideal) ((c.tc : Thread Cert.KvIdeal.nD Cert.KvIdeal.τ).loc Cert.KvIdeal.main_v15)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v16) = v0 c
          ∧ r.2.mem ((c.tc : Thread Cert.KvIdeal.nD Cert.KvIdeal.τ).loc Cert.KvIdeal.main_v17) = v1 c
          ∧ r.2.mem ((c.tc : Thread Cert.KvIdeal.nD Cert.KvIdeal.τ).loc Cert.KvIdeal.main_v13) = v2 c
          ∧ r.2.mem ((c.tc : Thread Cert.KvIdeal.nD Cert.KvIdeal.τ).loc Cert.KvIdeal.main_v15) = v3 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
          ∧ r.2.mem ((c.tc : Thread Cert.KvIdeal.nD Cert.KvIdeal.τ).loc Cert.KvIdeal.main_arg5) = m ((c.tc : Thread Cert.KvIdeal.nD Cert.KvIdeal.τ).loc Cert.KvIdeal.main_arg5)
          ∧ r.2.mem ((c.tc : Thread Cert.KvIdeal.nD Cert.KvIdeal.τ).loc Cert.KvIdeal.main_arg6) = m ((c.tc : Thread Cert.KvIdeal.nD Cert.KvIdeal.τ).loc Cert.KvIdeal.main_arg6))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v38) = v0 c
          ∧ r.2.mem ((c.tc : Thread Cert.KvRefIdeal.nD Cert.KvRefIdeal.τ).loc Cert.KvRefIdeal.main_v40) = v1 c
          ∧ r.2.mem ((c.tc : Thread Cert.KvRefIdeal.nD Cert.KvRefIdeal.τ).loc Cert.KvRefIdeal.main_v17) = v2 c
          ∧ r.2.mem ((c.tc : Thread Cert.KvRefIdeal.nD Cert.KvRefIdeal.τ).loc Cert.KvRefIdeal.main_v36) = v3 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3)
          ∧ r.2.mem ((c.tc : Thread Cert.KvRefIdeal.nD Cert.KvRefIdeal.τ).loc Cert.KvRefIdeal.main_arg4) = m' ((c.tc : Thread Cert.KvRefIdeal.nD Cert.KvRefIdeal.τ).loc Cert.KvRefIdeal.main_arg4)
          ∧ r.2.mem ((c.tc : Thread Cert.KvRefIdeal.nD Cert.KvRefIdeal.τ).loc Cert.KvRefIdeal.main_arg5) = m' ((c.tc : Thread Cert.KvRefIdeal.nD Cert.KvRefIdeal.τ).loc Cert.KvRefIdeal.main_arg5)
          ∧ r.2.mem ((c.tc : Thread Cert.KvRefIdeal.nD Cert.KvRefIdeal.τ).loc Cert.KvRefIdeal.main_arg6) = m' ((c.tc : Thread Cert.KvRefIdeal.nD Cert.KvRefIdeal.τ).loc Cert.KvRefIdeal.main_arg6))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v12)) (v1 : (c : Dev Cert.GluIdeal.nD) → Buf (Elt Ideal) ((c.tc : Thread Cert.GluIdeal.nD Cert.GluIdeal.τ).loc Cert.GluIdeal.main_v14)) (v2 : (c : Dev Cert.GluIdeal.nD) → Buf (Elt Ideal) ((c.tc : Thread Cert.GluIdeal.nD Cert.GluIdeal.τ).loc Cert.GluIdeal.main_v16)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v12) = v0 c
          ∧ r.2.mem ((c.tc : Thread Cert.GluIdeal.nD Cert.GluIdeal.τ).loc Cert.GluIdeal.main_v14) = v1 c
          ∧ r.2.mem ((c.tc : Thread Cert.GluIdeal.nD Cert.GluIdeal.τ).loc Cert.GluIdeal.main_v16) = v2 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v25) = v0 c
          ∧ r.2.mem ((c.tc : Thread Cert.GluRefIdeal.nD Cert.GluRefIdeal.τ).loc Cert.GluRefIdeal.main_v27) = v1 c
          ∧ r.2.mem ((c.tc : Thread Cert.GluRefIdeal.nD Cert.GluRefIdeal.τ).loc Cert.GluRefIdeal.main_v54) = v2 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)) →
    ∃ (v0 : (c : Dev Cert.StepIdeal.nD) → Buf (Elt Ideal) ((c.tc : Thread Cert.StepIdeal.nD Cert.StepIdeal.τ).loc Cert.StepIdeal.main_v4_0)) (v1 : (c : Dev Cert.StepIdeal.nD) → Buf (Elt Ideal) ((c.tc : Thread Cert.StepIdeal.nD Cert.StepIdeal.τ).loc Cert.StepIdeal.main_v5)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v4_0) = v0 c
          ∧ r.2.mem ((c.tc : Thread Cert.StepIdeal.nD Cert.StepIdeal.τ).loc Cert.StepIdeal.main_v5) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v221) = v0 c
          ∧ r.2.mem ((c.tc : Thread Cert.StepRefIdeal.nD Cert.StepRefIdeal.τ).loc Cert.StepRefIdeal.main_v223) = v1 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v6)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v6) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v221) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Cum_CumIdeal : Prop :=
  True

def algebraic_CumIdeal_CumRefIdeal_pre_below_infinity [hCumIdeal : Cert.CumIdeal.Facts] [hCumRefIdeal : Cert.CumRefIdeal.Facts] [hPre_below_infinity : Cert.Pre_below_infinity.Facts] : Prop :=
  ∀ (m : (ℓ : Loc Cert.CumIdeal.nD Cert.CumIdeal.τ Cert.CumIdeal.sig) → Buf (Elt Ideal) ℓ) (g : Dev Cert.CumIdeal.nD → PrngReg)
    (m' : (ℓ : Loc Cert.CumRefIdeal.nD Cert.CumRefIdeal.τ Cert.CumRefIdeal.sig) → Buf (Elt Ideal) ℓ) (g' : Dev Cert.CumRefIdeal.nD → PrngReg), Pre_CumIdeal_below_infinity m →
    (∀ c : Dev Cert.CumIdeal.nD,
      m' ((c.tc : Thread Cert.CumRefIdeal.nD Cert.CumRefIdeal.τ).loc Cert.CumRefIdeal.main_arg0) = m ((c.tc : Thread Cert.CumIdeal.nD Cert.CumIdeal.τ).loc Cert.CumIdeal.main_arg0)) →
    ∃ (v0 : (c : Dev Cert.CumIdeal.nD) → Buf (Elt Ideal) ((c.tc : Thread Cert.CumIdeal.nD Cert.CumIdeal.τ).loc Cert.CumIdeal.main_v7)),
      θ_run (Cert.CumIdeal.defs (F := Ideal)) (onTc (τ := Cert.CumIdeal.τ) (Cert.CumIdeal.main (F := Ideal))) ⟨m, fun _ => 0, g⟩ (fun r => ∀ c : Dev Cert.CumIdeal.nD,
          r.2.mem ((c.tc : Thread Cert.CumIdeal.nD Cert.CumIdeal.τ).loc Cert.CumIdeal.main_v7) = v0 c
          ∧ r.2.mem ((c.tc : Thread Cert.CumIdeal.nD Cert.CumIdeal.τ).loc Cert.CumIdeal.main_arg0) = m ((c.tc : Thread Cert.CumIdeal.nD Cert.CumIdeal.τ).loc Cert.CumIdeal.main_arg0))
      ∧ θ_run (Cert.CumRefIdeal.defs (F := Ideal)) (onTc (τ := Cert.CumRefIdeal.τ) (Cert.CumRefIdeal.main (F := Ideal))) ⟨m', fun _ => 0, g'⟩ (fun r => ∀ c : Dev Cert.CumRefIdeal.nD,
          r.2.mem ((c.tc : Thread Cert.CumRefIdeal.nD Cert.CumRefIdeal.τ).loc Cert.CumRefIdeal.main_v2) = v0 c
          ∧ r.2.mem ((c.tc : Thread Cert.CumRefIdeal.nD Cert.CumRefIdeal.τ).loc Cert.CumRefIdeal.main_arg0) = m' ((c.tc : Thread Cert.CumRefIdeal.nD Cert.CumRefIdeal.τ).loc Cert.CumRefIdeal.main_arg0))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v16) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Res_ResIdeal : Prop :=
  True

def algebraic_ResIdeal_ResRefIdeal [hResIdeal : Cert.ResIdeal.Facts] [hResRefIdeal : Cert.ResRefIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)) →
    ∃ (v0 : (c : Dev Cert.ResIdeal.nD) → Buf (Elt Ideal) ((c.tc : Thread Cert.ResIdeal.nD Cert.ResIdeal.τ).loc Cert.ResIdeal.main_v0)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v0) = v0 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v2) = v0 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)
      ∧ m' ((c.tc : Thread Cert.LnRefIdeal.nD Cert.LnRefIdeal.τ).loc Cert.LnRefIdeal.main_arg4) = m ((c.tc : Thread Cert.LnIdeal.nD Cert.LnIdeal.τ).loc Cert.LnIdeal.main_arg4)
      ∧ m' ((c.tc : Thread Cert.LnRefIdeal.nD Cert.LnRefIdeal.τ).loc Cert.LnRefIdeal.main_arg5) = m ((c.tc : Thread Cert.LnIdeal.nD Cert.LnIdeal.τ).loc Cert.LnIdeal.main_arg5)) →
    ∃ (v0 : (c : Dev Cert.LnIdeal.nD) → Buf (Elt Ideal) ((c.tc : Thread Cert.LnIdeal.nD Cert.LnIdeal.τ).loc Cert.LnIdeal.main_v3)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v3) = v0 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
          ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
          ∧ r.2.mem ((c.tc : Thread Cert.LnIdeal.nD Cert.LnIdeal.τ).loc Cert.LnIdeal.main_arg5) = m ((c.tc : Thread Cert.LnIdeal.nD Cert.LnIdeal.τ).loc Cert.LnIdeal.main_arg5))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v29) = v0 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3)
          ∧ r.2.mem ((c.tc : Thread Cert.LnRefIdeal.nD Cert.LnRefIdeal.τ).loc Cert.LnRefIdeal.main_arg4) = m' ((c.tc : Thread Cert.LnRefIdeal.nD Cert.LnRefIdeal.τ).loc Cert.LnRefIdeal.main_arg4)
          ∧ r.2.mem ((c.tc : Thread Cert.LnRefIdeal.nD Cert.LnRefIdeal.τ).loc Cert.LnRefIdeal.main_arg5) = m' ((c.tc : Thread Cert.LnRefIdeal.nD Cert.LnRefIdeal.τ).loc Cert.LnRefIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hRows : Cert.Rows.Facts) (hRowsIdeal : Cert.RowsIdeal.Facts) (hRowsRefIdeal : Cert.RowsRefIdeal.Facts) (hKvs : Cert.Kvs.Facts) (hKvsIdeal : Cert.KvsIdeal.Facts) (hKvsRefIdeal : Cert.KvsRefIdeal.Facts) (hKv : Cert.Kv.Facts) (hKvIdeal : Cert.KvIdeal.Facts) (hKvRefIdeal : Cert.KvRefIdeal.Facts) (hGlu : Cert.Glu.Facts) (hGluIdeal : Cert.GluIdeal.Facts) (hGluRefIdeal : Cert.GluRefIdeal.Facts) (hStep : Cert.Step.Facts) (hStepIdeal : Cert.StepIdeal.Facts) (hStepRefIdeal : Cert.StepRefIdeal.Facts) (hConv : Cert.Conv.Facts) (hConvIdeal : Cert.ConvIdeal.Facts) (hConvRefIdeal : Cert.ConvRefIdeal.Facts) (hCum : Cert.Cum.Facts) (hCumIdeal : Cert.CumIdeal.Facts) (hCumRefIdeal : Cert.CumRefIdeal.Facts) (hProj : Cert.Proj.Facts) (hProjIdeal : Cert.ProjIdeal.Facts) (hProjRefIdeal : Cert.ProjRefIdeal.Facts) (hRes : Cert.Res.Facts) (hResIdeal : Cert.ResIdeal.Facts) (hResRefIdeal : Cert.ResRefIdeal.Facts) (hLn : Cert.Ln.Facts) (hLnIdeal : Cert.LnIdeal.Facts) (hLnRefIdeal : Cert.LnRefIdeal.Facts) (hPre_below_infinity : Cert.Pre_below_infinity.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Rows (hRows := hRows)
    ∧ quiescent_RowsIdeal (hRowsIdeal := hRowsIdeal)
    ∧ quiescent_RowsRefIdeal (hRowsRefIdeal := hRowsRefIdeal)
    ∧ quiescent_Kvs (hKvs := hKvs)
    ∧ quiescent_KvsIdeal (hKvsIdeal := hKvsIdeal)
    ∧ quiescent_KvsRefIdeal (hKvsRefIdeal := hKvsRefIdeal)
    ∧ quiescent_Kv (hKv := hKv)
    ∧ quiescent_KvIdeal (hKvIdeal := hKvIdeal)
    ∧ quiescent_KvRefIdeal (hKvRefIdeal := hKvRefIdeal)
    ∧ quiescent_Glu (hGlu := hGlu)
    ∧ quiescent_GluIdeal (hGluIdeal := hGluIdeal)
    ∧ quiescent_GluRefIdeal (hGluRefIdeal := hGluRefIdeal)
    ∧ quiescent_Step (hStep := hStep)
    ∧ quiescent_StepIdeal (hStepIdeal := hStepIdeal)
    ∧ quiescent_StepRefIdeal (hStepRefIdeal := hStepRefIdeal)
    ∧ quiescent_Conv (hConv := hConv)
    ∧ quiescent_ConvIdeal (hConvIdeal := hConvIdeal)
    ∧ quiescent_ConvRefIdeal (hConvRefIdeal := hConvRefIdeal)
    ∧ quiescent_Cum (hCum := hCum)
    ∧ quiescent_CumIdeal (hCumIdeal := hCumIdeal)
    ∧ quiescent_CumIdeal_pre_below_infinity (hCumIdeal := hCumIdeal) (hPre_below_infinity := hPre_below_infinity)
    ∧ quiescent_CumRefIdeal (hCumRefIdeal := hCumRefIdeal)
    ∧ quiescent_CumRefIdeal_pre_below_infinity (hCumRefIdeal := hCumRefIdeal) (hPre_below_infinity := hPre_below_infinity)
    ∧ quiescent_Proj (hProj := hProj)
    ∧ quiescent_ProjIdeal (hProjIdeal := hProjIdeal)
    ∧ quiescent_ProjRefIdeal (hProjRefIdeal := hProjRefIdeal)
    ∧ quiescent_Res (hRes := hRes)
    ∧ quiescent_ResIdeal (hResIdeal := hResIdeal)
    ∧ quiescent_ResRefIdeal (hResRefIdeal := hResRefIdeal)
    ∧ quiescent_Ln (hLn := hLn)
    ∧ quiescent_LnIdeal (hLnIdeal := hLnIdeal)
    ∧ quiescent_LnRefIdeal (hLnRefIdeal := hLnRefIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_Rows_RowsIdeal
    ∧ algebraic_RowsIdeal_RowsRefIdeal (hRowsIdeal := hRowsIdeal) (hRowsRefIdeal := hRowsRefIdeal)
    ∧ preserves_Kvs_KvsIdeal
    ∧ algebraic_KvsIdeal_KvsRefIdeal (hKvsIdeal := hKvsIdeal) (hKvsRefIdeal := hKvsRefIdeal)
    ∧ preserves_Kv_KvIdeal
    ∧ algebraic_KvIdeal_KvRefIdeal (hKvIdeal := hKvIdeal) (hKvRefIdeal := hKvRefIdeal)
    ∧ preserves_Glu_GluIdeal
    ∧ algebraic_GluIdeal_GluRefIdeal (hGluIdeal := hGluIdeal) (hGluRefIdeal := hGluRefIdeal)
    ∧ preserves_Step_StepIdeal
    ∧ algebraic_StepIdeal_StepRefIdeal (hStepIdeal := hStepIdeal) (hStepRefIdeal := hStepRefIdeal)
    ∧ preserves_Conv_ConvIdeal
    ∧ algebraic_ConvIdeal_ConvRefIdeal (hConvIdeal := hConvIdeal) (hConvRefIdeal := hConvRefIdeal)
    ∧ preserves_Cum_CumIdeal
    ∧ algebraic_CumIdeal_CumRefIdeal_pre_below_infinity (hCumIdeal := hCumIdeal) (hCumRefIdeal := hCumRefIdeal) (hPre_below_infinity := hPre_below_infinity)
    ∧ preserves_Proj_ProjIdeal
    ∧ algebraic_ProjIdeal_ProjRefIdeal (hProjIdeal := hProjIdeal) (hProjRefIdeal := hProjRefIdeal)
    ∧ preserves_Res_ResIdeal
    ∧ algebraic_ResIdeal_ResRefIdeal (hResIdeal := hResIdeal) (hResRefIdeal := hResRefIdeal)
    ∧ preserves_Ln_LnIdeal
    ∧ algebraic_LnIdeal_LnRefIdeal (hLnIdeal := hLnIdeal) (hLnRefIdeal := hLnRefIdeal)
-- ==== Pre_below_infinity.lean ====
abbrev S2x4112x16 : Shape := ⟨3, ![2, 4112, 16]⟩
abbrev S_ : Shape := ⟨0, ![]⟩

class Facts : Prop where
  bcast_S_S2x4112x16 : S_.BroadcastsInDim S2x4112x16 (![] : Fin 0 → Fin S2x4112x16.rank)

variable [Facts]

def fn {F : FTy → Type} [FloatOps F] (main_arg0 : FVec F S2x4112x16 .f32) : IVec S2x4112x16 1 :=
  let main_cst : FVec F S_ .f32 := constant S_ .f32 0x7F800000#32
  let main_v0 : FVec F S2x4112x16 .f32 := broadcastInDim S2x4112x16 ![] bcast_S_S2x4112x16 main_cst
  let main_v1 : IVec S2x4112x16 1 := cmpf .olt main_arg0 main_v0
  main_v1
-- ==== Kernel.lean ====
abbrev S2x4112x2048 : Shape := ⟨3, ![2, 4112, 2048]⟩
abbrev S64x2048 : Shape := ⟨2, ![64, 2048]⟩
abbrev S2048 : Shape := ⟨1, ![2048]⟩
abbrev S1x4112x2048 : Shape := ⟨3, ![1, 4112, 2048]⟩
abbrev S4112x2048 : Shape := ⟨2, ![4112, 2048]⟩
abbrev S_ : Shape := ⟨0, ![]⟩
abbrev S112x2048 : Shape := ⟨2, ![112, 2048]⟩
abbrev S48x2048 : Shape := ⟨2, ![48, 2048]⟩
abbrev S8448x2048 : Shape := ⟨2, ![8448, 2048]⟩
abbrev S1x2048 : Shape := ⟨2, ![1, 2048]⟩
abbrev S2x4096x2048 : Shape := ⟨3, ![2, 4096, 2048]⟩
abbrev S512x2048 : Shape := ⟨2, ![512, 2048]⟩
abbrev S1x512x2048 : Shape := ⟨3, ![1, 512, 2048]⟩
abbrev S512 : Shape := ⟨1, ![512]⟩
abbrev S512x1 : Shape := ⟨2, ![512, 1]⟩

abbrev nBuf : Space → Nat
  | .hbm => 14
  | .vmem => 5
  | .smem => 0
  | _ => 0

abbrev bufTy : (tb : Table) → Fin (tcTables nBuf tb) → BufTy
  | .hbm, ⟨0, _⟩ => ⟨S2x4112x2048, .f32⟩
  | .hbm, ⟨1, _⟩ => ⟨S64x2048, .f32⟩
  | .hbm, ⟨2, _⟩ => ⟨S2048, .f32⟩
  | .hbm, ⟨3, _⟩ => ⟨S1x4112x2048, .f32⟩
  | .hbm, ⟨4, _⟩ => ⟨S4112x2048, .f32⟩
  | .hbm, ⟨5, _⟩ => ⟨S_, .f32⟩
  | .hbm, ⟨6, _⟩ => ⟨S112x2048, .f32⟩
  | .hbm, ⟨7, _⟩ => ⟨S1x4112x2048, .f32⟩
  | .hbm, ⟨8, _⟩ => ⟨S4112x2048, .f32⟩
  | .hbm, ⟨9, _⟩ => ⟨S_, .f32⟩
  | .hbm, ⟨10, _⟩ => ⟨S48x2048, .f32⟩
  | .hbm, ⟨11, _⟩ => ⟨S8448x2048, .f32⟩
  | .hbm, ⟨12, _⟩ => ⟨S1x2048, .f32⟩
  | .hbm, ⟨13, _⟩ => ⟨S2x4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x512x2048, .f32⟩
  | .local _ .vmem, ⟨4, _⟩ => ⟨S1x512x2048, .f32⟩
  | _, _ => ⟨S2x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c528_i32 : BitVec 32 := 528#32
  let v0 : BitVec 32 := Scalar.muli arg0 c528_i32
  let c2_i32 : BitVec 32 := 2#32
  let v1 : BitVec 32 := Scalar.addi v0 c2_i32
  let c64_i32 : BitVec 32 := 64#32
  let v2 : BitVec 32 := Scalar.muli arg1 c64_i32
  let v3 : BitVec 32 := Scalar.addi v1 v2
  let c8_i32 : BitVec 32 := 8#32
  let v4 : BitVec 32 := Scalar.muli v3 c8_i32
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S2x4112x2048 : Shape := ⟨3, ![2, 4112, 2048]⟩
abbrev S64x2048 : Shape := ⟨2, ![64, 2048]⟩
abbrev S2048 : Shape := ⟨1, ![2048]⟩
abbrev S_ : Shape := ⟨0, ![]⟩
abbrev S2x4112 : Shape := ⟨2, ![2, 4112]⟩
abbrev S2x4112x1 : Shape := ⟨3, ![2, 4112, 1]⟩
abbrev S1x1x2048 : Shape := ⟨3, ![1, 1, 2048]⟩
abbrev S2x4096x2048 : Shape := ⟨3, ![2, 4096, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x4112x2048, .f32⟩
  | .hbm, ⟨1, _⟩ => ⟨S64x2048, .f32⟩
  | .hbm, ⟨2, _⟩ => ⟨S2048, .f32⟩
  | .hbm, ⟨3, _⟩ => ⟨S2x4112x2048, .f32⟩
  | .hbm, ⟨4, _⟩ => ⟨S_, .f32⟩
  | .hbm, ⟨5, _⟩ => ⟨S2x4112, .f32⟩
  | .hbm, ⟨6, _⟩ => ⟨S2x4112x1, .f32⟩
  | .hbm, ⟨7, _⟩ => ⟨S_, .f32⟩
  | .hbm, ⟨8, _⟩ => ⟨S2x4112x1, .f32⟩
  | .hbm, ⟨9, _⟩ => ⟨S2x4112x1, .f32⟩
  | .hbm, ⟨10, _⟩ => ⟨S_, .f32⟩
  | .hbm, ⟨11, _⟩ => ⟨S2x4112x1, .f32⟩
  | .hbm, ⟨12, _⟩ => ⟨S2x4112x1, .f32⟩
  | .hbm, ⟨13, _⟩ => ⟨S2x4112x1, .f32⟩
  | .hbm, ⟨14, _⟩ => ⟨S2x4112x2048, .f32⟩
  | .hbm, ⟨15, _⟩ => ⟨S2x4112x2048, .f32⟩
  | .hbm, ⟨16, _⟩ => ⟨S1x1x2048, .f32⟩
  | .hbm, ⟨17, _⟩ => ⟨S2x4112x2048, .f32⟩
  | .hbm, ⟨18, _⟩ => ⟨S2x4112x2048, .f32⟩
  | .hbm, ⟨19, _⟩ => ⟨S2x4096x2048, .f32⟩
  | _, _ => ⟨S2x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Ffn.lean ====
abbrev S8448x2048 : Shape := ⟨2, ![8448, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2x1x2048 : Shape := ⟨3, ![2, 1, 2048]⟩
abbrev S1x1x2048 : Shape := ⟨3, ![1, 1, 2048]⟩
abbrev S1x2048x256 : Shape := ⟨3, ![1, 2048, 256]⟩
abbrev S1x256x2048 : Shape := ⟨3, ![1, 256, 2048]⟩
abbrev S2112x2048 : Shape := ⟨2, ![2112, 2048]⟩
abbrev S2112x256 : Shape := ⟨2, ![2112, 256]⟩
abbrev S4 : Shape := ⟨1, ![4]⟩
abbrev S1 : Shape := ⟨1, ![1]⟩
abbrev S_ : Shape := ⟨0, ![]⟩
abbrev S528x2048 : Shape := ⟨2, ![528, 2048]⟩
abbrev S1x2048 : Shape := ⟨2, ![1, 2048]⟩
abbrev S528 : Shape := ⟨1, ![528]⟩
abbrev S528x1 : Shape := ⟨2, ![528, 1]⟩
abbrev S2048x256 : Shape := ⟨2, ![2048, 256]⟩
abbrev S256x2048 : Shape := ⟨2, ![256, 2048]⟩
abbrev S528x256 : Shape := ⟨2, ![528, 256]⟩

abbrev nBuf : Space → Nat
  | .hbm => 7
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2x1x2048, .f32⟩
  | .hbm, ⟨6, _⟩ => ⟨S8448x2048, .f32⟩
  | .local _ .vmem, ⟨0, _⟩ => ⟨S1x1x2048, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x256x2048, .f32⟩
  | .local _ .vmem, ⟨6, _⟩ => ⟨S1x256x2048, .f32⟩
  | .local _ .vmem, ⟨7, _⟩ => ⟨S2112x2048, .f32⟩
  | .local _ .vmem, ⟨8, _⟩ => ⟨S2112x2048, .bf16⟩
  | .local _ .vmem, ⟨9, _⟩ => ⟨S2112x256, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 23], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c2112_i32 : BitVec 32 := 2112#32
  let v11 : BitVec 32 := Scalar.muli arg0 c2112_i32
  let c0_i32_5 : BitVec 32 := 0#32
  let v12 : BitVec 32 := Scalar.addi v11 c0_i32_5
  v12
def k0_off1 (i : grid0.Coords) (c0_i32_5 : BitVec 32) : Fin 2 → Nat :=
  let arg0 : BitVec 32 := BitVec.ofNat 32 (i 0).val
  let c2112_i32 : BitVec 32 := 2112#32
  let v11 : BitVec 32 := Scalar.muli arg0 c2112_i32
  let v12 : BitVec 32 := Scalar.addi v11 c0_i32_5
  let v13 : BitVec 32 := v12
  let c0_i32_9 : BitVec 32 := 0#32
  ![v13.toNat, 0]
def k0_mult2 (i : grid0.Coords) : BitVec 32 :=
  let arg0 : BitVec 32 := BitVec.ofNat 32 (i 0).val
  let c2112_i32_10 : BitVec 32 := 2112#32
  let v18 : BitVec 32 := Scalar.muli arg0 c2112_i32_10
  let c528_i32 : BitVec 32 := 528#32
  let v19 : BitVec 32 := Scalar.addi v18 c528_i32
  v19
def k0_mult3 (i : grid0.Coords) : BitVec 32 :=
  let arg0 : BitVec 32 := BitVec.ofNat 32 (i 0).val
  let c2112_i32_14 : BitVec 32 := 2112#32
  let v25 : BitVec 32 := Scalar.muli arg0 c2112_i32_14
  let c1056_i32 : BitVec 32 := 1056#32
  let v26 : BitVec 32 := Scalar.addi v25 c1056_i32
  v26
def k0_mult4 (i : grid0.Coords) : BitVec 32 :=
  let arg0 : BitVec 32 := BitVec.ofNat 32 (i 0).val
  let c2112_i32_18 : BitVec 32 := 2112#32
  let v32 : BitVec 32 := Scalar.muli arg0 c2112_i32_18
  let c1584_i32 : BitVec 32 := 1584#32
  let v33 : BitVec 32 := Scalar.addi v32 c1584_i32
  v33
def k0_mult5 (i : grid0.Coords) : BitVec 32 :=
  let arg0 : BitVec 32 := BitVec.ofNat 32 (i 0).val
  let c2112_i32_22 : BitVec 32 := 2112#32
  let v39 : BitVec 32 := Scalar.muli arg0 c2112_i32_22
  let c0_i32_23 : BitVec 32 := 0#32
  let v40 : BitVec 32 := Scalar.addi v39 c0_i32_23
  v40
def k0_mult6 (i : grid0.Coords) : BitVec 32 :=
  let arg0 : BitVec 32 := BitVec.ofNat 32 (i 0).val
  let c2112_i32_36 : BitVec 32 := 2112#32
  let v65 : BitVec 32 := Scalar.muli arg0 c2112_i32_36
  let c528_i32_37 : BitVec 32 := 528#32
  let v66 : BitVec 32 := Scalar.addi v65 c528_i32_37
  v66
def k0_mult7 (i : grid0.Coords) : BitVec 32 :=
  let arg0 : BitVec 32 := BitVec.ofNat 32 (i 0).val
  let c2112_i32_51 : BitVec 32 := 2112#32
  let v91 : BitVec 32 := Scalar.muli arg0 c2112_i32_51
  let c1056_i32_52 : BitVec 32 := 1056#32
  let v92 : BitVec 32 := Scalar.addi v91 c1056_i32_52
  v92
def k0_mult8 (i : grid0.Coords) : BitVec 32 :=
  let arg0 : BitVec 32 := BitVec.ofNat 32 (i 0).val
  let c2112_i32_66 : BitVec 32 := 2112#32
  let v117 : BitVec 32 := Scalar.muli arg0 c2112_i32_66
  let c1584_i32_67 : BitVec 32 := 1584#32
  let v118 : BitVec 32 := Scalar.addi v117 c1584_i32_67
  v118
def k0_cond3 (i : grid0.Coords) : BitVec 1 :=
  let arg1 : BitVec 32 := BitVec.ofNat 32 (i 1).val
  let c22_i32_3 : BitVec 32 := 22#32
  let v8 : BitVec 1 := Scalar.cmpi .eq arg1 c22_i32_3
  let v9 : BitVec 32 := Scalar.extui v8
  let c0_i32_4 : BitVec 32 := 0#32
  let v10 : BitVec 1 := Scalar.cmpi .ne v9 c0_i32_4
  v10

def k0_mult9 (i : grid0.Coords) : BitVec 32 :=
  let arg0 : BitVec 32 := BitVec.ofNat 32 (i 0).val
  let c2112_i32 : BitVec 32 := 2112#32
  let v21 : BitVec 32 := Scalar.muli arg0 c2112_i32
  let c0_i32_13 : BitVec 32 := 0#32
  let v22 : BitVec 32 := Scalar.addi v21 c0_i32_13
  v22
def k0_off2 (i : grid0.Coords) (c0_i32_13 : BitVec 32) : Fin 2 → Nat :=
  let arg0 : BitVec 32 := BitVec.ofNat 32 (i 0).val
  let c2112_i32 : BitVec 32 := 2112#32
  let v21 : BitVec 32 := Scalar.muli arg0 c2112_i32
  let v22 : BitVec 32 := Scalar.addi v21 c0_i32_13
  let v23 : BitVec 32 := v22
  let c0_i32_15 : BitVec 32 := 0#32
  ![v23.toNat, 0]
def k0_mult10 (i : grid0.Coords) : BitVec 32 :=
  let arg0 : BitVec 32 := BitVec.ofNat 32 (i 0).val
  let c2112_i32_24 : BitVec 32 := 2112#32
  let v35 : BitVec 32 := Scalar.muli arg0 c2112_i32_24
  let c528_i32 : BitVec 32 := 528#32
  let v36 : BitVec 32 := Scalar.addi v35 c528_i32
  v36
def k0_mult11 (i : grid0.Coords) : BitVec 32 :=
  let arg0 : BitVec 32 := BitVec.ofNat 32 (i 0).val
  let c2112_i32_34 : BitVec 32 := 2112#32
  let v49 : BitVec 32 := Scalar.muli arg0 c2112_i32_34
  let c1056_i32 : BitVec 32 := 1056#32
  let v50 : BitVec 32 := Scalar.addi v49 c1056_i32
  v50
def k0_mult12 (i : grid0.Coords) : BitVec 32 :=
  let arg0 : BitVec 32 := BitVec.ofNat 32 (i 0).val
  let c2112_i32_44 : BitVec 32 := 2112#32
  let v63 : BitVec 32 := Scalar.muli arg0 c2112_i32_44
  let c1584_i32 : BitVec 32 := 1584#32
  let v64 : BitVec 32 := Scalar.addi v63 c1584_i32
  v64
def k0_mult13 (i : grid0.Coords) : BitVec 32 :=
  let arg0 : BitVec 32 := BitVec.ofNat 32 (i 0).val
  let c2112_i32_48 : BitVec 32 := 2112#32
  let v70 : BitVec 32 := Scalar.muli arg0 c2112_i32_48
  let c0_i32_49 : BitVec 32 := 0#32
  let v71 : BitVec 32 := Scalar.addi v70 c0_i32_49
  v71
def k0_mult14 (i : grid0.Coords) : BitVec 32 :=
  let arg0 : BitVec 32 := BitVec.ofNat 32 (i 0).val
  let c2112_i32_54 : BitVec 32 := 2112#32
  let v77 : BitVec 32 := Scalar.muli arg0 c2112_i32_54
  let c528_i32_55 : BitVec 32 := 528#32
  let v78 : BitVec 32 := Scalar.addi v77 c528_i32_55
  v78
def k0_mult15 (i : grid0.Coords) : BitVec 32 :=
  let arg0 : BitVec 32 := BitVec.ofNat 32 (i 0).val
  let c2112_i32_60 : BitVec 32 := 2112#32
  let v84 : BitVec 32 := Scalar.muli arg0 c2112_i32_60
  let c1056_i32_61 : BitVec 32 := 1056#32
  let v85 : BitVec 32 := Scalar.addi v84 c1056_i32_61
  v85
def k0_mult16 (i : grid0.Coords) : BitVec 32 :=
  let arg0 : BitVec 32 := BitVec.ofNat 32 (i 0).val
  let c2112_i32_66 : BitVec 32 := 2112#32
  let v91 : BitVec 32 := Scalar.muli arg0 c2112_i32_66
  let c1584_i32_67 : BitVec 32 := 1584#32
  let v92 : BitVec 32 := Scalar.addi v91 c1584_i32_67
  v92
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c21_i32 : BitVec 32 := 21#32
  let v0 : BitVec 32 := Scalar.minsi arg1 c21_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c21_i32 : BitVec 32 := 21#32
  let v0 : BitVec 32 := Scalar.minsi arg1 c21_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 1 → Memref sig .tc .vmem S1x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== FfnRefIdeal.lean ====
abbrev S8448x2048 : Shape := ⟨2, ![8448, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S2048 : Shape := ⟨1, ![2048]⟩
abbrev S1x2048x5632 : Shape := ⟨3, ![1, 2048, 5632]⟩
abbrev S2048x5632 : Shape := ⟨2, ![2048, 5632]⟩
abbrev S8448x5632 : Shape := ⟨2, ![8448, 5632]⟩
abbrev S1x5632x2048 : Shape := ⟨3, ![1, 5632, 2048]⟩
abbrev S5632x2048 : Shape := ⟨2, ![5632, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S8448x2048, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x2048, .f32⟩
  | .hbm, ⟨17, _⟩ => ⟨S8448x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S8448x2048, .f32⟩
  | .hbm, ⟨22, _⟩ => ⟨S8448x2048, .f32⟩
  | .hbm, ⟨23, _⟩ => ⟨S1x2048x5632, .f32⟩
  | .hbm, ⟨24, _⟩ => ⟨S2048x5632, .f32⟩
  | .hbm, ⟨25, _⟩ => ⟨S8448x5632, .f32⟩
  | .hbm, ⟨26, _⟩ => ⟨S8448x5632, .f32⟩
  | .hbm, ⟨27, _⟩ => ⟨S8448x5632, .f32⟩
  | .hbm, ⟨28, _⟩ => ⟨S_, .f32⟩
  | .hbm, ⟨29, _⟩ => ⟨S8448x5632, .f32⟩
  | .hbm, ⟨30, _⟩ => ⟨S8448x5632, .f32⟩
  | .hbm, ⟨31, _⟩ => ⟨S_, .f32⟩
  | .hbm, ⟨32, _⟩ => ⟨S8448x5632, .f32⟩
  | .hbm, ⟨33, _⟩ => ⟨S8448x5632, .f32⟩
  | .hbm, ⟨34, _⟩ => ⟨S8448x5632, .f32⟩
  | .hbm, ⟨35, _⟩ => ⟨S1x2048x5632, .f32⟩
  | .hbm, ⟨36, _⟩ => ⟨S2048x5632, .f32⟩
  | .hbm, ⟨37, _⟩ => ⟨S8448x5632, .f32⟩
  | .hbm, ⟨38, _⟩ => ⟨S8448x5632, .f32⟩
  | .hbm, ⟨39, _⟩ => ⟨S1x5632x2048, .f32⟩
  | .hbm, ⟨40, _⟩ => ⟨S5632x2048, .f32⟩
  | .hbm, ⟨41, _⟩ => ⟨S8448x2048, .f32⟩
  | .hbm, ⟨42, _⟩ => ⟨S_, .f32⟩
  | .hbm, ⟨43, _⟩ => ⟨S8448x2048, .f32⟩
  | .hbm, ⟨44, _⟩ => ⟨S8448x2048, .f32⟩
  | .hbm, ⟨45, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Rows.lean ====
abbrev S8x8x2048 : Shape := ⟨3, ![8, 8, 2048]⟩
abbrev S2048 : Shape := ⟨1, ![2048]⟩
abbrev S64x2048 : Shape := ⟨2, ![64, 2048]⟩
abbrev S1x2048 : Shape := ⟨2, ![1, 2048]⟩
abbrev S64 : Shape := ⟨1, ![64]⟩
abbrev S64x1 : Shape := ⟨2, ![64, 1]⟩

abbrev nBuf : Space → Nat
  | .hbm => 6
  | .vmem => 3
  | .smem => 0
  | _ => 0

abbrev bufTy : (tb : Table) → Fin (tcTables nBuf tb) → BufTy
  | .hbm, ⟨0, _⟩ => ⟨S8x8x2048, .f32⟩
  | .hbm, ⟨1, _⟩ => ⟨S2048, .f32⟩
  | .hbm, ⟨2, _⟩ => ⟨S64x2048, .f32⟩
  | .hbm, ⟨3, _⟩ => ⟨S1x2048, .f32⟩
  | .hbm, ⟨4, _⟩ => ⟨S64x2048, .f32⟩
  | .hbm, ⟨5, _⟩ => ⟨S8x8x2048, .f32⟩
  | .local _ .vmem, ⟨0, _⟩ => ⟨S64x2048, .f32⟩
  | .local _ .vmem, ⟨1, _⟩ => ⟨S1x2048, .f32⟩
  | .local _ .vmem, ⟨2, _⟩ => ⟨S64x2048, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RowsRefIdeal.lean ====
abbrev S8x8x2048 : Shape := ⟨3, ![8, 8, 2048]⟩
abbrev S2048 : Shape := ⟨1, ![2048]⟩
abbrev S_ : Shape := ⟨0, ![]⟩
abbrev S8x8 : Shape := ⟨2, ![8, 8]⟩
abbrev S8x8x1 : Shape := ⟨3, ![8, 8, 1]⟩
abbrev S1x1x2048 : Shape := ⟨3, ![1, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S2048, .f32⟩
  | .hbm, ⟨2, _⟩ => ⟨S8x8x2048, .f32⟩
  | .hbm, ⟨3, _⟩ => ⟨S_, .f32⟩
  | .hbm, ⟨4, _⟩ => ⟨S8x8, .f32⟩
  | .hbm, ⟨5, _⟩ => ⟨S8x8x1, .f32⟩
  | .hbm, ⟨6, _⟩ => ⟨S_, .f32⟩
  | .hbm, ⟨7, _⟩ => ⟨S8x8x1, .f32⟩
  | .hbm, ⟨8, _⟩ => ⟨S8x8x1, .f32⟩
  | .hbm, ⟨9, _⟩ => ⟨S_, .f32⟩
  | .hbm, ⟨10, _⟩ => ⟨S8x8x1, .f32⟩
  | .hbm, ⟨11, _⟩ => ⟨S8x8x1, .f32⟩
  | .hbm, ⟨12, _⟩ => ⟨S8x8x1, .f32⟩
  | .hbm, ⟨13, _⟩ => ⟨S8x8x2048, .f32⟩
  | .hbm, ⟨14, _⟩ => ⟨S8x8x2048, .f32⟩
  | .hbm, ⟨15, _⟩ => ⟨S1x1x2048, .f32⟩
  | .hbm, ⟨16, _⟩ => ⟨S8x8x2048, .f32⟩
  | .hbm, ⟨17, _⟩ => ⟨S8x8x2048, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kvs.lean ====
abbrev S8x8x2048 : Shape := ⟨3, ![8, 8, 2048]⟩
abbrev S2048 : Shape := ⟨1, ![2048]⟩
abbrev S2048x2048 : Shape := ⟨2, ![2048, 2048]⟩
abbrev S64x2048 : Shape := ⟨2, ![64, 2048]⟩
abbrev S1x2048 : Shape := ⟨2, ![1, 2048]⟩
abbrev S2048x512 : Shape := ⟨2, ![2048, 512]⟩
abbrev S64x512 : Shape := ⟨2, ![64, 512]⟩
abbrev S64 : Shape := ⟨1, ![64]⟩
abbrev S64x1 : Shape := ⟨2, ![64, 1]⟩
abbrev S8x8x16x128 : Shape := ⟨4, ![8, 8, 16, 128]⟩

abbrev nBuf : Space → Nat
  | .hbm => 10
  | .vmem => 10
  | .smem => 0
  | _ => 0

abbrev bufTy : (tb : Table) → Fin (tcTables nBuf tb) → BufTy
  | .hbm, ⟨0, _⟩ => ⟨S8x8x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S64x2048, .f32⟩
  | .hbm, ⟨5, _⟩ => ⟨S1x2048, .f32⟩
  | .hbm, ⟨6, _⟩ => ⟨S64x2048, .f32⟩
  | .hbm, ⟨7, _⟩ => ⟨S64x2048, .f32⟩
  | .hbm, ⟨8, _⟩ => ⟨S8x8x16x128, .f32⟩
  | .hbm, ⟨9, _⟩ => ⟨S8x8x16x128, .f32⟩
  | .local _ .vmem, ⟨0, _⟩ => ⟨S64x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KvsRefIdeal.lean ====
abbrev S8x8x2048 : Shape := ⟨3, ![8, 8, 2048]⟩
abbrev S2048 : Shape := ⟨1, ![2048]⟩
abbrev S2048x2048 : Shape := ⟨2, ![2048, 2048]⟩
abbrev S_ : Shape := ⟨0, ![]⟩
abbrev S8x8 : Shape := ⟨2, ![8, 8]⟩
abbrev S8x8x1 : Shape := ⟨3, ![8, 8, 1]⟩
abbrev S1x1x2048 : Shape := ⟨3, ![1, 1, 2048]⟩
abbrev S8x8x16x128 : Shape := ⟨4, ![8, 8, 16, 128]⟩

abbrev nBuf : Space → Nat
  | .hbm => 24
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S8x8x2048, .f32⟩
  | .hbm, ⟨5, _⟩ => ⟨S_, .f32⟩
  | .hbm, ⟨6, _⟩ => ⟨S8x8, .f32⟩
  | .hbm, ⟨7, _⟩ => ⟨S8x8x1, .f32⟩
  | .hbm, ⟨8, _⟩ => ⟨S_, .f32⟩
  | .hbm, ⟨9, _⟩ => ⟨S8x8x1, .f32⟩
  | .hbm, ⟨10, _⟩ => ⟨S8x8x1, .f32⟩
  | .hbm, ⟨11, _⟩ => ⟨S_, .f32⟩
  | .hbm, ⟨12, _⟩ => ⟨S8x8x1, .f32⟩
  | .hbm, ⟨13, _⟩ => ⟨S8x8x1, .f32⟩
  | .hbm, ⟨14, _⟩ => ⟨S8x8x1, .f32⟩
  | .hbm, ⟨15, _⟩ => ⟨S8x8x2048, .f32⟩
  | .hbm, ⟨16, _⟩ => ⟨S8x8x2048, .f32⟩
  | .hbm, ⟨17, _⟩ => ⟨S1x1x2048, .f32⟩
  | .hbm, ⟨18, _⟩ => ⟨S8x8x2048, .f32⟩
  | .hbm, ⟨19, _⟩ => ⟨S8x8x2048, .f32⟩
  | .hbm, ⟨20, _⟩ => ⟨S8x8x2048, .f32⟩
  | .hbm, ⟨21, _⟩ => ⟨S8x8x16x128, .f32⟩
  | .hbm, ⟨22, _⟩ => ⟨S8x8x2048, .f32⟩
  | .hbm, ⟨23, _⟩ => ⟨S8x8x16x128, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kv.lean ====
abbrev S2x4112x2048 : Shape := ⟨3, ![2, 4112, 2048]⟩
abbrev S64x2048 : Shape := ⟨2, ![64, 2048]⟩
abbrev S2048 : Shape := ⟨1, ![2048]⟩
abbrev S2048x2048 : Shape := ⟨2, ![2048, 2048]⟩
abbrev S2048x16 : Shape := ⟨2, ![2048, 16]⟩
abbrev S16 : Shape := ⟨1, ![16]⟩
abbrev S1x4112x2048 : Shape := ⟨3, ![1, 4112, 2048]⟩
abbrev S4112x2048 : Shape := ⟨2, ![4112, 2048]⟩
abbrev S_ : Shape := ⟨0, ![]⟩
abbrev S112x2048 : Shape := ⟨2, ![112, 2048]⟩
abbrev S48x2048 : Shape := ⟨2, ![48, 2048]⟩
abbrev S8448x2048 : Shape := ⟨2, ![8448, 2048]⟩
abbrev S1x2048 : Shape := ⟨2, ![1, 2048]⟩
abbrev S16x2048 : Shape := ⟨2, ![16, 2048]⟩
abbrev S16x1 : Shape := ⟨2, ![16, 1]⟩
abbrev S16x8448 : Shape := ⟨2, ![16, 8448]⟩
abbrev S1408x2048 : Shape := ⟨2, ![1408, 2048]⟩
abbrev S2048x256 : Shape := ⟨2, ![2048, 256]⟩
abbrev S1x1408x256 : Shape := ⟨3, ![1, 1408, 256]⟩
abbrev S1408x256 : Shape := ⟨2, ![1408, 256]⟩
abbrev S16x1408 : Shape := ⟨2, ![16, 1408]⟩
abbrev S1408 : Shape := ⟨1, ![1408]⟩
abbrev S1408x1 : Shape := ⟨2, ![1408, 1]⟩
abbrev S8448x16 : Shape := ⟨2, ![8448, 16]⟩
abbrev S2x4224x16 : Shape := ⟨3, ![2, 4224, 16]⟩
abbrev S2x4112x16 : Shape := ⟨3, ![2, 4112, 16]⟩
abbrev S64x16 : Shape := ⟨2, ![64, 16]⟩
abbrev S8x8x16 : Shape := ⟨3, ![8, 8, 16]⟩
abbrev S2x4112x16x128 : Shape := ⟨4, ![2, 4112, 16, 128]⟩

abbrev nBuf : Space → Nat
  | .hbm => 31
  | .vmem => 20
  | .smem => 0
  | _ => 0

abbrev bufTy : (tb : Table) → Fin (tcTables nBuf tb) → BufTy
  | .hbm, ⟨0, _⟩ => ⟨S2x4112x2048, .f32⟩
  | .hbm, ⟨1, _⟩ => ⟨S64x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S2048x16, .f32⟩
  | .hbm, ⟨6, _⟩ => ⟨S16, .f32⟩
  | .hbm, ⟨7, _⟩ => ⟨S1x4112x2048, .f32⟩
  | .hbm, ⟨8, _⟩ => ⟨S4112x2048, .f32⟩
  | .hbm, ⟨9, _⟩ => ⟨S_, .f32⟩
  | .hbm, ⟨10, _⟩ => ⟨S112x2048, .f32⟩
  | .hbm, ⟨11, _⟩ => ⟨S1x4112x2048, .f32⟩
  | .hbm, ⟨12, _⟩ => ⟨S4112x2048, .f32⟩
  | .hbm, ⟨13, _⟩ => ⟨S_, .f32⟩
  | .hbm, ⟨14, _⟩ => ⟨S48x2048, .f32⟩
  | .hbm, ⟨15, _⟩ => ⟨S8448x2048, .f32⟩
  | .hbm, ⟨16, _⟩ => ⟨S1x2048, .f32⟩
  | .hbm, ⟨17, _⟩ => ⟨S16x2048, .f32⟩
  | .hbm, ⟨18, _⟩ => ⟨S16x1, .f32⟩
  | .hbm, ⟨19, _⟩ => ⟨S2x4112x2048, .f32⟩
  | .hbm, ⟨20, _⟩ => ⟨S2x4112x2048, .f32⟩
  | .hbm, ⟨21, _⟩ => ⟨S8448x2048, .bf16⟩
  | .hbm, ⟨22, _⟩ => ⟨S8448x2048, .bf16⟩
  | .hbm, ⟨23, _⟩ => ⟨S16x8448, .f32⟩
  | .hbm, ⟨24, _⟩ => ⟨S8448x16, .f32⟩
  | .hbm, ⟨25, _⟩ => ⟨S2x4224x16, .f32⟩
  | .hbm, ⟨26, _⟩ => ⟨S2x4112x16, .f32⟩
  | .hbm, ⟨27, _⟩ => ⟨S64x16, .f32⟩
  | .hbm, ⟨28, _⟩ => ⟨S8x8x16, .f32⟩
  | .hbm, ⟨29, _⟩ => ⟨S2x4112x16x128, .f32⟩
  | .hbm, ⟨30, _⟩ => ⟨S2x4112x16x128, .f32⟩
  | .local _ .vmem, ⟨0, _⟩ => ⟨S1408x2048, .f32⟩
  | .local _ .vmem, ⟨1, _⟩ => ⟨S1408x2048, .f32⟩
  | .local _ .vmem, ⟨2, _⟩ => ⟨S1x2048, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S16x2048, .f32⟩
  | .local _ .vmem, ⟨8, _⟩ => ⟨S16x1, .f32⟩
  | .local _ .vmem, ⟨9, _⟩ => ⟨S1x1408x256, .f32⟩
  | .local _ .vmem, ⟨10, _⟩ => ⟨S1x1408x256, .f32⟩
  | .local _ .vmem, ⟨11, _⟩ => ⟨S1x1408x256, .f32⟩
  | .local _ .vmem, ⟨12, _⟩ => ⟨S1x1408x256, .f32⟩
  | .local _ .vmem, ⟨13, _⟩ => ⟨S1408x256, .bf16⟩
  | .local _ .vmem, ⟨14, _⟩ => ⟨S1408x256, .bf16⟩
  | .local _ .vmem, ⟨15, _⟩ => ⟨S1408x256, .bf16⟩
  | .local _ .vmem, ⟨16, _⟩ => ⟨S1408x256, .bf16⟩
  | .local _ .vmem, ⟨17, _⟩ => ⟨S16x1408, .f32⟩
  | .local _ .vmem, ⟨18, _⟩ => ⟨S16x1408, .f32⟩
  | .local _ .vmem, ⟨19, _⟩ => ⟨S1408x2048, .bf16⟩
  | _, _ => ⟨S2x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![6, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1408x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1408x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1408x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1408x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1408x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KvRefIdeal.lean ====
abbrev S2x4112x2048 : Shape := ⟨3, ![2, 4112, 2048]⟩
abbrev S64x2048 : Shape := ⟨2, ![64, 2048]⟩
abbrev S2048 : Shape := ⟨1, ![2048]⟩
abbrev S2048x2048 : Shape := ⟨2, ![2048, 2048]⟩
abbrev S2048x16 : Shape := ⟨2, ![2048, 16]⟩
abbrev S16 : Shape := ⟨1, ![16]⟩
abbrev S_ : Shape := ⟨0, ![]⟩
abbrev S2x4112 : Shape := ⟨2, ![2, 4112]⟩
abbrev S2x4112x1 : Shape := ⟨3, ![2, 4112, 1]⟩
abbrev S1x1x2048 : Shape := ⟨3, ![1, 1, 2048]⟩
abbrev S2x4112x16 : Shape := ⟨3, ![2, 4112, 16]⟩
abbrev S1x1x16 : Shape := ⟨3, ![1, 1, 16]⟩
abbrev S8x8x2048 : Shape := ⟨3, ![8, 8, 2048]⟩
abbrev S8x8 : Shape := ⟨2, ![8, 8]⟩
abbrev S8x8x1 : Shape := ⟨3, ![8, 8, 1]⟩
abbrev S8x8x16 : Shape := ⟨3, ![8, 8, 16]⟩
abbrev S2x4112x16x128 : Shape := ⟨4, ![2, 4112, 16, 128]⟩

abbrev nBuf : Space → Nat
  | .hbm => 84
  | .vmem => 0
  | .smem => 0
  | _ => 0

abbrev bufTy : (tb : Table) → Fin (tcTables nBuf tb) → BufTy
  | .hbm, ⟨0, _⟩ => ⟨S2x4112x2048, .f32⟩
  | .hbm, ⟨1, _⟩ => ⟨S64x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S2048x16, .f32⟩
  | .hbm, ⟨6, _⟩ => ⟨S16, .f32⟩
  | .hbm, ⟨7, _⟩ => ⟨S2x4112x2048, .f32⟩
  | .hbm, ⟨8, _⟩ => ⟨S_, .f32⟩
  | .hbm, ⟨9, _⟩ => ⟨S2x4112, .f32⟩
  | .hbm, ⟨10, _⟩ => ⟨S2x4112x1, .f32⟩
  | .hbm, ⟨11, _⟩ => ⟨S_, .f32⟩
  | .hbm, ⟨12, _⟩ => ⟨S2x4112x1, .f32⟩
  | .hbm, ⟨13, _⟩ => ⟨S2x4112x1, .f32⟩
  | .hbm, ⟨14, _⟩ => ⟨S_, .f32⟩
  | .hbm, ⟨15, _⟩ => ⟨S2x4112x1, .f32⟩
  | .hbm, ⟨16, _⟩ => ⟨S2x4112x1, .f32⟩
  | .hbm, ⟨17, _⟩ => ⟨S2x4112x1, .f32⟩
  | .hbm, ⟨18, _⟩ => ⟨S2x4112x2048, .f32⟩
  | .hbm, ⟨19, _⟩ => ⟨S2x4112x2048, .f32⟩
  | .hbm, ⟨20, _⟩ => ⟨S1x1x2048, .f32⟩
  | .hbm, ⟨21, _⟩ => ⟨S2x4112x2048, .f32⟩
  | .hbm, ⟨22, _⟩ => ⟨S2x4112x2048, .f32⟩
  | .hbm, ⟨23, _⟩ => ⟨S2x4112x16, .f32⟩
  | .hbm, ⟨24, _⟩ => ⟨S1x1x16, .f32⟩
  | .hbm, ⟨25, _⟩ => ⟨S2x4112x16, .f32⟩
  | .hbm, ⟨26, _⟩ => ⟨S2x4112x16, .f32⟩
  | .hbm, ⟨27, _⟩ => ⟨S2x4112x16, .f32⟩
  | .hbm, ⟨28, _⟩ => ⟨S_, .f32⟩
  | .hbm, ⟨29, _⟩ => ⟨S2x4112x16, .f32⟩
  | .hbm, ⟨30, _⟩ => ⟨S2x4112x16, .f32⟩
  | .hbm, ⟨31, _⟩ => ⟨S2x4112x16, .f32⟩
  | .hbm, ⟨32, _⟩ => ⟨S2x4112x16, .f32⟩
  | .hbm, ⟨33, _⟩ => ⟨S2x4112x16, .i1⟩
  | .hbm, ⟨34, _⟩ => ⟨S2x4112x16, .f32⟩
  | .hbm, ⟨35, _⟩ => ⟨S2x4112x16, .f32⟩
  | .hbm, ⟨36, _⟩ => ⟨S2x4112x16, .f32⟩
  | .hbm, ⟨37, _⟩ => ⟨S2x4112x16, .f32⟩
  | .hbm, ⟨38, _⟩ => ⟨S2x4112x16, .f32⟩
  | .hbm, ⟨39, _⟩ => ⟨S2x4112x16, .f32⟩
  | .hbm, ⟨40, _⟩ => ⟨S2x4112x16, .f32⟩
  | .hbm, ⟨41, _⟩ => ⟨S2x4112x16, .f32⟩
  | .hbm, ⟨42, _⟩ => ⟨S2x4112x16, .f32⟩
  | .hbm, ⟨43, _⟩ => ⟨S8x8x2048, .f32⟩
  | .hbm, ⟨44, _⟩ => ⟨S8x8x2048, .f32⟩
  | .hbm, ⟨45, _⟩ => ⟨S_, .f32⟩
  | .hbm, ⟨46, _⟩ => ⟨S8x8, .f32⟩
  | .hbm, ⟨47, _⟩ => ⟨S8x8x1, .f32⟩
  | .hbm, ⟨48, _⟩ => ⟨S_, .f32⟩
  | .hbm, ⟨49, _⟩ => ⟨S8x8x1, .f32⟩
  | .hbm, ⟨50, _⟩ => ⟨S8x8x1, .f32⟩
  | .hbm, ⟨51, _⟩ => ⟨S_, .f32⟩
  | .hbm, ⟨52, _⟩ => ⟨S8x8x1, .f32⟩
  | .hbm, ⟨53, _⟩ => ⟨S8x8x1, .f32⟩
  | .hbm, ⟨54, _⟩ => ⟨S8x8x1, .f32⟩
  | .hbm, ⟨55, _⟩ => ⟨S8x8x2048, .f32⟩
  | .hbm, ⟨56, _⟩ => ⟨S8x8x2048, .f32⟩
  | .hbm, ⟨57, _⟩ => ⟨S1x1x2048, .f32⟩
  | .hbm, ⟨58, _⟩ => ⟨S8x8x2048, .f32⟩
  | .hbm, ⟨59, _⟩ => ⟨S8x8x2048, .f32⟩
  | .hbm, ⟨60, _⟩ => ⟨S8x8x16, .f32⟩
  | .hbm, ⟨61, _⟩ => ⟨S1x1x16, .f32⟩
  | .hbm, ⟨62, _⟩ => ⟨S8x8x16, .f32⟩
  | .hbm, ⟨63, _⟩ => ⟨S8x8x16, .f32⟩
  | .hbm, ⟨64, _⟩ => ⟨S8x8x16, .f32⟩
  | .hbm, ⟨65, _⟩ => ⟨S_, .f32⟩
  | .hbm, ⟨66, _⟩ => ⟨S8x8x16, .f32⟩
  | .hbm, ⟨67, _⟩ => ⟨S8x8x16, .f32⟩
  | .hbm, ⟨68, _⟩ => ⟨S8x8x16, .f32⟩
  | .hbm, ⟨69, _⟩ => ⟨S8x8x16, .f32⟩
  | .hbm, ⟨70, _⟩ => ⟨S8x8x16, .i1⟩
  | .hbm, ⟨71, _⟩ => ⟨S8x8x16, .f32⟩
  | .hbm, ⟨72, _⟩ => ⟨S8x8x16, .f32⟩
  | .hbm, ⟨73, _⟩ => ⟨S8x8x16, .f32⟩
  | .hbm, ⟨74, _⟩ => ⟨S8x8x16, .f32⟩
  | .hbm, ⟨75, _⟩ => ⟨S8x8x16, .f32⟩
  | .hbm, ⟨76, _⟩ => ⟨S8x8x16, .f32⟩
  | .hbm, ⟨77, _⟩ => ⟨S8x8x16, .f32⟩
  | .hbm, ⟨78, _⟩ => ⟨S8x8x16, .f32⟩
  | .hbm, ⟨79, _⟩ => ⟨S8x8x16, .f32⟩
  | .hbm, ⟨80, _⟩ => ⟨S2x4112x2048, .f32⟩
  | .hbm, ⟨81, _⟩ => ⟨S2x4112x16x128, .f32⟩
  | .hbm, ⟨82, _⟩ => ⟨S2x4112x2048, .f32⟩
  | .hbm, ⟨83, _⟩ => ⟨S2x4112x16x128, .f32⟩
  | _, _ => ⟨S2x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_2 : Ref sig .tc := ⟨.hbm, 45, rfl⟩
abbrev main_v20 : Ref sig .tc := ⟨.hbm, 46, rfl⟩
abbrev main_v21 : Ref sig .tc := ⟨.hbm, 47, rfl⟩
abbrev main_cst_3 : Ref sig .tc := ⟨.hbm, 48, rfl⟩
abbrev main_v22 : Ref sig .tc := ⟨.hbm, 49, rfl⟩
abbrev main_v23 : Ref sig .tc := ⟨.hbm, 50, rfl⟩
abbrev main_cst_4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_call1_v0 : Ref sig .tc := ⟨.hbm, 64, rfl⟩
abbrev main_call1_call0_cst : Ref sig .tc := ⟨.hbm, 65, rfl⟩
abbrev main_call1_call0_v0 : Ref sig .tc := ⟨.hbm, 66, rfl⟩
abbrev main_call1_call0_v1 : Ref sig .tc := ⟨.hbm, 67, rfl⟩
abbrev main_call1_call0_v2 : Ref sig .tc := ⟨.hbm, 68, rfl⟩
abbrev main_call1_call0_v3 : Ref sig .tc := ⟨.hbm, 69, rfl⟩
abbrev main_call1_call0_v4 : Ref sig .tc := ⟨.hbm, 70, rfl⟩
abbrev main_call1_call0_v5 : Ref sig .tc := ⟨.hbm, 71, rfl⟩
abbrev main_call1_call0_v6 : Ref sig .tc := ⟨.hbm, 72, rfl⟩
abbrev main_call1_call0_v7 : Ref sig .tc := ⟨.hbm, 73, rfl⟩
abbrev main_call1_call0_v8 : Ref sig .tc := ⟨.hbm, 74, rfl⟩
abbrev main_call1_call0_v9 : Ref sig .tc := ⟨.hbm, 75, rfl⟩
abbrev main_call1_call0_v10 : Ref sig .tc := ⟨.hbm, 76, rfl⟩
abbrev main_call1_call0_v11 : Ref sig .tc := ⟨.hbm, 77, rfl⟩
abbrev main_call1_v1 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩

abbrev nD : Nat := 1
abbrev τ : Topo := Topo.v7x

variable {F : FTy → Type} [FloatOps F]
-- ==== Glu.lean ====
abbrev S2x4112x2048 : Shape := ⟨3, ![2, 4112, 2048]⟩
abbrev S64x2048 : Shape := ⟨2, ![64, 2048]⟩
abbrev S2048 : Shape := ⟨1, ![2048]⟩
abbrev S2048x4096 : Shape := ⟨2, ![2048, 4096]⟩
abbrev S4096 : Shape := ⟨1, ![4096]⟩
abbrev S1x4112x2048 : Shape := ⟨3, ![1, 4112, 2048]⟩
abbrev S4112x2048 : Shape := ⟨2, ![4112, 2048]⟩
abbrev S_ : Shape := ⟨0, ![]⟩
abbrev S112x2048 : Shape := ⟨2, ![112, 2048]⟩
abbrev S48x2048 : Shape := ⟨2, ![48, 2048]⟩
abbrev S8448x2048 : Shape := ⟨2, ![8448, 2048]⟩
abbrev S1x2048 : Shape := ⟨2, ![1, 2048]⟩
abbrev S1x4096 : Shape := ⟨2, ![1, 4096]⟩
abbrev S1056x2048 : Shape := ⟨2, ![1056, 2048]⟩
abbrev S2048x512 : Shape := ⟨2, ![2048, 512]⟩
abbrev S1x512 : Shape := ⟨2, ![1, 512]⟩
abbrev S1056x512 : Shape := ⟨2, ![1056, 512]⟩
abbrev S1056 : Shape := ⟨1, ![1056]⟩
abbrev S1056x1 : Shape := ⟨2, ![1056, 1]⟩
abbrev S2x4224x2048 : Shape := ⟨3, ![2, 4224, 2048]⟩
abbrev S2x30x2048 : Shape := ⟨3, ![2, 30, 2048]⟩
abbrev S1x2x30x2048 : Shape := ⟨4, ![1, 2, 30, 2048]⟩
abbrev S8x8x2048 : Shape := ⟨3, ![8, 8, 2048]⟩

abbrev nBuf : Space → Nat
  | .hbm => 24
  | .vmem => 14
  | .smem => 0
  | _ => 0

abbrev bufTy : (tb : Table) → Fin (tcTables nBuf tb) → BufTy
  | .hbm, ⟨0, _⟩ => ⟨S2x4112x2048, .f32⟩
  | .hbm, ⟨1, _⟩ => ⟨S64x2048, .f32⟩
  | .hbm, ⟨2, _⟩ => ⟨S2048, .f32⟩
  | .hbm, ⟨3, _⟩ => ⟨S2048x4096, .f32⟩
  | .hbm, ⟨4, _⟩ => ⟨S4096, .f32⟩
  | .hbm, ⟨5, _⟩ => ⟨S1x4112x2048, .f32⟩
  | .hbm, ⟨6, _⟩ => ⟨S4112x2048, .f32⟩
  | .hbm, ⟨7, _⟩ => ⟨S_, .f32⟩
  | .hbm, ⟨8, _⟩ => ⟨S112x2048, .f32⟩
  | .hbm, ⟨9, _⟩ => ⟨S1x4112x2048, .f32⟩
  | .hbm, ⟨10, _⟩ => ⟨S4112x2048, .f32⟩
  | .hbm, ⟨11, _⟩ => ⟨S_, .f32⟩
  | .hbm, ⟨12, _⟩ => ⟨S48x2048, .f32⟩
  | .hbm, ⟨13, _⟩ => ⟨S8448x2048, .f32⟩
  | .hbm, ⟨14, _⟩ => ⟨S1x2048, .f32⟩
  | .hbm, ⟨15, _⟩ => ⟨S1x4096, .f32⟩
  | .hbm, ⟨16, _⟩ => ⟨S1x4096, .f32⟩
  | .hbm, ⟨17, _⟩ => ⟨S8448x2048, .f32⟩
  | .hbm, ⟨18, _⟩ => ⟨S2x4224x2048, .f32⟩
  | .hbm, ⟨19, _⟩ => ⟨S2x4112x2048, .f32⟩
  | .hbm, ⟨20, _⟩ => ⟨S2x30x2048, .f32⟩
  | .hbm, ⟨21, _⟩ => ⟨S1x2x30x2048, .f32⟩
  | .hbm, ⟨22, _⟩ => ⟨S64x2048, .f32⟩
  | .hbm, ⟨23, _⟩ => ⟨S8x8x2048, .f32⟩
  | .local _ .vmem, ⟨0, _⟩ => ⟨S1056x2048, .f32⟩
  | .local _ .vmem, ⟨1, _⟩ => ⟨S1056x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1056x512, .f32⟩
  | .local _ .vmem, ⟨12, _⟩ => ⟨S1056x512, .f32⟩
  | .local _ .vmem, ⟨13, _⟩ => ⟨S1056x2048, .bf16⟩
  | _, _ => ⟨S2x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1056x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GluRefIdeal.lean ====
abbrev S2x4112x2048 : Shape := ⟨3, ![2, 4112, 2048]⟩
abbrev S64x2048 : Shape := ⟨2, ![64, 2048]⟩
abbrev S2048 : Shape := ⟨1, ![2048]⟩
abbrev S2048x4096 : Shape := ⟨2, ![2048, 4096]⟩
abbrev S4096 : Shape := ⟨1, ![4096]⟩
abbrev S_ : Shape := ⟨0, ![]⟩
abbrev S2x4112 : Shape := ⟨2, ![2, 4112]⟩
abbrev S2x4112x1 : Shape := ⟨3, ![2, 4112, 1]⟩
abbrev S1x1x2048 : Shape := ⟨3, ![1, 1, 2048]⟩
abbrev S2x4112x4096 : Shape := ⟨3, ![2, 4112, 4096]⟩
abbrev S1x1x4096 : Shape := ⟨3, ![1, 1, 4096]⟩
abbrev S2x30x2048 : Shape := ⟨3, ![2, 30, 2048]⟩
abbrev S1x2x30x2048 : Shape := ⟨4, ![1, 2, 30, 2048]⟩
abbrev S8x8x2048 : Shape := ⟨3, ![8, 8, 2048]⟩
abbrev S8x8 : Shape := ⟨2, ![8, 8]⟩
abbrev S8x8x1 : Shape := ⟨3, ![8, 8, 1]⟩
abbrev S8x8x4096 : Shape := ⟨3, ![8, 8, 4096]⟩

abbrev nBuf : Space → Nat
  | .hbm => 70
  | .vmem => 0
  | .smem => 0
  | _ => 0

abbrev bufTy : (tb : Table) → Fin (tcTables nBuf tb) → BufTy
  | .hbm, ⟨0, _⟩ => ⟨S2x4112x2048, .f32⟩
  | .hbm, ⟨1, _⟩ => ⟨S64x2048, .f32⟩
  | .hbm, ⟨2, _⟩ => ⟨S2048, .f32⟩
  | .hbm, ⟨3, _⟩ => ⟨S2048x4096, .f32⟩
  | .hbm, ⟨4, _⟩ => ⟨S4096, .f32⟩
  | .hbm, ⟨5, _⟩ => ⟨S2x4112x2048, .f32⟩
  | .hbm, ⟨6, _⟩ => ⟨S_, .f32⟩
  | .hbm, ⟨7, _⟩ => ⟨S2x4112, .f32⟩
  | .hbm, ⟨8, _⟩ => ⟨S2x4112x1, .f32⟩
  | .hbm, ⟨9, _⟩ => ⟨S_, .f32⟩
  | .hbm, ⟨10, _⟩ => ⟨S2x4112x1, .f32⟩
  | .hbm, ⟨11, _⟩ => ⟨S2x4112x1, .f32⟩
  | .hbm, ⟨12, _⟩ => ⟨S_, .f32⟩
  | .hbm, ⟨13, _⟩ => ⟨S2x4112x1, .f32⟩
  | .hbm, ⟨14, _⟩ => ⟨S2x4112x1, .f32⟩
  | .hbm, ⟨15, _⟩ => ⟨S2x4112x1, .f32⟩
  | .hbm, ⟨16, _⟩ => ⟨S2x4112x2048, .f32⟩
  | .hbm, ⟨17, _⟩ => ⟨S2x4112x2048, .f32⟩
  | .hbm, ⟨18, _⟩ => ⟨S1x1x2048, .f32⟩
  | .hbm, ⟨19, _⟩ => ⟨S2x4112x2048, .f32⟩
  | .hbm, ⟨20, _⟩ => ⟨S2x4112x2048, .f32⟩
  | .hbm, ⟨21, _⟩ => ⟨S2x4112x4096, .f32⟩
  | .hbm, ⟨22, _⟩ => ⟨S1x1x4096, .f32⟩
  | .hbm, ⟨23, _⟩ => ⟨S2x4112x4096, .f32⟩
  | .hbm, ⟨24, _⟩ => ⟨S2x4112x4096, .f32⟩
  | .hbm, ⟨25, _⟩ => ⟨S2x4112x2048, .f32⟩
  | .hbm, ⟨26, _⟩ => ⟨S2x4112x2048, .f32⟩
  | .hbm, ⟨27, _⟩ => ⟨S2x4112x2048, .f32⟩
  | .hbm, ⟨28, _⟩ => ⟨S2x4112x2048, .f32⟩
  | .hbm, ⟨29, _⟩ => ⟨S_, .f32⟩
  | .hbm, ⟨30, _⟩ => ⟨S2x4112x2048, .f32⟩
  | .hbm, ⟨31, _⟩ => ⟨S2x4112x2048, .f32⟩
  | .hbm, ⟨32, _⟩ => ⟨S_, .f32⟩
  | .hbm, ⟨33, _⟩ => ⟨S2x4112x2048, .f32⟩
  | .hbm, ⟨34, _⟩ => ⟨S2x4112x2048, .f32⟩
  | .hbm, ⟨35, _⟩ => ⟨S2x4112x2048, .f32⟩
  | .hbm, ⟨36, _⟩ => ⟨S2x30x2048, .f32⟩
  | .hbm, ⟨37, _⟩ => ⟨S1x2x30x2048, .f32⟩
  | .hbm, ⟨38, _⟩ => ⟨S8x8x2048, .f32⟩
  | .hbm, ⟨39, _⟩ => ⟨S8x8x2048, .f32⟩
  | .hbm, ⟨40, _⟩ => ⟨S_, .f32⟩
  | .hbm, ⟨41, _⟩ => ⟨S8x8, .f32⟩
  | .hbm, ⟨42, _⟩ => ⟨S8x8x1, .f32⟩
  | .hbm, ⟨43, _⟩ => ⟨S_, .f32⟩
  | .hbm, ⟨44, _⟩ => ⟨S8x8x1, .f32⟩
  | .hbm, ⟨45, _⟩ => ⟨S8x8x1, .f32⟩
  | .hbm, ⟨46, _⟩ => ⟨S_, .f32⟩
  | .hbm, ⟨47, _⟩ => ⟨S8x8x1, .f32⟩
  | .hbm, ⟨48, _⟩ => ⟨S8x8x1, .f32⟩
  | .hbm, ⟨49, _⟩ => ⟨S8x8x1, .f32⟩
  | .hbm, ⟨50, _⟩ => ⟨S8x8x2048, .f32⟩
  | .hbm, ⟨51, _⟩ => ⟨S8x8x2048, .f32⟩
  | .hbm, ⟨52, _⟩ => ⟨S1x1x2048, .f32⟩
  | .hbm, ⟨53, _⟩ => ⟨S8x8x2048, .f32⟩
  | .hbm, ⟨54, _⟩ => ⟨S8x8x2048, .f32⟩
  | .hbm, ⟨55, _⟩ => ⟨S8x8x4096, .f32⟩
  | .hbm, ⟨56, _⟩ => ⟨S1x1x4096, .f32⟩
  | .hbm, ⟨57, _⟩ => ⟨S8x8x4096, .f32⟩
  | .hbm, ⟨58, _⟩ => ⟨S8x8x4096, .f32⟩
  | .hbm, ⟨59, _⟩ => ⟨S8x8x2048, .f32⟩
  | .hbm, ⟨60, _⟩ => ⟨S8x8x2048, .f32⟩
  | .hbm, ⟨61, _⟩ => ⟨S8x8x2048, .f32⟩
  | .hbm, ⟨62, _⟩ => ⟨S8x8x2048, .f32⟩
  | .hbm, ⟨63, _⟩ => ⟨S_, .f32⟩
  | .hbm, ⟨64, _⟩ => ⟨S8x8x2048, .f32⟩
  | .hbm, ⟨65, _⟩ => ⟨S8x8x2048, .f32⟩
  | .hbm, ⟨66, _⟩ => ⟨S_, .f32⟩
  | .hbm, ⟨67, _⟩ => ⟨S8x8x2048, .f32⟩
  | .hbm, ⟨68, _⟩ => ⟨S8x8x2048, .f32⟩
  | .hbm, ⟨69, _⟩ => ⟨S8x8x2048, .f32⟩
  | _, _ => ⟨S2x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Step.lean ====
abbrev S1x8x30x2048 : Shape := ⟨4, ![1, 8, 30, 2048]⟩
abbrev S8x8x2048 : Shape := ⟨3, ![8, 8, 2048]⟩
abbrev S1x31x2048 : Shape := ⟨3, ![1, 31, 2048]⟩
abbrev S1x2048 : Shape := ⟨2, ![1, 2048]⟩
abbrev S8x30x2048 : Shape := ⟨3, ![8, 30, 2048]⟩
abbrev S31x2048 : Shape := ⟨2, ![31, 2048]⟩
abbrev S2048 : Shape := ⟨1, ![2048]⟩
abbrev S1x30x2048 : Shape := ⟨3, ![1, 30, 2048]⟩
abbrev S1x8x2048 : Shape := ⟨3, ![1, 8, 2048]⟩
abbrev S40x2048 : Shape := ⟨2, ![40, 2048]⟩
abbrev S30x2048 : Shape := ⟨2, ![30, 2048]⟩
abbrev S8x2048 : Shape := ⟨2, ![8, 2048]⟩

abbrev nBuf : Space → Nat
  | .hbm => 11
  | .vmem => 11
  | .smem => 0
  | _ => 0

abbrev bufTy : (tb : Table) → Fin (tcTables nBuf tb) → BufTy
  | .hbm, ⟨0, _⟩ => ⟨S1x8x30x2048, .f32⟩
  | .hbm, ⟨1, _⟩ => ⟨S8x8x2048, .f32⟩
  | .hbm, ⟨2, _⟩ => ⟨S1x31x2048, .f32⟩
  | .hbm, ⟨3, _⟩ => ⟨S1x2048, .f32⟩
  | .hbm, ⟨4, _⟩ => ⟨S8x30x2048, .f32⟩
  | .hbm, ⟨5, _⟩ => ⟨S31x2048, .f32⟩
  | .hbm, ⟨6, _⟩ => ⟨S2048, .f32⟩
  | .hbm, ⟨7, _⟩ => ⟨S1x2048, .f32⟩
  | .hbm, ⟨8, _⟩ => ⟨S8x8x2048, .f32⟩
  | .hbm, ⟨9, _⟩ => ⟨S8x30x2048, .f32⟩
  | .hbm, ⟨10, _⟩ => ⟨S1x8x30x2048, .f32⟩
  | .local _ .vmem, ⟨0, _⟩ => ⟨S1x30x2048, .f32⟩
  | .local _ .vmem, ⟨1, _⟩ => ⟨S1x30x2048, .f32⟩
  | .local _ .vmem, ⟨2, _⟩ => ⟨S1x8x2048, .f32⟩
  | .local _ .vmem, ⟨3, _⟩ => ⟨S1x8x2048, .f32⟩
  | .local _ .vmem, ⟨4, _⟩ => ⟨S31x2048, .f32⟩
  | .local _ .vmem, ⟨5, _⟩ => ⟨S1x2048, .f32⟩
  | .local _ .vmem, ⟨6, _⟩ => ⟨S1x8x2048, .f32⟩
  | .local _ .vmem, ⟨7, _⟩ => ⟨S1x8x2048, .f32⟩
  | .local _ .vmem, ⟨8, _⟩ => ⟨S1x30x2048, .f32⟩
  | .local _ .vmem, ⟨9, _⟩ => ⟨S1x30x2048, .f32⟩
  | .local _ .vmem, ⟨10, _⟩ => ⟨S40x2048, .f32⟩
  | _, _ => ⟨S1x8x30x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x30x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x30x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== StepRefIdeal.lean ====
abbrev S1x8x30x2048 : Shape := ⟨4, ![1, 8, 30, 2048]⟩
abbrev S8x8x2048 : Shape := ⟨3, ![8, 8, 2048]⟩
abbrev S1x31x2048 : Shape := ⟨3, ![1, 31, 2048]⟩
abbrev S1x2048 : Shape := ⟨2, ![1, 2048]⟩
abbrev S8x30x2048 : Shape := ⟨3, ![8, 30, 2048]⟩
abbrev S8x38x2048 : Shape := ⟨3, ![8, 38, 2048]⟩
abbrev S2048 : Shape := ⟨1, ![2048]⟩
abbrev S1x1x2048 : Shape := ⟨3, ![1, 1, 2048]⟩

abbrev nBuf : Space → Nat
  | .hbm => 228
  | .vmem => 0
  | .smem => 0
  | _ => 0

abbrev hbmTy0_0 (i : Nat) : BufTy := match i % 128 with
  | 0 => ⟨S1x8x30x2048, .f32⟩
  | 1 => ⟨S8x8x2048, .f32⟩
  | 2 => ⟨S1x31x2048, .f32⟩
  | 3 => ⟨S1x2048, .f32⟩
  | 4 => ⟨S8x30x2048, .f32⟩
  | 5 => ⟨S8x38x2048, .f32⟩
  | 6 => ⟨S2048, .f32⟩
  | 7 => ⟨S1x1x2048, .f32⟩
  | 8 => ⟨S2048, .f32⟩
  | 9 => ⟨S8x8x2048, .f32⟩
  | 10 => ⟨S1x1x2048, .f32⟩
  | 11 => ⟨S8x8x2048, .f32⟩
  | 12 => ⟨S8x8x2048, .f32⟩
  | 13 => ⟨S1x1x2048, .f32⟩
  | 14 => ⟨S8x8x2048, .f32⟩
  | 15 => ⟨S8x8x2048, .f32⟩
  | 16 => ⟨S1x1x2048, .f32⟩
  | 17 => ⟨S2048, .f32⟩
  | 18 => ⟨S8x8x2048, .f32⟩
  | 19 => ⟨S1x1x2048, .f32⟩
  | 20 => ⟨S8x8x2048, .f32⟩
  | 21 => ⟨S8x8x2048, .f32⟩
  | 22 => ⟨S8x8x2048, .f32⟩
  | 23 => ⟨S1x1x2048, .f32⟩
  | 24 => ⟨S2048, .f32⟩
  | 25 => ⟨S8x8x2048, .f32⟩
  | 26 => ⟨S1x1x2048, .f32⟩
  | 27 => ⟨S8x8x2048, .f32⟩
  | 28 => ⟨S8x8x2048, .f32⟩
  | 29 => ⟨S8x8x2048, .f32⟩
  | 30 => ⟨S1x1x2048, .f32⟩
  | 31 => ⟨S2048, .f32⟩
  | 32 => ⟨S8x8x2048, .f32⟩
  | 33 => ⟨S1x1x2048, .f32⟩
  | 34 => ⟨S8x8x2048, .f32⟩
  | 35 => ⟨S8x8x2048, .f32⟩
  | 36 => ⟨S8x8x2048, .f32⟩
  | 37 => ⟨S1x1x2048, .f32⟩
  | 38 => ⟨S2048, .f32⟩
  | 39 => ⟨S8x8x2048, .f32⟩
  | 40 => ⟨S1x1x2048, .f32⟩
  | 41 => ⟨S8x8x2048, .f32⟩
  | 42 => ⟨S8x8x2048, .f32⟩
  | 43 => ⟨S8x8x2048, .f32⟩
  | 44 => ⟨S1x1x2048, .f32⟩
  | 45 => ⟨S2048, .f32⟩
  | 46 => ⟨S8x8x2048, .f32⟩
  | 47 => ⟨S1x1x2048, .f32⟩
  | 48 => ⟨S8x8x2048, .f32⟩
  | 49 => ⟨S8x8x2048, .f32⟩
  | 50 => ⟨S8x8x2048, .f32⟩
  | 51 => ⟨S1x1x2048, .f32⟩
  | 52 => ⟨S2048, .f32⟩
  | 53 => ⟨S8x8x2048, .f32⟩
  | 54 => ⟨S1x1x2048, .f32⟩
  | 55 => ⟨S8x8x2048, .f32⟩
  | 56 => ⟨S8x8x2048, .f32⟩
  | 57 => ⟨S8x8x2048, .f32⟩
  | 58 => ⟨S1x1x2048, .f32⟩
  | 59 => ⟨S2048, .f32⟩
  | 60 => ⟨S8x8x2048, .f32⟩
  | 61 => ⟨S1x1x2048, .f32⟩
  | 62 => ⟨S8x8x2048, .f32⟩
  | 63 => ⟨S8x8x2048, .f32⟩
  | 64 => ⟨S8x8x2048, .f32⟩
  | 65 => ⟨S1x1x2048, .f32⟩
  | 66 => ⟨S2048, .f32⟩
  | 67 => ⟨S8x8x2048, .f32⟩
  | 68 => ⟨S1x1x2048, .f32⟩
  | 69 => ⟨S8x8x2048, .f32⟩
  | 70 => ⟨S8x8x2048, .f32⟩
  | 71 => ⟨S8x8x2048, .f32⟩
  | 72 => ⟨S1x1x2048, .f32⟩
  | 73 => ⟨S2048, .f32⟩
  | 74 => ⟨S8x8x2048, .f32⟩
  | 75 => ⟨S1x1x2048, .f32⟩
  | 76 => ⟨S8x8x2048, .f32⟩
  | 77 => ⟨S8x8x2048, .f32⟩
  | 78 => ⟨S8x8x2048, .f32⟩
  | 79 => ⟨S1x1x2048, .f32⟩
  | 80 => ⟨S2048, .f32⟩
  | 81 => ⟨S8x8x2048, .f32⟩
  | 82 => ⟨S1x1x2048, .f32⟩
  | 83 => ⟨S8x8x2048, .f32⟩
  | 84 => ⟨S8x8x2048, .f32⟩
  | 85 => ⟨S8x8x2048, .f32⟩
  | 86 => ⟨S1x1x2048, .f32⟩
  | 87 => ⟨S2048, .f32⟩
  | 88 => ⟨S8x8x2048, .f32⟩
  | 89 => ⟨S1x1x2048, .f32⟩
  | 90 => ⟨S8x8x2048, .f32⟩
  | 91 => ⟨S8x8x2048, .f32⟩
  | 92 => ⟨S8x8x2048, .f32⟩
  | 93 => ⟨S1x1x2048, .f32⟩
  | 94 => ⟨S2048, .f32⟩
  | 95 => ⟨S8x8x2048, .f32⟩
  | 96 => ⟨S1x1x2048, .f32⟩
  | 97 => ⟨S8x8x2048, .f32⟩
  | 98 => ⟨S8x8x2048, .f32⟩
  | 99 => ⟨S8x8x2048, .f32⟩
  | 100 => ⟨S1x1x2048, .f32⟩
  | 101 => ⟨S2048, .f32⟩
  | 102 => ⟨S8x8x2048, .f32⟩
  | 103 => ⟨S1x1x2048, .f32⟩
  | 104 => ⟨S8x8x2048, .f32⟩
  | 105 => ⟨S8x8x2048, .f32⟩
  | 106 => ⟨S8x8x2048, .f32⟩
  | 107 => ⟨S1x1x2048, .f32⟩
  | 108 => ⟨S2048, .f32⟩
  | 109 => ⟨S8x8x2048, .f32⟩
  | 110 => ⟨S1x1x2048, .f32⟩
  | 111 => ⟨S8x8x2048, .f32⟩
  | 112 => ⟨S8x8x2048, .f32⟩
  | 113 => ⟨S8x8x2048, .f32⟩
  | 114 => ⟨S1x1x2048, .f32⟩
  | 115 => ⟨S2048, .f32⟩
  | 116 => ⟨S8x8x2048, .f32⟩
  | 117 => ⟨S1x1x2048, .f32⟩
  | 118 => ⟨S8x8x2048, .f32⟩
  | 119 => ⟨S8x8x2048, .f32⟩
  | 120 => ⟨S8x8x2048, .f32⟩
  | 121 => ⟨S1x1x2048, .f32⟩
  | 122 => ⟨S2048, .f32⟩
  | 123 => ⟨S8x8x2048, .f32⟩
  | 124 => ⟨S1x1x2048, .f32⟩
  | 125 => ⟨S8x8x2048, .f32⟩
  | 126 => ⟨S8x8x2048, .f32⟩
  | 127 => ⟨S8x8x2048, .f32⟩
  | _ => ⟨S1x8x30x2048, .f32⟩

abbrev hbmTy0_1 (i : Nat) : BufTy := match i % 128 with
  | 0 => ⟨S1x1x2048, .f32⟩
  | 1 => ⟨S2048, .f32⟩
  | 2 => ⟨S8x8x2048, .f32⟩
  | 3 => ⟨S1x1x2048, .f32⟩
  | 4 => ⟨S8x8x2048, .f32⟩
  | 5 => ⟨S8x8x2048, .f32⟩
  | 6 => ⟨S8x8x2048, .f32⟩
  | 7 => ⟨S1x1x2048, .f32⟩
  | 8 => ⟨S2048, .f32⟩
  | 9 => ⟨S8x8x2048, .f32⟩
  | 10 => ⟨S1x1x2048, .f32⟩
  | 11 => ⟨S8x8x2048, .f32⟩
  | 12 => ⟨S8x8x2048, .f32⟩
  | 13 => ⟨S8x8x2048, .f32⟩
  | 14 => ⟨S1x1x2048, .f32⟩
  | 15 => ⟨S2048, .f32⟩
  | 16 => ⟨S8x8x2048, .f32⟩
  | 17 => ⟨S1x1x2048, .f32⟩
  | 18 => ⟨S8x8x2048, .f32⟩
  | 19 => ⟨S8x8x2048, .f32⟩
  | 20 => ⟨S8x8x2048, .f32⟩
  | 21 => ⟨S1x1x2048, .f32⟩
  | 22 => ⟨S2048, .f32⟩
  | 23 => ⟨S8x8x2048, .f32⟩
  | 24 => ⟨S1x1x2048, .f32⟩
  | 25 => ⟨S8x8x2048, .f32⟩
  | 26 => ⟨S8x8x2048, .f32⟩
  | 27 => ⟨S8x8x2048, .f32⟩
  | 28 => ⟨S1x1x2048, .f32⟩
  | 29 => ⟨S2048, .f32⟩
  | 30 => ⟨S8x8x2048, .f32⟩
  | 31 => ⟨S1x1x2048, .f32⟩
  | 32 => ⟨S8x8x2048, .f32⟩
  | 33 => ⟨S8x8x2048, .f32⟩
  | 34 => ⟨S8x8x2048, .f32⟩
  | 35 => ⟨S1x1x2048, .f32⟩
  | 36 => ⟨S2048, .f32⟩
  | 37 => ⟨S8x8x2048, .f32⟩
  | 38 => ⟨S1x1x2048, .f32⟩
  | 39 => ⟨S8x8x2048, .f32⟩
  | 40 => ⟨S8x8x2048, .f32⟩
  | 41 => ⟨S8x8x2048, .f32⟩
  | 42 => ⟨S1x1x2048, .f32⟩
  | 43 => ⟨S2048, .f32⟩
  | 44 => ⟨S8x8x2048, .f32⟩
  | 45 => ⟨S1x1x2048, .f32⟩
  | 46 => ⟨S8x8x2048, .f32⟩
  | 47 => ⟨S8x8x2048, .f32⟩
  | 48 => ⟨S8x8x2048, .f32⟩
  | 49 => ⟨S1x1x2048, .f32⟩
  | 50 => ⟨S2048, .f32⟩
  | 51 => ⟨S8x8x2048, .f32⟩
  | 52 => ⟨S1x1x2048, .f32⟩
  | 53 => ⟨S8x8x2048, .f32⟩
  | 54 => ⟨S8x8x2048, .f32⟩
  | 55 => ⟨S8x8x2048, .f32⟩
  | 56 => ⟨S1x1x2048, .f32⟩
  | 57 => ⟨S2048, .f32⟩
  | 58 => ⟨S8x8x2048, .f32⟩
  | 59 => ⟨S1x1x2048, .f32⟩
  | 60 => ⟨S8x8x2048, .f32⟩
  | 61 => ⟨S8x8x2048, .f32⟩
  | 62 => ⟨S8x8x2048, .f32⟩
  | 63 => ⟨S1x1x2048, .f32⟩
  | 64 => ⟨S2048, .f32⟩
  | 65 => ⟨S8x8x2048, .f32⟩
  | 66 => ⟨S1x1x2048, .f32⟩
  | 67 => ⟨S8x8x2048, .f32⟩
  | 68 => ⟨S8x8x2048, .f32⟩
  | 69 => ⟨S8x8x2048, .f32⟩
  | 70 => ⟨S1x1x2048, .f32⟩
  | 71 => ⟨S2048, .f32⟩
  | 72 => ⟨S8x8x2048, .f32⟩
  | 73 => ⟨S1x1x2048, .f32⟩
  | 74 => ⟨S8x8x2048, .f32⟩
  | 75 => ⟨S8x8x2048, .f32⟩
  | 76 => ⟨S8x8x2048, .f32⟩
  | 77 => ⟨S1x1x2048, .f32⟩
  | 78 => ⟨S2048, .f32⟩
  | 79 => ⟨S8x8x2048, .f32⟩
  | 80 => ⟨S1x1x2048, .f32⟩
  | 81 => ⟨S8x8x2048, .f32⟩
  | 82 => ⟨S8x8x2048, .f32⟩
  | 83 => ⟨S8x8x2048, .f32⟩
  | 84 => ⟨S1x1x2048, .f32⟩
  | 85 => ⟨S2048, .f32⟩
  | 86 => ⟨S8x8x2048, .f32⟩
  | 87 => ⟨S1x1x2048, .f32⟩
  | 88 => ⟨S8x8x2048, .f32⟩
  | 89 => ⟨S8x8x2048, .f32⟩
  | 90 => ⟨S8x8x2048, .f32⟩
  | 91 => ⟨S1x1x2048, .f32⟩
  | 92 => ⟨S2048, .f32⟩
  | 93 => ⟨S8x8x2048, .f32⟩
  | 94 => ⟨S1x1x2048, .f32⟩
  | 95 => ⟨S8x8x2048, .f32⟩
  | 96 => ⟨S8x8x2048, .f32⟩
  | 97 => ⟨S8x8x2048, .f32⟩
  | 98 => ⟨S8x30x2048, .f32⟩
  | 99 => ⟨S1x8x30x2048, .f32⟩
  | _ => ⟨S1x8x30x2048, .f32⟩

abbrev hbmTy (i : Nat) : BufTy := match i / 128 with
  | 0 => hbmTy0_0 i
  | 1 => hbmTy0_1 i
  | _ => ⟨S1x8x30x2048, .f32⟩

abbrev bufTy : (tb : Table) → Fin (tcTables nBuf tb) → BufTy
  | .hbm, ⟨i, _⟩ => hbmTy i
  | _, _ => ⟨S1x8x30x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_v128 : Ref sig .tc := ⟨.hbm, 132, rfl⟩
abbrev main_v129 : Ref sig .tc := ⟨.hbm, 133, rfl⟩
abbrev main_v130 : Ref sig .tc := ⟨.hbm, 134, rfl⟩
abbrev main_v131 : Ref sig .tc := ⟨.hbm, 135, rfl⟩
abbrev main_v132 : Ref sig .tc := ⟨.hbm, 136, rfl⟩
abbrev main_v133 : Ref sig .tc := ⟨.hbm, 137, rfl⟩
abbrev main_v134 : Ref sig .tc := ⟨.hbm, 138, rfl⟩
abbrev main_v135 : Ref sig .tc := ⟨.hbm, 139, rfl⟩
abbrev main_v136 : Ref sig .tc := ⟨.hbm, 140, rfl⟩
abbrev main_v137 : Ref sig .tc := ⟨.hbm, 141, rfl⟩
abbrev main_v138 : Ref sig .tc := ⟨.hbm, 142, rfl⟩
abbrev main_v139 : Ref sig .tc := ⟨.hbm, 143, rfl⟩
abbrev main_v140 : Ref sig .tc := ⟨.hbm, 144, rfl⟩
abbrev main_v141 : Ref sig .tc := ⟨.hbm, 145, rfl⟩
abbrev main_v142 : Ref sig .tc := ⟨.hbm, 146, rfl⟩
abbrev main_v143 : Ref sig .tc := ⟨.hbm, 147, rfl⟩
abbrev main_v144 : Ref sig .tc := ⟨.hbm, 148, rfl⟩
abbrev main_v145 : Ref sig .tc := ⟨.hbm, 149, rfl⟩
abbrev main_v146 : Ref sig .tc := ⟨.hbm, 150, rfl⟩
abbrev main_v147 : Ref sig .tc := ⟨.hbm, 151, rfl⟩
abbrev main_v148 : Ref sig .tc := ⟨.hbm, 152, rfl⟩
abbrev main_v149 : Ref sig .tc := ⟨.hbm, 153, rfl⟩
abbrev main_v150 : Ref sig .tc := ⟨.hbm, 154, rfl⟩
abbrev main_v151 : Ref sig .tc := ⟨.hbm, 155, rfl⟩
abbrev main_v152 : Ref sig .tc := ⟨.hbm, 156, rfl⟩
abbrev main_v153 : Ref sig .tc := ⟨.hbm, 157, rfl⟩
abbrev main_v154 : Ref sig .tc := ⟨.hbm, 158, rfl⟩
abbrev main_v155 : Ref sig .tc := ⟨.hbm, 159, rfl⟩
abbrev main_v156 : Ref sig .tc := ⟨.hbm, 160, rfl⟩
abbrev main_v157 : Ref sig .tc := ⟨.hbm, 161, rfl⟩
abbrev main_v158 : Ref sig .tc := ⟨.hbm, 162, rfl⟩
abbrev main_v159 : Ref sig .tc := ⟨.hbm, 163, rfl⟩
abbrev main_v160 : Ref sig .tc := ⟨.hbm, 164, rfl⟩
abbrev main_v161 : Ref sig .tc := ⟨.hbm, 165, rfl⟩
abbrev main_v162 : Ref sig .tc := ⟨.hbm, 166, rfl⟩
abbrev main_v163 : Ref sig .tc := ⟨.hbm, 167, rfl⟩
abbrev main_v164 : Ref sig .tc := ⟨.hbm, 168, rfl⟩
abbrev main_v165 : Ref sig .tc := ⟨.hbm, 169, rfl⟩
abbrev main_v166 : Ref sig .tc := ⟨.hbm, 170, rfl⟩
abbrev main_v167 : Ref sig .tc := ⟨.hbm, 171, rfl⟩
abbrev main_v168 : Ref sig .tc := ⟨.hbm, 172, rfl⟩
abbrev main_v169 : Ref sig .tc := ⟨.hbm, 173, rfl⟩
abbrev main_v170 : Ref sig .tc := ⟨.hbm, 174, rfl⟩
abbrev main_v171 : Ref sig .tc := ⟨.hbm, 175, rfl⟩
abbrev main_v172 : Ref sig .tc := ⟨.hbm, 176, rfl⟩
abbrev main_v173 : Ref sig .tc := ⟨.hbm, 177, rfl⟩
abbrev main_v174 : Ref sig .tc := ⟨.hbm, 178, rfl⟩
abbrev main_v175 : Ref sig .tc := ⟨.hbm, 179, rfl⟩
abbrev main_v176 : Ref sig .tc := ⟨.hbm, 180, rfl⟩
abbrev main_v177 : Ref sig .tc := ⟨.hbm, 181, rfl⟩
abbrev main_v178 : Ref sig .tc := ⟨.hbm, 182, rfl⟩
abbrev main_v179 : Ref sig .tc := ⟨.hbm, 183, rfl⟩
abbrev main_v180 : Ref sig .tc := ⟨.hbm, 184, rfl⟩
abbrev main_v181 : Ref sig .tc := ⟨.hbm, 185, rfl⟩
abbrev main_v182 : Ref sig .tc := ⟨.hbm, 186, rfl⟩
abbrev main_v183 : Ref sig .tc := ⟨.hbm, 187, rfl⟩
abbrev main_v184 : Ref sig .tc := ⟨.hbm, 188, rfl⟩
abbrev main_v185 : Ref sig .tc := ⟨.hbm, 189, rfl⟩
abbrev main_v186 : Ref sig .tc := ⟨.hbm, 190, rfl⟩
abbrev main_v187 : Ref sig .tc := ⟨.hbm, 191, rfl⟩
abbrev main_v188 : Ref sig .tc := ⟨.hbm, 192, rfl⟩
abbrev main_v189 : Ref sig .tc := ⟨.hbm, 193, rfl⟩
abbrev main_v190 : Ref sig .tc := ⟨.hbm, 194, rfl⟩
abbrev main_v191 : Ref sig .tc := ⟨.hbm, 195, rfl⟩
abbrev main_v192 : Ref sig .tc := ⟨.hbm, 196, rfl⟩
abbrev main_v193 : Ref sig .tc := ⟨.hbm, 197, rfl⟩
abbrev main_v194 : Ref sig .tc := ⟨.hbm, 198, rfl⟩
abbrev main_v195 : Ref sig .tc := ⟨.hbm, 199, rfl⟩
abbrev main_v196 : Ref sig .tc := ⟨.hbm, 200, rfl⟩
abbrev main_v197 : Ref sig .tc := ⟨.hbm, 201, rfl⟩
abbrev main_v198 : Ref sig .tc := ⟨.hbm, 202, rfl⟩
abbrev main_v199 : Ref sig .tc := ⟨.hbm, 203, rfl⟩
abbrev main_v200 : Ref sig .tc := ⟨.hbm, 204, rfl⟩
abbrev main_v201 : Ref sig .tc := ⟨.hbm, 205, rfl⟩
abbrev main_v202 : Ref sig .tc := ⟨.hbm, 206, rfl⟩
abbrev main_v203 : Ref sig .tc := ⟨.hbm, 207, rfl⟩
abbrev main_v204 : Ref sig .tc := ⟨.hbm, 208, rfl⟩
abbrev main_v205 : Ref sig .tc := ⟨.hbm, 209, rfl⟩
abbrev main_v206 : Ref sig .tc := ⟨.hbm, 210, rfl⟩
abbrev main_v207 : Ref sig .tc := ⟨.hbm, 211, rfl⟩
abbrev main_v208 : Ref sig .tc := ⟨.hbm, 212, rfl⟩
abbrev main_v209 : Ref sig .tc := ⟨.hbm, 213, rfl⟩
abbrev main_v210 : Ref sig .tc := ⟨.hbm, 214, rfl⟩
abbrev main_v211 : Ref sig .tc := ⟨.hbm, 215, rfl⟩
abbrev main_v212 : Ref sig .tc := ⟨.hbm, 216, rfl⟩
abbrev main_v213 : Ref sig .tc := ⟨.hbm, 217, rfl⟩
abbrev main_v214 : Ref sig .tc := ⟨.hbm, 218, rfl⟩
abbrev main_v215 : Ref sig .tc := ⟨.hbm, 219, rfl⟩
abbrev main_v216 : Ref sig .tc := ⟨.hbm, 220, rfl⟩
abbrev main_v217 : Ref sig .tc := ⟨.hbm, 221, rfl⟩
abbrev main_v218 : Ref sig .tc := ⟨.hbm, 222, rfl⟩
abbrev main_v219 : Ref sig .tc := ⟨.hbm, 223, rfl⟩
abbrev main_v220 : Ref sig .tc := ⟨.hbm, 224, rfl⟩
abbrev main_v221 : Ref sig .tc := ⟨.hbm, 225, rfl⟩
abbrev main_v222 : Ref sig .tc := ⟨.hbm, 226, rfl⟩
abbrev main_v223 : Ref sig .tc := ⟨.hbm, 227, rfl⟩

abbrev nD : Nat := 1
abbrev τ : Topo := Topo.v7x

variable {F : FTy → Type} [FloatOps F]
-- ==== Conv.lean ====
abbrev S2x4112x2048 : Shape := ⟨3, ![2, 4112, 2048]⟩
abbrev S1x31x2048 : Shape := ⟨3, ![1, 31, 2048]⟩
abbrev S1x2048 : Shape := ⟨2, ![1, 2048]⟩
abbrev S_ : Shape := ⟨0, ![]⟩
abbrev S2x112x2048 : Shape := ⟨3, ![2, 112, 2048]⟩
abbrev S2x4224x2048 : Shape := ⟨3, ![2, 4224, 2048]⟩
abbrev S31x2048 : Shape := ⟨2, ![31, 2048]⟩
abbrev S2048 : Shape := ⟨1, ![2048]⟩
abbrev S1x4224x256 : Shape := ⟨3, ![1, 4224, 256]⟩
abbrev S31x256 : Shape := ⟨2, ![31, 256]⟩
abbrev S1x256 : Shape := ⟨2, ![1, 256]⟩
abbrev S4256x256 : Shape := ⟨2, ![4256, 256]⟩
abbrev S32x256 : Shape := ⟨2, ![32, 256]⟩
abbrev S4224x256 : Shape := ⟨2, ![4224, 256]⟩
abbrev S296x256 : Shape := ⟨2, ![296, 256]⟩
abbrev S264x256 : Shape := ⟨2, ![264, 256]⟩
abbrev S1x264x256 : Shape := ⟨3, ![1, 264, 256]⟩

abbrev nBuf : Space → Nat
  | .hbm => 11
  | .vmem => 9
  | .smem => 0
  | _ => 0

abbrev bufTy : (tb : Table) → Fin (tcTables nBuf tb) → BufTy
  | .hbm, ⟨0, _⟩ => ⟨S2x4112x2048, .f32⟩
  | .hbm, ⟨1, _⟩ => ⟨S1x31x2048, .f32⟩
  | .hbm, ⟨2, _⟩ => ⟨S1x2048, .f32⟩
  | .hbm, ⟨3, _⟩ => ⟨S_, .f32⟩
  | .hbm, ⟨4, _⟩ => ⟨S2x112x2048, .f32⟩
  | .hbm, ⟨5, _⟩ => ⟨S2x4224x2048, .f32⟩
  | .hbm, ⟨6, _⟩ => ⟨S31x2048, .f32⟩
  | .hbm, ⟨7, _⟩ => ⟨S2048, .f32⟩
  | .hbm, ⟨8, _⟩ => ⟨S1x2048, .f32⟩
  | .hbm, ⟨9, _⟩ => ⟨S2x4224x2048, .f32⟩
  | .hbm, ⟨10, _⟩ => ⟨S2x4112x2048, .f32⟩
  | .local _ .vmem, ⟨0, _⟩ => ⟨S1x4224x256, .f32⟩
  | .local _ .vmem, ⟨1, _⟩ => ⟨S1x4224x256, .f32⟩
  | .local _ .vmem, ⟨2, _⟩ => ⟨S31x256, .f32⟩
  | .local _ .vmem, ⟨3, _⟩ => ⟨S31x256, .f32⟩
  | .local _ .vmem, ⟨4, _⟩ => ⟨S1x256, .f32⟩
  | .local _ .vmem, ⟨5, _⟩ => ⟨S1x256, .f32⟩
  | .local _ .vmem, ⟨6, _⟩ => ⟨S1x4224x256, .f32⟩
  | .local _ .vmem, ⟨7, _⟩ => ⟨S1x4224x256, .f32⟩
  | .local _ .vmem, ⟨8, _⟩ => ⟨S4256x256, .f32⟩
  | _, _ => ⟨S2x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c16_i32 : BitVec 32 := 16#32
  let v11 : BitVec 32 := Scalar.addi c0_i32 c16_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c264_i32 : BitVec 32 := 264#32
  let v12 : BitVec 32 := Scalar.muli arg7 c264_i32
  v12
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c264_i32 : BitVec 32 := 264#32
  let v12 : BitVec 32 := Scalar.muli arg7 c264_i32
  let v13 : BitVec 32 := v12
  let v14 : Index := Scalar.indexCast v13
  let c0_8 : Index := 0#32
  ![v14.toNat, 0]
def k0_off2 (k0_t1 : Fin k0_t1_loop.trips) : Fin 3 → Nat :=
  let c0_41 : Index := 0#32
  let c0_i32 : BitVec 32 := 0#32
  let c1_i32 : BitVec 32 := 1#32
  let arg7 : BitVec 32 := Scf.iv c0_i32 c1_i32 k0_t1
  let c264_i32 : BitVec 32 := 264#32
  let v12 : BitVec 32 := Scalar.muli arg7 c264_i32
  let v13 : BitVec 32 := v12
  let v212 : Index := Scalar.indexCast v13
  let c0_42 : Index := 0#32
  ![0, v212.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4224x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S31x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4224x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvRefIdeal.lean ====
abbrev S2x4112x2048 : Shape := ⟨3, ![2, 4112, 2048]⟩
abbrev S1x31x2048 : Shape := ⟨3, ![1, 31, 2048]⟩
abbrev S1x2048 : Shape := ⟨2, ![1, 2048]⟩
abbrev S_ : Shape := ⟨0, ![]⟩
abbrev S2x30x2048 : Shape := ⟨3, ![2, 30, 2048]⟩
abbrev S2x4142x2048 : Shape := ⟨3, ![2, 4142, 2048]⟩
abbrev S2048 : Shape := ⟨1, ![2048]⟩
abbrev S1x1x2048 : Shape := ⟨3, ![1, 1, 2048]⟩

abbrev nBuf : Space → Nat
  | .hbm => 226
  | .vmem => 0
  | .smem => 0
  | _ => 0

abbrev hbmTy0_0 (i : Nat) : BufTy := match i % 128 with
  | 0 => ⟨S2x4112x2048, .f32⟩
  | 1 => ⟨S1x31x2048, .f32⟩
  | 2 => ⟨S1x2048, .f32⟩
  | 3 => ⟨S_, .f32⟩
  | 4 => ⟨S2x30x2048, .f32⟩
  | 5 => ⟨S2x4142x2048, .f32⟩
  | 6 => ⟨S2048, .f32⟩
  | 7 => ⟨S1x1x2048, .f32⟩
  | 8 => ⟨S2048, .f32⟩
  | 9 => ⟨S2x4112x2048, .f32⟩
  | 10 => ⟨S1x1x2048, .f32⟩
  | 11 => ⟨S2x4112x2048, .f32⟩
  | 12 => ⟨S2x4112x2048, .f32⟩
  | 13 => ⟨S1x1x2048, .f32⟩
  | 14 => ⟨S2x4112x2048, .f32⟩
  | 15 => ⟨S2x4112x2048, .f32⟩
  | 16 => ⟨S1x1x2048, .f32⟩
  | 17 => ⟨S2048, .f32⟩
  | 18 => ⟨S2x4112x2048, .f32⟩
  | 19 => ⟨S1x1x2048, .f32⟩
  | 20 => ⟨S2x4112x2048, .f32⟩
  | 21 => ⟨S2x4112x2048, .f32⟩
  | 22 => ⟨S2x4112x2048, .f32⟩
  | 23 => ⟨S1x1x2048, .f32⟩
  | 24 => ⟨S2048, .f32⟩
  | 25 => ⟨S2x4112x2048, .f32⟩
  | 26 => ⟨S1x1x2048, .f32⟩
  | 27 => ⟨S2x4112x2048, .f32⟩
  | 28 => ⟨S2x4112x2048, .f32⟩
  | 29 => ⟨S2x4112x2048, .f32⟩
  | 30 => ⟨S1x1x2048, .f32⟩
  | 31 => ⟨S2048, .f32⟩
  | 32 => ⟨S2x4112x2048, .f32⟩
  | 33 => ⟨S1x1x2048, .f32⟩
  | 34 => ⟨S2x4112x2048, .f32⟩
  | 35 => ⟨S2x4112x2048, .f32⟩
  | 36 => ⟨S2x4112x2048, .f32⟩
  | 37 => ⟨S1x1x2048, .f32⟩
  | 38 => ⟨S2048, .f32⟩
  | 39 => ⟨S2x4112x2048, .f32⟩
  | 40 => ⟨S1x1x2048, .f32⟩
  | 41 => ⟨S2x4112x2048, .f32⟩
  | 42 => ⟨S2x4112x2048, .f32⟩
  | 43 => ⟨S2x4112x2048, .f32⟩
  | 44 => ⟨S1x1x2048, .f32⟩
  | 45 => ⟨S2048, .f32⟩
  | 46 => ⟨S2x4112x2048, .f32⟩
  | 47 => ⟨S1x1x2048, .f32⟩
  | 48 => ⟨S2x4112x2048, .f32⟩
  | 49 => ⟨S2x4112x2048, .f32⟩
  | 50 => ⟨S2x4112x2048, .f32⟩
  | 51 => ⟨S1x1x2048, .f32⟩
  | 52 => ⟨S2048, .f32⟩
  | 53 => ⟨S2x4112x2048, .f32⟩
  | 54 => ⟨S1x1x2048, .f32⟩
  | 55 => ⟨S2x4112x2048, .f32⟩
  | 56 => ⟨S2x4112x2048, .f32⟩
  | 57 => ⟨S2x4112x2048, .f32⟩
  | 58 => ⟨S1x1x2048, .f32⟩
  | 59 => ⟨S2048, .f32⟩
  | 60 => ⟨S2x4112x2048, .f32⟩
  | 61 => ⟨S1x1x2048, .f32⟩
  | 62 => ⟨S2x4112x2048, .f32⟩
  | 63 => ⟨S2x4112x2048, .f32⟩
  | 64 => ⟨S2x4112x2048, .f32⟩
  | 65 => ⟨S1x1x2048, .f32⟩
  | 66 => ⟨S2048, .f32⟩
  | 67 => ⟨S2x4112x2048, .f32⟩
  | 68 => ⟨S1x1x2048, .f32⟩
  | 69 => ⟨S2x4112x2048, .f32⟩
  | 70 => ⟨S2x4112x2048, .f32⟩
  | 71 => ⟨S2x4112x2048, .f32⟩
  | 72 => ⟨S1x1x2048, .f32⟩
  | 73 => ⟨S2048, .f32⟩
  | 74 => ⟨S2x4112x2048, .f32⟩
  | 75 => ⟨S1x1x2048, .f32⟩
  | 76 => ⟨S2x4112x2048, .f32⟩
  | 77 => ⟨S2x4112x2048, .f32⟩
  | 78 => ⟨S2x4112x2048, .f32⟩
  | 79 => ⟨S1x1x2048, .f32⟩
  | 80 => ⟨S2048, .f32⟩
  | 81 => ⟨S2x4112x2048, .f32⟩
  | 82 => ⟨S1x1x2048, .f32⟩
  | 83 => ⟨S2x4112x2048, .f32⟩
  | 84 => ⟨S2x4112x2048, .f32⟩
  | 85 => ⟨S2x4112x2048, .f32⟩
  | 86 => ⟨S1x1x2048, .f32⟩
  | 87 => ⟨S2048, .f32⟩
  | 88 => ⟨S2x4112x2048, .f32⟩
  | 89 => ⟨S1x1x2048, .f32⟩
  | 90 => ⟨S2x4112x2048, .f32⟩
  | 91 => ⟨S2x4112x2048, .f32⟩
  | 92 => ⟨S2x4112x2048, .f32⟩
  | 93 => ⟨S1x1x2048, .f32⟩
  | 94 => ⟨S2048, .f32⟩
  | 95 => ⟨S2x4112x2048, .f32⟩
  | 96 => ⟨S1x1x2048, .f32⟩
  | 97 => ⟨S2x4112x2048, .f32⟩
  | 98 => ⟨S2x4112x2048, .f32⟩
  | 99 => ⟨S2x4112x2048, .f32⟩
  | 100 => ⟨S1x1x2048, .f32⟩
  | 101 => ⟨S2048, .f32⟩
  | 102 => ⟨S2x4112x2048, .f32⟩
  | 103 => ⟨S1x1x2048, .f32⟩
  | 104 => ⟨S2x4112x2048, .f32⟩
  | 105 => ⟨S2x4112x2048, .f32⟩
  | 106 => ⟨S2x4112x2048, .f32⟩
  | 107 => ⟨S1x1x2048, .f32⟩
  | 108 => ⟨S2048, .f32⟩
  | 109 => ⟨S2x4112x2048, .f32⟩
  | 110 => ⟨S1x1x2048, .f32⟩
  | 111 => ⟨S2x4112x2048, .f32⟩
  | 112 => ⟨S2x4112x2048, .f32⟩
  | 113 => ⟨S2x4112x2048, .f32⟩
  | 114 => ⟨S1x1x2048, .f32⟩
  | 115 => ⟨S2048, .f32⟩
  | 116 => ⟨S2x4112x2048, .f32⟩
  | 117 => ⟨S1x1x2048, .f32⟩
  | 118 => ⟨S2x4112x2048, .f32⟩
  | 119 => ⟨S2x4112x2048, .f32⟩
  | 120 => ⟨S2x4112x2048, .f32⟩
  | 121 => ⟨S1x1x2048, .f32⟩
  | 122 => ⟨S2048, .f32⟩
  | 123 => ⟨S2x4112x2048, .f32⟩
  | 124 => ⟨S1x1x2048, .f32⟩
  | 125 => ⟨S2x4112x2048, .f32⟩
  | 126 => ⟨S2x4112x2048, .f32⟩
  | 127 => ⟨S2x4112x2048, .f32⟩
  | _ => ⟨S2x4112x2048, .f32⟩

abbrev hbmTy0_1 (i : Nat) : BufTy := match i % 128 with
  | 0 => ⟨S1x1x2048, .f32⟩
  | 1 => ⟨S2048, .f32⟩
  | 2 => ⟨S2x4112x2048, .f32⟩
  | 3 => ⟨S1x1x2048, .f32⟩
  | 4 => ⟨S2x4112x2048, .f32⟩
  | 5 => ⟨S2x4112x2048, .f32⟩
  | 6 => ⟨S2x4112x2048, .f32⟩
  | 7 => ⟨S1x1x2048, .f32⟩
  | 8 => ⟨S2048, .f32⟩
  | 9 => ⟨S2x4112x2048, .f32⟩
  | 10 => ⟨S1x1x2048, .f32⟩
  | 11 => ⟨S2x4112x2048, .f32⟩
  | 12 => ⟨S2x4112x2048, .f32⟩
  | 13 => ⟨S2x4112x2048, .f32⟩
  | 14 => ⟨S1x1x2048, .f32⟩
  | 15 => ⟨S2048, .f32⟩
  | 16 => ⟨S2x4112x2048, .f32⟩
  | 17 => ⟨S1x1x2048, .f32⟩
  | 18 => ⟨S2x4112x2048, .f32⟩
  | 19 => ⟨S2x4112x2048, .f32⟩
  | 20 => ⟨S2x4112x2048, .f32⟩
  | 21 => ⟨S1x1x2048, .f32⟩
  | 22 => ⟨S2048, .f32⟩
  | 23 => ⟨S2x4112x2048, .f32⟩
  | 24 => ⟨S1x1x2048, .f32⟩
  | 25 => ⟨S2x4112x2048, .f32⟩
  | 26 => ⟨S2x4112x2048, .f32⟩
  | 27 => ⟨S2x4112x2048, .f32⟩
  | 28 => ⟨S1x1x2048, .f32⟩
  | 29 => ⟨S2048, .f32⟩
  | 30 => ⟨S2x4112x2048, .f32⟩
  | 31 => ⟨S1x1x2048, .f32⟩
  | 32 => ⟨S2x4112x2048, .f32⟩
  | 33 => ⟨S2x4112x2048, .f32⟩
  | 34 => ⟨S2x4112x2048, .f32⟩
  | 35 => ⟨S1x1x2048, .f32⟩
  | 36 => ⟨S2048, .f32⟩
  | 37 => ⟨S2x4112x2048, .f32⟩
  | 38 => ⟨S1x1x2048, .f32⟩
  | 39 => ⟨S2x4112x2048, .f32⟩
  | 40 => ⟨S2x4112x2048, .f32⟩
  | 41 => ⟨S2x4112x2048, .f32⟩
  | 42 => ⟨S1x1x2048, .f32⟩
  | 43 => ⟨S2048, .f32⟩
  | 44 => ⟨S2x4112x2048, .f32⟩
  | 45 => ⟨S1x1x2048, .f32⟩
  | 46 => ⟨S2x4112x2048, .f32⟩
  | 47 => ⟨S2x4112x2048, .f32⟩
  | 48 => ⟨S2x4112x2048, .f32⟩
  | 49 => ⟨S1x1x2048, .f32⟩
  | 50 => ⟨S2048, .f32⟩
  | 51 => ⟨S2x4112x2048, .f32⟩
  | 52 => ⟨S1x1x2048, .f32⟩
  | 53 => ⟨S2x4112x2048, .f32⟩
  | 54 => ⟨S2x4112x2048, .f32⟩
  | 55 => ⟨S2x4112x2048, .f32⟩
  | 56 => ⟨S1x1x2048, .f32⟩
  | 57 => ⟨S2048, .f32⟩
  | 58 => ⟨S2x4112x2048, .f32⟩
  | 59 => ⟨S1x1x2048, .f32⟩
  | 60 => ⟨S2x4112x2048, .f32⟩
  | 61 => ⟨S2x4112x2048, .f32⟩
  | 62 => ⟨S2x4112x2048, .f32⟩
  | 63 => ⟨S1x1x2048, .f32⟩
  | 64 => ⟨S2048, .f32⟩
  | 65 => ⟨S2x4112x2048, .f32⟩
  | 66 => ⟨S1x1x2048, .f32⟩
  | 67 => ⟨S2x4112x2048, .f32⟩
  | 68 => ⟨S2x4112x2048, .f32⟩
  | 69 => ⟨S2x4112x2048, .f32⟩
  | 70 => ⟨S1x1x2048, .f32⟩
  | 71 => ⟨S2048, .f32⟩
  | 72 => ⟨S2x4112x2048, .f32⟩
  | 73 => ⟨S1x1x2048, .f32⟩
  | 74 => ⟨S2x4112x2048, .f32⟩
  | 75 => ⟨S2x4112x2048, .f32⟩
  | 76 => ⟨S2x4112x2048, .f32⟩
  | 77 => ⟨S1x1x2048, .f32⟩
  | 78 => ⟨S2048, .f32⟩
  | 79 => ⟨S2x4112x2048, .f32⟩
  | 80 => ⟨S1x1x2048, .f32⟩
  | 81 => ⟨S2x4112x2048, .f32⟩
  | 82 => ⟨S2x4112x2048, .f32⟩
  | 83 => ⟨S2x4112x2048, .f32⟩
  | 84 => ⟨S1x1x2048, .f32⟩
  | 85 => ⟨S2048, .f32⟩
  | 86 => ⟨S2x4112x2048, .f32⟩
  | 87 => ⟨S1x1x2048, .f32⟩
  | 88 => ⟨S2x4112x2048, .f32⟩
  | 89 => ⟨S2x4112x2048, .f32⟩
  | 90 => ⟨S2x4112x2048, .f32⟩
  | 91 => ⟨S1x1x2048, .f32⟩
  | 92 => ⟨S2048, .f32⟩
  | 93 => ⟨S2x4112x2048, .f32⟩
  | 94 => ⟨S1x1x2048, .f32⟩
  | 95 => ⟨S2x4112x2048, .f32⟩
  | 96 => ⟨S2x4112x2048, .f32⟩
  | 97 => ⟨S2x4112x2048, .f32⟩
  | _ => ⟨S2x4112x2048, .f32⟩

abbrev hbmTy (i : Nat) : BufTy := match i / 128 with
  | 0 => hbmTy0_0 i
  | 1 => hbmTy0_1 i
  | _ => ⟨S2x4112x2048, .f32⟩

abbrev bufTy : (tb : Table) → Fin (tcTables nBuf tb) → BufTy
  | .hbm, ⟨i, _⟩ => hbmTy i
  | _, _ => ⟨S2x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_v128 : Ref sig .tc := ⟨.hbm, 132, rfl⟩
abbrev main_v129 : Ref sig .tc := ⟨.hbm, 133, rfl⟩
abbrev main_v130 : Ref sig .tc := ⟨.hbm, 134, rfl⟩
abbrev main_v131 : Ref sig .tc := ⟨.hbm, 135, rfl⟩
abbrev main_v132 : Ref sig .tc := ⟨.hbm, 136, rfl⟩
abbrev main_v133 : Ref sig .tc := ⟨.hbm, 137, rfl⟩
abbrev main_v134 : Ref sig .tc := ⟨.hbm, 138, rfl⟩
abbrev main_v135 : Ref sig .tc := ⟨.hbm, 139, rfl⟩
abbrev main_v136 : Ref sig .tc := ⟨.hbm, 140, rfl⟩
abbrev main_v137 : Ref sig .tc := ⟨.hbm, 141, rfl⟩
abbrev main_v138 : Ref sig .tc := ⟨.hbm, 142, rfl⟩
abbrev main_v139 : Ref sig .tc := ⟨.hbm, 143, rfl⟩
abbrev main_v140 : Ref sig .tc := ⟨.hbm, 144, rfl⟩
abbrev main_v141 : Ref sig .tc := ⟨.hbm, 145, rfl⟩
abbrev main_v142 : Ref sig .tc := ⟨.hbm, 146, rfl⟩
abbrev main_v143 : Ref sig .tc := ⟨.hbm, 147, rfl⟩
abbrev main_v144 : Ref sig .tc := ⟨.hbm, 148, rfl⟩
abbrev main_v145 : Ref sig .tc := ⟨.hbm, 149, rfl⟩
abbrev main_v146 : Ref sig .tc := ⟨.hbm, 150, rfl⟩
abbrev main_v147 : Ref sig .tc := ⟨.hbm, 151, rfl⟩
abbrev main_v148 : Ref sig .tc := ⟨.hbm, 152, rfl⟩
abbrev main_v149 : Ref sig .tc := ⟨.hbm, 153, rfl⟩
abbrev main_v150 : Ref sig .tc := ⟨.hbm, 154, rfl⟩
abbrev main_v151 : Ref sig .tc := ⟨.hbm, 155, rfl⟩
abbrev main_v152 : Ref sig .tc := ⟨.hbm, 156, rfl⟩
abbrev main_v153 : Ref sig .tc := ⟨.hbm, 157, rfl⟩
abbrev main_v154 : Ref sig .tc := ⟨.hbm, 158, rfl⟩
abbrev main_v155 : Ref sig .tc := ⟨.hbm, 159, rfl⟩
abbrev main_v156 : Ref sig .tc := ⟨.hbm, 160, rfl⟩
abbrev main_v157 : Ref sig .tc := ⟨.hbm, 161, rfl⟩
abbrev main_v158 : Ref sig .tc := ⟨.hbm, 162, rfl⟩
abbrev main_v159 : Ref sig .tc := ⟨.hbm, 163, rfl⟩
abbrev main_v160 : Ref sig .tc := ⟨.hbm, 164, rfl⟩
abbrev main_v161 : Ref sig .tc := ⟨.hbm, 165, rfl⟩
abbrev main_v162 : Ref sig .tc := ⟨.hbm, 166, rfl⟩
abbrev main_v163 : Ref sig .tc := ⟨.hbm, 167, rfl⟩
abbrev main_v164 : Ref sig .tc := ⟨.hbm, 168, rfl⟩
abbrev main_v165 : Ref sig .tc := ⟨.hbm, 169, rfl⟩
abbrev main_v166 : Ref sig .tc := ⟨.hbm, 170, rfl⟩
abbrev main_v167 : Ref sig .tc := ⟨.hbm, 171, rfl⟩
abbrev main_v168 : Ref sig .tc := ⟨.hbm, 172, rfl⟩
abbrev main_v169 : Ref sig .tc := ⟨.hbm, 173, rfl⟩
abbrev main_v170 : Ref sig .tc := ⟨.hbm, 174, rfl⟩
abbrev main_v171 : Ref sig .tc := ⟨.hbm, 175, rfl⟩
abbrev main_v172 : Ref sig .tc := ⟨.hbm, 176, rfl⟩
abbrev main_v173 : Ref sig .tc := ⟨.hbm, 177, rfl⟩
abbrev main_v174 : Ref sig .tc := ⟨.hbm, 178, rfl⟩
abbrev main_v175 : Ref sig .tc := ⟨.hbm, 179, rfl⟩
abbrev main_v176 : Ref sig .tc := ⟨.hbm, 180, rfl⟩
abbrev main_v177 : Ref sig .tc := ⟨.hbm, 181, rfl⟩
abbrev main_v178 : Ref sig .tc := ⟨.hbm, 182, rfl⟩
abbrev main_v179 : Ref sig .tc := ⟨.hbm, 183, rfl⟩
abbrev main_v180 : Ref sig .tc := ⟨.hbm, 184, rfl⟩
abbrev main_v181 : Ref sig .tc := ⟨.hbm, 185, rfl⟩
abbrev main_v182 : Ref sig .tc := ⟨.hbm, 186, rfl⟩
abbrev main_v183 : Ref sig .tc := ⟨.hbm, 187, rfl⟩
abbrev main_v184 : Ref sig .tc := ⟨.hbm, 188, rfl⟩
abbrev main_v185 : Ref sig .tc := ⟨.hbm, 189, rfl⟩
abbrev main_v186 : Ref sig .tc := ⟨.hbm, 190, rfl⟩
abbrev main_v187 : Ref sig .tc := ⟨.hbm, 191, rfl⟩
abbrev main_v188 : Ref sig .tc := ⟨.hbm, 192, rfl⟩
abbrev main_v189 : Ref sig .tc := ⟨.hbm, 193, rfl⟩
abbrev main_v190 : Ref sig .tc := ⟨.hbm, 194, rfl⟩
abbrev main_v191 : Ref sig .tc := ⟨.hbm, 195, rfl⟩
abbrev main_v192 : Ref sig .tc := ⟨.hbm, 196, rfl⟩
abbrev main_v193 : Ref sig .tc := ⟨.hbm, 197, rfl⟩
abbrev main_v194 : Ref sig .tc := ⟨.hbm, 198, rfl⟩
abbrev main_v195 : Ref sig .tc := ⟨.hbm, 199, rfl⟩
abbrev main_v196 : Ref sig .tc := ⟨.hbm, 200, rfl⟩
abbrev main_v197 : Ref sig .tc := ⟨.hbm, 201, rfl⟩
abbrev main_v198 : Ref sig .tc := ⟨.hbm, 202, rfl⟩
abbrev main_v199 : Ref sig .tc := ⟨.hbm, 203, rfl⟩
abbrev main_v200 : Ref sig .tc := ⟨.hbm, 204, rfl⟩
abbrev main_v201 : Ref sig .tc := ⟨.hbm, 205, rfl⟩
abbrev main_v202 : Ref sig .tc := ⟨.hbm, 206, rfl⟩
abbrev main_v203 : Ref sig .tc := ⟨.hbm, 207, rfl⟩
abbrev main_v204 : Ref sig .tc := ⟨.hbm, 208, rfl⟩
abbrev main_v205 : Ref sig .tc := ⟨.hbm, 209, rfl⟩
abbrev main_v206 : Ref sig .tc := ⟨.hbm, 210, rfl⟩
abbrev main_v207 : Ref sig .tc := ⟨.hbm, 211, rfl⟩
abbrev main_v208 : Ref sig .tc := ⟨.hbm, 212, rfl⟩
abbrev main_v209 : Ref sig .tc := ⟨.hbm, 213, rfl⟩
abbrev main_v210 : Ref sig .tc := ⟨.hbm, 214, rfl⟩
abbrev main_v211 : Ref sig .tc := ⟨.hbm, 215, rfl⟩
abbrev main_v212 : Ref sig .tc := ⟨.hbm, 216, rfl⟩
abbrev main_v213 : Ref sig .tc := ⟨.hbm, 217, rfl⟩
abbrev main_v214 : Ref sig .tc := ⟨.hbm, 218, rfl⟩
abbrev main_v215 : Ref sig .tc := ⟨.hbm, 219, rfl⟩
abbrev main_v216 : Ref sig .tc := ⟨.hbm, 220, rfl⟩
abbrev main_v217 : Ref sig .tc := ⟨.hbm, 221, rfl⟩
abbrev main_v218 : Ref sig .tc := ⟨.hbm, 222, rfl⟩
abbrev main_v219 : Ref sig .tc := ⟨.hbm, 223, rfl⟩
abbrev main_v220 : Ref sig .tc := ⟨.hbm, 224, rfl⟩
abbrev main_v221 : Ref sig .tc := ⟨.hbm, 225, rfl⟩

abbrev nD : Nat := 1
abbrev τ : Topo := Topo.v7x

variable {F : FTy → Type} [FloatOps F]
-- ==== Cum.lean ====
abbrev S2x4112x16 : Shape := ⟨3, ![2, 4112, 16]⟩
abbrev S_ : Shape := ⟨0, ![]⟩
abbrev S2x112x16 : Shape := ⟨3, ![2, 112, 16]⟩
abbrev S2x4224x16 : Shape := ⟨3, ![2, 4224, 16]⟩
abbrev S8448x16 : Shape := ⟨2, ![8448, 16]⟩
abbrev S16x8448 : Shape := ⟨2, ![16, 8448]⟩
abbrev S16x128 : Shape := ⟨2, ![16, 128]⟩
abbrev S128x128 : Shape := ⟨2, ![128, 128]⟩
abbrev S16x1 : Shape := ⟨2, ![16, 1]⟩

abbrev nBuf : Space → Nat
  | .hbm => 10
  | .vmem => 5
  | .smem => 0
  | _ => 0

abbrev bufTy : (tb : Table) → Fin (tcTables nBuf tb) → BufTy
  | .hbm, ⟨0, _⟩ => ⟨S2x4112x16, .f32⟩
  | .hbm, ⟨1, _⟩ => ⟨S_, .f32⟩
  | .hbm, ⟨2, _⟩ => ⟨S2x112x16, .f32⟩
  | .hbm, ⟨3, _⟩ => ⟨S2x4224x16, .f32⟩
  | .hbm, ⟨4, _⟩ => ⟨S8448x16, .f32⟩
  | .hbm, ⟨5, _⟩ => ⟨S16x8448, .f32⟩
  | .hbm, ⟨6, _⟩ => ⟨S16x8448, .f32⟩
  | .hbm, ⟨7, _⟩ => ⟨S8448x16, .f32⟩
  | .hbm, ⟨8, _⟩ => ⟨S2x4224x16, .f32⟩
  | .hbm, ⟨9, _⟩ => ⟨S2x4112x16, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | _, _ => ⟨S2x4112x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 33], ![false, false]⟩

def cc0_transform_0 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CumRefIdeal.lean ====
abbrev S2x4112x16 : Shape := ⟨3, ![2, 4112, 16]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2x4112x16, .f32⟩
  | .hbm, ⟨1, _⟩ => ⟨S_, .f32⟩
  | .hbm, ⟨2, _⟩ => ⟨S_, .f32⟩
  | .hbm, ⟨3, _⟩ => ⟨S2x4112x16, .f32⟩
  | .hbm, ⟨4, _⟩ => ⟨S_, .f32⟩
  | .hbm, ⟨5, _⟩ => ⟨S2x4112x16, .f32⟩
  | .hbm, ⟨6, _⟩ => ⟨S2x4112x16, .f32⟩
  | _, _ => ⟨S2x4112x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Proj.lean ====
abbrev S8448x2048 : Shape := ⟨2, ![8448, 2048]⟩
abbrev S2048 : Shape := ⟨1, ![2048]⟩
abbrev S2048x2048 : Shape := ⟨2, ![2048, 2048]⟩
abbrev S1x2048 : Shape := ⟨2, ![1, 2048]⟩
abbrev S528x2048 : Shape := ⟨2, ![528, 2048]⟩
abbrev S528 : Shape := ⟨1, ![528]⟩
abbrev S528x1 : Shape := ⟨2, ![528, 1]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S8448x2048, .bf16⟩
  | .local _ .vmem, ⟨0, _⟩ => ⟨S528x2048, .f32⟩
  | .local _ .vmem, ⟨1, _⟩ => ⟨S528x2048, .f32⟩
  | .local _ .vmem, ⟨2, _⟩ => ⟨S1x2048, .f32⟩
  | .local _ .vmem, ⟨3, _⟩ => ⟨S2048x2048, .f32⟩
  | .local _ .vmem, ⟨4, _⟩ => ⟨S528x2048, .bf16⟩
  | .local _ .vmem, ⟨5, _⟩ => ⟨S528x2048, .bf16⟩
  | .local _ .vmem, ⟨6, _⟩ => ⟨S2048x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S528x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S528x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S8448x2048 : Shape := ⟨2, ![8448, 2048]⟩
abbrev S2048 : Shape := ⟨1, ![2048]⟩
abbrev S2048x2048 : Shape := ⟨2, ![2048, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x2048, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S8448x2048, .f32⟩
  | .hbm, ⟨20, _⟩ => ⟨S_, .f32⟩
  | .hbm, ⟨21, _⟩ => ⟨S8448x2048, .f32⟩
  | .hbm, ⟨22, _⟩ => ⟨S8448x2048, .f32⟩
  | .hbm, ⟨23, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Res.lean ====
abbrev S8448x2048 : Shape := ⟨2, ![8448, 2048]⟩
abbrev S2048x2048 : Shape := ⟨2, ![2048, 2048]⟩
abbrev S528x2048 : Shape := ⟨2, ![528, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .f32⟩
  | .hbm, ⟨2, _⟩ => ⟨S8448x2048, .f32⟩
  | .hbm, ⟨3, _⟩ => ⟨S8448x2048, .f32⟩
  | .local _ .vmem, ⟨0, _⟩ => ⟨S528x2048, .bf16⟩
  | .local _ .vmem, ⟨1, _⟩ => ⟨S528x2048, .bf16⟩
  | .local _ .vmem, ⟨2, _⟩ => ⟨S2048x2048, .f32⟩
  | .local _ .vmem, ⟨3, _⟩ => ⟨S528x2048, .f32⟩
  | .local _ .vmem, ⟨4, _⟩ => ⟨S528x2048, .f32⟩
  | .local _ .vmem, ⟨5, _⟩ => ⟨S528x2048, .f32⟩
  | .local _ .vmem, ⟨6, _⟩ => ⟨S528x2048, .f32⟩
  | .local _ .vmem, ⟨7, _⟩ => ⟨S2048x2048, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S528x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S528x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S528x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResRefIdeal.lean ====
abbrev S8448x2048 : Shape := ⟨2, ![8448, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .f32⟩
  | .hbm, ⟨2, _⟩ => ⟨S8448x2048, .f32⟩
  | .hbm, ⟨3, _⟩ => ⟨S8448x2048, .f32⟩
  | .hbm, ⟨4, _⟩ => ⟨S8448x2048, .f32⟩
  | .hbm, ⟨5, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Ln.lean ====
abbrev S8448x2048 : Shape := ⟨2, ![8448, 2048]⟩
abbrev S2048 : Shape := ⟨1, ![2048]⟩
abbrev S2048x2048 : Shape := ⟨2, ![2048, 2048]⟩
abbrev S1x2048 : Shape := ⟨2, ![1, 2048]⟩
abbrev S528x2048 : Shape := ⟨2, ![528, 2048]⟩
abbrev S528 : Shape := ⟨1, ![528]⟩
abbrev S528x1 : Shape := ⟨2, ![528, 1]⟩

abbrev nBuf : Space → Nat
  | .hbm => 10
  | .vmem => 11
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S8448x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S8448x2048, .f32⟩
  | .local _ .vmem, ⟨0, _⟩ => ⟨S528x2048, .f32⟩
  | .local _ .vmem, ⟨1, _⟩ => ⟨S528x2048, .f32⟩
  | .local _ .vmem, ⟨2, _⟩ => ⟨S1x2048, .f32⟩
  | .local _ .vmem, ⟨3, _⟩ => ⟨S1x2048, .f32⟩
  | .local _ .vmem, ⟨4, _⟩ => ⟨S2048x2048, .f32⟩
  | .local _ .vmem, ⟨5, _⟩ => ⟨S1x2048, .f32⟩
  | .local _ .vmem, ⟨6, _⟩ => ⟨S528x2048, .f32⟩
  | .local _ .vmem, ⟨7, _⟩ => ⟨S528x2048, .f32⟩
  | .local _ .vmem, ⟨8, _⟩ => ⟨S528x2048, .f32⟩
  | .local _ .vmem, ⟨9, _⟩ => ⟨S528x2048, .f32⟩
  | .local _ .vmem, ⟨10, _⟩ => ⟨S2048x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S528x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S528x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S528x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LnRefIdeal.lean ====
abbrev S8448x2048 : Shape := ⟨2, ![8448, 2048]⟩
abbrev S2048 : Shape := ⟨1, ![2048]⟩
abbrev S2048x2048 : Shape := ⟨2, ![2048, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S8448x2048, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x2048, .f32⟩
  | .hbm, ⟨13, _⟩ => ⟨S8448x2048, .f32⟩
  | .hbm, ⟨14, _⟩ => ⟨S8448x2048, .f32⟩
  | .hbm, ⟨15, _⟩ => ⟨S_, .f32⟩
  | .hbm, ⟨16, _⟩ => ⟨S8448, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S8448x2048, .f32⟩
  | .hbm, ⟨22, _⟩ => ⟨S8448x2048, .f32⟩
  | .hbm, ⟨23, _⟩ => ⟨S_, .f32⟩
  | .hbm, ⟨24, _⟩ => ⟨S8448x1, .f32⟩
  | .hbm, ⟨25, _⟩ => ⟨S8448x1, .f32⟩
  | .hbm, ⟨26, _⟩ => ⟨S8448x1, .f32⟩
  | .hbm, ⟨27, _⟩ => ⟨S8448x2048, .f32⟩
  | .hbm, ⟨28, _⟩ => ⟨S8448x2048, .f32⟩
  | .hbm, ⟨29, _⟩ => ⟨S1x2048, .f32⟩
  | .hbm, ⟨30, _⟩ => ⟨S8448x2048, .f32⟩
  | .hbm, ⟨31, _⟩ => ⟨S8448x2048, .f32⟩
  | .hbm, ⟨32, _⟩ => ⟨S1x2048, .f32⟩
  | .hbm, ⟨33, _⟩ => ⟨S8448x2048, .f32⟩
  | .hbm, ⟨34, _⟩ => ⟨S8448x2048, .f32⟩
  | .hbm, ⟨35, _⟩ => ⟨S8448x2048, .f32⟩
  | .hbm, ⟨36, _⟩ => ⟨S8448x2048, .f32⟩
  | .hbm, ⟨37, _⟩ => ⟨S_, .f32⟩
  | .hbm, ⟨38, _⟩ => ⟨S8448x2048, .f32⟩
  | .hbm, ⟨39, _⟩ => ⟨S8448x2048, .f32⟩
  | .hbm, ⟨40, _⟩ => ⟨S_, .f32⟩
  | .hbm, ⟨41, _⟩ => ⟨S8448x2048, .f32⟩
  | .hbm, ⟨42, _⟩ => ⟨S8448x2048, .f32⟩
  | .hbm, ⟨43, _⟩ => ⟨S8448x2048, .f32⟩
  | .hbm, ⟨44, _⟩ => ⟨S8448x2048, .f32⟩
  | .hbm, ⟨45, _⟩ => ⟨S1x2048, .f32⟩
  | .hbm, ⟨46, _⟩ => ⟨S8448x2048, .f32⟩
  | .hbm, ⟨47, _⟩ => ⟨S8448x2048, .f32⟩
  | .hbm, ⟨48, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== Proof.RowsValue.lean ====
module

public import proofs.«01_k».proof.Defs
public import proofs.«01_k».proof.Proof.Gen.RowsIdeal.Frame
public import proofs.«01_k».proof.Proof.Gen.RowsRefIdeal.Run
public import Idealize.ShloMosaic.Lib.Pipeline.ValueKit
public import Idealize.ShloMosaic.Lib.Quiescent

/-!
# The norm of the sample rows

The call takes the 64 sample rows at once, as one block, and norms each of them; the rows are then given their two
leading axes back.
-/

@[expose] public section

noncomputable section

set_option maxRecDepth 16384

namespace Cert.RowsRefIdeal.RefValue

open Idealize.ShloMosaic Idealize.ShloMosaic.TcCoe
open Idealize.SL Idealize.SL.Sem
open Idealize.ShloMosaic.StableHlo
open Cert.RowsRefIdeal Cert.RowsRefIdeal.Gen

/-- The result the reference computes of the rows `h` and the weights `g`. -/
def want (h : FVec Ideal S8x8x2048 .f32) (g : FVec Ideal S2048 .f32) : FVec Ideal S8x8x2048 .f32 :=
  mulf (mulf h (broadcastInDim S8x8x2048 ![0, 1, 2] bcast_S8x8x1_S8x8x2048_0_1_2 (Host.rsqrt (addf (Host.divf (broadcastInDim S8x8x1 ![0, 1] bcast_S8x8_S8x8x1_0_1 (Host.reduceAdd (mulf h h) (constant S_ .f32 0x00000000#32) reducesTo_S8x8x2048_S8x8_d2 h_S_)) (broadcastInDim S8x8x1 ![] bcast_S_S8x8x1 (constant S_ .f32 0x45000000#32))) (broadcastInDim S8x8x1 ![] bcast_S_S8x8x1 (constant S_ .f32 0x358637BD#32)))))) (broadcastInDim S8x8x2048 ![0, 1, 2] bcast_S1x1x2048_S8x8x2048_0_1_2 (broadcastInDim S1x1x2048 ![2] bcast_S2048_S1x1x2048_2 g))

theorem want_apply (h : FVec Ideal S8x8x2048 .f32) (g : FVec Ideal S2048 .f32) (a b : Fin 8) (l : Fin 2048) :
    want h g (ix3 a b l) = h (ix3 a b l) * Ideal.rsqrt (Ideal.div (∑ x, h (ix3 a b x) * h (ix3 a b x)) (Ideal.ofBits FTy.f32 1157627904#32)
      + Ideal.ofBits FTy.f32 897988541#32) * g (ix1 l) := by
  pointwise [want]

end Cert.RowsRefIdeal.RefValue

namespace Cert.RowsRun

open Idealize.ShloMosaic Idealize.ShloMosaic.TcCoe
open Idealize.SL Idealize.SL.Sem
open Cert.RowsIdeal Cert.RowsIdeal.Gen
open Cert.RowsRefIdeal (RefValue.want)

variable (m : (ℓ : Loc nD τ sig) → Buf (Elt Ideal) ℓ) (ρ : Dev nD → PrngReg) (c : Dev nD)

abbrev argH : FVec Ideal S8x8x2048 .f32 := m ((c.tc : Thread nD τ).loc main_arg0)
abbrev argG : FVec Ideal S2048 .f32 := m ((c.tc : Thread nD τ).loc main_arg1)

theorem norm_apply (x : Vec Ideal S64x2048 .f32) (g : Vec Ideal S1x2048 .f32) (r : Fin 64) (l : Fin 2048) :
    k0_pay1 (F := Ideal) x g (ix2 r l) = x (ix2 r l) * Ideal.rsqrt (Ideal.div (∑ k, x (ix2 r k) * x (ix2 r k)) (Ideal.ofBits FTy.f32 1157627904#32)
      + Ideal.ofBits FTy.f32 897988541#32) * g (ix2 0 l) := by
  pointwise [k0_pay1]

theorem idx : ∀ t : Fin grid0.N, win0_0.index t = ![0, 0] ∧ win0_1.index t = ![0, 0] ∧ win0_2.index t = ![0, 0] := by
  decide +kernel

/-- The rows read are the sample rows in order. -/
theorem block0 (t : Fin cfg0.N) (r : Fin 64) (l : Fin 2048) (a b : Fin 8) (hr : r.val = 8 * a.val + b.val) :
    (iblk m c 0 t : S64x2048.Idx → _) (ix2 r l) = argH m c (ix3 a b l) := by
  obtain ⟨e0, -, -⟩ := idx t
  have e : (V m c main_v0 : S64x2048.Idx → _) (ix2 r l) = argH m c (ix3 a b l) := by
    unfold V V0
    simp only [List.flatten_cons, List.flatten_nil, List.append_nil]
    after_results
    pointwise
    exact congrArg₂ (fun a b => argH m c (ix3 a b l)) (Fin.ext (by show r.val / 8 = a.val; omega)) (Fin.ext (by show r.val % 8 = b.val; omega))
  rw [← e]
  blk_ext [iblk, e0]
theorem block1 (t : Fin cfg0.N) (l : Fin 2048) :
    (iblk m c 1 t : S1x2048.Idx → _) (ix2 0 l) = argG m c (ix1 l) := by
  obtain ⟨-, e1, -⟩ := idx t
  have e : (V m c main_v1 : S1x2048.Idx → _) (ix2 0 l) = argG m c (ix1 l) := by
    unfold V V0
    simp only [List.flatten_cons, List.flatten_nil, List.append_nil]
    after_results
    pointwise
  rw [← e]
  blk_ext [iblk, e1]

/-- Each row's result is the reference's. -/
theorem point (t : Fin cfg0.N) (r : Fin 64) (l : Fin 2048) (a b : Fin 8) (hr : r.val = 8 * a.val + b.val) :
    k0_pay1 (iblk m c 0 t) (iblk m c 1 t) (ix2 r l) = RefValue.want (argH m c) (argG m c) (ix3 a b l) := by
  have hA := fun l => block0 m c t r l a b hr
  refine (norm_apply _ _ _ _).trans ?_
  rw [Cert.RowsRefIdeal.RefValue.want_apply, hA, block1 m c t l]
  simp only [hA]

/-- The array the call leaves holds, row after row, the reference's result. -/
def rows : Vec Ideal S64x2048 .f32 := fun i => RefValue.want (argH m c) (argG m c)
  (ix3 ⟨(i 0).val / 8, by have : (i 0).val < 64 := (i 0).isLt; omega⟩ ⟨(i 0).val % 8, by omega⟩ (i 1))

theorem final : (dats m 0 c).arrAt 2 cfg0.N = rows m c := by
  refine (dats m 0 c).arrAt_eq_of_covers 2 _ (by decide +kernel) fun t hf y => ?_
  obtain ⟨-, -, e2⟩ := idx t
  have ey : ((cfg0.win 2).blk t).view.emb y = (y : S64x2048.Idx) := by
    refine funext fun a => Fin.ext ((win0_2.rect_emb_val_off t _ a).trans ?_)
    rw [e2]
    fin_cases a
    · show 0 * 64 + ((y : S64x2048.Idx) 0).val = ((y : S64x2048.Idx) 0).val
      omega
    · show 0 * 2048 + ((y : S64x2048.Idx) 1).val = ((y : S64x2048.Idx) 1).val
      omega
  have y0 : ((y : S64x2048.Idx) 0).val < 64 := ((y : S64x2048.Idx) 0).isLt
  rw [ey]
  blk_simp; rw [after0_2]; frame_out
  have hy : (y : S64x2048.Idx) = ix2 (y 0) (y 1) := by funext a; fin_cases a <;> rfl
  refine (congrArg (k0_pay1 (iblk m c 0 t) (iblk m c 1 t)) hy).trans ?_
  exact point m c t ((y : S64x2048.Idx) 0) ((y : S64x2048.Idx) 1) ⟨((y : S64x2048.Idx) 0).val / 8, by omega⟩ ⟨((y : S64x2048.Idx) 0).val % 8, by omega⟩
    (by show _ = 8 * (_ / 8) + _ % 8; omega)

/-- The lines after the call give the rows their two leading axes. -/
theorem tail_eq (V : Valuation τ sig (Elt Ideal)) :
    StableHlo.after hostOps1 V (Proc.devRef .tc main_v3) = (shapeCast S8x8x2048 (V (Proc.devRef .tc main_v2) : S64x2048.Idx → EReal) shapeCasts_S64x2048_S8x8x2048) := by
  after_results
  rfl

theorem tail : Pipeline.afterTail₀ cfgs (dats m) 0 (V0 m) [hostOps1] c main_v3 = RefValue.want (argH m c) (argG m c) := by
  have e : Pipeline.withArrays spec0 c (V0 m c) (fun w => (dats m 0 c).arrAt w cfg0.N) (Proc.devRef .tc main_v2) = rows m c :=
    (Pipeline.withArrays_arr spec0 launch0.win.arr_inj c _ _ 2).trans (final m c)
  refine (tail_eq _).trans ?_
  refine (congrArg (fun x : S64x2048.Idx → EReal => shapeCast S8x8x2048 x shapeCasts_S64x2048_S8x8x2048) e).trans ?_
  funext y
  obtain ⟨a, b, l, rfl⟩ : ∃ (a b : Fin 8) (l : Fin 2048), y = ix3 a b l := ⟨y 0, y 1, y 2, by funext a; fin_cases a <;> rfl⟩
  beta_reduce
  pointwise [rows]
  exact congrArg₂ (fun a b => RefValue.want (argH m c) (argG m c) (ix3 a b l)) (Fin.ext (by show (a.val * 8 + b.val) / 8 = a.val; omega)) (Fin.ext (by show (a.val * 8 + b.val) % 8 = b.val; omega))

theorem claim : Cert.algebraic_RowsIdeal_RowsRefIdeal := by
  intro m ρ m' ρ' _ hagree
  refine ⟨fun c => RefValue.want (argH m c) (argG m c), ?_, ?_⟩
  · exact (θ_run defs _ _).mono (fun r h c => ⟨((h.2 c).2 main_v3 (Pipeline.mem_restRefs_of main_v3 (by decide) (by decide))).trans (tail m c), h.1 c⟩)
      (θ_run_and (unchanged (F := Ideal) m ρ) (run_main (F := Ideal) m ρ))
  · refine (θ_run Cert.RowsRefIdeal.defs _ _).mono (fun r h c => ⟨(h c).1.trans ?_, (h c).2⟩) (Cert.RowsRefIdeal.Value.run (F := Ideal) m' ρ')
    rw [(hagree c).1, (hagree c).2]
    rfl

theorem frame_reference : Cert.quiescent_RowsRefIdeal := fun m ρ _ =>
  (θ_run Cert.RowsRefIdeal.defs _ _).mono (fun r h => ⟨fun c => (h c).2, Idealize.ShloMosaic.sem_eq_zero_of_no_sems (by decide) r.2⟩)
    (Cert.RowsRefIdeal.Value.run (F := Ideal) m ρ)

end Cert.RowsRun

end
-- ==== Proof.KvsValue.lean ====
module

public import proofs.«01_k».proof.Defs
public import proofs.«01_k».proof.Proof.Gen.KvsIdeal.Frame
public import proofs.«01_k».proof.Proof.Gen.KvsRefIdeal.Run
public import Idealize.ShloMosaic.Lib.Pipeline.ValueKit
public import Idealize.ShloMosaic.Lib.Pipeline.ReadBack
public import Idealize.ShloMosaic.Lib.Quiescent

/-!
# The keys and values of the sample rows

At each of four points the call normalises the 64 rows and multiplies them with 512 columns of the weights of the keys and
of the weights of the values. The lines after it give the rows their two leading axes and split the columns into heads.

-/

@[expose] public section

noncomputable section

set_option maxRecDepth 16384

namespace Cert.KvsRefIdeal.RefValue

open Idealize.ShloMosaic Idealize.ShloMosaic.TcCoe
open Idealize.SL Idealize.SL.Sem
open Idealize.ShloMosaic.StableHlo
open Cert.KvsRefIdeal Cert.KvsRefIdeal.Gen

/-- The rows normalised by their mean squares and scaled by `g`, times the weights. -/
def flat (x : FVec Ideal S8x8x2048 .f32) (g : FVec Ideal S2048 .f32) (w : FVec Ideal S2048x2048 .f32) : FVec Ideal S8x8x2048 .f32 :=
  (Host.dotGeneral (φ₁ := .f32) (φ₂ := .f32) dot_S8x8x2048_S2048x2048_S8x8x2048_2_0_01_1_n_n none (mulf (mulf x (broadcastInDim S8x8x2048 ![0, 1, 2] bcast_S8x8x1_S8x8x2048_0_1_2 (Host.rsqrt (addf (Host.divf (broadcastInDim S8x8x1 ![0, 1] bcast_S8x8_S8x8x1_0_1 (Host.reduceAdd (mulf x x) (constant S_ .f32 0x00000000#32) reducesTo_S8x8x2048_S8x8_d2 h_S_)) (broadcastInDim S8x8x1 ![] bcast_S_S8x8x1 (constant S_ .f32 0x45000000#32))) (broadcastInDim S8x8x1 ![] bcast_S_S8x8x1 (constant S_ .f32 0x358637BD#32)))))) (broadcastInDim S8x8x2048 ![0, 1, 2] bcast_S1x1x2048_S8x8x2048_0_1_2 (broadcastInDim S1x1x2048 ![2] bcast_S2048_S1x1x2048_2 g))) w)
/-- The result the reference computes of the rows and one of the weights. -/
def want (x : FVec Ideal S8x8x2048 .f32) (g : FVec Ideal S2048 .f32) (w : FVec Ideal S2048x2048 .f32) : FVec Ideal S8x8x16x128 .f32 := shapeCast _ (flat x g w) shapeCasts_S8x8x2048_S8x8x16x128

/-- One value of the product of a normalised row `x` with a column `w`. -/
def line (x g w : Fin 2048 → EReal) : EReal :=
  ∑ k, x k * Ideal.rsqrt (Ideal.div (∑ j, x j * x j) (Ideal.ofBits FTy.f32 1157627904#32) + Ideal.ofBits FTy.f32 897988541#32) * g k * w k

theorem flat_apply (x : FVec Ideal S8x8x2048 .f32) (g : FVec Ideal S2048 .f32) (w : FVec Ideal S2048x2048 .f32) (a b : Fin 8) (l : Fin 2048) :
    flat x g w (ix3 a b l) = line (fun k => x (ix3 a b k)) (fun k => g (ix1 k)) (fun k => w (ix2 k l)) := by
  pointwise [flat, line]

end Cert.KvsRefIdeal.RefValue

namespace Cert.KvsRun

open Idealize.ShloMosaic Idealize.ShloMosaic.TcCoe
open Idealize.SL Idealize.SL.Sem
open Cert.KvsIdeal Cert.KvsIdeal.Gen
open Cert.KvsRefIdeal (RefValue.want)

variable (m : (ℓ : Loc nD τ sig) → Buf (Elt Ideal) ℓ) (ρ : Dev nD → PrngReg) (c : Dev nD)

abbrev arg0 : FVec Ideal S8x8x2048 .f32 := m ((c.tc : Thread nD τ).loc main_arg0)
abbrev arg1 : FVec Ideal S2048 .f32 := m ((c.tc : Thread nD τ).loc main_arg1)
abbrev arg2 : FVec Ideal S2048x2048 .f32 := m ((c.tc : Thread nD τ).loc main_arg2)
abbrev arg3 : FVec Ideal S2048x2048 .f32 := m ((c.tc : Thread nD τ).loc main_arg3)

theorem norm_apply (x : Vec Ideal S64x2048 .f32) (g : Vec Ideal S1x2048 .f32) (r : Fin 64) (l : Fin 2048) :
    k0_pay1 (F := Ideal) x g (ix2 r l) = x (ix2 r l) * Ideal.rsqrt (Ideal.div (∑ k, x (ix2 r k) * x (ix2 r k)) (Ideal.ofBits FTy.f32 1157627904#32)
      + Ideal.ofBits FTy.f32 897988541#32) * g (ix2 0 l) := by
  pointwise [k0_pay1]
theorem row4_apply (x : Vec Ideal S64x2048 .f32) (g : Vec Ideal S1x2048 .f32) (w : Vec Ideal S2048x512 .f32) (r : Fin 64) (l : Fin 512) :
    k0_pay2 (F := Ideal) x g w (ix2 r l)
      = Cert.KvsRefIdeal.RefValue.line (fun k => x (ix2 r k)) (fun k => g (ix2 0 k)) (fun k => w (ix2 k l)) := by
  pointwise [k0_pay2, norm_apply, Cert.KvsRefIdeal.RefValue.line]
theorem row5_apply (x : Vec Ideal S64x2048 .f32) (g : Vec Ideal S1x2048 .f32) (w : Vec Ideal S2048x512 .f32) (r : Fin 64) (l : Fin 512) :
    k0_pay3 (F := Ideal) x g w (ix2 r l)
      = Cert.KvsRefIdeal.RefValue.line (fun k => x (ix2 r k)) (fun k => g (ix2 0 k)) (fun k => w (ix2 k l)) := by
  pointwise [k0_pay3, norm_apply, Cert.KvsRefIdeal.RefValue.line]

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, t.val] := by decide +kernel
theorem idx3 : ∀ t : Fin grid0.N, win0_3.index t = ![0, t.val] := by decide +kernel
theorem idx4 : ∀ t : Fin grid0.N, win0_4.index t = ![0, t.val] := by decide +kernel
theorem idx5 : ∀ t : Fin grid0.N, win0_5.index t = ![0, t.val] := by decide +kernel

/-- The rows read are the sample rows in order. -/
theorem block0 (t : Fin cfg0.N) (r : Fin 64) (l : Fin 2048) (a b : Fin 8) (hr : r.val = 8 * a.val + b.val) :
    (iblk m c 0 t : S64x2048.Idx → _) (ix2 r l) = arg0 m c (ix3 a b l) := by
  have ei := idx0 t
  have e : (V m c main_v0 : S64x2048.Idx → _) (ix2 r l) = arg0 m c (ix3 a b l) := by
    unfold V V0
    simp only [List.flatten_cons, List.flatten_nil, List.append_nil]
    after_results
    pointwise
    exact congrArg₂ (fun a b => arg0 m c (ix3 a b l)) (Fin.ext (by show r.val / 8 = a.val; omega)) (Fin.ext (by show r.val % 8 = b.val; omega))
  rw [← e]
  blk_ext [iblk, ei]
theorem block1 (t : Fin cfg0.N) (l : Fin 2048) : (iblk m c 1 t : S1x2048.Idx → _) (ix2 0 l) = arg1 m c (ix1 l) := by
  have ei := idx1 t
  have e : (V m c main_v1 : S1x2048.Idx → _) (ix2 0 l) = arg1 m c (ix1 l) := by
    unfold V V0
    simp only [List.flatten_cons, List.flatten_nil, List.append_nil]
    after_results
    pointwise
  rw [← e]
  blk_ext [iblk, ei]
/-- The weights' columns that a point reads. -/
theorem block2 (t : Fin cfg0.N) (k : Fin 2048) (l : Fin 512) (q : Fin 2048) (hq : q.val = 512 * t.val + l.val) :
    (iblk m c 2 t : S2048x512.Idx → _) (ix2 k l) = arg2 m c (ix2 k q) := by
  have e := idx2 t
  refine Eq.trans ?_ (congrFun (V_main_arg2 m c) (ix2 k q))
  refine congrArg (V m c main_arg2 : S2048x2048.Idx → _) (funext fun a => Fin.ext ?_)
  refine (win0_2.rect_emb_val_off t _ a).trans ?_
  rw [e]
  fin_cases a
  · show 0 * 2048 + k.val = k.val
    omega
  · show t.val * 512 + l.val = q.val
    omega
theorem block3 (t : Fin cfg0.N) (k : Fin 2048) (l : Fin 512) (q : Fin 2048) (hq : q.val = 512 * t.val + l.val) :
    (iblk m c 3 t : S2048x512.Idx → _) (ix2 k l) = arg3 m c (ix2 k q) := by
  have e := idx3 t
  refine Eq.trans ?_ (congrFun (V_main_arg3 m c) (ix2 k q))
  refine congrArg (V m c main_arg3 : S2048x2048.Idx → _) (funext fun a => Fin.ext ?_)
  refine (win0_3.rect_emb_val_off t _ a).trans ?_
  rw [e]
  fin_cases a
  · show 0 * 2048 + k.val = k.val
    omega
  · show t.val * 512 + l.val = q.val
    omega

/-- The array that holds, row after row, the reference's product with the weights `w`. -/
def rows (w : FVec Ideal S2048x2048 .f32) : Vec Ideal S64x2048 .f32 := fun i => Cert.KvsRefIdeal.RefValue.flat (arg0 m c) (arg1 m c) w
  (ix3 ⟨(i 0).val / 8, by have : (i 0).val < 64 := (i 0).isLt; omega⟩ ⟨(i 0).val % 8, by omega⟩ (i 1))

/-- Split into heads, that array is the reference's result. -/
theorem heads (w : FVec Ideal S2048x2048 .f32) : (shapeCast S8x8x16x128 (rows m c w) shapeCasts_S64x2048_S8x8x16x128 : S8x8x16x128.Idx → EReal)
    = RefValue.want (arg0 m c) (arg1 m c) w := by
  funext y
  obtain ⟨a, b, h, d, rfl⟩ : ∃ (a b : Fin 8) (h : Fin 16) (d : Fin 128), y = ix4 a b h d := ⟨y 0, y 1, y 2, y 3, by funext a; fin_cases a <;> rfl⟩
  unfold RefValue.want
  generalize hf : Cert.KvsRefIdeal.RefValue.flat (arg0 m c) (arg1 m c) w = f
  pointwise [rows, hf]
  exact congrArg₂ (fun a b : Fin 8 => f (ix3 a b _)) (Fin.ext (by show (a.val * 8 + b.val) / 8 = a.val; omega)) (Fin.ext (by show (a.val * 8 + b.val) % 8 = b.val; omega))

/-- Window 4's array: the rows' products with its weights. -/
theorem point4 (t : Fin cfg0.N) (r : Fin 64) (l : Fin 512) (p : Fin 64) (q : Fin 2048) (hp : p.val = r.val) (hq : q.val = 512 * t.val + l.val) :
    k0_pay2 (iblk m c 0 t) (iblk m c 1 t) (iblk m c 2 t) (ix2 r l) = rows m c (arg2 m c) (ix2 p q) := by
  obtain rfl : p = r := Fin.ext hp
  have h0 := fun k => block0 m c t p k ⟨p.val / 8, by omega⟩ ⟨p.val % 8, by omega⟩ (by show p.val = 8 * (p.val / 8) + p.val % 8; omega)
  have h1 := fun k => block1 m c t k
  have h2 := fun k => block2 m c t k l q hq
  refine (row4_apply _ _ _ _ _).trans (Eq.trans ?_ (Cert.KvsRefIdeal.RefValue.flat_apply _ _ _ _ _ _).symm)
  simp only [h0, h1, h2]
  rfl

theorem final4 : (dats m 0 c).arrAt 4 cfg0.N = rows m c (arg2 m c) := by
  refine (dats m 0 c).arrAt_eq_of_covers 4 _ (by decide +kernel) fun t hf y => ?_
  have e := idx4 t
  have ht : t.val < 4 := t.isLt
  have y1 : ((y : S64x512.Idx) 1).val < 512 := ((y : S64x512.Idx) 1).isLt
  have ey : ((cfg0.win 4).blk t).view.emb y = (ix2 ((y : S64x512.Idx) 0) ⟨512 * t.val + ((y : S64x512.Idx) 1).val, by omega⟩ : S64x2048.Idx) := by
    refine funext fun a => Fin.ext ((win0_4.rect_emb_val_off t _ a).trans ?_)
    rw [e]
    fin_cases a
    · show 0 * 64 + ((y : S64x512.Idx) 0).val = ((y : S64x512.Idx) 0).val
      omega
    · show t.val * 512 + ((y : S64x512.Idx) 1).val = 512 * t.val + ((y : S64x512.Idx) 1).val
      omega
  rw [ey]
  blk_simp; rw [after0_4]; frame_out
  have hy : (y : S64x512.Idx) = ix2 ((y : S64x512.Idx) 0) ((y : S64x512.Idx) 1) := by funext a; fin_cases a <;> rfl
  refine (congrArg (k0_pay2 (iblk m c 0 t) (iblk m c 1 t) (iblk m c 2 t)) hy).trans ?_
  exact point4 m c t _ _ _ _ rfl rfl

theorem tail_eq4 (V : Valuation τ sig (Elt Ideal)) : StableHlo.after hostOps1 V (Proc.devRef .tc main_v3)
    = (shapeCast S8x8x16x128 (V (Proc.devRef .tc main_v2_0) : S64x2048.Idx → EReal) shapeCasts_S64x2048_S8x8x16x128) := by
  after_results
  rfl
theorem tail4 : Pipeline.afterTail₀ cfgs (dats m) 0 (V0 m) [hostOps1] c main_v3 = RefValue.want (arg0 m c) (arg1 m c) (arg2 m c) := by
  have e : Pipeline.withArrays spec0 c (V0 m c) (fun w => (dats m 0 c).arrAt w cfg0.N) (Proc.devRef .tc main_v2_0) = rows m c (arg2 m c) :=
    (Pipeline.withArrays_arr spec0 launch0.win.arr_inj c _ _ 4).trans (final4 m c)
  refine (tail_eq4 _).trans ?_
  refine (congrArg (fun x : S64x2048.Idx → EReal => shapeCast S8x8x16x128 x shapeCasts_S64x2048_S8x8x16x128) e).trans ?_
  exact heads m c _

/-- Window 5's array: the rows' products with its weights. -/
theorem point5 (t : Fin cfg0.N) (r : Fin 64) (l : Fin 512) (p : Fin 64) (q : Fin 2048) (hp : p.val = r.val) (hq : q.val = 512 * t.val + l.val) :
    k0_pay3 (iblk m c 0 t) (iblk m c 1 t) (iblk m c 3 t) (ix2 r l) = rows m c (arg3 m c) (ix2 p q) := by
  obtain rfl : p = r := Fin.ext hp
  have h0 := fun k => block0 m c t p k ⟨p.val / 8, by omega⟩ ⟨p.val % 8, by omega⟩ (by show p.val = 8 * (p.val / 8) + p.val % 8; omega)
  have h1 := fun k => block1 m c t k
  have h2 := fun k => block3 m c t k l q hq
  refine (row5_apply _ _ _ _ _).trans (Eq.trans ?_ (Cert.KvsRefIdeal.RefValue.flat_apply _ _ _ _ _ _).symm)
  simp only [h0, h1, h2]
  rfl

theorem final5 : (dats m 0 c).arrAt 5 cfg0.N = rows m c (arg3 m c) := by
  refine (dats m 0 c).arrAt_eq_of_covers 5 _ (by decide +kernel) fun t hf y => ?_
  have e := idx5 t
  have ht : t.val < 4 := t.isLt
  have y1 : ((y : S64x512.Idx) 1).val < 512 := ((y : S64x512.Idx) 1).isLt
  have ey : ((cfg0.win 5).blk t).view.emb y = (ix2 ((y : S64x512.Idx) 0) ⟨512 * t.val + ((y : S64x512.Idx) 1).val, by omega⟩ : S64x2048.Idx) := by
    refine funext fun a => Fin.ext ((win0_5.rect_emb_val_off t _ a).trans ?_)
    rw [e]
    fin_cases a
    · show 0 * 64 + ((y : S64x512.Idx) 0).val = ((y : S64x512.Idx) 0).val
      omega
    · show t.val * 512 + ((y : S64x512.Idx) 1).val = 512 * t.val + ((y : S64x512.Idx) 1).val
      omega
  rw [ey]
  blk_simp; rw [after0_5]; frame_out
  have hy : (y : S64x512.Idx) = ix2 ((y : S64x512.Idx) 0) ((y : S64x512.Idx) 1) := by funext a; fin_cases a <;> rfl
  refine (congrArg (k0_pay3 (iblk m c 0 t) (iblk m c 1 t) (iblk m c 3 t)) hy).trans ?_
  exact point5 m c t _ _ _ _ rfl rfl

theorem tail_eq5 (V : Valuation τ sig (Elt Ideal)) : StableHlo.after hostOps1 V (Proc.devRef .tc main_v4)
    = (shapeCast S8x8x16x128 (V (Proc.devRef .tc main_v2_1) : S64x2048.Idx → EReal) shapeCasts_S64x2048_S8x8x16x128) := by
  after_results
  rfl
theorem tail5 : Pipeline.afterTail₀ cfgs (dats m) 0 (V0 m) [hostOps1] c main_v4 = RefValue.want (arg0 m c) (arg1 m c) (arg3 m c) := by
  have e : Pipeline.withArrays spec0 c (V0 m c) (fun w => (dats m 0 c).arrAt w cfg0.N) (Proc.devRef .tc main_v2_1) = rows m c (arg3 m c) :=
    (Pipeline.withArrays_arr spec0 launch0.win.arr_inj c _ _ 5).trans (final5 m c)
  refine (tail_eq5 _).trans ?_
  refine (congrArg (fun x : S64x2048.Idx → EReal => shapeCast S8x8x16x128 x shapeCasts_S64x2048_S8x8x16x128) e).trans ?_
  exact heads m c _

/-- The kernel and the reference, on arguments that agree, leave the same results, and each its arguments. -/
theorem claim : Cert.algebraic_KvsIdeal_KvsRefIdeal := by
  intro m ρ m' ρ' _ hagree
  refine ⟨fun c => RefValue.want (arg0 m c) (arg1 m c) (arg2 m c), fun c => RefValue.want (arg0 m c) (arg1 m c) (arg3 m c), ?_, ?_⟩
  · exact (θ_run defs _ _).mono (fun r h c => ⟨((h.2 c).2 main_v3 (Pipeline.mem_restRefs_of main_v3 (by decide) (by decide))).trans (tail4 m c),
        ((h.2 c).2 main_v4 (Pipeline.mem_restRefs_of main_v4 (by decide) (by decide))).trans (tail5 m c), h.1 c⟩)
      (θ_run_and (unchanged (F := Ideal) m ρ) (run_main (F := Ideal) m ρ))
  · refine (θ_run Cert.KvsRefIdeal.defs _ _).mono (fun r h c => ⟨(h c).1.trans ?_, (h c).2.1.trans ?_, (h c).2.2⟩) (Cert.KvsRefIdeal.Value.run (F := Ideal) m' ρ')
    · rw [(hagree c).1, (hagree c).2.1, (hagree c).2.2.1]
      rfl
    · rw [(hagree c).1, (hagree c).2.1, (hagree c).2.2.2]
      rfl

/-- The reference's run leaves its arguments and its counters as they were. -/
theorem frame_reference : Cert.quiescent_KvsRefIdeal := fun m ρ _ =>
  (θ_run Cert.KvsRefIdeal.defs _ _).mono (fun r h => ⟨fun c => (h c).2.2, Idealize.ShloMosaic.sem_eq_zero_of_no_sems (by decide) r.2⟩)
    (Cert.KvsRefIdeal.Value.run (F := Ideal) m ρ)

end Cert.KvsRun

end
-- ==== Proof.RmsOut.lean ====
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Quiescent

/-!
# The final RMS norm of the prompt rows

The kernel packs the two sequences and the sample rows into one array of 8448 rows. At the point (b, i) it takes
512 rows that begin at row `4224 b + 16 + 512 i`, which is row `16 + 512 i` of sequence b, and writes their norm to
the rows `512 i, …` of the result's slice b. Every row of the result is so written once, and each holds what the
reference computes for it.
-/

@[expose] public section

noncomputable section

set_option maxRecDepth 16384

namespace Cert.ReferenceIdeal.RefValue

open Idealize.ShloMosaic Idealize.ShloMosaic.TcCoe
open Idealize.SL Idealize.SL.Sem
open Idealize.ShloMosaic.StableHlo
open Cert.ReferenceIdeal Cert.ReferenceIdeal.Gen

/-- The result the reference computes of the prompt activations `h` and the weights `g`. -/
def want (h : FVec Ideal S2x4112x2048 .f32) (g : FVec Ideal S2048 .f32) :
    FVec Ideal S2x4096x2048 .f32 :=
  extractStridedSlice S2x4096x2048 ![0, 16, 0] (mulf (mulf h (broadcastInDim S2x4112x2048 ![0, 1, 2] bcast_S2x4112x1_S2x4112x2048_0_1_2 (Host.rsqrt (addf (Host.divf (broadcastInDim S2x4112x1 ![0, 1] bcast_S2x4112_S2x4112x1_0_1 (Host.reduceAdd (mulf h h) (constant S_ .f32 0x00000000#32) reducesTo_S2x4112x2048_S2x4112_d2 h_S_)) (broadcastInDim S2x4112x1 ![] bcast_S_S2x4112x1 (constant S_ .f32 0x45000000#32))) (broadcastInDim S2x4112x1 ![] bcast_S_S2x4112x1 (constant S_ .f32 0x358637BD#32)))))) (broadcastInDim S2x4112x2048 ![0, 1, 2] bcast_S1x1x2048_S2x4112x2048_0_1_2 (broadcastInDim S1x1x2048 ![2] bcast_S2048_S1x1x2048_2 g))) slices_S2x4112x2048_S2x4096x2048_0_16_0

end Cert.ReferenceIdeal.RefValue

namespace Cert.RmsOut

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg) (c : Dev nD)

/-- The blocks of a point: the 512 rows read begin at row `4224 b + 16 + 512 i`, and the rows written are those of
    block i of slice b. -/
theorem idx : ∀ t : Fin grid0.N,
    win0_0.index t = ![4224 * (t.val / 8) + 16 + 512 * (t.val % 8), 0] ∧ win0_1.index t = ![0, 0] ∧
      win0_2.index t = ![t.val / 8, t.val % 8, 0] := by
  decide +kernel

/-- Five pieces put together, each replaced by an equal one. -/
theorem cat5 {α : Type} {t s0 s1 s2 s3 s4 : Shape} {a : Fin t.rank} {x0 y0 : s0.Idx → α} {x1 y1 : s1.Idx → α}
    {x2 y2 : s2.Idx → α} {x3 y3 : s3.Idx → α} {x4 y4 : s4.Idx → α} {h : Shape.Concatenates [s0, s1, s2, s3, s4] t a}
    (h0 : x0 = y0) (h1 : x1 = y1) (h2 : x2 = y2) (h3 : x3 = y3) (h4 : x4 = y4) :
    concatenate t a [⟨s0, x0⟩, ⟨s1, x1⟩, ⟨s2, x2⟩, ⟨s3, x3⟩, ⟨s4, x4⟩] h =
      concatenate t a [⟨s0, y0⟩, ⟨s1, y1⟩, ⟨s2, y2⟩, ⟨s3, y3⟩, ⟨s4, y4⟩] h := by
  subst h0 h1 h2 h3 h4
  rfl

/-- The packed array that the kernel reads: its row `4224 b + k`, at a row k of a sequence, is row k of sequence b. -/
theorem packed (b : Fin 2) (k : Fin 4112) (l : Fin 2048) (r : Fin 8448) (hr : r.val = 4224 * b.val + k.val) :
    (V m c main_v6 : S8448x2048.Idx → _) (ix2 r l) = m ((c.tc : Thread nD τ).loc main_arg0) (ix3 b k l) := by
  have e : V m c main_v6 = concatenate S8448x2048 0
      [⟨S4112x2048, (shapeCast S4112x2048 (extractStridedSlice S1x4112x2048 ![0, 0, 0] (m ((c.tc : Thread nD τ).loc main_arg0) : FVec Ideal S2x4112x2048 .f32) slices_S2x4112x2048_S1x4112x2048_0_0_0) shapeCasts_S1x4112x2048_S4112x2048 : FVec Ideal S4112x2048 .f32)⟩,
       ⟨S112x2048, (broadcastInDim S112x2048 ![] bcast_S_S112x2048 (constant S_ .f32 0x00000000#32) : FVec Ideal S112x2048 .f32)⟩,
       ⟨S4112x2048, (shapeCast S4112x2048 (extractStridedSlice S1x4112x2048 ![1, 0, 0] (m ((c.tc : Thread nD τ).loc main_arg0) : FVec Ideal S2x4112x2048 .f32) slices_S2x4112x2048_S1x4112x2048_1_0_0) shapeCasts_S1x4112x2048_S4112x2048 : FVec Ideal S4112x2048 .f32)⟩,
       ⟨S64x2048, m ((c.tc : Thread nD τ).loc main_arg1)⟩,
       ⟨S48x2048, (broadcastInDim S48x2048 ![] bcast_S_S48x2048 (constant S_ .f32 0x00000000#32) : FVec Ideal S48x2048 .f32)⟩]
      concatenates_S4112x2048_S112x2048_S4112x2048_S64x2048_S48x2048_S8448x2048_d0 := by
    unfold V
    after_results
    refine cat5 (t := S8448x2048) (s0 := S4112x2048) (s1 := S112x2048) (s2 := S4112x2048) (s3 := S64x2048) (s4 := S48x2048) (a := 0)
      (h := concatenates_S4112x2048_S112x2048_S4112x2048_S64x2048_S48x2048_S8448x2048_d0) ?_ ?_ ?_ ?_ ?_
    · beta_reduce; dsimp only [Matrix.cons_val]; after_results_steps; try rfl
    · beta_reduce; dsimp only [Matrix.cons_val]; after_results_steps; try rfl
    · beta_reduce; dsimp only [Matrix.cons_val]; after_results_steps; try rfl
    · beta_reduce; dsimp only [Matrix.cons_val]; after_results_steps; try rfl
    · beta_reduce; dsimp only [Matrix.cons_val]; after_results_steps; try rfl
  rw [e]
  pointwise
  have hk := k.isLt
  rcases (by omega : b.val = 0 ∨ b.val = 1) with h | h
  · rw [dif_pos (by omega)]
    exact congrArg _ (congrArg₂ (fun b k => ix3 b k l) (Fin.ext h.symm) (Fin.ext (by show r.val = _; omega)))
  · rw [dif_neg (by omega), dif_neg (by omega), dif_pos (by omega)]
    exact congrArg _ (congrArg₂ (fun b k => ix3 b k l) (Fin.ext h.symm) (Fin.ext (by show r.val - 4112 - 112 = _; omega)))

/-- The weights that the kernel reads, as one row. -/
theorem weights (l : Fin 2048) :
    (V m c main_v7 : S1x2048.Idx → _) (ix2 0 l) = m ((c.tc : Thread nD τ).loc main_arg2) (ix1 l) := by
  entry_read
  pointwise

/-- The block of prompt rows that a point reads. -/
theorem block0 (t : Fin cfg0.N) (r : Fin 512) (l : Fin 2048) (b : Fin 2) (k : Fin 4112) (hb : b.val = t.val / 8)
    (hk : k.val = 16 + (512 * (t.val % 8) + r.val)) :
    (iblk m c 0 t : S512x2048.Idx → _) (ix2 r l) = m ((c.tc : Thread nD τ).loc main_arg0) (ix3 b k l) := by
  obtain ⟨e0, -, -⟩ := idx t
  rw [← packed m c b k l ⟨4224 * b.val + k.val, by omega⟩ rfl]
  refine congrArg (V m c main_v6 : S8448x2048.Idx → _) (funext fun a => Fin.ext ?_)
  refine (win0_0.rect_emb_val_off t _ a).trans ?_
  rw [e0]
  fin_cases a
  · show 4224 * (t.val / 8) + 16 + 512 * (t.val % 8) + r.val = 4224 * b.val + k.val
    omega
  · show 0 + l.val = l.val
    omega

/-- The weights that a point reads. -/
theorem block1 (t : Fin cfg0.N) (l : Fin 2048) :
    (iblk m c 1 t : S1x2048.Idx → _) (ix2 0 l) = m ((c.tc : Thread nD τ).loc main_arg2) (ix1 l) := by
  obtain ⟨-, e1, -⟩ := idx t
  rw [← weights m c l]
  blk_ext [iblk, e1]

/-- What a point computes is the reference's result at the rows it writes. -/
theorem point (t : Fin cfg0.N) (x : S1x512x2048.Idx) (b : Fin 2) (k : Fin 4096) (hb : b.val = t.val / 8)
    (hk : k.val = 512 * (t.val % 8) + (x 1).val) :
    k0_pay1 (iblk m c 0 t) (iblk m c 1 t) x =
      Cert.ReferenceIdeal.RefValue.want (m ((c.tc : Thread nD τ).loc main_arg0)) (m ((c.tc : Thread nD τ).loc main_arg2))
        (ix3 b k (x 2)) := by
  have hA := fun l => block0 m c t (x 1) l b ⟨16 + k.val, by omega⟩ hb (by show 16 + k.val = _; omega)
  pointwise [Cert.ReferenceIdeal.RefValue.want, k0_pay1]
  have h2 := hA (x 2)
  have h1 := block1 m c t (x 2)
  rw [h2, h1]
  simp only [hA]

/-- The result array after the launch. -/
theorem final : (dats m 0 c).arrAt 2 cfg0.N =
    Cert.ReferenceIdeal.RefValue.want (m ((c.tc : Thread nD τ).loc main_arg0)) (m ((c.tc : Thread nD τ).loc main_arg2)) := by
  refine (dats m 0 c).arrAt_eq_of_covers 2 _ (by decide +kernel) fun t hf y => ?_
  obtain ⟨-, -, e2⟩ := idx t
  have ht : t.val < 16 := t.isLt
  blk_simp; rw [after0_2]; frame_out
  have y1 : ((y : S1x512x2048.Idx) 1).val < 512 := ((y : S1x512x2048.Idx) 1).isLt
  refine (point m c t (y : S1x512x2048.Idx) ⟨t.val / 8, by omega⟩
    ⟨512 * (t.val % 8) + ((y : S1x512x2048.Idx) 1).val, by omega⟩ rfl rfl).trans (congrArg _ ?_)
  have y0 : ((y : S1x512x2048.Idx) 0).val < 1 := ((y : S1x512x2048.Idx) 0).isLt
  refine funext fun a => Fin.ext (Eq.symm ((win0_2.rect_emb_val_off t _ a).trans ?_))
  rw [e2]
  fin_cases a
  · show t.val / 8 * 1 + ((y : S1x512x2048.Idx) 0).val = t.val / 8
    omega
  · show t.val % 8 * 512 + ((y : S1x512x2048.Idx) 1).val = 512 * (t.val % 8) + ((y : S1x512x2048.Idx) 1).val
    omega
  · show 0 * 2048 + ((y : S1x512x2048.Idx) 2).val = ((y : S1x512x2048.Idx) 2).val
    omega

/-- The kernel and the reference, on arguments that agree, leave the same result, and the kernel its arguments. -/
theorem claim : Cert.algebraic_KernelIdeal_ReferenceIdeal := by
  intro m ρ m' ρ' _ hagree
  refine ⟨fun c => Cert.ReferenceIdeal.RefValue.want (m ((c.tc : Thread nD τ).loc main_arg0)) (m ((c.tc : Thread nD τ).loc main_arg2)), ?_, ?_⟩
  · exact (θ_run defs _ _).mono (fun r h c => ⟨(h c).1.trans (final m c), (h c).2⟩) (Value.run_blocks (F := Ideal) m ρ)
  · refine (θ_run Cert.ReferenceIdeal.defs _ _).mono (fun r h c => ⟨(h c).1.trans ?_, (h c).2⟩) (Cert.ReferenceIdeal.Value.run (F := Ideal) m' ρ')
    rw [(hagree c).1, (hagree c).2.2]
    rfl

/-- The reference's run leaves its arguments and its counters as they were. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.RmsOut

end
-- ==== Proof.KvBody.lean ====
/-
  The body of the call that makes keys, values and log gates: at the first point of a row block it norms the block into
  the scratch and writes the gates, at every point it writes one band of the keys and of the values.
-/
module

public import proofs.«01_k».proof.Proof.Gen.KvIdeal.Launch
public import proofs.«01_k».proof.Proof.Gen.KvIdeal.Skeleton
public import proofs.«01_k».proof.Proof.Gen.KvIdeal.Points
public import proofs.«01_k».proof.Proof.Gen.KvIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.VecWindow

@[expose] public section

noncomputable section

namespace Cert.KvRun

open Cert.KvIdeal Cert.KvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The normed rows between two points. -/
abbrev xnM : Memref sig .tc .vmem S1408x2048 .bf16 := Memref.whole cc0_scratch0

theorem cond1_iff (i : grid0.Coords) : k0_cond1 i = 1#1 ↔ (i 1).val = 0 := by
  have h : ∀ f : Fin 8, Scalar.cmpi .ne (Scalar.extui (Scalar.cmpi .eq (BitVec.ofNat 32 f.val) 0#32) : BitVec 32) 0#32 = 1#1 ↔ f.val = 0 := by
    decide
  exact h (i 1)

set_option maxHeartbeats 1600000 in
/-- The first point of a row block. -/
theorem runA (c : Dev nD) (i : grid0.Coords) (hc : k0_cond1 i = 1#1)
    (arg2 : Memref sig .tc .vmem S1408x2048 .f32) (harg2 : arg2.IsWhole)
    (arg3 : Memref sig .tc .vmem S1x2048 .f32) (harg3 : arg3.IsWhole)
    (arg4 : Memref sig .tc .vmem S2048x256 .f32) (harg4 : arg4.IsWhole)
    (arg5 : Memref sig .tc .vmem S2048x256 .f32) (harg5 : arg5.IsWhole)
    (arg6 : Memref sig .tc .vmem S16x2048 .f32) (harg6 : arg6.IsWhole)
    (arg7 : Memref sig .tc .vmem S16x1 .f32) (harg7 : arg7.IsWhole)
    (arg8 : Memref sig .tc .vmem S1x1408x256 .f32) (harg8 : arg8.IsWhole)
    (arg9 : Memref sig .tc .vmem S1x1408x256 .f32) (harg9 : arg9.IsWhole)
    (arg10 : Memref sig .tc .vmem S1408x256 .bf16) (harg10 : arg10.IsWhole)
    (arg11 : Memref sig .tc .vmem S1408x256 .bf16) (harg11 : arg11.IsWhole)
    (arg12 : Memref sig .tc .vmem S16x1408 .f32) (harg12 : arg12.IsWhole)
    (x2 : Vec F S1408x2048 .f32)
    (x3 : Vec F S1x2048 .f32)
    (x4 : Vec F S2048x256 .f32)
    (x5 : Vec F S2048x256 .f32)
    (x6 : Vec F S16x2048 .f32)
    (x7 : Vec F S16x1 .f32)
    (x8 : Vec F S1x1408x256 .f32)
    (x9 : Vec F S1x1408x256 .f32)
    (x10 : Vec F S1408x256 .bf16)
    (x11 : Vec F S1408x256 .bf16)
    (x12 : Vec F S16x1408 .f32)
    (x13 : Vec F S1408x2048 .bf16)
    (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) xnM fullShare x13
        ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare (k0_pay6 (k0_pay2 x2 x3) x4)
            ∗ owns (c : Thread nD τ) arg9 fullShare (k0_pay7 (k0_pay2 x2 x3) x5)
            ∗ owns (c : Thread nD τ) arg10 fullShare (k0_pay8 (k0_pay2 x2 x3) x4)
            ∗ owns (c : Thread nD τ) arg11 fullShare (k0_pay9 (k0_pay2 x2 x3) x5)
            ∗ owns (c : Thread nD τ) arg12 fullShare (k0_pay3 x2 x3 x6 x7)
            ∗ owns (c : Thread nD τ) xnM fullShare (k0_pay2 x2 x3)) -∗ K ⟨⟩))
      ⊢ wp frame (wpE (defs₀ (F := F)) Variants.none c none) Set.univ
          (cc0_kv_proj i arg2 harg2 arg3 harg3 arg4 harg4 arg5 harg5 arg6 harg6 arg7 harg7 arg8 harg8 arg9 harg9 arg10 harg10 arg11 harg11 arg12 harg12 xnM (Memref.isWhole_whole _)) K := by
  simp only [cc0_kv_proj_eq_skeleton]; unfold cc0_kv_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := (Memref.isWhole_whole _).eq_unread hf13
  sl_exec
  sl_step
  have e2 : View.readAt (Elt F) arg2.view (Rect.unit (s := S1408x2048) ![0, 0] S1408x2048.size inb_S1408x2048_S1408x2048_0_0).toLoadRect (harg2.unread x2) = x2 := by
    rw [View.readAt_full]; exact hf2
  have e3 : View.readAt (Elt F) arg3.view (Rect.unit (s := S1x2048) ![0, 0] S1x2048.size inb_S1x2048_S1x2048_0_0).toLoadRect (harg3.unread x3) = x3 := by
    rw [View.readAt_full]; exact hf3
  have ex : runA.sl.v3 c arg2 harg2 arg3 harg3 x2 x3 = k0_pay2 x2 x3 := by
    unfold runA.sl.v3 runA.sl.H13_1; rw [View.readCov_full, e2, e3]
  iapply Hk
  isplitl [H2]
  · iexists _; isplitr; swap
    · iexact H2
    · ipureintro; exact hf2
  isplitl [H3]
  · iexists _; isplitr; swap
    · iexact H3
    · ipureintro; exact hf3
  isplitl [H4]
  · iexists _; isplitr; swap
    · iexact H4
    · ipureintro; exact hf4
  isplitl [H5]
  · iexists _; isplitr; swap
    · iexact H5
    · ipureintro; exact hf5
  isplitl [H6]
  · iexists _; isplitr; swap
    · iexact H6
    · ipureintro; exact hf6
  isplitl [H7]
  · iexists _; isplitr; swap
    · iexact H7
    · ipureintro; exact hf7
  isplitl [H8]
  · iexists _; isplitr; swap
    · iexact H8
    · ipureintro; rw [View.read_writes_full, ex, View.readAt_full, hf4]
  isplitl [H9]
  · iexists _; isplitr; swap
    · iexact H9
    · ipureintro; rw [View.read_writes_full, ex, View.readAt_full, hf5]
  isplitl [H10]
  · iexists _; isplitr; swap
    · iexact H10
    · ipureintro; rw [View.read_writes_full, ex, View.readAt_full, hf4]
  isplitl [H11]
  · iexists _; isplitr; swap
    · iexact H11
    · ipureintro; rw [View.read_writes_full, ex, View.readAt_full, hf5]
  isplitl [H12]
  · iexists _; isplitr; swap
    · iexact H12
    · ipureintro; rw [View.read_writes_full, e2, e3, View.readAt_full, View.readAt_full, hf6, hf7]
  iexists _; isplitr; swap
  · iexact H13
  · ipureintro; unfold runA.sl.H13_1; rw [View.read_writes_full, e2, e3]

/-- A later point of a row block. -/
theorem runB (c : Dev nD) (i : grid0.Coords) (hc : ¬ k0_cond1 i = 1#1)
    (arg2 : Memref sig .tc .vmem S1408x2048 .f32) (harg2 : arg2.IsWhole)
    (arg3 : Memref sig .tc .vmem S1x2048 .f32) (harg3 : arg3.IsWhole)
    (arg4 : Memref sig .tc .vmem S2048x256 .f32) (harg4 : arg4.IsWhole)
    (arg5 : Memref sig .tc .vmem S2048x256 .f32) (harg5 : arg5.IsWhole)
    (arg6 : Memref sig .tc .vmem S16x2048 .f32) (harg6 : arg6.IsWhole)
    (arg7 : Memref sig .tc .vmem S16x1 .f32) (harg7 : arg7.IsWhole)
    (arg8 : Memref sig .tc .vmem S1x1408x256 .f32) (harg8 : arg8.IsWhole)
    (arg9 : Memref sig .tc .vmem S1x1408x256 .f32) (harg9 : arg9.IsWhole)
    (arg10 : Memref sig .tc .vmem S1408x256 .bf16) (harg10 : arg10.IsWhole)
    (arg11 : Memref sig .tc .vmem S1408x256 .bf16) (harg11 : arg11.IsWhole)
    (arg12 : Memref sig .tc .vmem S16x1408 .f32) (harg12 : arg12.IsWhole)
    (x4 : Vec F S2048x256 .f32)
    (x5 : Vec F S2048x256 .f32)
    (x8 : Vec F S1x1408x256 .f32)
    (x9 : Vec F S1x1408x256 .f32)
    (x10 : Vec F S1408x256 .bf16)
    (x11 : Vec F S1408x256 .bf16)
    (x13 : Vec F S1408x2048 .bf16)
    (K : PUnit → sProp 𝕄) :
    iprop(owns (c : Thread nD τ) arg4 fullShare x4 ∗ owns (c : Thread nD τ) arg5 fullShare x5 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) xnM fullShare x13
        ∗ (iprop(owns (c : Thread nD τ) arg4 fullShare x4
            ∗ owns (c : Thread nD τ) arg5 fullShare x5
            ∗ owns (c : Thread nD τ) arg8 fullShare (k0_pay6 x13 x4)
            ∗ owns (c : Thread nD τ) arg9 fullShare (k0_pay7 x13 x5)
            ∗ owns (c : Thread nD τ) arg10 fullShare (k0_pay8 x13 x4)
            ∗ owns (c : Thread nD τ) arg11 fullShare (k0_pay9 x13 x5)
            ∗ owns (c : Thread nD τ) xnM fullShare x13) -∗ K ⟨⟩))
      ⊢ wp frame (wpE (defs₀ (F := F)) Variants.none c none) Set.univ
          (cc0_kv_proj i arg2 harg2 arg3 harg3 arg4 harg4 arg5 harg5 arg6 harg6 arg7 harg7 arg8 harg8 arg9 harg9 arg10 harg10 arg11 harg11 arg12 harg12 xnM (Memref.isWhole_whole _)) K := by
  simp only [cc0_kv_proj_eq_skeleton]; unfold cc0_kv_proj_skel
  unfold owns
  iintro ⟨⟨%f4, %hf4, H4⟩, ⟨%f5, %hf5, H5⟩, ⟨%f8, %hf8, H8⟩, ⟨%f9, %hf9, H9⟩, ⟨%f10, %hf10, H10⟩, ⟨%f11, %hf11, H11⟩, ⟨%f13, %hf13, H13⟩, Hk⟩
  obtain rfl := harg4.eq_unread hf4
  obtain rfl := harg5.eq_unread hf5
  obtain rfl := harg8.eq_unread hf8
  obtain rfl := harg9.eq_unread hf9
  obtain rfl := harg10.eq_unread hf10
  obtain rfl := harg11.eq_unread hf11
  obtain rfl := (Memref.isWhole_whole _).eq_unread hf13
  sl_exec
  sl_step
  have ex : runB.sl.v3 c x13 = x13 := by unfold runB.sl.v3; rw [View.readAt_full]; exact hf13
  iapply Hk
  isplitl [H4]
  · iexists _; isplitr; swap
    · iexact H4
    · ipureintro; exact hf4
  isplitl [H5]
  · iexists _; isplitr; swap
    · iexact H5
    · ipureintro; exact hf5
  isplitl [H8]
  · iexists _; isplitr; swap
    · iexact H8
    · ipureintro; rw [View.read_writes_full, ex, View.readAt_full, hf4]
  isplitl [H9]
  · iexists _; isplitr; swap
    · iexact H9
    · ipureintro; rw [View.read_writes_full, ex, View.readAt_full, hf5]
  isplitl [H10]
  · iexists _; isplitr; swap
    · iexact H10
    · ipureintro; rw [View.read_writes_full, ex, View.readAt_full, hf4]
  isplitl [H11]
  · iexists _; isplitr; swap
    · iexact H11
    · ipureintro; rw [View.read_writes_full, ex, View.readAt_full, hf5]
  iexists _; isplitr; swap
  · iexact H13
  · ipureintro; exact hf13

end Cert.KvRun

end
-- ==== Proof.KvFrame.lean ====
/-
  The call that makes keys, values and log gates from launch to end, at any floats: what its body leaves in every staging
  buffer is named in closed form, the gates' buffer, which the body writes at the first point of a row block only, stays
  as it is until the block's last point, and so does the scratch with the normed rows.
-/
module

public import proofs.«01_k».proof.Proof.KvBody
public import proofs.«01_k».proof.Defs
public import proofs.«01_k».proof.Proof.Gen.Kv
public import Idealize.ShloMosaic.Lib.Quiescent
public import Idealize.ShloMosaic.Lib.Claim

@[expose] public section

set_option maxRecDepth 16384

noncomputable section

namespace Cert.KvRun

open Cert.KvIdeal Cert.KvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coords_eq : ∀ t : Fin grid0.N, ((grid0.coords t) 0).val = t.val / 8 ∧ ((grid0.coords t) 1).val = t.val % 8 := by decide +kernel

/-- The normed rows of point `t`'s block, and its log gates. -/
def xn (c : Dev nD) (t : Fin cfg0.N) : Vec F S1408x2048 .bf16 := k0_pay2 (iblk m c 0 t) (iblk m c 1 t)
def gates (c : Dev nD) (t : Fin cfg0.N) : Vec F S16x1408 .f32 := k0_pay3 (iblk m c 0 t) (iblk m c 1 t) (iblk m c 4 t) (iblk m c 5 t)

/-- What is held between two points, `n` of them run: the scratch at the normed rows of the last one. -/
def Phi (c : Dev nD) (n : ℕ) : sProp 𝕄 :=
  iprop(∃ x, ⌜∀ t : Fin cfg0.N, t.val + 1 = n → x = xn m c t⌝ ∗ owns (c : Thread nD τ) xnM fullShare x ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay6 (xn m c t) (iblk m c 2 t)
    | ⟨7, _⟩ => k0_pay7 (xn m c t) (iblk m c 3 t)
    | ⟨8, _⟩ => k0_pay8 (xn m c t) (iblk m c 2 t)
    | ⟨9, _⟩ => k0_pay9 (xn m c t) (iblk m c 3 t)
    | ⟨10, _⟩ => gates m c t
  Φ n := Phi m c n.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay6 (xn m c t) (iblk m c 2 t) := by dsimp only [dats]
theorem after_7 (c : Dev nD) (t : Fin cfg0.N) : (dats m 0 c).after 7 t = k0_pay7 (xn m c t) (iblk m c 3 t) := by dsimp only [dats]
theorem after_8 (c : Dev nD) (t : Fin cfg0.N) : (dats m 0 c).after 8 t = k0_pay8 (xn m c t) (iblk m c 2 t) := by dsimp only [dats]
theorem after_9 (c : Dev nD) (t : Fin cfg0.N) : (dats m 0 c).after 9 t = k0_pay9 (xn m c t) (iblk m c 3 t) := by dsimp only [dats]
theorem after_10 (c : Dev nD) (t : Fin cfg0.N) : (dats m 0 c).after 10 t = gates m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The points of a row block read the same rows, the same gain and the same gate weights -/

/-- The point before. -/
abbrev pred (t : Fin cfg0.N) : Fin cfg0.N := ⟨t.val - 1, Nat.lt_of_le_of_lt (Nat.sub_le _ _) t.isLt⟩

theorem iblk_pred_0 (c : Dev nD) (t : Fin cfg0.N) (h : t.val % 8 ≠ 0) : iblk m c 0 t = iblk m c 0 (pred t) := by
  have hf : (cfg0.win 0).fetch t = false := Bool.eq_false_iff.2 fun e => by have := (fetch0_0 t).1 e; omega
  have e := before_0 m c t (iblk m c 0 t)
  rw [(dats m 0 c).before_of_pos 0 t (fun e => h (by omega)) hf, if_neg (show ¬ (cfg0.win 0).flush (pred t) = true from Bool.false_ne_true)] at e
  exact e.symm
theorem iblk_pred_1 (c : Dev nD) (t : Fin cfg0.N) (h : t.val % 8 ≠ 0) : iblk m c 1 t = iblk m c 1 (pred t) := by
  have hf : (cfg0.win 1).fetch t = false := Bool.eq_false_iff.2 fun e => by have := (fetch0_1 t).1 e; omega
  have e := before_1 m c t (iblk m c 1 t)
  rw [(dats m 0 c).before_of_pos 1 t (fun e => h (by omega)) hf, if_neg (show ¬ (cfg0.win 1).flush (pred t) = true from Bool.false_ne_true)] at e
  exact e.symm
theorem iblk_pred_4 (c : Dev nD) (t : Fin cfg0.N) (h : t.val % 8 ≠ 0) : iblk m c 4 t = iblk m c 4 (pred t) := by
  have hf : (cfg0.win 4).fetch t = false := Bool.eq_false_iff.2 fun e => by have := (fetch0_4 t).1 e; omega
  have e := before_4 m c t (iblk m c 4 t)
  rw [(dats m 0 c).before_of_pos 4 t (fun e => h (by omega)) hf, if_neg (show ¬ (cfg0.win 4).flush (pred t) = true from Bool.false_ne_true)] at e
  exact e.symm
theorem iblk_pred_5 (c : Dev nD) (t : Fin cfg0.N) (h : t.val % 8 ≠ 0) : iblk m c 5 t = iblk m c 5 (pred t) := by
  have hf : (cfg0.win 5).fetch t = false := Bool.eq_false_iff.2 fun e => by have := (fetch0_5 t).1 e; omega
  have e := before_5 m c t (iblk m c 5 t)
  rw [(dats m 0 c).before_of_pos 5 t (fun e => h (by omega)) hf, if_neg (show ¬ (cfg0.win 5).flush (pred t) = true from Bool.false_ne_true)] at e
  exact e.symm

theorem xn_pred (c : Dev nD) (t : Fin cfg0.N) (h : t.val % 8 ≠ 0) : xn m c t = xn m c (pred t) := by
  unfold xn; rw [iblk_pred_0 m c t h, iblk_pred_1 m c t h]
theorem gates_pred (c : Dev nD) (t : Fin cfg0.N) (h : t.val % 8 ≠ 0) : gates m c t = gates m c (pred t) := by
  unfold gates; rw [iblk_pred_0 m c t h, iblk_pred_1 m c t h, iblk_pred_4 m c t h, iblk_pred_5 m c t h]

/-! ## The gates' buffer -/

theorem live_10 (t : Fin cfg0.N) (h : t.val % 8 = 0) : cfg0.idle 10 (cfg0.grid.coords t) = false := by
  show (!(k0_cond1 (grid0.coords t) == 1#1)) = false
  rw [(cond1_iff (grid0.coords t)).2 ((coords_eq t).2.trans h)]; rfl
theorem idle_10 (t : Fin cfg0.N) (h : t.val % 8 ≠ 0) : cfg0.idle 10 (cfg0.grid.coords t) = true := by
  have hc : ¬ k0_cond1 (grid0.coords t) = 1#1 := fun e => h ((coords_eq t).2.symm.trans ((cond1_iff _).1 e))
  show (!(k0_cond1 (grid0.coords t) == 1#1)) = true
  rw [beq_eq_false_iff_ne.2 hc]; rfl

/-- After a block's first point the body finds the block's gates. -/
theorem before_10 (c : Dev nD) (d) : ∀ (k : ℕ) (t : Fin cfg0.N), t.val % 8 = k + 1 → (dats m 0 c).before 10 t d = gates m c t := by
  intro k
  induction k with
  | zero =>
    intro t h
    have hn : ¬ (cfg0.win 10).flush (pred t) = true := fun e => by have := (flush0_10 (pred t)).1 e; simp only [pred] at this; omega
    rw [(dats m 0 c).before_of_pos 10 t (fun e => by omega) rfl, if_neg hn]
    unfold Dat.left
    rw [live_10 (pred t) (by simp only [pred]; omega), gates_pred m c t (by omega)]
    rfl
  | succ k ih =>
    intro t h
    have hn : ¬ (cfg0.win 10).flush (pred t) = true := fun e => by have := (flush0_10 (pred t)).1 e; simp only [pred] at this; omega
    rw [(dats m 0 c).before_of_pos 10 t (fun e => by omega) rfl, if_neg hn]
    unfold Dat.left
    rw [idle_10 (pred t) (by simp only [pred]; omega), gates_pred m c t (by omega)]
    exact ih (pred t) (by simp only [pred]; omega)

theorem leaves_10 (c : Dev nD) (t : Fin cfg0.N) (h : t.val % 8 = 0) :
    (dats m 0 c).leavesExact 10 t = owns (c : Thread nD τ) (st0_10 t) fullShare (gates m c t) := by
  unfold Dat.leavesExact; rw [live_10 t h, after_10]
theorem leaves_10' (c : Dev nD) (t : Fin cfg0.N) (h : t.val % 8 ≠ 0) :
    owns (c : Thread nD τ) (st0_10 t) fullShare (gates m c t) ⊢ (dats m 0 c).leavesExact 10 t := by
  by_cases h7 : t.val % 8 = 7
  · unfold Dat.leavesExact; rw [idle_10 t h, (flush0_10 t).2 h7, after_10]
  · rw [(dats m 0 c).leavesExact_idle 10 t (idle_10 t h) (Bool.eq_false_iff.2 fun e => h7 ((flush0_10 t).1 e))]
    iintro H
    iexists gates m c t
    rw [before_10 m c _ (t.val % 8 - 1) t (by omega)]
    iexact H

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (dats m 0 c).leavesExact 10 t)

theorem sound_first (c : Dev nD) (t : Fin cfg0.N) (h : t.val % 8 = 0) :
    bodyPre m c t ⊢ wp frame (wpE (defs₀ (F := F)) Variants.none c none) Set.univ (bodyAt0 t) (fun _ => bodyPost m c t) := by
  have hc : k0_cond1 (grid0.coords t) = 1#1 := (cond1_iff _).2 ((coords_eq t).2.trans h)
  unfold bodyPre bodyPost bodyAt0
  simp only [before_0, before_1, before_2, before_3, before_4, before_5, after_0, after_1, after_2, after_3, after_4, after_5, after_6, after_7, after_8, after_9]
  rw [leaves_10 m c t h, show (dats m 0 c).Φ t.castSucc = Phi m c t.val from rfl, show (dats m 0 c).Φ t.succ = Phi m c (t.val + 1) from rfl]
  rw [show (dats m 0 c).owesAt () t.succ = (dats m 0 c).owesAt () t.castSucc from rfl]
  unfold Phi
  iintro ⟨⟨%x, %hx, HX, Hr⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runA c (grid0.coords t) hc (st0_0 t) _ (st0_1 t) _ (st0_2 t) _ (st0_3 t) _ (st0_4 t) _ (st0_5 t) _ (st0_6 t) _ (st0_7 t) _ (st0_8 t) _ (st0_9 t) _ (st0_10 t) _
    (iblk m c 0 t) (iblk m c 1 t) (iblk m c 2 t) (iblk m c 3 t) (iblk m c 4 t) (iblk m c 5 t) _ _ _ _ _ x _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HX]; · iexact HX
  iintro ⟨H0, H1, H2, H3, H4, H5, H6, H7, H8, H9, H10, HX⟩
  isplitl [HX Hr]
  · iexists _
    isplitr; swap
    · isplitl [HX]; · iexact HX
      iexact Hr
    ipureintro; exact fun t' e => by rw [show t' = t from Fin.ext (by omega)]; rfl
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem sound_later (c : Dev nD) (t : Fin cfg0.N) (h : t.val % 8 ≠ 0) :
    bodyPre m c t ⊢ wp frame (wpE (defs₀ (F := F)) Variants.none c none) Set.univ (bodyAt0 t) (fun _ => bodyPost m c t) := by
  have hc : ¬ k0_cond1 (grid0.coords t) = 1#1 := fun e => h ((coords_eq t).2.symm.trans ((cond1_iff _).1 e))
  unfold bodyPre bodyPost bodyAt0
  simp only [before_0, before_1, before_2, before_3, before_4, before_5, before_10 m c _ (t.val % 8 - 1) t (by omega), after_0, after_1, after_2, after_3, after_4, after_5, after_6, after_7, after_8, after_9]
  rw [show (dats m 0 c).Φ t.castSucc = Phi m c t.val from rfl, show (dats m 0 c).Φ t.succ = Phi m c (t.val + 1) from rfl]
  rw [show (dats m 0 c).owesAt () t.succ = (dats m 0 c).owesAt () t.castSucc from rfl]
  unfold Phi
  iintro ⟨⟨%x, %hx, HX, Hr⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl : x = xn m c t := (hx (pred t) (by simp only [pred]; omega)).trans (xn_pred m c t h).symm
  iapply (runB c (grid0.coords t) hc (st0_0 t) _ (st0_1 t) _ (st0_2 t) _ (st0_3 t) _ (st0_4 t) _ (st0_5 t) _ (st0_6 t) _ (st0_7 t) _ (st0_8 t) _ (st0_9 t) _ (st0_10 t) _
    (iblk m c 2 t) (iblk m c 3 t) _ _ _ _ (xn m c t) _)
  isplitl [H2]; · iexact H2
  isplitl [H3]; · iexact H3
  isplitl [H6]; · iexact H6
  isplitl [H7]; · iexact H7
  isplitl [H8]; · iexact H8
  isplitl [H9]; · iexact H9
  isplitl [HX]; · iexact HX
  iintro ⟨H2, H3, H6, H7, H8, H9, HX⟩
  isplitl [HX Hr]
  · iexists _
    isplitr; swap
    · isplitl [HX]; · iexact HX
      iexact Hr
    ipureintro; exact fun t' e => by rw [show t' = t from Fin.ext (by omega)]
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply (leaves_10' m c t h); iexact H10

theorem sound_body (c : Dev nD) (t : Fin cfg0.N) :
    bodyPre m c t ⊢ wp frame (wpE (defs₀ (F := F)) Variants.none c none) Set.univ (bodyAt0 t) (fun _ => bodyPost m c t) := by
  by_cases h : t.val % 8 = 0
  · exact sound_first m c t h
  · exact sound_later m c t h

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem PhiA_eq (c : Dev nD) : (Pipeline.ΦA spec0 c : sProp 𝕄)
    = iprop(iprop((∃ d, owns (c : Thread nD τ) xnM fullShare d)) ∗ (∃ r, prngReg c r)) := by
  unfold Pipeline.ΦA; rw [scopedRest0_eq]; simp only [xnM, owns_whole]; try rfl

theorem phi_in (c : Dev nD) : (Pipeline.ΦA spec0 c : sProp 𝕄) ⊢ Phi m c 0 := by
  rw [PhiA_eq]; unfold Phi
  iintro ⟨⟨%x, HX⟩, Hr⟩
  iexists x
  isplitr; swap
  · isplitl [HX]; · iexact HX
    iexact Hr
  ipureintro; exact fun t e => absurd e (Nat.succ_ne_zero _)

theorem phi_out (c : Dev nD) (n : ℕ) : Phi m c n ⊢ (Pipeline.ΦA spec0 c : sProp 𝕄) := by
  rw [PhiA_eq]; unfold Phi
  iintro ⟨%x, -, HX, Hr⟩
  isplitl [HX]
  · iexists _; iexact HX
  iexact Hr

/-! ## The run -/

set_option backward.isDefEq.respectTransparency.types false in
set_option maxHeartbeats 800000 in
/-- Every array of the call ends at what the named contents write into it, every semaphore ends at zero. -/
theorem run_region : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := fun c => phi_out m c _)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_region m ρ)

/-- The argument arrays end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- And with every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_region m ρ))

theorem frame_ideal : Cert.quiescent_KvIdeal := fun m ρ _ => frame_any (F := Ideal) m ρ

/-! ## The program at machine floats has the same text -/

theorem defs₀_eq : Cert.Kv.defs₀ (F := Bits) = defs₀ (F := Bits) := by
  refine congrArg (Defs.onTc (nD := nD) (τ := τ) (sig := sig) (Λ := Λ₀)) ?_
  funext l a
  match l, a with
  | 0, (t, s) => rfl
  | ⟨k + 1, hk⟩, _ => exact absurd hk (by omega)

theorem defs_eq : Cert.Kv.defs (F := Bits) = defs (F := Bits) :=
  congrArg (Pipeline.defs (pcfgs (F := Bits))) defs₀_eq

/-- So its frame is the same run. -/
theorem frame_kernel : Cert.quiescent_Kv := fun m ρ _ => by
  have h := frame_any (F := Bits) m ρ
  rw [← defs_eq] at h
  exact h

end Cert.KvRun

end
-- ==== Proof.KvValue.lean ====
module

public import proofs.«01_k».proof.Defs
public import proofs.«01_k».proof.Proof.RmsOut
public import proofs.«01_k».proof.Proof.KvFrame
public import proofs.«01_k».proof.Proof.Gen.KvRefIdeal.Run
public import Idealize.ShloMosaic.Lib.Pipeline.ValueKit
public import Idealize.ShloMosaic.Lib.Quiescent

/-!
# Keys, values and log gates of normalised rows

The call takes 1408 packed rows at a time. At the first of eight points it normalises them, keeps them, and writes the
logarithms of the logistics of their sixteen gates; at each of the eight it multiplies the kept rows with 256 columns of
the key weights and of the value weights. The keys and values are written to arrays of the prompts' rows alone, so the
last of the three row blocks of a prompt is cut at the prompt's end. The lines after the call turn the gates round and
take the prompts' and the sample rows.
-/

@[expose] public section

noncomputable section

set_option maxRecDepth 16384

namespace Cert.KvRefIdeal.RefValue

open Idealize.ShloMosaic Idealize.ShloMosaic.TcCoe
open Idealize.SL Idealize.SL.Sem
open Idealize.ShloMosaic.StableHlo
open Cert.KvRefIdeal Cert.KvRefIdeal.Gen

/-- One value of a row `x` normalised by its mean square and scaled by `g`. -/
def norm (x g : Fin 2048 → EReal) (k : Fin 2048) : EReal :=
  x k * Ideal.rsqrt (Ideal.div (∑ j, x j * x j) (Ideal.ofBits FTy.f32 1157627904#32) + Ideal.ofBits FTy.f32 897988541#32) * g k
/-- The logarithm of the logistic of `z`. -/
def logSig (z : EReal) : EReal := min z 0 - Ideal.log1p (Ideal.exp (0 - max z (-z)))

theorem log1p_exp_ne_bot (w : EReal) : Ideal.log1p (Ideal.exp w) ≠ ⊥ := by
  induction w with
  | bot =>
    show Ideal.log (1 + 0) ≠ ⊥
    rw [add_zero]
    show (if (1 : ℝ) ≤ 0 then (⊥ : EReal) else (Real.log 1 : EReal)) ≠ ⊥
    rw [if_neg (by norm_num)]
    exact EReal.coe_ne_bot _
  | top =>
    show Ideal.log (1 + ⊤) ≠ ⊥
    rw [EReal.add_top_of_ne_bot (by exact EReal.coe_ne_bot 1)]
    exact top_ne_bot
  | coe r =>
    have h := Real.exp_pos r
    show (if 1 + Real.exp r ≤ 0 then (⊥ : EReal) else (Real.log (1 + Real.exp r) : EReal)) ≠ ⊥
    rw [if_neg (by linarith)]
    exact EReal.coe_ne_bot _
/-- The same of `-z` as the sum of its positive part and the rest. -/
theorem logSig_neg (z : EReal) : -(max (-z) 0 + Ideal.log1p (Ideal.exp (-max (-z) (-(-z))))) = logSig z := by
  rw [EReal.neg_add (Or.inl (ne_of_gt (lt_of_lt_of_le EReal.bot_lt_zero (le_max_right _ _)))) (Or.inr (log1p_exp_ne_bot _))]
  unfold logSig
  rw [neg_neg, max_comm (-z) z, zero_sub]
  congr 1
  rcases le_total z 0 with h | h
  · rw [max_eq_left (EReal.neg_le_neg_iff.1 (by simpa using h)), neg_neg, min_eq_left h]
  · rw [max_eq_right (EReal.neg_le_neg_iff.1 (by simpa using h)), neg_zero, min_eq_right h]

/-- The normalised rows of the prompts and of the samples. -/
def rowsP (x : FVec Ideal S2x4112x2048 .f32) (g : FVec Ideal S2048 .f32) : FVec Ideal S2x4112x2048 .f32 :=
  (mulf (mulf x (broadcastInDim S2x4112x2048 ![0, 1, 2] bcast_S2x4112x1_S2x4112x2048_0_1_2 (Host.rsqrt (addf (Host.divf (broadcastInDim S2x4112x1 ![0, 1] bcast_S2x4112_S2x4112x1_0_1 (Host.reduceAdd (mulf x x) (constant S_ .f32 0x00000000#32) reducesTo_S2x4112x2048_S2x4112_d2 h_S_)) (broadcastInDim S2x4112x1 ![] bcast_S_S2x4112x1 (constant S_ .f32 0x45000000#32))) (broadcastInDim S2x4112x1 ![] bcast_S_S2x4112x1 (constant S_ .f32 0x358637BD#32)))))) (broadcastInDim S2x4112x2048 ![0, 1, 2] bcast_S1x1x2048_S2x4112x2048_0_1_2 (broadcastInDim S1x1x2048 ![2] bcast_S2048_S1x1x2048_2 g)))
def rowsS (s : FVec Ideal S64x2048 .f32) (g : FVec Ideal S2048 .f32) : FVec Ideal S8x8x2048 .f32 :=
  (mulf (mulf (shapeCast _ s shapeCasts_S64x2048_S8x8x2048) (broadcastInDim S8x8x2048 ![0, 1, 2] bcast_S8x8x1_S8x8x2048_0_1_2 (Host.rsqrt (addf (Host.divf (broadcastInDim S8x8x1 ![0, 1] bcast_S8x8_S8x8x1_0_1 (Host.reduceAdd (mulf (shapeCast _ s shapeCasts_S64x2048_S8x8x2048) (shapeCast _ s shapeCasts_S64x2048_S8x8x2048)) (constant S_ .f32 0x00000000#32) reducesTo_S8x8x2048_S8x8_d2 h_S_)) (broadcastInDim S8x8x1 ![] bcast_S_S8x8x1 (constant S_ .f32 0x45000000#32))) (broadcastInDim S8x8x1 ![] bcast_S_S8x8x1 (constant S_ .f32 0x358637BD#32)))))) (broadcastInDim S8x8x2048 ![0, 1, 2] bcast_S1x1x2048_S8x8x2048_0_1_2 (broadcastInDim S1x1x2048 ![2] bcast_S2048_S1x1x2048_2 g)))
/-- The product with key or value weights. -/
def proj (x : FVec Ideal S2x4112x2048 .f32) (g : FVec Ideal S2048 .f32) (w : FVec Ideal S2048x2048 .f32) : FVec Ideal S2x4112x2048 .f32 :=
  Host.dotGeneral (φ₁ := .f32) (φ₂ := .f32) dot_S2x4112x2048_S2048x2048_S2x4112x2048_2_0_01_1_n_n none (rowsP x g) w
/-- The keys or the values, by heads. -/
def want (x : FVec Ideal S2x4112x2048 .f32) (g : FVec Ideal S2048 .f32) (w : FVec Ideal S2048x2048 .f32) : FVec Ideal S2x4112x16x128 .f32 := shapeCast _ (proj x g w) shapeCasts_S2x4112x2048_S2x4112x16x128
/-- The gates before the logistic. -/
def preP (x : FVec Ideal S2x4112x2048 .f32) (g : FVec Ideal S2048 .f32) (wf : FVec Ideal S2048x16 .f32) (b : FVec Ideal S16 .f32) : FVec Ideal S2x4112x16 .f32 :=
  (addf (Host.dotGeneral (φ₁ := .f32) (φ₂ := .f32) dot_S2x4112x2048_S2048x16_S2x4112x16_2_0_01_1_n_n none (rowsP x g) wf) (broadcastInDim S2x4112x16 ![0, 1, 2] bcast_S1x1x16_S2x4112x16_0_1_2 (broadcastInDim S1x1x16 ![2] bcast_S16_S1x1x16_2 b)))
def preS (s : FVec Ideal S64x2048 .f32) (g : FVec Ideal S2048 .f32) (wf : FVec Ideal S2048x16 .f32) (b : FVec Ideal S16 .f32) : FVec Ideal S8x8x16 .f32 :=
  (addf (Host.dotGeneral (φ₁ := .f32) (φ₂ := .f32) dot_S8x8x2048_S2048x16_S8x8x16_2_0_01_1_n_n none (rowsS s g) wf) (broadcastInDim S8x8x16 ![0, 1, 2] bcast_S1x1x16_S8x8x16_0_1_2 (broadcastInDim S1x1x16 ![2] bcast_S16_S1x1x16_2 b)))
/-- The logarithms of the logistics, as the reference computes them. -/
def sigP (z : FVec Ideal S2x4112x16 .f32) : FVec Ideal S2x4112x16 .f32 :=
  Host.negf (select (cmpf .une (subf (Host.negf z) (broadcastInDim S2x4112x16 ![] bcast_S_S2x4112x16 (constant S_ .f32 0x00000000#32))) (subf (Host.negf z) (broadcastInDim S2x4112x16 ![] bcast_S_S2x4112x16 (constant S_ .f32 0x00000000#32)))) (addf (Host.negf z) (broadcastInDim S2x4112x16 ![] bcast_S_S2x4112x16 (constant S_ .f32 0x00000000#32))) (addf (maximumf (Host.negf z) (broadcastInDim S2x4112x16 ![] bcast_S_S2x4112x16 (constant S_ .f32 0x00000000#32))) (Host.log1p (Host.exp (Host.negf (Host.absf (subf (Host.negf z) (broadcastInDim S2x4112x16 ![] bcast_S_S2x4112x16 (constant S_ .f32 0x00000000#32)))))))))
def sigS (z : FVec Ideal S8x8x16 .f32) : FVec Ideal S8x8x16 .f32 :=
  Host.negf (select (cmpf .une (subf (Host.negf z) (broadcastInDim S8x8x16 ![] bcast_S_S8x8x16 (constant S_ .f32 0x00000000#32))) (subf (Host.negf z) (broadcastInDim S8x8x16 ![] bcast_S_S8x8x16 (constant S_ .f32 0x00000000#32)))) (addf (Host.negf z) (broadcastInDim S8x8x16 ![] bcast_S_S8x8x16 (constant S_ .f32 0x00000000#32))) (addf (maximumf (Host.negf z) (broadcastInDim S8x8x16 ![] bcast_S_S8x8x16 (constant S_ .f32 0x00000000#32))) (Host.log1p (Host.exp (Host.negf (Host.absf (subf (Host.negf z) (broadcastInDim S8x8x16 ![] bcast_S_S8x8x16 (constant S_ .f32 0x00000000#32)))))))))

theorem rowsP_apply (x : FVec Ideal S2x4112x2048 .f32) (g : FVec Ideal S2048 .f32) (a : Fin 2) (r : Fin 4112) (l : Fin 2048) :
    rowsP x g (ix3 a r l) = norm (fun k => x (ix3 a r k)) (fun k => g (ix1 k)) l := by
  pointwise [rowsP, norm]
theorem rowsS_apply (s : FVec Ideal S64x2048 .f32) (g : FVec Ideal S2048 .f32) (a a' : Fin 8) (r : Fin 64) (hr : r.val = 8 * a.val + a'.val) (l : Fin 2048) :
    rowsS s g (ix3 a a' l) = norm (fun k => s (ix2 r k)) (fun k => g (ix1 k)) l := by
  obtain rfl : r = ⟨a.val * 8 + a'.val, by clear hr; omega⟩ := Fin.ext (by show r.val = a.val * 8 + a'.val; omega)
  pointwise [rowsS, norm]
theorem proj_apply (x : FVec Ideal S2x4112x2048 .f32) (g : FVec Ideal S2048 .f32) (w : FVec Ideal S2048x2048 .f32) (a : Fin 2) (r : Fin 4112) (l : Fin 2048) :
    proj x g w (ix3 a r l) = ∑ k, norm (fun k => x (ix3 a r k)) (fun k => g (ix1 k)) k * w (ix2 k l) := by
  have h := fun k => rowsP_apply x g a r k
  pointwise [proj]
  simp only [h]
theorem preP_apply (x : FVec Ideal S2x4112x2048 .f32) (g : FVec Ideal S2048 .f32) (wf : FVec Ideal S2048x16 .f32) (b : FVec Ideal S16 .f32) (a : Fin 2) (r : Fin 4112) (l : Fin 16) :
    preP x g wf b (ix3 a r l) = ∑ k, norm (fun k => x (ix3 a r k)) (fun k => g (ix1 k)) k * wf (ix2 k l) + b (ix1 l) := by
  have h := fun k => rowsP_apply x g a r k
  pointwise [preP]
  simp only [h]
theorem preS_apply (s : FVec Ideal S64x2048 .f32) (g : FVec Ideal S2048 .f32) (wf : FVec Ideal S2048x16 .f32) (b : FVec Ideal S16 .f32) (a a' : Fin 8) (r : Fin 64) (hr : r.val = 8 * a.val + a'.val) (l : Fin 16) :
    preS s g wf b (ix3 a a' l) = ∑ k, norm (fun k => s (ix2 r k)) (fun k => g (ix1 k)) k * wf (ix2 k l) + b (ix1 l) := by
  have h := fun k => rowsS_apply s g a a' r hr k
  pointwise [preS]
  simp only [h]
theorem sigP_apply (z : FVec Ideal S2x4112x16 .f32) (a : Fin 2) (r : Fin 4112) (l : Fin 16) : sigP z (ix3 a r l) = logSig (z (ix3 a r l)) := by
  rw [← logSig_neg]
  pointwise [sigP]
  rw [if_neg (not_not.2 rfl)]
  rfl
theorem sigS_apply (z : FVec Ideal S8x8x16 .f32) (a a' : Fin 8) (l : Fin 16) : sigS z (ix3 a a' l) = logSig (z (ix3 a a' l)) := by
  rw [← logSig_neg]
  pointwise [sigS]
  rw [if_neg (not_not.2 rfl)]
  rfl

end Cert.KvRefIdeal.RefValue

namespace Cert.KvRun

open Idealize.ShloMosaic Idealize.ShloMosaic.TcCoe
open Idealize.SL Idealize.SL.Sem
open Cert.KvIdeal Cert.KvIdeal.Gen
open Cert.KvRefIdeal (RefValue.proj RefValue.want RefValue.preP RefValue.preS RefValue.sigP RefValue.sigS)
open Cert.KvRefIdeal.RefValue (norm logSig proj_apply preP_apply preS_apply sigP_apply sigS_apply)

variable (m : (ℓ : Loc nD τ sig) → Buf (Elt Ideal) ℓ) (ρ : Dev nD → PrngReg) (c : Dev nD)

abbrev arg0 : FVec Ideal S2x4112x2048 .f32 := m ((c.tc : Thread nD τ).loc main_arg0)
abbrev arg1 : FVec Ideal S64x2048 .f32 := m ((c.tc : Thread nD τ).loc main_arg1)
abbrev arg2 : FVec Ideal S2048 .f32 := m ((c.tc : Thread nD τ).loc main_arg2)
abbrev arg3 : FVec Ideal S2048x2048 .f32 := m ((c.tc : Thread nD τ).loc main_arg3)
abbrev arg4 : FVec Ideal S2048x2048 .f32 := m ((c.tc : Thread nD τ).loc main_arg4)
abbrev arg5 : FVec Ideal S2048x16 .f32 := m ((c.tc : Thread nD τ).loc main_arg5)
abbrev arg6 : FVec Ideal S16 .f32 := m ((c.tc : Thread nD τ).loc main_arg6)
/-- The packed rows. -/
abbrev packed : FVec Ideal S8448x2048 .f32 := V m c main_v6

/-! ## What the body computes -/

theorem norm_apply (x : Vec Ideal S1408x2048 .f32) (g : Vec Ideal S1x2048 .f32) (r : Fin 1408) (l : Fin 2048) :
    k0_pay2 (F := Ideal) x g (ix2 r l) = norm (fun k => x (ix2 r k)) (fun k => g (ix2 0 k)) l := by
  pointwise [k0_pay2, k0_pay1, Cert.KvRefIdeal.RefValue.norm]
theorem keys_apply (y : Vec Ideal S1408x2048 .bf16) (w : Vec Ideal S2048x256 .f32) (r : Fin 1408) (l : Fin 256) :
    k0_pay6 (F := Ideal) y w (ix3 0 r l) = ∑ k, y (ix2 r k) * w (ix2 k l) := by
  pointwise [k0_pay6, k0_pay4]
theorem values_apply (y : Vec Ideal S1408x2048 .bf16) (w : Vec Ideal S2048x256 .f32) (r : Fin 1408) (l : Fin 256) :
    k0_pay7 (F := Ideal) y w (ix3 0 r l) = ∑ k, y (ix2 r k) * w (ix2 k l) := by
  pointwise [k0_pay7, k0_pay5]
theorem gates_apply (x : Vec Ideal S1408x2048 .f32) (g : Vec Ideal S1x2048 .f32) (w : Vec Ideal S16x2048 .f32) (b : Vec Ideal S16x1 .f32) (l : Fin 16) (r : Fin 1408) :
    k0_pay3 (F := Ideal) x g w b (ix2 l r) = logSig (∑ k, norm (fun k => x (ix2 r k)) (fun k => g (ix2 0 k)) k * w (ix2 l k) + b (ix2 l 0)) := by
  have h : ∀ k, k0_pay1 (F := Ideal) x g (ix2 r k) = norm (fun k => x (ix2 r k)) (fun k => g (ix2 0 k)) k := fun k => by
    pointwise [k0_pay1, Cert.KvRefIdeal.RefValue.norm]
  pointwise [k0_pay3]
  simp only [h, mul_comm]
  rfl

theorem idx0 : ∀ t : Fin grid0.N, win0_0.index t = ![t.val / 8, 0] := by decide +kernel
theorem idx1 : ∀ t : Fin grid0.N, win0_1.index t = ![0, 0] := by decide +kernel
theorem idx2 : ∀ t : Fin grid0.N, win0_2.index t = ![0, t.val % 8] := by decide +kernel
theorem idx3 : ∀ t : Fin grid0.N, win0_3.index t = ![0, t.val % 8] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val / 24, t.val / 8 % 3, t.val % 8] := by decide +kernel
theorem idx7 : ∀ t : Fin grid0.N, win0_7.index t = ![t.val / 24, t.val / 8 % 3, t.val % 8] := by decide +kernel
theorem idx10 : ∀ t : Fin grid0.N, win0_10.index t = ![0, t.val / 8] := by decide +kernel

/-! ## What a point reads -/

theorem packed_eq : packed m c = concatenate S8448x2048 0
      [⟨S4112x2048, (shapeCast S4112x2048 (extractStridedSlice S1x4112x2048 ![0, 0, 0] (arg0 m c) slices_S2x4112x2048_S1x4112x2048_0_0_0) shapeCasts_S1x4112x2048_S4112x2048 : FVec Ideal S4112x2048 .f32)⟩,
       ⟨S112x2048, (broadcastInDim S112x2048 ![] bcast_S_S112x2048 (constant S_ .f32 0x00000000#32) : FVec Ideal S112x2048 .f32)⟩,
       ⟨S4112x2048, (shapeCast S4112x2048 (extractStridedSlice S1x4112x2048 ![1, 0, 0] (arg0 m c) slices_S2x4112x2048_S1x4112x2048_1_0_0) shapeCasts_S1x4112x2048_S4112x2048 : FVec Ideal S4112x2048 .f32)⟩,
       ⟨S64x2048, arg1 m c⟩,
       ⟨S48x2048, (broadcastInDim S48x2048 ![] bcast_S_S48x2048 (constant S_ .f32 0x00000000#32) : FVec Ideal S48x2048 .f32)⟩]
      concatenates_S4112x2048_S112x2048_S4112x2048_S64x2048_S48x2048_S8448x2048_d0 := by
  unfold packed V V0
  simp only [List.flatten_cons, List.flatten_nil, List.append_nil]
  after_results
  refine Cert.RmsOut.cat5 (t := S8448x2048) (s0 := S4112x2048) (s1 := S112x2048) (s2 := S4112x2048) (s3 := S64x2048) (s4 := S48x2048) (a := 0)
    (h := concatenates_S4112x2048_S112x2048_S4112x2048_S64x2048_S48x2048_S8448x2048_d0) ?_ ?_ ?_ ?_ ?_
  · beta_reduce; dsimp only [Matrix.cons_val]; after_results_steps; try rfl
  · beta_reduce; dsimp only [Matrix.cons_val]; after_results_steps; try rfl
  · beta_reduce; dsimp only [Matrix.cons_val]; after_results_steps; try rfl
  · beta_reduce; dsimp only [Matrix.cons_val]; after_results_steps; try rfl
  · beta_reduce; dsimp only [Matrix.cons_val]; after_results_steps; try rfl
/-- A prompt's row among the packed rows. -/
theorem packed_prompt (a : Fin 2) (k : Fin 4112) (l : Fin 2048) (r : Fin 8448) (hr : r.val = 4224 * a.val + k.val) :
    packed m c (ix2 r l) = arg0 m c (ix3 a k l) := by
  rw [packed_eq]
  pointwise
  have hk := k.isLt
  rcases (by omega : a.val = 0 ∨ a.val = 1) with h | h
  · rw [dif_pos (by omega)]
    exact congrArg _ (congrArg₂ (fun b k => ix3 b k l) (Fin.ext h.symm) (Fin.ext (by show r.val = _; omega)))
  · rw [dif_neg (by omega), dif_neg (by omega), dif_pos (by omega)]
    exact congrArg _ (congrArg₂ (fun b k => ix3 b k l) (Fin.ext h.symm) (Fin.ext (by show r.val - 4112 - 112 = _; omega)))
/-- A sample row among the packed rows. -/
theorem packed_sample (s : Fin 64) (l : Fin 2048) (r : Fin 8448) (hr : r.val = 8336 + s.val) : packed m c (ix2 r l) = arg1 m c (ix2 s l) := by
  rw [packed_eq]
  pointwise
  have hs := s.isLt
  rw [dif_neg (by omega), dif_neg (by omega), dif_neg (by omega), dif_pos (by omega)]
  exact congrArg _ (congrArg (fun s => ix2 s l) (Fin.ext (by show r.val - 4112 - 112 - 4112 = _; omega)))

/-- The rows that a point reads. -/
theorem block0 (t : Fin cfg0.N) (r : Fin 1408) (l : Fin 2048) (p : Fin 8448) (hp : p.val = 1408 * (t.val / 8) + r.val) :
    (iblk m c 0 t : S1408x2048.Idx → _) (ix2 r l) = packed m c (ix2 p l) := by
  have e := idx0 t
  refine congrArg (V m c main_v6 : S8448x2048.Idx → _) (funext fun a => Fin.ext ?_)
  refine (win0_0.rect_emb_val_off t _ a).trans ?_
  rw [e]
  fin_cases a
  · show t.val / 8 * 1408 + r.val = p.val
    omega
  · show 0 * 2048 + l.val = l.val
    omega
theorem block1 (t : Fin cfg0.N) (l : Fin 2048) : (iblk m c 1 t : S1x2048.Idx → _) (ix2 0 l) = arg2 m c (ix1 l) := by
  have ei := idx1 t
  have e : (V m c main_v7 : S1x2048.Idx → _) (ix2 0 l) = arg2 m c (ix1 l) := by
    unfold V V0
    simp only [List.flatten_cons, List.flatten_nil, List.append_nil]
    after_results
    pointwise
  rw [← e]
  blk_ext [iblk, ei]
/-- The columns of the key and of the value weights. -/
theorem block2 (t : Fin cfg0.N) (k : Fin 2048) (l : Fin 256) (q : Fin 2048) (hq : q.val = 256 * (t.val % 8) + l.val) :
    (iblk m c 2 t : S2048x256.Idx → _) (ix2 k l) = arg3 m c (ix2 k q) := by
  have e := idx2 t
  refine Eq.trans ?_ (congrFun (V_main_arg3 m c) (ix2 k q))
  refine congrArg (V m c main_arg3 : S2048x2048.Idx → _) (funext fun a => Fin.ext ?_)
  refine (win0_2.rect_emb_val_off t _ a).trans ?_
  rw [e]
  fin_cases a
  · show 0 * 2048 + k.val = k.val
    omega
  · show (t.val % 8) * 256 + l.val = q.val
    omega
theorem block3 (t : Fin cfg0.N) (k : Fin 2048) (l : Fin 256) (q : Fin 2048) (hq : q.val = 256 * (t.val % 8) + l.val) :
    (iblk m c 3 t : S2048x256.Idx → _) (ix2 k l) = arg4 m c (ix2 k q) := by
  have e := idx3 t
  refine Eq.trans ?_ (congrFun (V_main_arg4 m c) (ix2 k q))
  refine congrArg (V m c main_arg4 : S2048x2048.Idx → _) (funext fun a => Fin.ext ?_)
  refine (win0_3.rect_emb_val_off t _ a).trans ?_
  rw [e]
  fin_cases a
  · show 0 * 2048 + k.val = k.val
    omega
  · show (t.val % 8) * 256 + l.val = q.val
    omega
/-- The gate weights, turned round, and the gate biases. -/
theorem block4 (t : Fin cfg0.N) (l : Fin 16) (k : Fin 2048) : (iblk m c 4 t : S16x2048.Idx → _) (ix2 l k) = arg5 m c (ix2 k l) := by
  have ei := idx4 t
  have e : (V m c main_v8 : S16x2048.Idx → _) (ix2 l k) = arg5 m c (ix2 k l) := by
    unfold V V0
    simp only [List.flatten_cons, List.flatten_nil, List.append_nil]
    after_results
    pointwise
  rw [← e]
  blk_ext [iblk, ei]
theorem block5 (t : Fin cfg0.N) (l : Fin 16) : (iblk m c 5 t : S16x1.Idx → _) (ix2 l 0) = arg6 m c (ix1 l) := by
  have ei := idx5 t
  have e : (V m c main_v9 : S16x1.Idx → _) (ix2 l 0) = arg6 m c (ix1 l) := by
    unfold V V0
    simp only [List.flatten_cons, List.flatten_nil, List.append_nil]
    after_results
    pointwise
  rw [← e]
  blk_ext [iblk, ei]

/-- The kept rows at any point. -/
theorem xn_apply (t : Fin cfg0.N) (r : Fin 1408) (k : Fin 2048) (p : Fin 8448) (hp : p.val = 1408 * (t.val / 8) + r.val) :
    xn m c t (ix2 r k) = norm (fun k => packed m c (ix2 p k)) (fun k => arg2 m c (ix1 k)) k := by
  unfold xn
  refine (norm_apply _ _ _ _).trans ?_
  have h0 := fun k => block0 m c t r k p hp
  have h1 := fun k => block1 m c t k
  simp only [h0, h1]

/-! ## What the call leaves -/

theorem keys_point (t : Fin cfg0.N) (r : Fin 1408) (l : Fin 256) (a : Fin 2) (p : Fin 4112) (q : Fin 2048) (ha : a.val = t.val / 24)
    (hp : p.val = 1408 * (t.val / 8 % 3) + r.val) (hq : q.val = 256 * (t.val % 8) + l.val) :
    k0_pay6 (xn m c t) (iblk m c 2 t) (ix3 0 r l) = RefValue.proj (arg0 m c) (arg2 m c) (arg3 m c) (ix3 a p q) := by
  have ht : t.val < 48 := t.isLt.trans_eq N_0
  have hx := fun k => xn_apply m c t r k ⟨4224 * a.val + p.val, by omega⟩ (by show 4224 * a.val + p.val = _; omega)
  have h0 := fun k => packed_prompt m c a p k ⟨4224 * a.val + p.val, by omega⟩ rfl
  have h2 := fun k => block2 m c t k l q hq
  rw [proj_apply]
  refine (keys_apply _ _ _ _).trans ?_
  simp only [hx, h0, h2]
theorem values_point (t : Fin cfg0.N) (r : Fin 1408) (l : Fin 256) (a : Fin 2) (p : Fin 4112) (q : Fin 2048) (ha : a.val = t.val / 24)
    (hp : p.val = 1408 * (t.val / 8 % 3) + r.val) (hq : q.val = 256 * (t.val % 8) + l.val) :
    k0_pay7 (xn m c t) (iblk m c 3 t) (ix3 0 r l) = RefValue.proj (arg0 m c) (arg2 m c) (arg4 m c) (ix3 a p q) := by
  have ht : t.val < 48 := t.isLt.trans_eq N_0
  have hx := fun k => xn_apply m c t r k ⟨4224 * a.val + p.val, by omega⟩ (by show 4224 * a.val + p.val = _; omega)
  have h0 := fun k => packed_prompt m c a p k ⟨4224 * a.val + p.val, by omega⟩ rfl
  have h3 := fun k => block3 m c t k l q hq
  rw [proj_apply]
  refine (values_apply _ _ _ _).trans ?_
  simp only [hx, h0, h3]

/-- The log gates the call leaves, one column a packed row. -/
def logs : Vec Ideal S16x8448 .f32 := fun i =>
  logSig (∑ k, norm (fun k => packed m c (ix2 (i 1) k)) (fun k => arg2 m c (ix1 k)) k * arg5 m c (ix2 k (i 0)) + arg6 m c (ix1 (i 0)))
theorem logs_apply (l : Fin 16) (p : Fin 8448) : logs m c (ix2 l p)
    = logSig (∑ k, norm (fun k => packed m c (ix2 p k)) (fun k => arg2 m c (ix1 k)) k * arg5 m c (ix2 k l) + arg6 m c (ix1 l)) := rfl
theorem gates_point (t : Fin cfg0.N) (l : Fin 16) (r : Fin 1408) (p : Fin 8448) (hp : p.val = 1408 * (t.val / 8) + r.val) :
    gates m c t (ix2 l r) = logs m c (ix2 l p) := by
  have h0 := fun k => block0 m c t r k p hp
  have h1 := fun k => block1 m c t k
  have h4 := fun k => block4 m c t l k
  have h5 := block5 m c t l
  unfold gates
  refine (gates_apply _ _ _ _ _ _).trans ?_
  simp only [h0, h1, h4, h5]
  rfl

theorem final10 : (dats m 0 c).arrAt 10 cfg0.N = logs m c := by
  refine (dats m 0 c).arrAt_eq_of_covers 10 _ (by decide +kernel) fun t hf y => ?_
  have e := idx10 t
  have ht : t.val < 48 := t.isLt.trans_eq N_0
  have y1 : ((y : S16x1408.Idx) 1).val < 1408 := ((y : S16x1408.Idx) 1).isLt
  blk_simp; rw [after_10]
  have hy : (y : S16x1408.Idx) = ix2 ((y : S16x1408.Idx) 0) ((y : S16x1408.Idx) 1) := by funext a; fin_cases a <;> rfl
  refine (congrArg (gates m c t) hy).trans ?_
  refine (gates_point m c t _ _ ⟨1408 * (t.val / 8) + ((y : S16x1408.Idx) 1).val, by omega⟩ rfl).trans (congrArg _ ?_)
  refine funext fun a => Fin.ext (Eq.symm ((win0_10.rect_emb_val_off t _ a).trans ?_))
  rw [e]
  fin_cases a
  · show 0 * 16 + ((y : S16x1408.Idx) 0).val = ((y : S16x1408.Idx) 0).val
    omega
  · show t.val / 8 * 1408 + ((y : S16x1408.Idx) 1).val = 1408 * (t.val / 8) + ((y : S16x1408.Idx) 1).val
    omega

theorem final6 : (dats m 0 c).arrAt 6 cfg0.N = RefValue.proj (arg0 m c) (arg2 m c) (arg3 m c) := by
  refine (dats m 0 c).arrAt_eq_of_covers 6 _ (by decide +kernel) fun t hf y => ?_
  have e := idx6 t
  blk_simp
  rw [after_6]
  let z : S1x1408x256.Idx := (cfg0.win 6).xinj (cfg0.grid.coords t) y
  let i : S2x4112x2048.Idx := (win0_6.blk t).view.emb y
  have v := fun a => win0_6.rect_emb_val_off t y a
  rw [e] at v
  have v0 : (i 0).val = t.val / 24 * 1 + (z 0).val := v 0
  have v1 : (i 1).val = t.val / 8 % 3 * 1408 + (z 1).val := v 1
  have v2 : (i 2).val = t.val % 8 * 256 + (z 2).val := v 2
  have z0 : (z 0).val < 1 := (z 0).isLt
  have hz : z = ix3 0 (z 1) (z 2) := by
    funext a
    fin_cases a
    · exact Fin.ext (by show (z 0).val = 0; omega)
    · rfl
    · rfl
  have hi : i = ix3 (i 0) (i 1) (i 2) := by funext a; fin_cases a <;> rfl
  refine (congrArg (k0_pay6 (xn m c t) (iblk m c 2 t)) hz).trans ?_
  exact (keys_point m c t (z 1) (z 2) (i 0) (i 1) (i 2) (by omega) (by omega) (by omega)).trans (congrArg _ hi.symm)
theorem final7 : (dats m 0 c).arrAt 7 cfg0.N = RefValue.proj (arg0 m c) (arg2 m c) (arg4 m c) := by
  refine (dats m 0 c).arrAt_eq_of_covers 7 _ (by decide +kernel) fun t hf y => ?_
  have e := idx7 t
  blk_simp
  rw [after_7]
  let z : S1x1408x256.Idx := (cfg0.win 7).xinj (cfg0.grid.coords t) y
  let i : S2x4112x2048.Idx := (win0_7.blk t).view.emb y
  have v := fun a => win0_7.rect_emb_val_off t y a
  rw [e] at v
  have v0 : (i 0).val = t.val / 24 * 1 + (z 0).val := v 0
  have v1 : (i 1).val = t.val / 8 % 3 * 1408 + (z 1).val := v 1
  have v2 : (i 2).val = t.val % 8 * 256 + (z 2).val := v 2
  have z0 : (z 0).val < 1 := (z 0).isLt
  have hz : z = ix3 0 (z 1) (z 2) := by
    funext a
    fin_cases a
    · exact Fin.ext (by show (z 0).val = 0; omega)
    · rfl
    · rfl
  have hi : i = ix3 (i 0) (i 1) (i 2) := by funext a; fin_cases a <;> rfl
  refine (congrArg (k0_pay7 (xn m c t) (iblk m c 3 t)) hz).trans ?_
  exact (values_point m c t (z 1) (z 2) (i 0) (i 1) (i 2) (by omega) (by omega) (by omega)).trans (congrArg _ hi.symm)

/-! ## The results -/

theorem tail_keys (V : Valuation τ sig (Elt Ideal)) : StableHlo.after hostOps1 V (Proc.devRef .tc main_v16)
    = shapeCast _ (V (Proc.devRef .tc main_v10_0)) shapeCasts_S2x4112x2048_S2x4112x16x128 := by
  after_results
  rfl
theorem tail_values (V : Valuation τ sig (Elt Ideal)) : StableHlo.after hostOps1 V (Proc.devRef .tc main_v17)
    = shapeCast _ (V (Proc.devRef .tc main_v10_1)) shapeCasts_S2x4112x2048_S2x4112x16x128 := by
  after_results
  rfl
/-- The log gates of the prompt and of the decoded rows, out of the call's array. -/
def cutP (x : Vec Ideal S16x8448 .f32) : Vec Ideal S2x4112x16 .f32 :=
  extractStridedSlice S2x4112x16 ![0, 0, 0] (shapeCast S2x4224x16 (transpose S8448x16 [1, 0] x transposes_S16x8448_S8448x16_1_0) shapeCasts_S8448x16_S2x4224x16)
    slices_S2x4224x16_S2x4112x16_0_0_0
def cutS (x : Vec Ideal S16x8448 .f32) : Vec Ideal S8x8x16 .f32 :=
  shapeCast S8x8x16 (extractStridedSlice S64x16 ![8336, 0] (transpose S8448x16 [1, 0] x transposes_S16x8448_S8448x16_1_0) slices_S8448x16_S64x16_8336_0)
    shapeCasts_S64x16_S8x8x16
theorem tail_prompt (V : Valuation τ sig (Elt Ideal)) : StableHlo.after hostOps1 V (Proc.devRef .tc main_v13)
    = cutP (V (Proc.devRef .tc main_v10_4)) := by
  after_results
  rfl
theorem tail_sample (V : Valuation τ sig (Elt Ideal)) : StableHlo.after hostOps1 V (Proc.devRef .tc main_v15)
    = cutS (V (Proc.devRef .tc main_v10_4)) := by
  after_results
  rfl
theorem cutP_apply (x : Vec Ideal S16x8448 .f32) (a : Fin 2) (r : Fin 4112) (l : Fin 16) (p : Fin 8448) (hp : p.val = 4224 * a.val + r.val) :
    cutP x (ix3 a r l) = x (ix2 l p) := by
  pointwise [cutP]
  exact congrArg x (congrArg (fun p => ix2 l p) (Fin.ext (by show _ = p.val; simp only []; omega)))
theorem cutS_apply (x : Vec Ideal S16x8448 .f32) (a b : Fin 8) (l : Fin 16) (p : Fin 8448) (hp : p.val = 8336 + (8 * a.val + b.val)) :
    cutS x (ix3 a b l) = x (ix2 l p) := by
  pointwise [cutS]
  exact congrArg x (congrArg (fun p => ix2 l p) (Fin.ext (by show _ = p.val; simp only []; omega)))

theorem prompts : cutP (logs m c) = Cert.KvRefIdeal.RefValue.sigP (Cert.KvRefIdeal.RefValue.preP (arg0 m c) (arg2 m c) (arg5 m c) (arg6 m c)) := by
  funext i
  obtain ⟨a, r, l, rfl⟩ : ∃ a r l, i = ix3 a r l := ⟨i 0, i 1, i 2, by funext a; fin_cases a <;> rfl⟩
  have h := fun k => packed_prompt m c a r k ⟨4224 * a.val + r.val, by omega⟩ rfl
  rw [cutP_apply _ a r l ⟨4224 * a.val + r.val, by omega⟩ rfl, logs_apply, sigP_apply, preP_apply]
  simp only [h]
theorem samples : cutS (logs m c) = Cert.KvRefIdeal.RefValue.sigS (Cert.KvRefIdeal.RefValue.preS (arg1 m c) (arg2 m c) (arg5 m c) (arg6 m c)) := by
  funext i
  obtain ⟨a, b, l, rfl⟩ : ∃ a b l, i = ix3 a b l := ⟨i 0, i 1, i 2, by funext a; fin_cases a <;> rfl⟩
  have h := fun k => packed_sample m c ⟨8 * a.val + b.val, by omega⟩ k ⟨8336 + (8 * a.val + b.val), by omega⟩ rfl
  rw [cutS_apply _ a b l ⟨8336 + (8 * a.val + b.val), by omega⟩ rfl, logs_apply, sigS_apply, preS_apply _ _ _ _ _ _ ⟨8 * a.val + b.val, by omega⟩ rfl]
  simp only [h]

theorem left_keys : Pipeline.withArrays spec0 c (V0 m c) (fun w => (dats m 0 c).arrAt w cfg0.N) (Proc.devRef .tc main_v10_0)
    = RefValue.proj (arg0 m c) (arg2 m c) (arg3 m c) :=
  (Pipeline.withArrays_arr spec0 launch0.win.arr_inj c _ _ 6).trans (final6 m c)
theorem left_values : Pipeline.withArrays spec0 c (V0 m c) (fun w => (dats m 0 c).arrAt w cfg0.N) (Proc.devRef .tc main_v10_1)
    = RefValue.proj (arg0 m c) (arg2 m c) (arg4 m c) :=
  (Pipeline.withArrays_arr spec0 launch0.win.arr_inj c _ _ 7).trans (final7 m c)
theorem left_logs : Pipeline.withArrays spec0 c (V0 m c) (fun w => (dats m 0 c).arrAt w cfg0.N) (Proc.devRef .tc main_v10_4) = logs m c :=
  (Pipeline.withArrays_arr spec0 launch0.win.arr_inj c _ _ 10).trans (final10 m c)

theorem result_keys : Pipeline.afterTail₀ cfgs (dats m) 0 (V0 m) [hostOps1] c main_v16 = RefValue.want (arg0 m c) (arg2 m c) (arg3 m c) :=
  (tail_keys _).trans (congrArg (fun x : FVec Ideal S2x4112x2048 .f32 => shapeCast S2x4112x16x128 x shapeCasts_S2x4112x2048_S2x4112x16x128) (left_keys m c))
theorem result_values : Pipeline.afterTail₀ cfgs (dats m) 0 (V0 m) [hostOps1] c main_v17 = RefValue.want (arg0 m c) (arg2 m c) (arg4 m c) :=
  (tail_values _).trans (congrArg (fun x : FVec Ideal S2x4112x2048 .f32 => shapeCast S2x4112x16x128 x shapeCasts_S2x4112x2048_S2x4112x16x128) (left_values m c))
theorem result_prompt : Pipeline.afterTail₀ cfgs (dats m) 0 (V0 m) [hostOps1] c main_v13
    = Cert.KvRefIdeal.RefValue.sigP (Cert.KvRefIdeal.RefValue.preP (arg0 m c) (arg2 m c) (arg5 m c) (arg6 m c)) :=
  (tail_prompt _).trans ((congrArg cutP (left_logs m c)).trans (prompts m c))
theorem result_sample : Pipeline.afterTail₀ cfgs (dats m) 0 (V0 m) [hostOps1] c main_v15
    = Cert.KvRefIdeal.RefValue.sigS (Cert.KvRefIdeal.RefValue.preS (arg1 m c) (arg2 m c) (arg5 m c) (arg6 m c)) :=
  (tail_sample _).trans ((congrArg cutS (left_logs m c)).trans (samples m c))

/-- The kernel and the reference, on arguments that agree, leave the same results, and each its arguments. -/
theorem claim : Cert.algebraic_KvIdeal_KvRefIdeal := by
  intro m ρ m' ρ' _ hagree
  refine ⟨fun c => RefValue.want (arg0 m c) (arg2 m c) (arg3 m c), fun c => RefValue.want (arg0 m c) (arg2 m c) (arg4 m c),
    fun c => Cert.KvRefIdeal.RefValue.sigP (Cert.KvRefIdeal.RefValue.preP (arg0 m c) (arg2 m c) (arg5 m c) (arg6 m c)),
    fun c => Cert.KvRefIdeal.RefValue.sigS (Cert.KvRefIdeal.RefValue.preS (arg1 m c) (arg2 m c) (arg5 m c) (arg6 m c)), ?_, ?_⟩
  · exact (θ_run defs _ _).mono (fun r h c => ⟨((h.2 c).2 main_v16 (Pipeline.mem_restRefs_of main_v16 (by decide) (by decide))).trans (result_keys m c),
        ((h.2 c).2 main_v17 (Pipeline.mem_restRefs_of main_v17 (by decide) (by decide))).trans (result_values m c),
        ((h.2 c).2 main_v13 (Pipeline.mem_restRefs_of main_v13 (by decide) (by decide))).trans (result_prompt m c),
        ((h.2 c).2 main_v15 (Pipeline.mem_restRefs_of main_v15 (by decide) (by decide))).trans (result_sample m c), h.1 c⟩)
      (θ_run_and (unchanged (F := Ideal) m ρ) (run_main (F := Ideal) m ρ))
  · refine (θ_run Cert.KvRefIdeal.defs _ _).mono (fun r h c => ⟨(h c).1.trans ?_, (h c).2.1.trans ?_, (h c).2.2.1.trans ?_, (h c).2.2.2.1.trans ?_, (h c).2.2.2.2⟩)
      (Cert.KvRefIdeal.Value.run (F := Ideal) m' ρ')
    · rw [(hagree c).1, (hagree c).2.2.1, (hagree c).2.2.2.1]
      rfl
    · rw [(hagree c).1, (hagree c).2.2.1, (hagree c).2.2.2.2.1]
      rfl
    · unfold Cert.KvRefIdeal.Value.res_main_v17
      rw [(hagree c).1, (hagree c).2.2.1, (hagree c).2.2.2.2.2.1, (hagree c).2.2.2.2.2.2]
      rfl
    · unfold Cert.KvRefIdeal.Value.res_main_v36
      rw [(hagree c).2.1, (hagree c).2.2.1, (hagree c).2.2.2.2.2.1, (hagree c).2.2.2.2.2.2]
      rfl

/-- The reference's run leaves its arguments and its counters as they were. -/
theorem frame_reference : Cert.quiescent_KvRefIdeal := fun m ρ _ =>
  (θ_run Cert.KvRefIdeal.defs _ _).mono (fun r h => ⟨fun c => (h c).2.2.2.2, Idealize.ShloMosaic.sem_eq_zero_of_no_sems (by decide) r.2⟩)
    (Cert.KvRefIdeal.Value.run (F := Ideal) m ρ)

end Cert.KvRun

end
-- ==== Proof.GluValue.lean ====
module

public import proofs.«01_k».proof.Defs
public import proofs.«01_k».proof.Proof.RmsOut
public import proofs.«01_k».proof.Proof.Gen.GluIdeal.Frame
public import proofs.«01_k».proof.Proof.Gen.GluRefIdeal.Run
public import Idealize.ShloMosaic.Lib.Pipeline.ValueKit
public import Idealize.ShloMosaic.Lib.Pipeline.ReadBack
public import Idealize.ShloMosaic.Lib.Quiescent

/-!
# The gated projection of normalised rows

The call takes 1056 packed rows at a time. At the first of four points it normalises them and keeps them; at each of the
four it multiplies the kept rows with 512 columns of the weights and with the 512 columns half the width on, adds the
biases, and multiplies the first product with the logistic of the second. The lines after it take the prompts' rows, the
last thirty of each prompt, and the sample rows.

-/

@[expose] public section

noncomputable section

set_option maxRecDepth 16384

namespace Cert.GluRefIdeal.RefValue

open Idealize.ShloMosaic Idealize.ShloMosaic.TcCoe
open Idealize.SL Idealize.SL.Sem
open Idealize.ShloMosaic.StableHlo
open Cert.GluRefIdeal Cert.GluRefIdeal.Gen

/-- One value of a row `x` normalised by its mean square and scaled by `g`. -/
def norm (x g : Fin 2048 → EReal) (k : Fin 2048) : EReal :=
  x k * Ideal.rsqrt (Ideal.div (∑ j, x j * x j) (Ideal.ofBits FTy.f32 1157627904#32) + Ideal.ofBits FTy.f32 897988541#32) * g k
/-- A normalised row `y` times a column, gated by the logistic of its product with another column. -/
def gated (y wa wg : Fin 2048 → EReal) (ba bg : EReal) : EReal :=
  (∑ k, y k * wa k + ba) * Ideal.logistic (∑ k, y k * wg k + bg)

/-- The result the reference computes for the prompts. -/
def prompt (x : FVec Ideal S2x4112x2048 .f32) (g : FVec Ideal S2048 .f32) (w : FVec Ideal S2048x4096 .f32) (b : FVec Ideal S4096 .f32) : FVec Ideal S2x4112x2048 .f32 :=
  mulf (extractStridedSlice S2x4112x2048 ![0, 0, 0] (addf (Host.dotGeneral (φ₁ := .f32) (φ₂ := .f32) dot_S2x4112x2048_S2048x4096_S2x4112x4096_2_0_01_1_n_n none (mulf (mulf x (broadcastInDim S2x4112x2048 ![0, 1, 2] bcast_S2x4112x1_S2x4112x2048_0_1_2 (Host.rsqrt (addf (Host.divf (broadcastInDim S2x4112x1 ![0, 1] bcast_S2x4112_S2x4112x1_0_1 (Host.reduceAdd (mulf x x) (constant S_ .f32 0x00000000#32) reducesTo_S2x4112x2048_S2x4112_d2 h_S_)) (broadcastInDim S2x4112x1 ![] bcast_S_S2x4112x1 (constant S_ .f32 0x45000000#32))) (broadcastInDim S2x4112x1 ![] bcast_S_S2x4112x1 (constant S_ .f32 0x358637BD#32)))))) (broadcastInDim S2x4112x2048 ![0, 1, 2] bcast_S1x1x2048_S2x4112x2048_0_1_2 (broadcastInDim S1x1x2048 ![2] bcast_S2048_S1x1x2048_2 g))) w) (broadcastInDim S2x4112x4096 ![0, 1, 2] bcast_S1x1x4096_S2x4112x4096_0_1_2 (broadcastInDim S1x1x4096 ![2] bcast_S4096_S1x1x4096_2 b))) slices_S2x4112x4096_S2x4112x2048_0_0_0) (Host.divf (broadcastInDim S2x4112x2048 ![] bcast_S_S2x4112x2048 (constant S_ .f32 0x3F800000#32)) (addf (broadcastInDim S2x4112x2048 ![] bcast_S_S2x4112x2048 (constant S_ .f32 0x3F800000#32)) (Host.exp (Host.negf (extractStridedSlice S2x4112x2048 ![0, 0, 2048] (addf (Host.dotGeneral (φ₁ := .f32) (φ₂ := .f32) dot_S2x4112x2048_S2048x4096_S2x4112x4096_2_0_01_1_n_n none (mulf (mulf x (broadcastInDim S2x4112x2048 ![0, 1, 2] bcast_S2x4112x1_S2x4112x2048_0_1_2 (Host.rsqrt (addf (Host.divf (broadcastInDim S2x4112x1 ![0, 1] bcast_S2x4112_S2x4112x1_0_1 (Host.reduceAdd (mulf x x) (constant S_ .f32 0x00000000#32) reducesTo_S2x4112x2048_S2x4112_d2 h_S_)) (broadcastInDim S2x4112x1 ![] bcast_S_S2x4112x1 (constant S_ .f32 0x45000000#32))) (broadcastInDim S2x4112x1 ![] bcast_S_S2x4112x1 (constant S_ .f32 0x358637BD#32)))))) (broadcastInDim S2x4112x2048 ![0, 1, 2] bcast_S1x1x2048_S2x4112x2048_0_1_2 (broadcastInDim S1x1x2048 ![2] bcast_S2048_S1x1x2048_2 g))) w) (broadcastInDim S2x4112x4096 ![0, 1, 2] bcast_S1x1x4096_S2x4112x4096_0_1_2 (broadcastInDim S1x1x4096 ![2] bcast_S4096_S1x1x4096_2 b))) slices_S2x4112x4096_S2x4112x2048_0_0_2048)))))
/-- The last thirty rows of each prompt. -/
def last (x : FVec Ideal S2x4112x2048 .f32) (g : FVec Ideal S2048 .f32) (w : FVec Ideal S2048x4096 .f32) (b : FVec Ideal S4096 .f32) : FVec Ideal S1x2x30x2048 .f32 :=
  broadcastInDim S1x2x30x2048 ![1, 2, 3] bcast_S2x30x2048_S1x2x30x2048_1_2_3 (extractStridedSlice S2x30x2048 ![0, 4082, 0] (prompt x g w b) slices_S2x4112x2048_S2x30x2048_0_4082_0)
/-- The result the reference computes for the sample rows. -/
def sample (x : FVec Ideal S64x2048 .f32) (g : FVec Ideal S2048 .f32) (w : FVec Ideal S2048x4096 .f32) (b : FVec Ideal S4096 .f32) : FVec Ideal S8x8x2048 .f32 :=
  mulf (extractStridedSlice S8x8x2048 ![0, 0, 0] (addf (Host.dotGeneral (φ₁ := .f32) (φ₂ := .f32) dot_S8x8x2048_S2048x4096_S8x8x4096_2_0_01_1_n_n none (mulf (mulf (shapeCast _ x shapeCasts_S64x2048_S8x8x2048) (broadcastInDim S8x8x2048 ![0, 1, 2] bcast_S8x8x1_S8x8x2048_0_1_2 (Host.rsqrt (addf (Host.divf (broadcastInDim S8x8x1 ![0, 1] bcast_S8x8_S8x8x1_0_1 (Host.reduceAdd (mulf (shapeCast _ x shapeCasts_S64x2048_S8x8x2048) (shapeCast _ x shapeCasts_S64x2048_S8x8x2048)) (constant S_ .f32 0x00000000#32) reducesTo_S8x8x2048_S8x8_d2 h_S_)) (broadcastInDim S8x8x1 ![] bcast_S_S8x8x1 (constant S_ .f32 0x45000000#32))) (broadcastInDim S8x8x1 ![] bcast_S_S8x8x1 (constant S_ .f32 0x358637BD#32)))))) (broadcastInDim S8x8x2048 ![0, 1, 2] bcast_S1x1x2048_S8x8x2048_0_1_2 (broadcastInDim S1x1x2048 ![2] bcast_S2048_S1x1x2048_2 g))) w) (broadcastInDim S8x8x4096 ![0, 1, 2] bcast_S1x1x4096_S8x8x4096_0_1_2 (broadcastInDim S1x1x4096 ![2] bcast_S4096_S1x1x4096_2 b))) slices_S8x8x4096_S8x8x2048_0_0_0) (Host.divf (broadcastInDim S8x8x2048 ![] bcast_S_S8x8x2048 (constant S_ .f32 0x3F800000#32)) (addf (broadcastInDim S8x8x2048 ![] bcast_S_S8x8x2048 (constant S_ .f32 0x3F800000#32)) (Host.exp (Host.negf (extractStridedSlice S8x8x2048 ![0, 0, 2048] (addf (Host.dotGeneral (φ₁ := .f32) (φ₂ := .f32) dot_S8x8x2048_S2048x4096_S8x8x4096_2_0_01_1_n_n none (mulf (mulf (shapeCast _ x shapeCasts_S64x2048_S8x8x2048) (broadcastInDim S8x8x2048 ![0, 1, 2] bcast_S8x8x1_S8x8x2048_0_1_2 (Host.rsqrt (addf (Host.divf (broadcastInDim S8x8x1 ![0, 1] bcast_S8x8_S8x8x1_0_1 (Host.reduceAdd (mulf (shapeCast _ x shapeCasts_S64x2048_S8x8x2048) (shapeCast _ x shapeCasts_S64x2048_S8x8x2048)) (constant S_ .f32 0x00000000#32) reducesTo_S8x8x2048_S8x8_d2 h_S_)) (broadcastInDim S8x8x1 ![] bcast_S_S8x8x1 (constant S_ .f32 0x45000000#32))) (broadcastInDim S8x8x1 ![] bcast_S_S8x8x1 (constant S_ .f32 0x358637BD#32)))))) (broadcastInDim S8x8x2048 ![0, 1, 2] bcast_S1x1x2048_S8x8x2048_0_1_2 (broadcastInDim S1x1x2048 ![2] bcast_S2048_S1x1x2048_2 g))) w) (broadcastInDim S8x8x4096 ![0, 1, 2] bcast_S1x1x4096_S8x8x4096_0_1_2 (broadcastInDim S1x1x4096 ![2] bcast_S4096_S1x1x4096_2 b))) slices_S8x8x4096_S8x8x2048_0_0_2048)))))

theorem prompt_apply (x : FVec Ideal S2x4112x2048 .f32) (g : FVec Ideal S2048 .f32) (w : FVec Ideal S2048x4096 .f32) (b : FVec Ideal S4096 .f32) (a : Fin 2) (r : Fin 4112) (l : Fin 2048) :
    prompt x g w b (ix3 a r l) = gated (norm (fun k => x (ix3 a r k)) fun k => g (ix1 k)) (fun k => w (ix2 k ⟨l.val, by omega⟩))
      (fun k => w (ix2 k ⟨2048 + l.val, by omega⟩)) (b (ix1 ⟨l.val, by omega⟩)) (b (ix1 ⟨2048 + l.val, by omega⟩)) := by
  pointwise [prompt, gated, norm, Ideal.logistic]
theorem sample_apply (x : FVec Ideal S64x2048 .f32) (g : FVec Ideal S2048 .f32) (w : FVec Ideal S2048x4096 .f32) (b : FVec Ideal S4096 .f32) (a a' : Fin 8) (r : Fin 64) (hr : r.val = 8 * a.val + a'.val) (l : Fin 2048) :
    sample x g w b (ix3 a a' l) = gated (norm (fun k => x (ix2 r k)) fun k => g (ix1 k)) (fun k => w (ix2 k ⟨l.val, by omega⟩))
      (fun k => w (ix2 k ⟨2048 + l.val, by omega⟩)) (b (ix1 ⟨l.val, by omega⟩)) (b (ix1 ⟨2048 + l.val, by omega⟩)) := by
  obtain rfl : r = ⟨a.val * 8 + a'.val, by clear hr; omega⟩ := Fin.ext (by show r.val = a.val * 8 + a'.val; omega)
  pointwise [sample, gated, norm, Ideal.logistic]

end Cert.GluRefIdeal.RefValue

namespace Cert.GluRun

open Idealize.ShloMosaic Idealize.ShloMosaic.TcCoe
open Idealize.SL Idealize.SL.Sem
open Cert.GluIdeal Cert.GluIdeal.Gen
open Cert.GluRefIdeal (RefValue.prompt RefValue.sample)

variable (m : (ℓ : Loc nD τ sig) → Buf (Elt Ideal) ℓ) (ρ : Dev nD → PrngReg) (c : Dev nD)

open Cert.GluRefIdeal.RefValue (norm gated prompt_apply sample_apply)

abbrev arg0 : FVec Ideal S2x4112x2048 .f32 := m ((c.tc : Thread nD τ).loc main_arg0)
abbrev arg1 : FVec Ideal S64x2048 .f32 := m ((c.tc : Thread nD τ).loc main_arg1)
abbrev arg2 : FVec Ideal S2048 .f32 := m ((c.tc : Thread nD τ).loc main_arg2)
abbrev arg3 : FVec Ideal S2048x4096 .f32 := m ((c.tc : Thread nD τ).loc main_arg3)
abbrev arg4 : FVec Ideal S4096 .f32 := m ((c.tc : Thread nD τ).loc main_arg4)
/-- The packed rows. -/
abbrev packed : FVec Ideal S8448x2048 .f32 := V m c main_v6

theorem norm_apply (x : Vec Ideal S1056x2048 .f32) (g : Vec Ideal S1x2048 .f32) (r : Fin 1056) (l : Fin 2048) :
    k0_pay1 (F := Ideal) x g (ix2 r l) = norm (fun k => x (ix2 r k)) (fun k => g (ix2 0 k)) l := by
  pointwise [k0_pay1, Cert.GluRefIdeal.RefValue.norm]
theorem gated_apply (y : Vec Ideal S1056x2048 .bf16) (wa : Vec Ideal S2048x512 .f32) (ba : Vec Ideal S1x512 .f32) (wg : Vec Ideal S2048x512 .f32)
    (bg : Vec Ideal S1x512 .f32) (r : Fin 1056) (l : Fin 512) : k0_pay2 (F := Ideal) y wa ba wg bg (ix2 r l)
      = gated (fun k => y (ix2 r k)) (fun k => wa (ix2 k l)) (fun k => wg (ix2 k l)) (ba (ix2 0 l)) (bg (ix2 0 l)) := by
  pointwise [k0_pay2, Cert.GluRefIdeal.RefValue.gated]

theorem idx0 : ∀ t : Fin grid0.N, win0_0.index t = ![t.val / 4, 0] := by decide +kernel
theorem idx1 : ∀ t : Fin grid0.N, win0_1.index t = ![0, 0] := by decide +kernel
theorem idx2 : ∀ t : Fin grid0.N, win0_2.index t = ![0, t.val % 4] := by decide +kernel
theorem idx3 : ∀ t : Fin grid0.N, win0_3.index t = ![0, t.val % 4 + 4] := by decide +kernel
theorem idx4 : ∀ t : Fin grid0.N, win0_4.index t = ![0, t.val % 4] := by decide +kernel
theorem idx5 : ∀ t : Fin grid0.N, win0_5.index t = ![0, t.val % 4 + 4] := by decide +kernel
theorem idx6 : ∀ t : Fin grid0.N, win0_6.index t = ![t.val / 4, t.val % 4] := by decide +kernel

theorem packed_eq : packed m c = concatenate S8448x2048 0
      [⟨S4112x2048, (shapeCast S4112x2048 (extractStridedSlice S1x4112x2048 ![0, 0, 0] (arg0 m c) slices_S2x4112x2048_S1x4112x2048_0_0_0) shapeCasts_S1x4112x2048_S4112x2048 : FVec Ideal S4112x2048 .f32)⟩,
       ⟨S112x2048, (broadcastInDim S112x2048 ![] bcast_S_S112x2048 (constant S_ .f32 0x00000000#32) : FVec Ideal S112x2048 .f32)⟩,
       ⟨S4112x2048, (shapeCast S4112x2048 (extractStridedSlice S1x4112x2048 ![1, 0, 0] (arg0 m c) slices_S2x4112x2048_S1x4112x2048_1_0_0) shapeCasts_S1x4112x2048_S4112x2048 : FVec Ideal S4112x2048 .f32)⟩,
       ⟨S64x2048, arg1 m c⟩,
       ⟨S48x2048, (broadcastInDim S48x2048 ![] bcast_S_S48x2048 (constant S_ .f32 0x00000000#32) : FVec Ideal S48x2048 .f32)⟩]
      concatenates_S4112x2048_S112x2048_S4112x2048_S64x2048_S48x2048_S8448x2048_d0 := by
  unfold packed V V0
  simp only [List.flatten_cons, List.flatten_nil, List.append_nil]
  after_results
  refine Cert.RmsOut.cat5 (t := S8448x2048) (s0 := S4112x2048) (s1 := S112x2048) (s2 := S4112x2048) (s3 := S64x2048) (s4 := S48x2048) (a := 0)
    (h := concatenates_S4112x2048_S112x2048_S4112x2048_S64x2048_S48x2048_S8448x2048_d0) ?_ ?_ ?_ ?_ ?_
  · beta_reduce; dsimp only [Matrix.cons_val]; after_results_steps; try rfl
  · beta_reduce; dsimp only [Matrix.cons_val]; after_results_steps; try rfl
  · beta_reduce; dsimp only [Matrix.cons_val]; after_results_steps; try rfl
  · beta_reduce; dsimp only [Matrix.cons_val]; after_results_steps; try rfl
  · beta_reduce; dsimp only [Matrix.cons_val]; after_results_steps; try rfl
/-- A prompt's row among the packed rows. -/
theorem packed_prompt (a : Fin 2) (k : Fin 4112) (l : Fin 2048) (r : Fin 8448) (hr : r.val = 4224 * a.val + k.val) :
    packed m c (ix2 r l) = arg0 m c (ix3 a k l) := by
  rw [packed_eq]
  pointwise
  have hk := k.isLt
  rcases (by omega : a.val = 0 ∨ a.val = 1) with h | h
  · rw [dif_pos (by omega)]
    exact congrArg _ (congrArg₂ (fun b k => ix3 b k l) (Fin.ext h.symm) (Fin.ext (by show r.val = _; omega)))
  · rw [dif_neg (by omega), dif_neg (by omega), dif_pos (by omega)]
    exact congrArg _ (congrArg₂ (fun b k => ix3 b k l) (Fin.ext h.symm) (Fin.ext (by show r.val - 4112 - 112 = _; omega)))
/-- A sample row among the packed rows. -/
theorem packed_sample (s : Fin 64) (l : Fin 2048) (r : Fin 8448) (hr : r.val = 8336 + s.val) : packed m c (ix2 r l) = arg1 m c (ix2 s l) := by
  rw [packed_eq]
  pointwise
  have hs := s.isLt
  rw [dif_neg (by omega), dif_neg (by omega), dif_neg (by omega), dif_pos (by omega)]
  exact congrArg _ (congrArg (fun s => ix2 s l) (Fin.ext (by show r.val - 4112 - 112 - 4112 = _; omega)))

/-- The rows that a point reads. -/
theorem block0 (t : Fin cfg0.N) (r : Fin 1056) (l : Fin 2048) (p : Fin 8448) (hp : p.val = 1056 * (t.val / 4) + r.val) :
    (iblk m c 0 t : S1056x2048.Idx → _) (ix2 r l) = packed m c (ix2 p l) := by
  have e := idx0 t
  refine congrArg (V m c main_v6 : S8448x2048.Idx → _) (funext fun a => Fin.ext ?_)
  refine (win0_0.rect_emb_val_off t _ a).trans ?_
  rw [e]
  fin_cases a
  · show t.val / 4 * 1056 + r.val = p.val
    omega
  · show 0 * 2048 + l.val = l.val
    omega
theorem block1 (t : Fin cfg0.N) (l : Fin 2048) : (iblk m c 1 t : S1x2048.Idx → _) (ix2 0 l) = arg2 m c (ix1 l) := by
  have ei := idx1 t
  have e : (V m c main_v7 : S1x2048.Idx → _) (ix2 0 l) = arg2 m c (ix1 l) := by
    unfold V V0
    simp only [List.flatten_cons, List.flatten_nil, List.append_nil]
    after_results
    pointwise
  rw [← e]
  blk_ext [iblk, ei]
/-- The columns of the weights, and the biases, that a point reads. -/
theorem block2 (t : Fin cfg0.N) (k : Fin 2048) (l : Fin 512) (q : Fin 4096) (hq : q.val = 512 * (t.val % 4) + l.val) :
    (iblk m c 2 t : S2048x512.Idx → _) (ix2 k l) = arg3 m c (ix2 k q) := by
  have e := idx2 t
  refine Eq.trans ?_ (congrFun (V_main_arg3 m c) (ix2 k q))
  refine congrArg (V m c main_arg3 : S2048x4096.Idx → _) (funext fun a => Fin.ext ?_)
  refine (win0_2.rect_emb_val_off t _ a).trans ?_
  rw [e]
  fin_cases a
  · show 0 * 2048 + k.val = k.val
    omega
  · show (t.val % 4) * 512 + l.val = q.val
    omega
theorem block3 (t : Fin cfg0.N) (k : Fin 2048) (l : Fin 512) (q : Fin 4096) (hq : q.val = 512 * (t.val % 4) + l.val + 2048) :
    (iblk m c 3 t : S2048x512.Idx → _) (ix2 k l) = arg3 m c (ix2 k q) := by
  have e := idx3 t
  refine Eq.trans ?_ (congrFun (V_main_arg3 m c) (ix2 k q))
  refine congrArg (V m c main_arg3 : S2048x4096.Idx → _) (funext fun a => Fin.ext ?_)
  refine (win0_3.rect_emb_val_off t _ a).trans ?_
  rw [e]
  fin_cases a
  · show 0 * 2048 + k.val = k.val
    omega
  · show (t.val % 4 + 4) * 512 + l.val = q.val
    omega
theorem block4 (t : Fin cfg0.N) (l : Fin 512) (q : Fin 4096) (hq : q.val = 512 * (t.val % 4) + l.val) :
    (iblk m c 4 t : S1x512.Idx → _) (ix2 0 l) = arg4 m c (ix1 q) := by
  have ei := idx4 t
  have e : (V m c main_v8 : S1x4096.Idx → _) (ix2 0 q) = arg4 m c (ix1 q) := by
    unfold V V0
    simp only [List.flatten_cons, List.flatten_nil, List.append_nil]
    after_results
    pointwise
  refine Eq.trans ?_ e
  refine congrArg (V m c main_v8 : S1x4096.Idx → _) (funext fun a => Fin.ext ?_)
  refine (win0_4.rect_emb_val_off t _ a).trans ?_
  rw [ei]
  fin_cases a
  · rfl
  · show (t.val % 4) * 512 + l.val = q.val
    omega
theorem block5 (t : Fin cfg0.N) (l : Fin 512) (q : Fin 4096) (hq : q.val = 512 * (t.val % 4) + l.val + 2048) :
    (iblk m c 5 t : S1x512.Idx → _) (ix2 0 l) = arg4 m c (ix1 q) := by
  have ei := idx5 t
  have e : (V m c main_v9 : S1x4096.Idx → _) (ix2 0 q) = arg4 m c (ix1 q) := by
    unfold V V0
    simp only [List.flatten_cons, List.flatten_nil, List.append_nil]
    after_results
    pointwise
  refine Eq.trans ?_ e
  refine congrArg (V m c main_v9 : S1x4096.Idx → _) (funext fun a => Fin.ext ?_)
  refine (win0_5.rect_emb_val_off t _ a).trans ?_
  rw [ei]
  fin_cases a
  · rfl
  · show (t.val % 4 + 4) * 512 + l.val = q.val
    omega

/-- The kept rows after any point: normalised. -/
theorem kept_zero (t : Fin cfg0.N) (h : t.val % 4 = 0) (r : Fin 1056) (k : Fin 2048) (p : Fin 8448) (hp : p.val = 1056 * (t.val / 4) + r.val) :
    (outsAt0 m c t.val t.isLt).2 (ix2 r k) = norm (fun k => packed m c (ix2 p k)) (fun k => arg2 m c (ix1 k)) k := by
  rw [outsAt0_A m c t h]
  frame_out
  refine (norm_apply _ _ _ _).trans ?_
  have h0 := fun k => block0 m c t r k p hp
  have h1 := fun k => block1 m c t k
  simp only [h0, h1]
theorem kept_succ (t : Fin cfg0.N) (h : ¬t.val % 4 = 0) (r : Fin 1056) (k : Fin 2048) : (outsAt0 m c t.val t.isLt).2 (ix2 r k)
    = (outsAt0 m c (t.val - 1) (Nat.lt_of_le_of_lt (Nat.sub_le _ _) t.isLt)).2 (ix2 r k) := by
  rw [outsAt0_B m c t h]
  rfl
theorem kept (r : Fin 1056) (k : Fin 2048) (n : ℕ) : ∀ (hn : n < cfg0.N) (p : Fin 8448) (_ : p.val = 1056 * (n / 4) + r.val),
    (outsAt0 m c n hn).2 (ix2 r k) = norm (fun k => packed m c (ix2 p k)) (fun k => arg2 m c (ix1 k)) k := by
  induction n with
  | zero => exact fun hn p hp => kept_zero m c ⟨0, hn⟩ (Nat.zero_mod 4) r k p hp
  | succ n ih =>
    intro hn p hp
    by_cases h : (n + 1) % 4 = 0
    · exact kept_zero m c ⟨n + 1, hn⟩ h r k p hp
    · exact (kept_succ m c ⟨n + 1, hn⟩ h r k).trans (ih _ p (by omega))

/-- The array the call leaves. -/
def rows : Vec Ideal S8448x2048 .f32 := fun i =>
  gated (norm (fun k => packed m c (ix2 (i 0) k)) fun k => arg2 m c (ix1 k))
    (fun k => arg3 m c (ix2 k ⟨(i 1).val, by have : (i 1).val < 2048 := (i 1).isLt; omega⟩))
    (fun k => arg3 m c (ix2 k ⟨2048 + (i 1).val, by have : (i 1).val < 2048 := (i 1).isLt; omega⟩))
    (arg4 m c (ix1 ⟨(i 1).val, by have : (i 1).val < 2048 := (i 1).isLt; omega⟩))
    (arg4 m c (ix1 ⟨2048 + (i 1).val, by have : (i 1).val < 2048 := (i 1).isLt; omega⟩))

theorem rows_apply (p : Fin 8448) (q : Fin 2048) : rows m c (ix2 p q) = gated (norm (fun k => packed m c (ix2 p k)) fun k => arg2 m c (ix1 k))
    (fun k => arg3 m c (ix2 k ⟨q.val, by omega⟩)) (fun k => arg3 m c (ix2 k ⟨2048 + q.val, by omega⟩))
    (arg4 m c (ix1 ⟨q.val, by omega⟩)) (arg4 m c (ix1 ⟨2048 + q.val, by omega⟩)) := rfl
theorem rows_prompt (p : Fin 8448) (a : Fin 2) (r : Fin 4112) (l : Fin 2048) (hp : p.val = 4224 * a.val + r.val) :
    rows m c (ix2 p l) = RefValue.prompt (arg0 m c) (arg2 m c) (arg3 m c) (arg4 m c) (ix3 a r l) := by
  have h := fun k => packed_prompt m c a r k p hp
  rw [rows_apply, prompt_apply]
  simp only [h]
theorem rows_sample (p : Fin 8448) (a b : Fin 8) (l : Fin 2048) (hp : p.val = 8336 + (8 * a.val + b.val)) :
    rows m c (ix2 p l) = RefValue.sample (arg1 m c) (arg2 m c) (arg3 m c) (arg4 m c) (ix3 a b l) := by
  have h := fun k => packed_sample m c ⟨8 * a.val + b.val, by omega⟩ k p hp
  rw [rows_apply, sample_apply _ _ _ _ _ _ ⟨8 * a.val + b.val, by omega⟩ rfl]
  simp only [h]

/-- The values that a point writes. -/
theorem point (t : Fin cfg0.N) (r : Fin 1056) (l : Fin 512) (p : Fin 8448) (q : Fin 2048) (hp : p.val = 1056 * (t.val / 4) + r.val)
    (hq : q.val = 512 * (t.val % 4) + l.val) : (outsAt0 m c t.val t.isLt).1 (ix2 r l) = rows m c (ix2 p q) := by
  have h2 := fun k => block2 m c t k l ⟨q.val, by omega⟩ hq
  have h3 := fun k => block3 m c t k l ⟨2048 + q.val, by omega⟩ (by show 2048 + q.val = _; omega)
  have h4 := block4 m c t l ⟨q.val, by omega⟩ hq
  have h5 := block5 m c t l ⟨2048 + q.val, by omega⟩ (by show 2048 + q.val = _; omega)
  by_cases h : t.val % 4 = 0
  · rw [outsAt0_A m c t h]
    frame_out
    refine (gated_apply _ _ _ _ _ _ _).trans ?_
    have hk : ∀ k, k0_pay1 (iblk m c 0 t) (iblk m c 1 t) (ix2 r k) = norm (fun k => packed m c (ix2 p k)) (fun k => arg2 m c (ix1 k)) k := fun k => by
      refine (norm_apply _ _ _ _).trans ?_
      have h0 := fun k => block0 m c t r k p hp
      have h1 := fun k => block1 m c t k
      simp only [h0, h1]
    simp only [hk, h2, h3, h4, h5]
    rfl
  · rw [outsAt0_B m c t h]
    frame_out
    refine (gated_apply _ _ _ _ _ _ _).trans ?_
    have hk := fun k => kept m c r k (t.val - 1) (Nat.lt_of_le_of_lt (Nat.sub_le _ _) t.isLt) p (by omega)
    simp only [read_unread_whole, hk, h2, h3, h4, h5]
    rfl

theorem final : (dats m 0 c).arrAt 6 cfg0.N = rows m c := by
  refine (dats m 0 c).arrAt_eq_of_covers 6 _ (by decide +kernel) fun t hf y => ?_
  have e := idx6 t
  have ht : t.val < 32 := t.isLt
  have y0 : ((y : S1056x512.Idx) 0).val < 1056 := ((y : S1056x512.Idx) 0).isLt
  have y1 : ((y : S1056x512.Idx) 1).val < 512 := ((y : S1056x512.Idx) 1).isLt
  blk_simp; rw [after0_6]
  have hy : (y : S1056x512.Idx) = ix2 ((y : S1056x512.Idx) 0) ((y : S1056x512.Idx) 1) := by funext a; fin_cases a <;> rfl
  refine (congrArg (outsAt0 m c t.val t.isLt).1 hy).trans ?_
  refine (point m c t _ _ ⟨1056 * (t.val / 4) + ((y : S1056x512.Idx) 0).val, by omega⟩ ⟨512 * (t.val % 4) + ((y : S1056x512.Idx) 1).val, by omega⟩ rfl rfl).trans
    (congrArg _ ?_)
  refine funext fun a => Fin.ext (Eq.symm ((win0_6.rect_emb_val_off t _ a).trans ?_))
  rw [e]
  fin_cases a
  · show t.val / 4 * 1056 + ((y : S1056x512.Idx) 0).val = 1056 * (t.val / 4) + ((y : S1056x512.Idx) 0).val
    omega
  · show t.val % 4 * 512 + ((y : S1056x512.Idx) 1).val = 512 * (t.val % 4) + ((y : S1056x512.Idx) 1).val
    omega

/-- What the lines after the call take of its array. -/
def takePrompt (x : S8448x2048.Idx → EReal) : S2x4112x2048.Idx → EReal := extractStridedSlice S2x4112x2048 ![0, 0, 0]
  (shapeCast S2x4224x2048 x shapeCasts_S8448x2048_S2x4224x2048) slices_S2x4224x2048_S2x4112x2048_0_0_0
def takeLast (x : S2x4112x2048.Idx → EReal) : S1x2x30x2048.Idx → EReal :=
  broadcastInDim S1x2x30x2048 ![1, 2, 3] bcast_S2x30x2048_S1x2x30x2048_1_2_3 (extractStridedSlice S2x30x2048 ![0, 4082, 0] x slices_S2x4112x2048_S2x30x2048_0_4082_0)
def takeSample (x : S8448x2048.Idx → EReal) : S8x8x2048.Idx → EReal :=
  shapeCast S8x8x2048 (extractStridedSlice S64x2048 ![8336, 0] x slices_S8448x2048_S64x2048_8336_0) shapeCasts_S64x2048_S8x8x2048

theorem takePrompt_apply (f : S8448x2048.Idx → EReal) (a : Fin 2) (r : Fin 4112) (l : Fin 2048) :
    takePrompt f (ix3 a r l) = f (ix2 ⟨a.val * 4224 + r.val, by omega⟩ l) := by
  pointwise [takePrompt]
theorem takeSample_apply (f : S8448x2048.Idx → EReal) (a b : Fin 8) (l : Fin 2048) :
    takeSample f (ix3 a b l) = f (ix2 ⟨8336 + (a.val * 8 + b.val), by omega⟩ l) := by
  pointwise [takeSample]
theorem prompts : takePrompt (rows m c) = RefValue.prompt (arg0 m c) (arg2 m c) (arg3 m c) (arg4 m c) := by
  funext y
  obtain ⟨a, r, l, rfl⟩ : ∃ (a : Fin 2) (r : Fin 4112) (l : Fin 2048), y = ix3 a r l := ⟨y 0, y 1, y 2, by funext a; fin_cases a <;> rfl⟩
  exact (takePrompt_apply _ _ _ _).trans (rows_prompt m c _ a r l (by show a.val * 4224 + r.val = 4224 * a.val + r.val; omega))
theorem samples : takeSample (rows m c) = RefValue.sample (arg1 m c) (arg2 m c) (arg3 m c) (arg4 m c) := by
  funext y
  obtain ⟨a, b, l, rfl⟩ : ∃ (a b : Fin 8) (l : Fin 2048), y = ix3 a b l := ⟨y 0, y 1, y 2, by funext a; fin_cases a <;> rfl⟩
  exact (takeSample_apply _ _ _ _).trans (rows_sample m c _ a b l (by show 8336 + (a.val * 8 + b.val) = 8336 + (8 * a.val + b.val); omega))

theorem tail_eq_prompt (V : Valuation τ sig (Elt Ideal)) : StableHlo.after hostOps1 V (Proc.devRef .tc main_v12) = takePrompt (V (Proc.devRef .tc main_v10)) := by
  after_results
  rfl
theorem tail_eq_last (V : Valuation τ sig (Elt Ideal)) : StableHlo.after hostOps1 V (Proc.devRef .tc main_v14) = takeLast (takePrompt (V (Proc.devRef .tc main_v10))) := by
  after_results
  rfl
theorem tail_eq_sample (V : Valuation τ sig (Elt Ideal)) : StableHlo.after hostOps1 V (Proc.devRef .tc main_v16) = takeSample (V (Proc.devRef .tc main_v10)) := by
  after_results
  rfl
theorem left : Pipeline.withArrays spec0 c (V0 m c) (fun w => (dats m 0 c).arrAt w cfg0.N) (Proc.devRef .tc main_v10) = rows m c :=
  ((dats m 0 c).withArrays_arrAt sharedIn0 (V0 m c) (A_eq m c) 6).trans (final m c)
theorem tail_prompt : Pipeline.afterTail₀ cfgs (dats m) 0 (V0 m) [hostOps1] c main_v12 = RefValue.prompt (arg0 m c) (arg2 m c) (arg3 m c) (arg4 m c) :=
  (tail_eq_prompt _).trans ((congrArg takePrompt (left m c)).trans (prompts m c))
theorem tail_last : Pipeline.afterTail₀ cfgs (dats m) 0 (V0 m) [hostOps1] c main_v14 = Cert.GluRefIdeal.RefValue.last (arg0 m c) (arg2 m c) (arg3 m c) (arg4 m c) :=
  (tail_eq_last _).trans ((congrArg (fun x => takeLast (takePrompt x)) (left m c)).trans (congrArg takeLast (prompts m c)))
theorem tail_sample : Pipeline.afterTail₀ cfgs (dats m) 0 (V0 m) [hostOps1] c main_v16 = RefValue.sample (arg1 m c) (arg2 m c) (arg3 m c) (arg4 m c) :=
  (tail_eq_sample _).trans ((congrArg takeSample (left m c)).trans (samples m c))

/-- The kernel and the reference, on arguments that agree, leave the same results, and each its arguments. -/
theorem claim : Cert.algebraic_GluIdeal_GluRefIdeal := by
  intro m ρ m' ρ' _ hagree
  refine ⟨fun c => RefValue.prompt (arg0 m c) (arg2 m c) (arg3 m c) (arg4 m c), fun c => Cert.GluRefIdeal.RefValue.last (arg0 m c) (arg2 m c) (arg3 m c) (arg4 m c),
    fun c => RefValue.sample (arg1 m c) (arg2 m c) (arg3 m c) (arg4 m c), ?_, ?_⟩
  · exact (θ_run defs _ _).mono (fun r h c => ⟨((h.2 c).2 main_v12 (Pipeline.mem_restRefs_of main_v12 (by decide) (by decide))).trans (tail_prompt m c),
        ((h.2 c).2 main_v14 (Pipeline.mem_restRefs_of main_v14 (by decide) (by decide))).trans (tail_last m c),
        ((h.2 c).2 main_v16 (Pipeline.mem_restRefs_of main_v16 (by decide) (by decide))).trans (tail_sample m c), h.1 c⟩)
      (θ_run_and (unchanged (F := Ideal) m ρ) (run_main (F := Ideal) m ρ))
  · refine (θ_run Cert.GluRefIdeal.defs _ _).mono (fun r h c => ⟨(h c).1.trans ?_, (h c).2.1.trans ?_, (h c).2.2.1.trans ?_, (h c).2.2.2⟩)
      (Cert.GluRefIdeal.Value.run (F := Ideal) m' ρ')
    · rw [(hagree c).1, (hagree c).2.2.1, (hagree c).2.2.2.1, (hagree c).2.2.2.2]
      rfl
    · rw [(hagree c).1, (hagree c).2.2.1, (hagree c).2.2.2.1, (hagree c).2.2.2.2]
      rfl
    · rw [(hagree c).2.1, (hagree c).2.2.1, (hagree c).2.2.2.1, (hagree c).2.2.2.2]
      rfl

/-- The reference's run leaves its arguments and its counters as they were. -/
theorem frame_reference : Cert.quiescent_GluRefIdeal := fun m ρ _ =>
  (θ_run Cert.GluRefIdeal.defs _ _).mono (fun r h => ⟨fun c => (h c).2.2.2, Idealize.ShloMosaic.sem_eq_zero_of_no_sems (by decide) r.2⟩)
    (Cert.GluRefIdeal.Value.run (F := Ideal) m ρ)

end Cert.GluRun

end
-- ==== Proof.StepValue.lean ====
module

public import proofs.«01_k».proof.Defs
public import proofs.«01_k».proof.Proof.Gen.StepIdeal.Frame
public import proofs.«01_k».proof.Proof.Gen.StepRefIdeal.Run
public import Idealize.ShloMosaic.Lib.Pipeline.ValueKit
public import Idealize.ShloMosaic.Lib.Pipeline.ReadBack
public import Idealize.ShloMosaic.Lib.Quiescent

/-!
# The depthwise convolution of the sample rows

At each of eight points the call lays a sample's thirty earlier rows and its eight new rows one after the other in a
scratch array, and adds to the bias the products of 31 taps with the eight rows that start at row 0, 1, …, 30. It also
keeps the last thirty rows for the next step.
-/

@[expose] public section

noncomputable section

set_option maxRecDepth 16384

namespace Cert.StepRefIdeal.RefValue

open Idealize.ShloMosaic Idealize.ShloMosaic.TcCoe
open Idealize.SL Idealize.SL.Sem
open Idealize.ShloMosaic.StableHlo
open Cert.StepRefIdeal Cert.StepRefIdeal.Gen

/-- A sample's 30 earlier rows followed by its 8 new rows. -/
def rows (x0 : FVec Ideal S1x8x30x2048 .f32) (x1 : FVec Ideal S8x8x2048 .f32) : FVec Ideal S8x38x2048 .f32 :=
  concatenate S8x38x2048 1 [⟨S8x30x2048, (shapeCast _ x0 shapeCasts_S1x8x30x2048_S8x30x2048)⟩, ⟨S8x8x2048, x1⟩] concatenates_S8x30x2048_S8x8x2048_S8x38x2048_d1
/-- The bias and the first ten taps. -/
def part1 (r1 : FVec Ideal S8x38x2048 .f32) (x2 : FVec Ideal S1x31x2048 .f32) (x3 : FVec Ideal S1x2048 .f32) : FVec Ideal S8x8x2048 .f32 :=
  addf (addf (addf (addf (addf (addf (addf (addf (addf (addf (broadcastInDim S8x8x2048 ![0, 1, 2] bcast_S1x1x2048_S8x8x2048_0_1_2 (broadcastInDim S1x1x2048 ![2] bcast_S2048_S1x1x2048_2 (shapeCast _ x3 shapeCasts_S1x2048_S2048))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 0, 0] x2 slices_S1x31x2048_S1x1x2048_0_0_0) shapeCasts_S1x1x2048_S2048))) (extractStridedSlice S8x8x2048 ![0, 0, 0] r1 slices_S8x38x2048_S8x8x2048_0_0_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 1, 0] x2 slices_S1x31x2048_S1x1x2048_0_1_0) shapeCasts_S1x1x2048_S2048))) (extractStridedSlice S8x8x2048 ![0, 1, 0] r1 slices_S8x38x2048_S8x8x2048_0_1_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 2, 0] x2 slices_S1x31x2048_S1x1x2048_0_2_0) shapeCasts_S1x1x2048_S2048))) (extractStridedSlice S8x8x2048 ![0, 2, 0] r1 slices_S8x38x2048_S8x8x2048_0_2_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 3, 0] x2 slices_S1x31x2048_S1x1x2048_0_3_0) shapeCasts_S1x1x2048_S2048))) (extractStridedSlice S8x8x2048 ![0, 3, 0] r1 slices_S8x38x2048_S8x8x2048_0_3_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 4, 0] x2 slices_S1x31x2048_S1x1x2048_0_4_0) shapeCasts_S1x1x2048_S2048))) (extractStridedSlice S8x8x2048 ![0, 4, 0] r1 slices_S8x38x2048_S8x8x2048_0_4_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 5, 0] x2 slices_S1x31x2048_S1x1x2048_0_5_0) shapeCasts_S1x1x2048_S2048))) (extractStridedSlice S8x8x2048 ![0, 5, 0] r1 slices_S8x38x2048_S8x8x2048_0_5_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 6, 0] x2 slices_S1x31x2048_S1x1x2048_0_6_0) shapeCasts_S1x1x2048_S2048))) (extractStridedSlice S8x8x2048 ![0, 6, 0] r1 slices_S8x38x2048_S8x8x2048_0_6_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 7, 0] x2 slices_S1x31x2048_S1x1x2048_0_7_0) shapeCasts_S1x1x2048_S2048))) (extractStridedSlice S8x8x2048 ![0, 7, 0] r1 slices_S8x38x2048_S8x8x2048_0_7_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 8, 0] x2 slices_S1x31x2048_S1x1x2048_0_8_0) shapeCasts_S1x1x2048_S2048))) (extractStridedSlice S8x8x2048 ![0, 8, 0] r1 slices_S8x38x2048_S8x8x2048_0_8_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 9, 0] x2 slices_S1x31x2048_S1x1x2048_0_9_0) shapeCasts_S1x1x2048_S2048))) (extractStridedSlice S8x8x2048 ![0, 9, 0] r1 slices_S8x38x2048_S8x8x2048_0_9_0))
/-- The next eleven taps added. -/
def part2 (r1 : FVec Ideal S8x38x2048 .f32) (x2 : FVec Ideal S1x31x2048 .f32) (r74 : FVec Ideal S8x8x2048 .f32) : FVec Ideal S8x8x2048 .f32 :=
  addf (addf (addf (addf (addf (addf (addf (addf (addf (addf (addf r74 (mulf (broadcastInDim S8x8x2048 ![0, 1, 2] bcast_S1x1x2048_S8x8x2048_0_1_2 (broadcastInDim S1x1x2048 ![2] bcast_S2048_S1x1x2048_2 (shapeCast _ (extractStridedSlice S1x1x2048 ![0, 10, 0] x2 slices_S1x31x2048_S1x1x2048_0_10_0) shapeCasts_S1x1x2048_S2048))) (extractStridedSlice S8x8x2048 ![0, 10, 0] r1 slices_S8x38x2048_S8x8x2048_0_10_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 11, 0] x2 slices_S1x31x2048_S1x1x2048_0_11_0) shapeCasts_S1x1x2048_S2048))) (extractStridedSlice S8x8x2048 ![0, 11, 0] r1 slices_S8x38x2048_S8x8x2048_0_11_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 12, 0] x2 slices_S1x31x2048_S1x1x2048_0_12_0) shapeCasts_S1x1x2048_S2048))) (extractStridedSlice S8x8x2048 ![0, 12, 0] r1 slices_S8x38x2048_S8x8x2048_0_12_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 13, 0] x2 slices_S1x31x2048_S1x1x2048_0_13_0) shapeCasts_S1x1x2048_S2048))) (extractStridedSlice S8x8x2048 ![0, 13, 0] r1 slices_S8x38x2048_S8x8x2048_0_13_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 14, 0] x2 slices_S1x31x2048_S1x1x2048_0_14_0) shapeCasts_S1x1x2048_S2048))) (extractStridedSlice S8x8x2048 ![0, 14, 0] r1 slices_S8x38x2048_S8x8x2048_0_14_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 15, 0] x2 slices_S1x31x2048_S1x1x2048_0_15_0) shapeCasts_S1x1x2048_S2048))) (extractStridedSlice S8x8x2048 ![0, 15, 0] r1 slices_S8x38x2048_S8x8x2048_0_15_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 16, 0] x2 slices_S1x31x2048_S1x1x2048_0_16_0) shapeCasts_S1x1x2048_S2048))) (extractStridedSlice S8x8x2048 ![0, 16, 0] r1 slices_S8x38x2048_S8x8x2048_0_16_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 17, 0] x2 slices_S1x31x2048_S1x1x2048_0_17_0) shapeCasts_S1x1x2048_S2048))) (extractStridedSlice S8x8x2048 ![0, 17, 0] r1 slices_S8x38x2048_S8x8x2048_0_17_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 18, 0] x2 slices_S1x31x2048_S1x1x2048_0_18_0) shapeCasts_S1x1x2048_S2048))) (extractStridedSlice S8x8x2048 ![0, 18, 0] r1 slices_S8x38x2048_S8x8x2048_0_18_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 19, 0] x2 slices_S1x31x2048_S1x1x2048_0_19_0) shapeCasts_S1x1x2048_S2048))) (extractStridedSlice S8x8x2048 ![0, 19, 0] r1 slices_S8x38x2048_S8x8x2048_0_19_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 20, 0] x2 slices_S1x31x2048_S1x1x2048_0_20_0) shapeCasts_S1x1x2048_S2048))) (extractStridedSlice S8x8x2048 ![0, 20, 0] r1 slices_S8x38x2048_S8x8x2048_0_20_0))
/-- The last ten taps added. -/
def part3 (r1 : FVec Ideal S8x38x2048 .f32) (x2 : FVec Ideal S1x31x2048 .f32) (r151 : FVec Ideal S8x8x2048 .f32) : FVec Ideal S8x8x2048 .f32 :=
  addf (addf (addf (addf (addf (addf (addf (addf (addf (addf r151 (mulf (broadcastInDim S8x8x2048 ![0, 1, 2] bcast_S1x1x2048_S8x8x2048_0_1_2 (broadcastInDim S1x1x2048 ![2] bcast_S2048_S1x1x2048_2 (shapeCast _ (extractStridedSlice S1x1x2048 ![0, 21, 0] x2 slices_S1x31x2048_S1x1x2048_0_21_0) shapeCasts_S1x1x2048_S2048))) (extractStridedSlice S8x8x2048 ![0, 21, 0] r1 slices_S8x38x2048_S8x8x2048_0_21_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 22, 0] x2 slices_S1x31x2048_S1x1x2048_0_22_0) shapeCasts_S1x1x2048_S2048))) (extractStridedSlice S8x8x2048 ![0, 22, 0] r1 slices_S8x38x2048_S8x8x2048_0_22_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 23, 0] x2 slices_S1x31x2048_S1x1x2048_0_23_0) shapeCasts_S1x1x2048_S2048))) (extractStridedSlice S8x8x2048 ![0, 23, 0] r1 slices_S8x38x2048_S8x8x2048_0_23_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 24, 0] x2 slices_S1x31x2048_S1x1x2048_0_24_0) shapeCasts_S1x1x2048_S2048))) (extractStridedSlice S8x8x2048 ![0, 24, 0] r1 slices_S8x38x2048_S8x8x2048_0_24_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 25, 0] x2 slices_S1x31x2048_S1x1x2048_0_25_0) shapeCasts_S1x1x2048_S2048))) (extractStridedSlice S8x8x2048 ![0, 25, 0] r1 slices_S8x38x2048_S8x8x2048_0_25_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 26, 0] x2 slices_S1x31x2048_S1x1x2048_0_26_0) shapeCasts_S1x1x2048_S2048))) (extractStridedSlice S8x8x2048 ![0, 26, 0] r1 slices_S8x38x2048_S8x8x2048_0_26_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 27, 0] x2 slices_S1x31x2048_S1x1x2048_0_27_0) shapeCasts_S1x1x2048_S2048))) (extractStridedSlice S8x8x2048 ![0, 27, 0] r1 slices_S8x38x2048_S8x8x2048_0_27_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 28, 0] x2 slices_S1x31x2048_S1x1x2048_0_28_0) shapeCasts_S1x1x2048_S2048))) (extractStridedSlice S8x8x2048 ![0, 28, 0] r1 slices_S8x38x2048_S8x8x2048_0_28_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 29, 0] x2 slices_S1x31x2048_S1x1x2048_0_29_0) shapeCasts_S1x1x2048_S2048))) (extractStridedSlice S8x8x2048 ![0, 29, 0] r1 slices_S8x38x2048_S8x8x2048_0_29_0))) (mulf (broadcastInDim S8x8x2048 ![0, 1, 2] bcast_S1x1x2048_S8x8x2048_0_1_2 (broadcastInDim S1x1x2048 ![2] bcast_S2048_S1x1x2048_2 (shapeCast _ (extractStridedSlice S1x1x2048 ![0, 30, 0] x2 slices_S1x31x2048_S1x1x2048_0_30_0) shapeCasts_S1x1x2048_S2048))) (extractStridedSlice S8x8x2048 ![0, 30, 0] r1 slices_S8x38x2048_S8x8x2048_0_30_0))
/-- The convolution of the rows. -/
def conv (x0 : FVec Ideal S1x8x30x2048 .f32) (x1 : FVec Ideal S8x8x2048 .f32) (x2 : FVec Ideal S1x31x2048 .f32) (x3 : FVec Ideal S1x2048 .f32) : FVec Ideal S8x8x2048 .f32 :=
  part3 (rows x0 x1) x2 (part2 (rows x0 x1) x2 (part1 (rows x0 x1) x2 x3))
/-- The rows that the next step starts from: the last thirty. -/
def state (x0 : FVec Ideal S1x8x30x2048 .f32) (x1 : FVec Ideal S8x8x2048 .f32) : FVec Ideal S1x8x30x2048 .f32 :=
  broadcastInDim S1x8x30x2048 ![1, 2, 3] bcast_S8x30x2048_S1x8x30x2048_1_2_3 (extractStridedSlice S8x30x2048 ![0, 8, 0] (rows x0 x1) slices_S8x38x2048_S8x30x2048_0_8_0)

/-- Column `l` of sample `a`: the entry of row `n`. -/
def line (x0 : FVec Ideal S1x8x30x2048 .f32) (x1 : FVec Ideal S8x8x2048 .f32) (a : Fin 8) (l : Fin 2048) (n : ℕ) : EReal :=
  if h : n < 30 then x0 (ix4 0 a ⟨n, h⟩ l) else if h : n < 38 then x1 (ix3 a ⟨n - 30, by omega⟩ l) else 0

/-- The bias `b` and 31 taps `w` of the entries `z`. -/
def taps (b : EReal) (w z : ℕ → EReal) : EReal :=
  b + w 0 * z 0 + w 1 * z 1 + w 2 * z 2 + w 3 * z 3 + w 4 * z 4 + w 5 * z 5 + w 6 * z 6 + w 7 * z 7 + w 8 * z 8 + w 9 * z 9 + w 10 * z 10 + w 11 * z 11 + w 12 * z 12 + w 13 * z 13 + w 14 * z 14 + w 15 * z 15 + w 16 * z 16 + w 17 * z 17 + w 18 * z 18 + w 19 * z 19 + w 20 * z 20 + w 21 * z 21 + w 22 * z 22 + w 23 * z 23 + w 24 * z 24 + w 25 * z 25 + w 26 * z 26 + w 27 * z 27 + w 28 * z 28 + w 29 * z 29 + w 30 * z 30

/-- Weight `j` of column `l`. -/
def weight (x2 : FVec Ideal S1x31x2048 .f32) (l : Fin 2048) (j : ℕ) : EReal := if h : j < 31 then x2 (ix3 0 ⟨j, h⟩ l) else 0

theorem weight_of (x2 : FVec Ideal S1x31x2048 .f32) (l : Fin 2048) (j : Fin 31) : x2 (ix3 0 j l) = weight x2 l j.val := by
  unfold weight
  rw [dif_pos j.isLt]

theorem rows_apply (x0 : FVec Ideal S1x8x30x2048 .f32) (x1 : FVec Ideal S8x8x2048 .f32) (a : Fin 8) (n : Fin 38) (l : Fin 2048) :
    rows x0 x1 (ix3 a n l) = line x0 x1 a l n.val := by
  by_cases h : n.val < 30
  · pointwise [rows, line, h]
  · have h' := n.isLt
    pointwise [rows, line, h]

theorem conv_apply (x0 : FVec Ideal S1x8x30x2048 .f32) (x1 : FVec Ideal S8x8x2048 .f32) (x2 : FVec Ideal S1x31x2048 .f32) (x3 : FVec Ideal S1x2048 .f32)
    (a : Fin 8) (r : Fin 8) (l : Fin 2048) :
    conv x0 x1 x2 x3 (ix3 a r l) = taps (x3 (ix2 0 l)) (weight x2 l) (fun j => line x0 x1 a l (j + r.val)) := by
  unfold conv taps
  generalize hz : rows x0 x1 = z
  pointwise [part1, part2, part3]
  subst hz
  simp only [rows_apply, weight_of]
  rfl

theorem state_apply (x0 : FVec Ideal S1x8x30x2048 .f32) (x1 : FVec Ideal S8x8x2048 .f32) (u : Fin 1) (a : Fin 8) (r : Fin 30) (l : Fin 2048) :
    state x0 x1 (ix4 u a r l) = line x0 x1 a l (8 + r.val) := by
  unfold state
  generalize hz : rows x0 x1 = z
  pointwise
  subst hz
  simp only [rows_apply]

end Cert.StepRefIdeal.RefValue

namespace Cert.StepRun

open Idealize.ShloMosaic Idealize.ShloMosaic.TcCoe
open Idealize.SL Idealize.SL.Sem
open Cert.StepIdeal Cert.StepIdeal.Gen
open Cert.StepRefIdeal (RefValue.conv RefValue.state RefValue.line RefValue.taps RefValue.weight_of RefValue.conv_apply RefValue.state_apply)

variable (m : (ℓ : Loc nD τ sig) → Buf (Elt Ideal) ℓ) (ρ : Dev nD → PrngReg) (c : Dev nD)

abbrev arg0 : FVec Ideal S1x8x30x2048 .f32 := m ((c.tc : Thread nD τ).loc main_arg0)
abbrev arg1 : FVec Ideal S8x8x2048 .f32 := m ((c.tc : Thread nD τ).loc main_arg1)
abbrev arg2 : FVec Ideal S1x31x2048 .f32 := m ((c.tc : Thread nD τ).loc main_arg2)
abbrev arg3 : FVec Ideal S1x2048 .f32 := m ((c.tc : Thread nD τ).loc main_arg3)

theorem idx0 : ∀ t : Fin grid0.N, win0_0.index t = ![t.val, 0, 0] := by decide +kernel
theorem idx1 : ∀ t : Fin grid0.N, win0_1.index t = ![t.val, 0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![t.val, 0, 0] := by decide +kernel
theorem idx5 : ∀ t : Fin grid0.N, win0_5.index t = ![t.val, 0, 0] := by decide +kernel

/-- Point `a` reads the earlier rows of sample `a`. -/
theorem block0 (t : Fin cfg0.N) (a : Fin 8) (ha : a.val = t.val) (r : Fin 30) (l : Fin 2048) :
    (iblk m c 0 t : S1x30x2048.Idx → _) (ix3 0 r l) = arg0 m c (ix4 0 a r l) := by
  have e : (V m c main_v0 : S8x30x2048.Idx → _) (ix3 a r l) = arg0 m c (ix4 0 a r l) := by
    unfold V V0
    simp only [List.flatten_cons, List.flatten_nil, List.append_nil]
    after_results
    pointwise
  refine Eq.trans ?_ e
  refine congrArg (V m c main_v0 : S8x30x2048.Idx → _) (funext fun b => Fin.ext ?_)
  refine (win0_0.rect_emb_val_off t _ b).trans ?_
  rw [idx0 t]
  fin_cases b
  · show t.val * 1 + 0 = a.val
    omega
  · show 0 * 30 + r.val = r.val
    omega
  · show 0 * 2048 + l.val = l.val
    omega
/-- and its new rows. -/
theorem block1 (t : Fin cfg0.N) (a : Fin 8) (ha : a.val = t.val) (r : Fin 8) (l : Fin 2048) :
    (iblk m c 1 t : S1x8x2048.Idx → _) (ix3 0 r l) = arg1 m c (ix3 a r l) := by
  refine Eq.trans ?_ (congrFun (V_main_arg1 m c) (ix3 a r l))
  refine congrArg (V m c main_arg1 : S8x8x2048.Idx → _) (funext fun b => Fin.ext ?_)
  refine (win0_1.rect_emb_val_off t _ b).trans ?_
  rw [idx1 t]
  fin_cases b
  · show t.val * 1 + 0 = a.val
    omega
  · show 0 * 8 + r.val = r.val
    omega
  · show 0 * 2048 + l.val = l.val
    omega
theorem block2 (t : Fin cfg0.N) (j : Fin 31) (l : Fin 2048) : (iblk m c 2 t : S31x2048.Idx → _) (ix2 j l) = arg2 m c (ix3 0 j l) := by
  have ei := idx2 t
  have e : (V m c main_v1 : S31x2048.Idx → _) (ix2 j l) = arg2 m c (ix3 0 j l) := by
    unfold V V0
    simp only [List.flatten_cons, List.flatten_nil, List.append_nil]
    after_results
    pointwise
  rw [← e]
  blk_ext [iblk, ei]
theorem block3 (t : Fin cfg0.N) (l : Fin 2048) : (iblk m c 3 t : S1x2048.Idx → _) (ix2 0 l) = arg3 m c (ix2 0 l) := by
  have ei := idx3 t
  have e : (V m c main_v3 : S1x2048.Idx → _) (ix2 0 l) = arg3 m c (ix2 0 l) := by
    unfold V V0
    simp only [List.flatten_cons, List.flatten_nil, List.append_nil]
    after_results
    pointwise
  rw [← e]
  blk_ext [iblk, ei]

/-- What is read of the scratch at a row below 30 is the first piece, and at a row from 30 on the second. -/
theorem scratch (A : S8x2048.Idx → EReal) (B : S30x2048.Idx → EReal) (h1 h2) (i : Fin 40) (l : Fin 2048) (f : ℕ → EReal)
    (hB : ∀ p : Fin 30, B (ix2 p l) = f p.val) (hA : ∀ p : Fin 8, A (ix2 p l) = f (30 + p.val)) (hi : i.val < 38) :
    View.canon (Val := Elt Ideal) (s := S40x2048) (e := .f32) [⟨Rect.unit ![30, 0] ![8, 2048] h1, A⟩, ⟨Rect.unit ![0, 0] ![30, 2048] h2, B⟩] (ix2 i l) = f i.val := by
  by_cases h : i.val < 30
  · rw [View.canon_cons_of_not_mem]
    · have e : (ix2 i l : S40x2048.Idx) = (Rect.unit (s := S40x2048) ![0, 0] ![30, 2048] h2).emb (ix2 (⟨i.val, h⟩ : Fin 30) l : S30x2048.Idx) := by
        funext a; apply Fin.ext
        fin_cases a
        · show i.val = 0 + 1 * i.val
          omega
        · show l.val = 0 + 1 * l.val
          omega
      rw [e, View.canon_cons_emb]
      exact hB ⟨i.val, h⟩
    · show (ix2 i l : S40x2048.Idx) ∉ (Rect.unit (s := S40x2048) ![30, 0] ![8, 2048] h1).set
      rw [Rect.mem_set_unit]
      intro hall
      have : 30 ≤ i.val := (hall 0).1
      omega
  · have e : (ix2 i l : S40x2048.Idx) = (Rect.unit (s := S40x2048) ![30, 0] ![8, 2048] h1).emb (ix2 (⟨i.val - 30, by omega⟩ : Fin 8) l : S8x2048.Idx) := by
      funext a; apply Fin.ext
      fin_cases a
      · show i.val = 30 + 1 * (i.val - 30)
        omega
      · show l.val = 0 + 1 * l.val
        omega
    rw [e, View.canon_cons_emb]
    refine (hA ⟨i.val - 30, by omega⟩).trans (congrArg f ?_)
    show 30 + (i.val - 30) = i.val
    omega

/-- The first piece holds the earlier rows, -/
theorem old (t : Fin cfg0.N) (a : Fin 8) (ha : a.val = t.val) (l : Fin 2048) (p : Fin 30) :
    k0_pay1 (F := Ideal) (iblk m c 0 t) (ix2 p l) = RefValue.line (arg0 m c) (arg1 m c) a l p.val := by
  have h := block0 m c t a ha p l
  unfold RefValue.line
  rw [dif_pos p.isLt]
  refine Eq.trans ?_ h
  pointwise [k0_pay1]
/-- and the second the new rows. -/
theorem new (t : Fin cfg0.N) (a : Fin 8) (ha : a.val = t.val) (l : Fin 2048) (p : Fin 8) :
    k0_pay2 (F := Ideal) (iblk m c 1 t) (ix2 p l) = RefValue.line (arg0 m c) (arg1 m c) a l (30 + p.val) := by
  have h := block1 m c t a ha p l
  unfold RefValue.line
  rw [dif_neg (by omega), dif_pos (by omega)]
  refine Eq.trans ?_ (h.trans (congrArg (fun q => arg1 m c (ix3 a q l)) (Fin.ext (by show p.val = 30 + p.val - 30; omega))))
  pointwise [k0_pay2]

/-- The rows that a point reads of its scratch from row `j` on are the sample's rows from `j` on. -/
theorem tap (t : Fin cfg0.N) (a : Fin 8) (ha : a.val = t.val) (h1 h2) (j : ℕ) (h3 : ∀ a : Fin 2, ![j, 0] a + ![8, 2048] a ≤ S40x2048.size a) (hj30 : j ≤ 30) (r : Fin 8) (l : Fin 2048) :
    (View.whole cc0_scratch0).readCov (Val := Elt Ideal)
        [⟨Rect.unit ![30, 0] ![8, 2048] h1, k0_pay2 (iblk m c 1 t)⟩, ⟨Rect.unit ![0, 0] ![30, 2048] h2, k0_pay1 (iblk m c 0 t)⟩]
        (Rect.unit (s := S40x2048) ![j, 0] ![8, 2048] h3).toLoadRect (ix2 r l : S8x2048.Idx) = RefValue.line (arg0 m c) (arg1 m c) a l (j + r.val) := by
  have hj : j + 8 ≤ 40 := h3 0
  have hj' : j ≤ 30 := hj30
  rw [View.readCov_eq_canon']
  refine Eq.trans ?_ (scratch (k0_pay2 (iblk m c 1 t)) (k0_pay1 (iblk m c 0 t)) h1 h2 ⟨j + r.val, by omega⟩ l
    (RefValue.line (arg0 m c) (arg1 m c) a l) (old m c t a ha l) (new m c t a ha l) (by show j + r.val < 38; omega))
  refine congrArg _ (funext fun b => Fin.ext ?_)
  fin_cases b
  · show j + 1 * r.val = j + r.val
    omega
  · show 0 + 1 * l.val = l.val
    omega
/-- The thirty rows from row 8 on, that the next step starts from. -/
theorem tail30 (t : Fin cfg0.N) (a : Fin 8) (ha : a.val = t.val) (h1 h2) (h3 : ∀ a : Fin 2, ![8, 0] a + ![30, 2048] a ≤ S40x2048.size a) (r : Fin 30) (l : Fin 2048) :
    (View.whole cc0_scratch0).readCov (Val := Elt Ideal)
        [⟨Rect.unit ![30, 0] ![8, 2048] h1, k0_pay2 (iblk m c 1 t)⟩, ⟨Rect.unit ![0, 0] ![30, 2048] h2, k0_pay1 (iblk m c 0 t)⟩]
        (Rect.unit (s := S40x2048) ![8, 0] ![30, 2048] h3).toLoadRect (ix2 r l : S30x2048.Idx) = RefValue.line (arg0 m c) (arg1 m c) a l (8 + r.val) := by
  rw [View.readCov_eq_canon']
  refine Eq.trans ?_ (scratch (k0_pay2 (iblk m c 1 t)) (k0_pay1 (iblk m c 0 t)) h1 h2 ⟨8 + r.val, by omega⟩ l
    (RefValue.line (arg0 m c) (arg1 m c) a l) (old m c t a ha l) (new m c t a ha l) (by show 8 + r.val < 38; omega))
  refine congrArg _ (funext fun b => Fin.ext ?_)
  fin_cases b
  · show 8 + 1 * r.val = 8 + r.val
    omega
  · show 0 + 1 * l.val = l.val
    omega

theorem point4 (t : Fin cfg0.N) (a : Fin 8) (ha : a.val = t.val) (r : Fin 8) (l : Fin 2048) :
    (outsAt0 m c t).1 (ix3 0 r l) = RefValue.conv (arg0 m c) (arg1 m c) (arg2 m c) (arg3 m c) (ix3 a r l) := by
  refine Eq.trans ?_ (RefValue.conv_apply _ _ _ _ _ _ _).symm
  unfold outsAt0 RefValue.taps
  frame_out
  pointwise [k0_pay3, k0_pay4, k0_pay5, k0_pay6, k0_pay7, k0_pay8]
  have hw := fun j => (block2 m c t j l).trans (RefValue.weight_of _ _ _)
  rw [tap m c t a ha _ _ 0 _ (by omega), tap m c t a ha _ _ 1 _ (by omega), tap m c t a ha _ _ 2 _ (by omega), tap m c t a ha _ _ 3 _ (by omega), tap m c t a ha _ _ 4 _ (by omega), tap m c t a ha _ _ 5 _ (by omega), tap m c t a ha _ _ 6 _ (by omega), tap m c t a ha _ _ 7 _ (by omega), tap m c t a ha _ _ 8 _ (by omega), tap m c t a ha _ _ 9 _ (by omega), tap m c t a ha _ _ 10 _ (by omega), tap m c t a ha _ _ 11 _ (by omega), tap m c t a ha _ _ 12 _ (by omega), tap m c t a ha _ _ 13 _ (by omega), tap m c t a ha _ _ 14 _ (by omega), tap m c t a ha _ _ 15 _ (by omega), tap m c t a ha _ _ 16 _ (by omega), tap m c t a ha _ _ 17 _ (by omega), tap m c t a ha _ _ 18 _ (by omega), tap m c t a ha _ _ 19 _ (by omega), tap m c t a ha _ _ 20 _ (by omega), tap m c t a ha _ _ 21 _ (by omega), tap m c t a ha _ _ 22 _ (by omega), tap m c t a ha _ _ 23 _ (by omega), tap m c t a ha _ _ 24 _ (by omega), tap m c t a ha _ _ 25 _ (by omega), tap m c t a ha _ _ 26 _ (by omega), tap m c t a ha _ _ 27 _ (by omega), tap m c t a ha _ _ 28 _ (by omega), tap m c t a ha _ _ 29 _ (by omega), tap m c t a ha _ _ 30 _ (by omega)]
  simp only [block3, hw, Nat.zero_add]
  rfl
theorem point5 (t : Fin cfg0.N) (a : Fin 8) (ha : a.val = t.val) (r : Fin 30) (l : Fin 2048) :
    (outsAt0 m c t).2 (ix3 0 r l) = RefValue.line (arg0 m c) (arg1 m c) a l (8 + r.val) := by
  unfold outsAt0
  frame_out
  pointwise [k0_pay9]
  exact tail30 m c t a ha _ _ _ r l

/-- The new rows of all samples, convolved. -/
theorem final4 : (dats m 0 c).arrAt 4 cfg0.N = RefValue.conv (arg0 m c) (arg1 m c) (arg2 m c) (arg3 m c) := by
  refine (dats m 0 c).arrAt_eq_of_covers 4 _ (by decide +kernel) fun t hf y => ?_
  have e := idx4 t
  have ht : t.val < 8 := t.isLt
  have y0 : ((y : S1x8x2048.Idx) 0).val < 1 := ((y : S1x8x2048.Idx) 0).isLt
  have ey : ((cfg0.win 4).blk t).view.emb y = (ix3 ⟨t.val, ht⟩ ((y : S1x8x2048.Idx) 1) ((y : S1x8x2048.Idx) 2) : S8x8x2048.Idx) := by
    refine funext fun a => Fin.ext ((win0_4.rect_emb_val_off t _ a).trans ?_)
    rw [e]
    fin_cases a
    · show t.val * 1 + ((y : S1x8x2048.Idx) 0).val = t.val
      omega
    · show 0 * 8 + ((y : S1x8x2048.Idx) 1).val = ((y : S1x8x2048.Idx) 1).val
      omega
    · show 0 * 2048 + ((y : S1x8x2048.Idx) 2).val = ((y : S1x8x2048.Idx) 2).val
      omega
  rw [ey]
  blk_simp; rw [after0_4]
  have hy : (y : S1x8x2048.Idx) = ix3 0 ((y : S1x8x2048.Idx) 1) ((y : S1x8x2048.Idx) 2) := by
    funext a; fin_cases a
    · exact Fin.ext (by show ((y : S1x8x2048.Idx) 0).val = 0; omega)
    · rfl
    · rfl
  refine (congrArg (outsAt0 m c t).1 hy).trans ?_
  exact point4 m c t ⟨t.val, ht⟩ rfl _ _

/-- The last thirty rows of every sample. -/
def kept : Vec Ideal S8x30x2048 .f32 := fun i => RefValue.line (arg0 m c) (arg1 m c) (i 0) (i 2) (8 + (i 1).val)

theorem final5 : (dats m 0 c).arrAt 5 cfg0.N = kept m c := by
  refine (dats m 0 c).arrAt_eq_of_covers 5 _ (by decide +kernel) fun t hf y => ?_
  have e := idx5 t
  have ht : t.val < 8 := t.isLt
  have y0 : ((y : S1x30x2048.Idx) 0).val < 1 := ((y : S1x30x2048.Idx) 0).isLt
  have ey : ((cfg0.win 5).blk t).view.emb y = (ix3 ⟨t.val, ht⟩ ((y : S1x30x2048.Idx) 1) ((y : S1x30x2048.Idx) 2) : S8x30x2048.Idx) := by
    refine funext fun a => Fin.ext ((win0_5.rect_emb_val_off t _ a).trans ?_)
    rw [e]
    fin_cases a
    · show t.val * 1 + ((y : S1x30x2048.Idx) 0).val = t.val
      omega
    · show 0 * 30 + ((y : S1x30x2048.Idx) 1).val = ((y : S1x30x2048.Idx) 1).val
      omega
    · show 0 * 2048 + ((y : S1x30x2048.Idx) 2).val = ((y : S1x30x2048.Idx) 2).val
      omega
  rw [ey]
  blk_simp; rw [after0_5]
  have hy : (y : S1x30x2048.Idx) = ix3 0 ((y : S1x30x2048.Idx) 1) ((y : S1x30x2048.Idx) 2) := by
    funext a; fin_cases a
    · exact Fin.ext (by show ((y : S1x30x2048.Idx) 0).val = 0; omega)
    · rfl
    · rfl
  refine (congrArg (outsAt0 m c t).2 hy).trans ?_
  exact point5 m c t ⟨t.val, ht⟩ rfl _ _

theorem kept_state : (broadcastInDim S1x8x30x2048 ![1, 2, 3] bcast_S8x30x2048_S1x8x30x2048_1_2_3 (kept m c : S8x30x2048.Idx → EReal) : S1x8x30x2048.Idx → EReal)
    = RefValue.state (arg0 m c) (arg1 m c) := by
  funext y
  obtain ⟨u, a, r, l, rfl⟩ : ∃ (u : Fin 1) (a : Fin 8) (r : Fin 30) (l : Fin 2048), y = ix4 u a r l := ⟨y 0, y 1, y 2, y 3, by funext a; fin_cases a <;> rfl⟩
  refine Eq.trans ?_ (RefValue.state_apply _ _ _ _ _ _).symm
  pointwise [kept]
theorem tail_eq (V : Valuation τ sig (Elt Ideal)) : StableHlo.after hostOps1 V (Proc.devRef .tc main_v5)
    = broadcastInDim S1x8x30x2048 ![1, 2, 3] bcast_S8x30x2048_S1x8x30x2048_1_2_3 (V (Proc.devRef .tc main_v4_1) : S8x30x2048.Idx → EReal) := by
  after_results
theorem tail : Pipeline.afterTail₀ cfgs (dats m) 0 (V0 m) [hostOps1] c main_v5 = RefValue.state (arg0 m c) (arg1 m c) := by
  have e : Pipeline.withArrays spec0 c (V0 m c) (fun w => (dats m 0 c).arrAt w cfg0.N) (Proc.devRef .tc main_v4_1) = kept m c :=
    (Pipeline.withArrays_arr spec0 launch0.win.arr_inj c _ _ 5).trans (final5 m c)
  refine (tail_eq _).trans ?_
  refine (congrArg (fun x : S8x30x2048.Idx → EReal => broadcastInDim S1x8x30x2048 ![1, 2, 3] bcast_S8x30x2048_S1x8x30x2048_1_2_3 x) e).trans ?_
  exact kept_state m c

/-- The kernel and the reference, on arguments that agree, leave the same results, and each its arguments. -/
theorem claim : Cert.algebraic_StepIdeal_StepRefIdeal := by
  intro m ρ m' ρ' _ hagree
  refine ⟨fun c => RefValue.conv (arg0 m c) (arg1 m c) (arg2 m c) (arg3 m c), fun c => RefValue.state (arg0 m c) (arg1 m c), ?_, ?_⟩
  · exact (θ_run defs _ _).mono (fun r h c => ⟨((h.2 c).1 4).trans (final4 m c),
        ((h.2 c).2 main_v5 (Pipeline.mem_restRefs_of main_v5 (by decide) (by decide))).trans (tail m c), h.1 c⟩)
      (θ_run_and (unchanged (F := Ideal) m ρ) (run_main (F := Ideal) m ρ))
  · refine (θ_run Cert.StepRefIdeal.defs _ _).mono (fun r h c => ⟨(h c).1.trans ?_, (h c).2.1.trans ?_, (h c).2.2⟩) (Cert.StepRefIdeal.Value.run (F := Ideal) m' ρ')
    · refine Eq.trans (b := RefValue.conv (m' ((c.tc : Thread Cert.StepRefIdeal.nD Cert.StepRefIdeal.τ).loc Cert.StepRefIdeal.main_arg0)) (m' ((c.tc : Thread Cert.StepRefIdeal.nD Cert.StepRefIdeal.τ).loc Cert.StepRefIdeal.main_arg1)) (m' ((c.tc : Thread Cert.StepRefIdeal.nD Cert.StepRefIdeal.τ).loc Cert.StepRefIdeal.main_arg2)) (m' ((c.tc : Thread Cert.StepRefIdeal.nD Cert.StepRefIdeal.τ).loc Cert.StepRefIdeal.main_arg3))) rfl ?_
      rw [(hagree c).1, (hagree c).2.1, (hagree c).2.2.1, (hagree c).2.2.2]
    · refine Eq.trans (b := RefValue.state (m' ((c.tc : Thread Cert.StepRefIdeal.nD Cert.StepRefIdeal.τ).loc Cert.StepRefIdeal.main_arg0)) (m' ((c.tc : Thread Cert.StepRefIdeal.nD Cert.StepRefIdeal.τ).loc Cert.StepRefIdeal.main_arg1))) rfl ?_
      rw [(hagree c).1, (hagree c).2.1]

/-- The reference's run leaves its arguments and its counters as they were. -/
theorem frame_reference : Cert.quiescent_StepRefIdeal := fun m ρ _ =>
  (θ_run Cert.StepRefIdeal.defs _ _).mono (fun r h => ⟨fun c => (h c).2.2, Idealize.ShloMosaic.sem_eq_zero_of_no_sems (by decide) r.2⟩)
    (Cert.StepRefIdeal.Value.run (F := Ideal) m ρ)

end Cert.StepRun

end
-- ==== Proof.ConvTrip.lean ====
module

public import proofs.«01_k».proof.Defs
public import proofs.«01_k».proof.Proof.Gen.ConvIdeal.Frame
public import proofs.«01_k».proof.Proof.Gen.ConvRefIdeal.Run
public import Idealize.ShloMosaic.Lib.Pipeline.ValueKit
public import Idealize.ShloMosaic.Lib.Pipeline.ReadBack
public import Idealize.ShloMosaic.Lib.Quiescent

/-!
# The depthwise convolution of the prompts

At each of sixteen points the call lays 256 columns of a prompt under 32 rows of zeros in a scratch array, and in sixteen
trips writes 264 rows each: to the bias it adds the products of 31 taps with the rows that lie 0, 1, …, 30 below, and it
turns the rows it reads so that the taps that differ by a multiple of eight share one turn.
-/

@[expose] public section

noncomputable section

set_option maxRecDepth 16384
set_option maxHeartbeats 1000000

namespace Cert.ConvRefIdeal.RefValue

open Idealize.ShloMosaic Idealize.ShloMosaic.TcCoe
open Idealize.SL Idealize.SL.Sem
open Idealize.ShloMosaic.StableHlo
open Cert.ConvRefIdeal Cert.ConvRefIdeal.Gen

/-- Thirty rows of zeros followed by a prompt's rows. -/
def rows (x0 : FVec Ideal S2x4112x2048 .f32) : FVec Ideal S2x4142x2048 .f32 :=
  concatenate S2x4142x2048 1 [⟨S2x30x2048, (broadcastInDim S2x30x2048 ![] bcast_S_S2x30x2048 (constant S_ .f32 0x00000000#32))⟩, ⟨S2x4112x2048, x0⟩] concatenates_S2x30x2048_S2x4112x2048_S2x4142x2048_d1
/-- The bias and the first ten taps. -/
def part1 (r : FVec Ideal S2x4142x2048 .f32) (x1 : FVec Ideal S1x31x2048 .f32) (x2 : FVec Ideal S1x2048 .f32) : FVec Ideal S2x4112x2048 .f32 :=
  addf (addf (addf (addf (addf (addf (addf (addf (addf (addf (broadcastInDim S2x4112x2048 ![0, 1, 2] bcast_S1x1x2048_S2x4112x2048_0_1_2 (broadcastInDim S1x1x2048 ![2] bcast_S2048_S1x1x2048_2 (shapeCast _ x2 shapeCasts_S1x2048_S2048))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 0, 0] x1 slices_S1x31x2048_S1x1x2048_0_0_0) shapeCasts_S1x1x2048_S2048))) (extractStridedSlice S2x4112x2048 ![0, 0, 0] r slices_S2x4142x2048_S2x4112x2048_0_0_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 1, 0] x1 slices_S1x31x2048_S1x1x2048_0_1_0) shapeCasts_S1x1x2048_S2048))) (extractStridedSlice S2x4112x2048 ![0, 1, 0] r slices_S2x4142x2048_S2x4112x2048_0_1_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 2, 0] x1 slices_S1x31x2048_S1x1x2048_0_2_0) shapeCasts_S1x1x2048_S2048))) (extractStridedSlice S2x4112x2048 ![0, 2, 0] r slices_S2x4142x2048_S2x4112x2048_0_2_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 3, 0] x1 slices_S1x31x2048_S1x1x2048_0_3_0) shapeCasts_S1x1x2048_S2048))) (extractStridedSlice S2x4112x2048 ![0, 3, 0] r slices_S2x4142x2048_S2x4112x2048_0_3_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 4, 0] x1 slices_S1x31x2048_S1x1x2048_0_4_0) shapeCasts_S1x1x2048_S2048))) (extractStridedSlice S2x4112x2048 ![0, 4, 0] r slices_S2x4142x2048_S2x4112x2048_0_4_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 5, 0] x1 slices_S1x31x2048_S1x1x2048_0_5_0) shapeCasts_S1x1x2048_S2048))) (extractStridedSlice S2x4112x2048 ![0, 5, 0] r slices_S2x4142x2048_S2x4112x2048_0_5_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 6, 0] x1 slices_S1x31x2048_S1x1x2048_0_6_0) shapeCasts_S1x1x2048_S2048))) (extractStridedSlice S2x4112x2048 ![0, 6, 0] r slices_S2x4142x2048_S2x4112x2048_0_6_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 7, 0] x1 slices_S1x31x2048_S1x1x2048_0_7_0) shapeCasts_S1x1x2048_S2048))) (extractStridedSlice S2x4112x2048 ![0, 7, 0] r slices_S2x4142x2048_S2x4112x2048_0_7_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 8, 0] x1 slices_S1x31x2048_S1x1x2048_0_8_0) shapeCasts_S1x1x2048_S2048))) (extractStridedSlice S2x4112x2048 ![0, 8, 0] r slices_S2x4142x2048_S2x4112x2048_0_8_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 9, 0] x1 slices_S1x31x2048_S1x1x2048_0_9_0) shapeCasts_S1x1x2048_S2048))) (extractStridedSlice S2x4112x2048 ![0, 9, 0] r slices_S2x4142x2048_S2x4112x2048_0_9_0))
/-- Ten more taps. -/
def part2 (r : FVec Ideal S2x4142x2048 .f32) (x1 : FVec Ideal S1x31x2048 .f32) (y : FVec Ideal S2x4112x2048 .f32) : FVec Ideal S2x4112x2048 .f32 :=
  addf (addf (addf (addf (addf (addf (addf (addf (addf (addf y (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 10, 0] x1 slices_S1x31x2048_S1x1x2048_0_10_0) shapeCasts_S1x1x2048_S2048))) (extractStridedSlice S2x4112x2048 ![0, 10, 0] r slices_S2x4142x2048_S2x4112x2048_0_10_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 11, 0] x1 slices_S1x31x2048_S1x1x2048_0_11_0) shapeCasts_S1x1x2048_S2048))) (extractStridedSlice S2x4112x2048 ![0, 11, 0] r slices_S2x4142x2048_S2x4112x2048_0_11_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 12, 0] x1 slices_S1x31x2048_S1x1x2048_0_12_0) shapeCasts_S1x1x2048_S2048))) (extractStridedSlice S2x4112x2048 ![0, 12, 0] r slices_S2x4142x2048_S2x4112x2048_0_12_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 13, 0] x1 slices_S1x31x2048_S1x1x2048_0_13_0) shapeCasts_S1x1x2048_S2048))) (extractStridedSlice S2x4112x2048 ![0, 13, 0] r slices_S2x4142x2048_S2x4112x2048_0_13_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 14, 0] x1 slices_S1x31x2048_S1x1x2048_0_14_0) shapeCasts_S1x1x2048_S2048))) (extractStridedSlice S2x4112x2048 ![0, 14, 0] r slices_S2x4142x2048_S2x4112x2048_0_14_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 15, 0] x1 slices_S1x31x2048_S1x1x2048_0_15_0) shapeCasts_S1x1x2048_S2048))) (extractStridedSlice S2x4112x2048 ![0, 15, 0] r slices_S2x4142x2048_S2x4112x2048_0_15_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 16, 0] x1 slices_S1x31x2048_S1x1x2048_0_16_0) shapeCasts_S1x1x2048_S2048))) (extractStridedSlice S2x4112x2048 ![0, 16, 0] r slices_S2x4142x2048_S2x4112x2048_0_16_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 17, 0] x1 slices_S1x31x2048_S1x1x2048_0_17_0) shapeCasts_S1x1x2048_S2048))) (extractStridedSlice S2x4112x2048 ![0, 17, 0] r slices_S2x4142x2048_S2x4112x2048_0_17_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 18, 0] x1 slices_S1x31x2048_S1x1x2048_0_18_0) shapeCasts_S1x1x2048_S2048))) (extractStridedSlice S2x4112x2048 ![0, 18, 0] r slices_S2x4142x2048_S2x4112x2048_0_18_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 19, 0] x1 slices_S1x31x2048_S1x1x2048_0_19_0) shapeCasts_S1x1x2048_S2048))) (extractStridedSlice S2x4112x2048 ![0, 19, 0] r slices_S2x4142x2048_S2x4112x2048_0_19_0))
/-- And ten more. -/
def part3 (r : FVec Ideal S2x4142x2048 .f32) (x1 : FVec Ideal S1x31x2048 .f32) (y : FVec Ideal S2x4112x2048 .f32) : FVec Ideal S2x4112x2048 .f32 :=
  addf (addf (addf (addf (addf (addf (addf (addf (addf (addf y (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 20, 0] x1 slices_S1x31x2048_S1x1x2048_0_20_0) shapeCasts_S1x1x2048_S2048))) (extractStridedSlice S2x4112x2048 ![0, 20, 0] r slices_S2x4142x2048_S2x4112x2048_0_20_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 21, 0] x1 slices_S1x31x2048_S1x1x2048_0_21_0) shapeCasts_S1x1x2048_S2048))) (extractStridedSlice S2x4112x2048 ![0, 21, 0] r slices_S2x4142x2048_S2x4112x2048_0_21_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 22, 0] x1 slices_S1x31x2048_S1x1x2048_0_22_0) shapeCasts_S1x1x2048_S2048))) (extractStridedSlice S2x4112x2048 ![0, 22, 0] r slices_S2x4142x2048_S2x4112x2048_0_22_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 23, 0] x1 slices_S1x31x2048_S1x1x2048_0_23_0) shapeCasts_S1x1x2048_S2048))) (extractStridedSlice S2x4112x2048 ![0, 23, 0] r slices_S2x4142x2048_S2x4112x2048_0_23_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 24, 0] x1 slices_S1x31x2048_S1x1x2048_0_24_0) shapeCasts_S1x1x2048_S2048))) (extractStridedSlice S2x4112x2048 ![0, 24, 0] r slices_S2x4142x2048_S2x4112x2048_0_24_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 25, 0] x1 slices_S1x31x2048_S1x1x2048_0_25_0) shapeCasts_S1x1x2048_S2048))) (extractStridedSlice S2x4112x2048 ![0, 25, 0] r slices_S2x4142x2048_S2x4112x2048_0_25_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 26, 0] x1 slices_S1x31x2048_S1x1x2048_0_26_0) shapeCasts_S1x1x2048_S2048))) (extractStridedSlice S2x4112x2048 ![0, 26, 0] r slices_S2x4142x2048_S2x4112x2048_0_26_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 27, 0] x1 slices_S1x31x2048_S1x1x2048_0_27_0) shapeCasts_S1x1x2048_S2048))) (extractStridedSlice S2x4112x2048 ![0, 27, 0] r slices_S2x4142x2048_S2x4112x2048_0_27_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 28, 0] x1 slices_S1x31x2048_S1x1x2048_0_28_0) shapeCasts_S1x1x2048_S2048))) (extractStridedSlice S2x4112x2048 ![0, 28, 0] r slices_S2x4142x2048_S2x4112x2048_0_28_0))) (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 29, 0] x1 slices_S1x31x2048_S1x1x2048_0_29_0) shapeCasts_S1x1x2048_S2048))) (extractStridedSlice S2x4112x2048 ![0, 29, 0] r slices_S2x4142x2048_S2x4112x2048_0_29_0))
/-- The last tap. -/
def part4 (r : FVec Ideal S2x4142x2048 .f32) (x1 : FVec Ideal S1x31x2048 .f32) (y : FVec Ideal S2x4112x2048 .f32) : FVec Ideal S2x4112x2048 .f32 :=
  addf y (mulf (broadcastInDim S2x4112x2048 ![0, 1, 2] bcast_S1x1x2048_S2x4112x2048_0_1_2 (broadcastInDim S1x1x2048 ![2] bcast_S2048_S1x1x2048_2 (shapeCast _ (extractStridedSlice S1x1x2048 ![0, 30, 0] x1 slices_S1x31x2048_S1x1x2048_0_30_0) shapeCasts_S1x1x2048_S2048))) (extractStridedSlice S2x4112x2048 ![0, 30, 0] r slices_S2x4142x2048_S2x4112x2048_0_30_0))
/-- The convolution of the prompts. -/
def conv (x0 : FVec Ideal S2x4112x2048 .f32) (x1 : FVec Ideal S1x31x2048 .f32) (x2 : FVec Ideal S1x2048 .f32) : FVec Ideal S2x4112x2048 .f32 :=
  part4 (rows x0) x1 (part3 (rows x0) x1 (part2 (rows x0) x1 (part1 (rows x0) x1 x2)))

/-- Column `l` of prompt `a` under thirty zeros: the entry of row `n`. -/
def line (x0 : FVec Ideal S2x4112x2048 .f32) (a : Fin 2) (l : Fin 2048) (n : ℕ) : EReal :=
  if n < 30 then 0 else if h : n - 30 < 4112 then x0 (ix3 a ⟨n - 30, h⟩ l) else 0
/-- The bias `b` and 31 products `p`. -/
def taps (b : EReal) (p : ℕ → EReal) : EReal :=
  b + p 0 + p 1 + p 2 + p 3 + p 4 + p 5 + p 6 + p 7 + p 8 + p 9 + p 10 + p 11 + p 12 + p 13 + p 14 + p 15 + p 16 + p 17 + p 18 + p 19 + p 20 + p 21 + p 22 + p 23 + p 24 + p 25 + p 26 + p 27 + p 28 + p 29 + p 30
/-- Weight `j` of column `l`. -/
def weight (x1 : FVec Ideal S1x31x2048 .f32) (l : Fin 2048) (j : ℕ) : EReal := if h : j < 31 then x1 (ix3 0 ⟨j, h⟩ l) else 0

theorem weight_of (x1 : FVec Ideal S1x31x2048 .f32) (l : Fin 2048) (j : Fin 31) : x1 (ix3 0 j l) = weight x1 l j.val := by
  unfold weight
  rw [dif_pos j.isLt]

theorem rows_apply (x0 : FVec Ideal S2x4112x2048 .f32) (a : Fin 2) (n : Fin 4142) (l : Fin 2048) : rows x0 (ix3 a n l) = line x0 a l n.val := by
  have h' := n.isLt
  by_cases h : n.val < 30
  · pointwise [rows, line, h]
  · have h2 : n.val - 30 < 4112 := by omega
    pointwise [rows, line, h, h2]

theorem conv_apply (x0 : FVec Ideal S2x4112x2048 .f32) (x1 : FVec Ideal S1x31x2048 .f32) (x2 : FVec Ideal S1x2048 .f32) (a : Fin 2) (r : Fin 4112) (l : Fin 2048) :
    conv x0 x1 x2 (ix3 a r l) = taps (x2 (ix2 0 l)) (fun j => weight x1 l j * line x0 a l (j + r.val)) := by
  unfold conv taps
  generalize hz : rows x0 = z
  pointwise [part1, part2, part3, part4]
  subst hz
  simp only [rows_apply, weight_of]
  rfl

end Cert.ConvRefIdeal.RefValue

namespace Cert.ConvRun

open Idealize.ShloMosaic Idealize.ShloMosaic.TcCoe
open Idealize.SL Idealize.SL.Sem
open Cert.ConvIdeal Cert.ConvIdeal.Gen
open Cert.ConvRefIdeal.RefValue (line taps weight weight_of conv_apply)

variable (m : (ℓ : Loc nD τ sig) → Buf (Elt Ideal) ℓ) (ρ : Dev nD → PrngReg) (c : Dev nD)

abbrev arg0 : FVec Ideal S2x4112x2048 .f32 := m ((c.tc : Thread nD τ).loc main_arg0)
abbrev arg1 : FVec Ideal S1x31x2048 .f32 := m ((c.tc : Thread nD τ).loc main_arg1)
abbrev arg2 : FVec Ideal S1x2048 .f32 := m ((c.tc : Thread nD τ).loc main_arg2)

theorem idx0 : ∀ t : Fin grid0.N, win0_0.index t = ![t.val / 8, 0, t.val % 8] := by decide +kernel
theorem idx1 : ∀ t : Fin grid0.N, win0_1.index t = ![0, t.val % 8] := by decide +kernel
theorem idx2 : ∀ t : Fin grid0.N, win0_2.index t = ![0, t.val % 8] := by decide +kernel
theorem idx3 : ∀ t : Fin grid0.N, win0_3.index t = ![t.val / 8, 0, t.val % 8] := by decide +kernel
theorem off1 : ∀ k : Fin k0_t1_loop.trips, k0_off1 k = ![264 * k.val, 0] := by decide +kernel
theorem off2 : ∀ k : Fin k0_t1_loop.trips, k0_off2 k = ![0, 264 * k.val, 0] := by decide +kernel

/-- The taps in the order in which the kernel adds them. -/
theorem taps_turned (b : EReal) (p : ℕ → EReal) :
    b + p 0 + p 8 + p 16 + p 24 + p 1 + p 9 + p 17 + p 25 + p 2 + p 10 + p 18 + p 26 + p 3 + p 11 + p 19 + p 27 + p 4 + p 12 + p 20 + p 28 + p 5 + p 13 + p 21 + p 29 + p 6 + p 14 + p 22 + p 30 + p 7 + p 15 + p 23 = taps b p := by
  unfold taps
  abel

theorem trip_row (k : Fin k0_t1_loop.trips) (x : S1x264x256.Idx) : 264 * k.val + (x 1).val < 4224 := by
  have h := k0_off2_inb k 1
  rw [off2 k] at h
  have h' : 264 * k.val + 264 ≤ 4224 := h
  have x1 : (x 1).val < 264 := (x 1).isLt
  omega

/-- Where in its block a trip stores. -/
theorem trip_emb (k : Fin k0_t1_loop.trips) (x : S1x264x256.Idx) :
    (Rect.unit (s := S1x4224x256) (k0_off2 k) S1x264x256.size (k0_off2_inb k)).emb x = ix3 0 ⟨264 * k.val + (x 1).val, trip_row k x⟩ (x 2) := by
  funext a
  apply Fin.ext
  refine (ValueKit.rect_emb_unit_val _ _ _ _ _).trans ((congrArg (· + (x a).val) (congrFun (off2 k) a)).trans ?_)
  match a with
  | 0 => exact (Nat.zero_add _).trans (Nat.lt_one_iff.1 (x 0).isLt)
  | 1 => rfl
  | 2 => exact Nat.zero_add _

/-- What a block of the result holds for a bias `b`, weights `v` and columns `z` of the scratch array. -/
def block (b : Vec Ideal S1x256 .f32) (v z : Fin 256 → ℕ → EReal) (i : S1x4224x256.Idx) : EReal :=
  taps (b (ix2 0 (i 2))) (fun j => v (i 2) j * z (i 2) (j + (i 1).val + 2))

/-- One tap: a weight times an entry of the scratch array. -/
theorem tap_at {w : Vec Ideal S31x256 .f32} {X : Vec Ideal S4256x256 .f32} {z v : Fin 256 → ℕ → EReal}
    (hX : ∀ (n : Fin 4256) (l : Fin 256), X (ix2 n l) = z l n.val) (hw : ∀ (j : Fin 31) (l : Fin 256), w (ix2 j l) = v l j.val)
    (j : Fin 31) (l : Fin 256) {q n l' : ℕ} (hq : q < 4256) (hl : l' < 256) (el : l' = l.val) (eq : q = n) :
    w (ix2 j l) * X (ix2 ⟨q, hq⟩ ⟨l', hl⟩) = v l j.val * z l n := by
  subst el eq
  rw [hX, hw]

/-- What one trip stores, for a scratch array whose entry in row `n` and column `l` is `z l n`. -/
theorem trip_of (c : Dev nD) (bd : Option Variants.none.V) (i : grid0.Coords) (arg2 : Memref sig .tc .vmem S1x4224x256 .f32) (harg2 : arg2.IsWhole) (arg3 : Memref sig .tc .vmem S31x256 .f32) (harg3 : arg3.IsWhole) (arg4 : Memref sig .tc .vmem S1x256 .f32) (harg4 : arg4.IsWhole) (arg5 : Memref sig .tc .vmem S1x4224x256 .f32) (harg5 : arg5.IsWhole) (arg6 : Memref sig .tc .vmem S4256x256 .f32) (harg6 : arg6.IsWhole)
    (b : Vec Ideal S1x256 .f32) (w : Vec Ideal S31x256 .f32) (X : BufTy.Contents (Elt Ideal) arg6.view.ty) (z v : Fin 256 → ℕ → EReal)
    (hX : ∀ (n : Fin 4256) (l : Fin 256), View.read (Elt Ideal) arg6.view X (ix2 n l) = z l n.val) (hw : ∀ (j : Fin 31) (l : Fin 256), w (ix2 j l) = v l j.val)
    (k : Fin k0_t1_loop.trips) :
    ∀ p ∈ tripL_k0_t1 (F := Ideal) Variants.none c bd i arg2 harg2 arg3 harg3 arg4 harg4 arg5 harg5 arg6 harg6 b (harg3.unread w) X k,
      ∀ x : p.1.shape.Idx, p.2 x = block b v z (p.1.emb x) := by
  unfold tripL_k0_t1 trip_k0_t1
  refine List.forall_mem_singleton.2 fun x => ?_
  obtain ⟨g, hg⟩ : ∃ g, g = block b v z ((Rect.unit (s := S1x4224x256) (k0_off2 k) S1x264x256.size (k0_off2_inb k)).emb x) := ⟨_, rfl⟩
  refine Eq.trans ?_ hg
  frame_out
  pointwise [k0_pay4, k0_pay5, k0_pay6, k0_pay7, k0_pay8, k0_pay9, k0_pay10, k0_pay11, k0_pay12, k0_pay13, k0_pay3]
  rw [hg, trip_emb]
  show _ = taps (b (ix2 0 ((x : S1x264x256.Idx) 2))) (fun j => v ((x : S1x264x256.Idx) 2) j * z ((x : S1x264x256.Idx) 2) (j + (264 * k.val + ((x : S1x264x256.Idx) 1).val) + 2))
  clear hg
  refine Eq.trans ?_ (taps_turned _ _)
  have h0 : k0_off1 k 0 = 264 * k.val := congrFun (off1 k) 0
  have h1 : k0_off1 k 1 = 0 := congrFun (off1 k) 1
  have x1 : ((x : S1x264x256.Idx) 1).val < 264 := ((x : S1x264x256.Idx) 1).isLt
  iterate 31 refine congrArg₂ (· + ·) ?_ (tap_at hX hw _ _ _ _ (by rw [h1]; exact Nat.zero_add _) (by rw [h0]; omega))
  rfl

end Cert.ConvRun

end
-- ==== Proof.ConvValue.lean ====
module

public import proofs.«01_k».proof.Proof.ConvTrip

/-!
# The convolution of the prompts: the whole call

What the sixteen trips of a point store together, what the points leave in the padded result, and the claim.
-/

@[expose] public section

noncomputable section

set_option maxRecDepth 16384

namespace Cert.ConvRun

open Idealize.ShloMosaic Idealize.ShloMosaic.TcCoe
open Idealize.SL Idealize.SL.Sem
open Cert.ConvIdeal Cert.ConvIdeal.Gen
open Cert.ConvRefIdeal (RefValue.conv RefValue.line RefValue.taps RefValue.weight RefValue.weight_of RefValue.conv_apply)

variable (m : (ℓ : Loc nD τ sig) → Buf (Elt Ideal) ℓ) (ρ : Dev nD → PrngReg) (c : Dev nD)

/-- What the first trips store, whatever their number. -/
theorem pieces (c : Dev nD) (bd : Option Variants.none.V) (i : grid0.Coords) (arg2 : Memref sig .tc .vmem S1x4224x256 .f32) (harg2 : arg2.IsWhole) (arg3 : Memref sig .tc .vmem S31x256 .f32) (harg3 : arg3.IsWhole) (arg4 : Memref sig .tc .vmem S1x256 .f32) (harg4 : arg4.IsWhole) (arg5 : Memref sig .tc .vmem S1x4224x256 .f32) (harg5 : arg5.IsWhole) (arg6 : Memref sig .tc .vmem S4256x256 .f32) (harg6 : arg6.IsWhole)
    (b : Vec Ideal S1x256 .f32) (w : Vec Ideal S31x256 .f32) (X : BufTy.Contents (Elt Ideal) arg6.view.ty) (z v : Fin 256 → ℕ → EReal)
    (hX : ∀ (n : Fin 4256) (l : Fin 256), View.read (Elt Ideal) arg6.view X (ix2 n l) = z l n.val) (hw : ∀ (j : Fin 31) (l : Fin 256), w (ix2 j l) = v l j.val)
    (n : ℕ) : ∀ p ∈ pb_k0_t1 (F := Ideal) Variants.none c bd i arg2 harg2 arg3 harg3 arg4 harg4 arg5 harg5 arg6 harg6 b (harg3.unread w) X n, ∀ x : p.1.shape.Idx, p.2 x = block b v z (p.1.emb x) := by
  induction n with
  | zero =>
    intro p hp
    exact absurd hp (by rw [pb_k0_t1.eq_1]; exact List.not_mem_nil)
  | succ n ih =>
    intro p hp
    rw [pb_k0_t1.eq_2] at hp
    unfold pb_k0_t1Step at hp
    split at hp
    · rcases List.mem_append.1 hp with h | h
      · exact trip_of c bd i arg2 harg2 arg3 harg3 arg4 harg4 arg5 harg5 arg6 harg6 b w X z v hX hw _ p h
      · exact ih p h
    · exact ih p hp

/-- The padded prompts: row `p` of prompt `a`. -/
theorem padded (a : Fin 2) (p : Fin 4224) (l : Fin 2048) : (V m c main_v1 : S2x4224x2048.Idx → _) (ix3 a p l) = RefValue.line (arg0 m c) a l (30 + p.val) := by
  unfold V V0 RefValue.line
  simp only [List.flatten_cons, List.flatten_nil, List.append_nil]
  after_results
  have h1 : ¬ 30 + p.val < 30 := by omega
  have h2 : 30 + p.val - 30 = p.val := by omega
  by_cases h : p.val < 4112
  · pointwise [h, h1, h2]
  · pointwise [h, h1, h2]
/-- Point `t` reads 256 columns of a prompt, -/
theorem block0 (t : Fin cfg0.N) (a : Fin 2) (ha : a.val = t.val / 8) (p : Fin 4224) (l : Fin 256) (l' : Fin 2048) (hl : l'.val = 256 * (t.val % 8) + l.val) :
    (iblk m c 0 t : S1x4224x256.Idx → _) (ix3 0 p l) = RefValue.line (arg0 m c) a l' (30 + p.val) := by
  refine Eq.trans ?_ (padded m c a p l')
  refine congrArg (V m c main_v1 : S2x4224x2048.Idx → _) (funext fun b => Fin.ext ?_)
  refine (win0_0.rect_emb_val_off t _ b).trans ?_
  rw [idx0 t]
  fin_cases b
  · show t.val / 8 * 1 + 0 = a.val
    omega
  · show 0 * 4224 + p.val = p.val
    omega
  · show t.val % 8 * 256 + l.val = l'.val
    omega
/-- the weights of these columns -/
theorem block1 (t : Fin cfg0.N) (j : Fin 31) (l : Fin 256) (l' : Fin 2048) (hl : l'.val = 256 * (t.val % 8) + l.val) :
    (iblk m c 1 t : S31x256.Idx → _) (ix2 j l) = RefValue.weight (arg1 m c) l' j.val := by
  have e : (V m c main_v2 : S31x2048.Idx → _) (ix2 j l') = arg1 m c (ix3 0 j l') := by
    unfold V V0
    simp only [List.flatten_cons, List.flatten_nil, List.append_nil]
    after_results
    pointwise
  refine Eq.trans ?_ (e.trans (RefValue.weight_of _ _ _))
  refine congrArg (V m c main_v2 : S31x2048.Idx → _) (funext fun b => Fin.ext ?_)
  refine (win0_1.rect_emb_val_off t _ b).trans ?_
  rw [idx1 t]
  fin_cases b
  · show 0 * 31 + j.val = j.val
    omega
  · show t.val % 8 * 256 + l.val = l'.val
    omega
/-- and their biases. -/
theorem block2 (t : Fin cfg0.N) (l : Fin 256) (l' : Fin 2048) (hl : l'.val = 256 * (t.val % 8) + l.val) :
    (iblk m c 2 t : S1x256.Idx → _) (ix2 0 l) = arg2 m c (ix2 0 l') := by
  have e : (V m c main_v4 : S1x2048.Idx → _) (ix2 0 l') = arg2 m c (ix2 0 l') := by
    unfold V V0
    simp only [List.flatten_cons, List.flatten_nil, List.append_nil]
    after_results
    pointwise
  refine Eq.trans ?_ e
  refine congrArg (V m c main_v4 : S1x2048.Idx → _) (funext fun b => Fin.ext ?_)
  refine (win0_2.rect_emb_val_off t _ b).trans ?_
  rw [idx2 t]
  fin_cases b
  · show 0 * 1 + 0 = 0
    omega
  · show t.val % 8 * 256 + l.val = l'.val
    omega

/-- The scratch array holds zeros in its rows below 32 and the prompt from row 32 on. -/
theorem scratch (A : S4224x256.Idx → EReal) (B : S32x256.Idx → EReal) (h1 h2) (i : Fin 4256) (l : Fin 256) (f : ℕ → EReal)
    (hB : ∀ p : Fin 32, B (ix2 p l) = f (p.val - 2)) (hA : ∀ p : Fin 4224, A (ix2 p l) = f (30 + p.val)) :
    View.canon (Val := Elt Ideal) (s := S4256x256) (e := .f32) [⟨Rect.unit ![32, 0] ![4224, 256] h1, A⟩, ⟨Rect.unit ![0, 0] ![32, 256] h2, B⟩] (ix2 i l) = f (i.val - 2) := by
  by_cases h : i.val < 32
  · rw [View.canon_cons_of_not_mem]
    · have e : (ix2 i l : S4256x256.Idx) = (Rect.unit (s := S4256x256) ![0, 0] ![32, 256] h2).emb (ix2 (⟨i.val, h⟩ : Fin 32) l : S32x256.Idx) := by
        funext a; apply Fin.ext
        fin_cases a
        · show i.val = 0 + 1 * i.val
          omega
        · show l.val = 0 + 1 * l.val
          omega
      rw [e, View.canon_cons_emb]
      exact hB ⟨i.val, h⟩
    · show (ix2 i l : S4256x256.Idx) ∉ (Rect.unit (s := S4256x256) ![32, 0] ![4224, 256] h1).set
      rw [Rect.mem_set_unit]
      intro hall
      have : 32 ≤ i.val := (hall 0).1
      omega
  · have e : (ix2 i l : S4256x256.Idx) = (Rect.unit (s := S4256x256) ![32, 0] ![4224, 256] h1).emb (ix2 (⟨i.val - 32, by omega⟩ : Fin 4224) l : S4224x256.Idx) := by
      funext a; apply Fin.ext
      fin_cases a
      · show i.val = 32 + 1 * (i.val - 32)
        omega
      · show l.val = 0 + 1 * l.val
        omega
    rw [e, View.canon_cons_emb]
    refine (hA ⟨i.val - 32, by omega⟩).trans (congrArg f ?_)
    show 30 + (i.val - 32) = i.val - 2
    omega

/-- Column `l` of point `t` among all columns. -/
def column (t : Fin cfg0.N) (l : Fin 256) : Fin 2048 := ⟨256 * (t.val % 8) + l.val, by omega⟩

theorem point (t : Fin cfg0.N) (a : Fin 2) (ha : a.val = t.val / 8) (y : S1x4224x256.Idx) :
    outsAt0 m c t y = block (iblk m c 2 t) (fun l => RefValue.weight (arg1 m c) (column t l)) (fun l n => RefValue.line (arg0 m c) a (column t l) (n - 2)) y := by
  unfold outsAt0 out0_A_3
  rw [View.read_writes_junk_eq_canon]
  refine View.canon_apply_of_pieces (Val := Elt Ideal) (S := S1x4224x256) (e := .f32) (block (iblk m c 2 t) (fun l => RefValue.weight (arg1 m c) (column t l)) (fun l n => RefValue.line (arg0 m c) a (column t l) (n - 2))) _ ?_ y (cover0_A_3 ..)
  unfold kernelRun0_A
  have hb : ∀ h : (ms0_2 t).IsWhole, View.readAt (Elt Ideal) (ms0_2 t).view (Rect.unit ![0, 0] S1x256.size inb_S1x256_S1x256_0_0).toLoadRect (h.unread (iblk m c 2 t)) = iblk m c 2 t := by
    intro h
    frame_out
  dsimp only
  rw [hb]
  refine pieces c none (grid0.coords t) (ms0_0 t) _ (ms0_1 t) _ (ms0_2 t) _ (ms0_3 t) _ scM0_0 _ (iblk m c 2 t) (iblk m c 1 t) _
    (fun l n => RefValue.line (arg0 m c) a (column t l) (n - 2)) (fun l => RefValue.weight (arg1 m c) (column t l)) (fun n l => ?_) (fun j l => block1 m c t j l _ rfl) _
  unfold kernelRun0_A.sl.HS0_2
  rw [View.read_writes_junk_eq_canon]
  refine scratch _ _ _ _ n l (RefValue.line (arg0 m c) a (column t l)) (fun p => ?_) (fun p => ?_)
  · have h : p.val - 2 < 30 := by omega
    pointwise [k0_pay1, RefValue.line, h]
  · refine Eq.trans ?_ (block0 m c t a ha p l (column t l) rfl)
    frame_out
    pointwise [k0_pay2]

/-- The result before it is cut to the prompts' rows. -/
def long : Vec Ideal S2x4224x2048 .f32 := fun i =>
  RefValue.taps (arg2 m c (ix2 0 (i 2))) (fun j => RefValue.weight (arg1 m c) (i 2) j * RefValue.line (arg0 m c) (i 0) (i 2) (j + (i 1).val))

theorem final : (dats m 0 c).arrAt 3 cfg0.N = long m c := by
  refine (dats m 0 c).arrAt_eq_of_covers 3 _ (by decide +kernel) fun t hf y => ?_
  have e := idx3 t
  have ht : t.val < 16 := t.isLt
  have y0 : ((y : S1x4224x256.Idx) 0).val < 1 := ((y : S1x4224x256.Idx) 0).isLt
  have ey : ((cfg0.win 3).blk t).view.emb y = (ix3 ⟨t.val / 8, by omega⟩ ((y : S1x4224x256.Idx) 1) (column t ((y : S1x4224x256.Idx) 2)) : S2x4224x2048.Idx) := by
    refine funext fun a => Fin.ext ((win0_3.rect_emb_val_off t _ a).trans ?_)
    rw [e]
    fin_cases a
    · show t.val / 8 * 1 + ((y : S1x4224x256.Idx) 0).val = t.val / 8
      omega
    · show 0 * 4224 + ((y : S1x4224x256.Idx) 1).val = ((y : S1x4224x256.Idx) 1).val
      omega
    · show t.val % 8 * 256 + ((y : S1x4224x256.Idx) 2).val = 256 * (t.val % 8) + ((y : S1x4224x256.Idx) 2).val
      omega
  rw [ey]
  blk_simp; rw [after0_3]
  refine (point m c t ⟨t.val / 8, by omega⟩ rfl y).trans ?_
  unfold block
  refine congrArg₂ RefValue.taps (block2 m c t _ _ rfl) (funext fun j => ?_)
  rfl

theorem tail_eq (V : Valuation τ sig (Elt Ideal)) : StableHlo.after hostOps1 V (Proc.devRef .tc main_v6)
    = extractStridedSlice S2x4112x2048 ![0, 0, 0] (V (Proc.devRef .tc main_v5) : S2x4224x2048.Idx → EReal) slices_S2x4224x2048_S2x4112x2048_0_0_0 := by
  after_results
theorem cut : (extractStridedSlice S2x4112x2048 ![0, 0, 0] (long m c : S2x4224x2048.Idx → EReal) slices_S2x4224x2048_S2x4112x2048_0_0_0 : S2x4112x2048.Idx → EReal)
    = RefValue.conv (arg0 m c) (arg1 m c) (arg2 m c) := by
  funext y
  obtain ⟨a, r, l, rfl⟩ : ∃ (a : Fin 2) (r : Fin 4112) (l : Fin 2048), y = ix3 a r l := ⟨y 0, y 1, y 2, by funext a; fin_cases a <;> rfl⟩
  refine Eq.trans ?_ (RefValue.conv_apply _ _ _ _ _ _).symm
  pointwise [long]
theorem tail : Pipeline.afterTail₀ cfgs (dats m) 0 (V0 m) [hostOps1] c main_v6 = RefValue.conv (arg0 m c) (arg1 m c) (arg2 m c) := by
  have e : Pipeline.withArrays spec0 c (V0 m c) (fun w => (dats m 0 c).arrAt w cfg0.N) (Proc.devRef .tc main_v5) = long m c :=
    (Pipeline.withArrays_arr spec0 launch0.win.arr_inj c _ _ 3).trans (final m c)
  refine (tail_eq _).trans ?_
  refine (congrArg (fun x : S2x4224x2048.Idx → EReal => extractStridedSlice S2x4112x2048 ![0, 0, 0] x slices_S2x4224x2048_S2x4112x2048_0_0_0) e).trans ?_
  exact cut m c

/-- The kernel and the reference, on arguments that agree, leave the same results, and each its arguments. -/
theorem claim : Cert.algebraic_ConvIdeal_ConvRefIdeal := by
  intro m ρ m' ρ' _ hagree
  refine ⟨fun c => RefValue.conv (arg0 m c) (arg1 m c) (arg2 m c), ?_, ?_⟩
  · exact (θ_run defs _ _).mono (fun r h c => ⟨((h.2 c).2 main_v6 (Pipeline.mem_restRefs_of main_v6 (by decide) (by decide))).trans (tail m c), h.1 c⟩)
      (θ_run_and (unchanged (F := Ideal) m ρ) (run_main (F := Ideal) m ρ))
  · refine (θ_run Cert.ConvRefIdeal.defs _ _).mono (fun r h c => ⟨(h c).1.trans ?_, (h c).2⟩) (Cert.ConvRefIdeal.Value.run (F := Ideal) m' ρ')
    refine Eq.trans (b := RefValue.conv (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg1)) (m' ((c.tc : Thread Cert.ConvRefIdeal.nD Cert.ConvRefIdeal.τ).loc Cert.ConvRefIdeal.main_arg2))) rfl ?_
    rw [(hagree c).1, (hagree c).2.1, (hagree c).2.2]

/-- The reference's run leaves its arguments and its counters as they were. -/
theorem frame_reference : Cert.quiescent_ConvRefIdeal := fun m ρ _ =>
  (θ_run Cert.ConvRefIdeal.defs _ _).mono (fun r h => ⟨fun c => (h c).2, Idealize.ShloMosaic.sem_eq_zero_of_no_sems (by decide) r.2⟩)
    (Cert.ConvRefIdeal.Value.run (F := Ideal) m ρ)

end Cert.ConvRun

end
-- ==== Proof.CumValue.lean ====
module

public import proofs.«01_k».proof.Defs
public import proofs.«01_k».proof.Proof.Gen.CumIdeal.Frame
public import proofs.«01_k».proof.Proof.Gen.CumRefIdeal.Run
public import Idealize.ShloMosaic.Lib.Pipeline.ValueKit
public import Idealize.ShloMosaic.Lib.Pipeline.ReadBack
public import Idealize.ShloMosaic.Lib.Quiescent

/-!
# The running sum of the forget gates

The call sums 128 columns at a point by a product with a triangle of ones, over the entries and over what two narrowings of
them leave, and carries the last column to the next point. Over the extended reals what is left of an entry that is not `∞` adds
nothing to it, so that the three products are one sum; the reference sums a window that ends at each row.
-/

@[expose] public section

noncomputable section

set_option maxRecDepth 16384

namespace Cert.CumRefIdeal.RefValue

open Idealize.ShloMosaic Idealize.ShloMosaic.TcCoe
open Idealize.SL Idealize.SL.Sem
open Idealize.ShloMosaic.StableHlo

/-- Row `n` of head `h` of prompt `a`, zero past the prompt's end. -/
def line {A N B : ℕ} (x : (⟨3, ![A, N, B]⟩ : Shape).Idx → EReal) (a : Fin A) (h : Fin B) (n : ℕ) : EReal := if hn : n < N then x (ix3 a ⟨n, hn⟩ h) else 0

theorem foldl_add {ι : Type} (f : ι → EReal) (l : List ι) (v : EReal) : l.foldl (fun r n => r + f n) v = v + (l.map f).sum := by
  induction l generalizing v with
  | nil => simp
  | cons i l ih => simp [ih, add_assoc]

/-- A sum of which the terms from `n` on are zero. -/
theorem sum_cut (f : ℕ → EReal) (n N : ℕ) (h : n ≤ N) : (∑ k ∈ Finset.range N, if k < n then f k else 0) = ∑ k ∈ Finset.range n, f k := by
  rw [← Finset.sum_filter]
  refine Finset.sum_congr (Finset.ext fun k => ?_) fun _ _ => rfl
  simp only [Finset.mem_filter, Finset.mem_range]
  omega
/-- A sum of which the terms before `d` are zero. -/
theorem sum_late (f : ℕ → EReal) (d n : ℕ) : (∑ k ∈ Finset.range (d + n), if d ≤ k then f (k - d) else 0) = ∑ k ∈ Finset.range n, f k := by
  rw [Finset.sum_range_add, Finset.sum_eq_zero, zero_add]
  · refine Finset.sum_congr rfl fun k _ => ?_
    rw [if_pos (Nat.le_add_right _ _), Nat.add_sub_cancel_left]
  · intro k hk
    exact if_neg (Nat.not_le.2 (Finset.mem_range.1 hk))

/-- The sums over the windows that end at each row. -/
theorem window_apply {A N B M : ℕ} (hM : N = M + 1) (x : (⟨3, ![A, N, B]⟩ : Shape).Idx → EReal) (v : (⟨0, ![]⟩ : Shape).Idx → EReal) (hv : ∀ i, v i = 0)
    (h : Shape.ReduceWindows (⟨3, ![A, N, B]⟩ : Shape) ![1, N, 1] ![1, 1, 1] ![0, M, 0] ![0, 0, 0] (⟨3, ![A, N, B]⟩ : Shape)) (hu) (a : Fin A) (r : Fin N) (b : Fin B) :
    Host.reduceWindow (· + ·) ![1, N, 1] ![1, 1, 1] ![0, M, 0] ![0, 0, 0] x v h hu (ix3 a r b) = ∑ k ∈ Finset.range (r.val + 1), line x a b k := by
  unfold Host.reduceWindow
  dsimp only
  refine (foldl_add _ _ _).trans ?_
  rw [hv, zero_add, ← Fin.sum_univ_def]
  refine (Finset.sum_congr rfl fun i _ => ?_).trans ((Equiv.sum_comp (Shape.rowMajor (⟨3, ![1, N, 1]⟩ : Shape)).symm
    (fun w => if M ≤ r.val + (w 1).val then line x a b (r.val + (w 1).val - M) else 0)).trans ?_)
  · let w : (⟨3, ![1, N, 1]⟩ : Shape).Idx := (Shape.rowMajor (⟨3, ![1, N, 1]⟩ : Shape)).symm i
    have w0 : (w 0).val < 1 := (w 0).isLt
    have w1 : (w 1).val < N := (w 1).isLt
    have w2 : (w 2).val < 1 := (w 2).isLt
    have hr := r.isLt
    split
    · rename_i H
      have h1 : M ≤ r.val * 1 + (w 1).val := (H 1).1
      have h2 : r.val + (w 1).val - M < N := by omega
      have h3 : M ≤ r.val + (w 1).val := by omega
      refine Eq.trans ?_ (if_pos h3).symm
      unfold line
      refine Eq.trans ?_ (dif_pos h2).symm
      refine congrArg x (funext fun k => Fin.ext ?_)
      fin_cases k
      · show a.val * 1 + (w 0).val - 0 = a.val
        omega
      · show r.val * 1 + (w 1).val - M = r.val + (w 1).val - M
        omega
      · show b.val * 1 + (w 2).val - 0 = b.val
        omega
    · rename_i H
      refine (if_neg fun hq : M ≤ r.val + (w 1).val => H fun k => ?_).symm
      have ha := a.isLt
      have hb := b.isLt
      fin_cases k
      · show 0 ≤ a.val * 1 + (w 0).val ∧ a.val * 1 + (w 0).val - 0 < A
        omega
      · show M ≤ r.val * 1 + (w 1).val ∧ r.val * 1 + (w 1).val - M < N
        omega
      · show 0 ≤ b.val * 1 + (w 2).val ∧ b.val * 1 + (w 2).val - 0 < B
        omega
  · have e : (∑ w : (⟨3, ![1, N, 1]⟩ : Shape).Idx, if M ≤ r.val + (w 1).val then line x a b (r.val + (w 1).val - M) else 0)
        = ∑ q : Fin N, if M ≤ r.val + q.val then line x a b (r.val + q.val - M) else 0 := by
      refine Fintype.sum_equiv ⟨fun w => w 1, fun q => ix3 0 q 0, fun w => ?_, fun q => rfl⟩ _ _ fun w => rfl
      funext k
      have w0 : (w 0).val < 1 := (w 0).isLt
      have w2 : (w 2).val < 1 := (w 2).isLt
      fin_cases k
      · exact Fin.ext (by show 0 = (w 0).val; omega)
      · rfl
      · exact Fin.ext (by show 0 = (w 2).val; omega)
    have hr := r.isLt
    rw [e, Fin.sum_univ_eq_sum_range (fun q => if M ≤ r.val + q then line x a b (r.val + q - M) else 0) N]
    refine Eq.trans ?_ (sum_late _ (M - r.val) (r.val + 1))
    rw [show M - r.val + (r.val + 1) = N by omega]
    refine Finset.sum_congr rfl fun k _ => ?_
    by_cases hk : M ≤ r.val + k
    · rw [if_pos hk, if_pos (by omega), show k - (M - r.val) = r.val + k - M by omega]
    · rw [if_neg hk, if_neg (by omega)]

theorem add_window_apply {A N B M : ℕ} (hM : N = M + 1) (x : FVec Ideal (⟨3, ![A, N, B]⟩ : Shape) .f32) (v : FVec Ideal (⟨0, ![]⟩ : Shape) .f32) (hv : ∀ i, v i = 0)
    (h : Shape.ReduceWindows (⟨3, ![A, N, B]⟩ : Shape) ![1, N, 1] ![1, 1, 1] ![0, M, 0] ![0, 0, 0] (⟨3, ![A, N, B]⟩ : Shape)) (hu) (a : Fin A) (r : Fin N) (b : Fin B) :
    Host.reduceWindowAdd (F := Ideal) (φ := .f32) ![1, N, 1] ![1, 1, 1] ![0, M, 0] ![0, 0, 0] x v h hu (ix3 a r b) = ∑ k ∈ Finset.range (r.val + 1), line x a b k :=
  window_apply hM x (fun _ => v (Shape.Idx.first hu)) (fun _ => hv _) h hu a r b

open Cert.CumRefIdeal in
/-- The result the reference computes. -/
def want (x : FVec Ideal S2x4112x16 .f32) : FVec Ideal S2x4112x16 .f32 := fun i =>
  (∑ k ∈ Finset.range ((i 1).val + 1), line (A := 2) (N := 4112) (B := 16) x (i 0) (i 2) k) * Ideal.ofBits .f32 0xBFB8AA3B#32

open Cert.CumRefIdeal Cert.CumRefIdeal.Gen in
theorem run_apply (x : FVec Ideal S2x4112x16 .f32) (h1 h2 h3 h4) :
    mulf (F := Ideal) (φ := .f32) (Host.reduceWindowAdd (F := Ideal) (φ := .f32) (s := S2x4112x16) (t := S2x4112x16) (u := S_) ![1, 4112, 1] ![1, 1, 1] ![0, 4111, 0] ![0, 0, 0] x
        (broadcastInDim S_ ![] h1 (constant S_ .f32 0x00000000#32)) h2 h3)
      (broadcastInDim S2x4112x16 ![] h4 (constant S_ .f32 0xBFB8AA3B#32)) = want x := by
  funext y
  obtain ⟨a, r, b, rfl⟩ : ∃ (a : Fin 2) (r : Fin 4112) (b : Fin 16), y = ix3 a r b := ⟨y 0, y 1, y 2, by funext a; fin_cases a <;> rfl⟩
  refine congrArg (· * Ideal.ofBits .f32 0xBFB8AA3B#32) ?_
  exact add_window_apply (A := 2) (N := 4112) (B := 16) (M := 4111) rfl x _ (fun _ => by pointwise) h2 _ a r b

end Cert.CumRefIdeal.RefValue

namespace Cert.CumRun

open Idealize.ShloMosaic Idealize.ShloMosaic.TcCoe
open Idealize.SL Idealize.SL.Sem
open Cert.CumIdeal Cert.CumIdeal.Gen
open Cert.CumRefIdeal (RefValue.line RefValue.sum_cut RefValue.want RefValue.run_apply)

variable (m : (ℓ : Loc nD τ sig) → Buf (Elt Ideal) ℓ) (ρ : Dev nD → PrngReg) (c : Dev nD)

abbrev arg0 : FVec Ideal S2x4112x16 .f32 := m ((c.tc : Thread nD τ).loc main_arg0)
/-- The factor of the result, minus the logarithm of e to base two. -/
abbrev factor : EReal := Ideal.ofBits .f32 0xBFB8AA3B#32

/-- The triangle of ones. -/
theorem ones (k l : Fin 128) : (FloatOps.sitofp (F := Ideal) .f32 (BitVec.setWidth 32 (IntOp.cmpi .sle (BitVec.ofNat 32 k.val) (BitVec.ofNat 32 l.val))) : EReal)
    = if k.val < l.val + 1 then 1 else 0 := by
  have e : ∀ k l : Fin 128, BitVec.setWidth 32 (IntOp.cmpi .sle (BitVec.ofNat 32 k.val) (BitVec.ofNat 32 l.val)) = if k.val < l.val + 1 then 1#32 else 0#32 := by
    decide +kernel
  rw [e]
  split
  · show (((1#32).toInt : ℝ) : EReal) = 1
    norm_num
  · show (((0#32).toInt : ℝ) : EReal) = 0
    norm_num
/-- What the narrowings leave of an entry adds nothing to it. -/
theorem rest (v : EReal) (h : v ≠ ⊤) : v - v - (v - v) + (v - v) + v = v := by
  induction v with
  | bot => rfl
  | top => exact absurd rfl h
  | coe r => norm_cast; ring

theorem sum_apply (x y : Vec Ideal S16x128 .f32) (h : Fin 16) (l : Fin 128) (z : ℕ → EReal) (hx : ∀ k : Fin 128, x (ix2 h k) = z k.val) (hz : ∀ n, z n ≠ ⊤) :
    k0_pay2 (F := Ideal) x y (ix2 h l) = (∑ k ∈ Finset.range (l.val + 1), z k) + y (ix2 h l) := by
  pointwise [k0_pay2]
  rw [← Finset.sum_add_distrib, ← Finset.sum_add_distrib, ← RefValue.sum_cut z (l.val + 1) 128 (by omega), ← Fin.sum_univ_eq_sum_range]
  refine congrArg (· + y (ix2 h l)) (Finset.sum_congr rfl fun k _ => ?_)
  rw [ones, hx]
  split
  · rw [mul_one, mul_one, mul_one]
    exact rest _ (hz _)
  · rw [mul_zero, mul_zero, mul_zero, add_zero, add_zero]
theorem last_apply (x y : Vec Ideal S16x128 .f32) (h : Fin 16) (l : Fin 128) : k0_pay4 (F := Ideal) x y (ix2 h l) = k0_pay2 (F := Ideal) x y (ix2 h 127) := by
  unfold k0_pay4
  generalize k0_pay2 (F := Ideal) x y = z
  pointwise
theorem scaled_apply (x y : Vec Ideal S16x128 .f32) (h : Fin 16) (l : Fin 128) : k0_pay3 (F := Ideal) x y (ix2 h l) = k0_pay2 (F := Ideal) x y (ix2 h l) * factor := by
  unfold k0_pay3
  generalize k0_pay2 (F := Ideal) x y = z
  pointwise
theorem zero_apply (h : Fin 16) (l : Fin 128) : k0_pay1 (F := Ideal) (ix2 h l) = 0 := by
  pointwise [k0_pay1]

theorem idx0 : ∀ t : Fin grid0.N, win0_0.index t = ![0, t.val] := by decide +kernel
theorem idx1 : ∀ t : Fin grid0.N, win0_1.index t = ![0, t.val] := by decide +kernel

theorem padded (h : Fin 16) (p : Fin 8448) (a : Fin 2) (n : Fin 4224) (hp : p.val = 4224 * a.val + n.val) :
    (V m c main_v3 : S16x8448.Idx → EReal) (ix2 h p) = RefValue.line (arg0 m c) a h n.val := by
  unfold V V0 RefValue.line
  simp only [List.flatten_cons, List.flatten_nil, List.append_nil]
  after_results
  by_cases hs : n.val < 4112
  · pointwise [hs]
    rw [dif_pos (by omega)]
    exact congrArg₂ (fun i j => arg0 m c (ix3 i j h)) (Fin.ext (by show p.val / 4224 = a.val; omega)) (Fin.ext (by show p.val % 4224 = n.val; omega))
  · pointwise [hs]
    rw [dif_neg (by omega)]

/-- Point `t` reads 128 rows of a prompt. -/
theorem block0 (t : Fin cfg0.N) (h : Fin 16) (l : Fin 128) (a : Fin 2) (ha : a.val = t.val / 33) :
    (iblk m c 0 t : S16x128.Idx → _) (ix2 h l) = RefValue.line (A := 2) (N := 4112) (B := 16) (arg0 m c) a h (128 * (t.val % 33) + l.val) := by
  have ht : t.val < 66 := t.isLt
  refine Eq.trans ?_ (padded m c h ⟨128 * t.val + l.val, by omega⟩ a ⟨128 * (t.val % 33) + l.val, by omega⟩ (by show 128 * t.val + l.val = 4224 * a.val + (128 * (t.val % 33) + l.val); omega))
  refine congrArg (V m c main_v3 : S16x8448.Idx → _) (funext fun b => Fin.ext ?_)
  refine (win0_0.rect_emb_val_off t _ b).trans ?_
  rw [idx0 t]
  fin_cases b
  · show 0 * 16 + h.val = h.val
    omega
  · show t.val * 128 + l.val = 128 * t.val + l.val
    omega

/-- The sum of the first `n` rows. -/
def upto (a : Fin 2) (h : Fin 16) (n : ℕ) : EReal := ∑ k ∈ Finset.range n, RefValue.line (A := 2) (N := 4112) (B := 16) (arg0 m c) a h k

theorem upto_add (a : Fin 2) (h : Fin 16) (d n : ℕ) :
    (∑ k ∈ Finset.range n, RefValue.line (A := 2) (N := 4112) (B := 16) (arg0 m c) a h (d + k)) + upto m c a h d = upto m c a h (d + n) := by
  unfold upto
  rw [Finset.sum_range_add, add_comm]

/-- No entry of the argument is `∞`. -/
def NoTop : Prop := ∀ i, arg0 m c i ≠ ⊤

theorem line_ne_top (hl : NoTop m c) (a : Fin 2) (h : Fin 16) (n : ℕ) : RefValue.line (A := 2) (N := 4112) (B := 16) (arg0 m c) a h n ≠ ⊤ := by
  unfold RefValue.line
  split
  · exact hl _
  · exact EReal.zero_ne_top

/-- What a point computes, when the point before it has carried the sum of the rows before. -/
theorem step (hl : NoTop m c) (t : Fin cfg0.N) (a : Fin 2) (ha : a.val = t.val / 33) (y : Vec Ideal S16x128 .f32) (h : Fin 16) (l : Fin 128)
    (hy : y (ix2 h l) = upto m c a h (128 * (t.val % 33))) :
    k0_pay2 (F := Ideal) (iblk m c 0 t) y (ix2 h l) = upto m c a h (128 * (t.val % 33) + (l.val + 1)) := by
  refine (sum_apply _ y h l (fun k => RefValue.line (A := 2) (N := 4112) (B := 16) (arg0 m c) a h (128 * (t.val % 33) + k)) (fun k => block0 m c t h k a ha) (fun n => line_ne_top m c hl a h _)).trans ?_
  rw [hy]
  exact upto_add m c a h _ _

theorem first (hl : NoTop m c) (t : Fin cfg0.N) (h0 : t.val % 33 = 0) (a : Fin 2) (ha : a.val = t.val / 33) (h : Fin 16) (l : Fin 128) :
    (outsAt0 m c t.val t.isLt).1 (ix2 h l) = upto m c a h (128 * (t.val % 33) + (l.val + 1)) * factor
    ∧ (outsAt0 m c t.val t.isLt).2 (ix2 h l) = upto m c a h (128 * (t.val % 33) + 128) := by
  have hy : ∀ l : Fin 128, k0_pay1 (F := Ideal) (ix2 h l) = upto m c a h (128 * (t.val % 33)) := fun l => by
    rw [zero_apply, h0]
    unfold upto
    rw [Nat.mul_zero, Finset.sum_range_zero]
  rw [outsAt0_A m c t h0]
  constructor
  · frame_out
    rw [scaled_apply, step m c hl t a ha _ h l (hy l)]
  · frame_out
    rw [last_apply, step m c hl t a ha _ h 127 (hy 127)]
    rfl
theorem later (hl : NoTop m c) (t : Fin cfg0.N) (h0 : ¬t.val % 33 = 0) (a : Fin 2) (ha : a.val = t.val / 33) (h : Fin 16) (l : Fin 128)
    (hy : ∀ l : Fin 128, (outsAt0 m c (t.val - 1) (Nat.lt_of_le_of_lt (Nat.sub_le _ _) t.isLt)).2 (ix2 h l) = upto m c a h (128 * (t.val % 33))) :
    (outsAt0 m c t.val t.isLt).1 (ix2 h l) = upto m c a h (128 * (t.val % 33) + (l.val + 1)) * factor
    ∧ (outsAt0 m c t.val t.isLt).2 (ix2 h l) = upto m c a h (128 * (t.val % 33) + 128) := by
  rw [outsAt0_B m c t h0]
  constructor
  · frame_out
    rw [scaled_apply]
    refine congrArg (· * factor) (step m c hl t a ha _ h l ?_)
    exact (congrFun (Memref.IsWhole.read_unread _ _) _).trans (hy l)
  · frame_out
    rw [last_apply]
    refine step m c hl t a ha _ h 127 ?_
    exact (congrFun (Memref.IsWhole.read_unread _ _) _).trans (hy 127)

/-- The carried column after any point: the sum of all rows so far. -/
theorem carried (hl : NoTop m c) (h : Fin 16) (n : ℕ) : ∀ (hn : n < cfg0.N) (a : Fin 2) (_ : a.val = n / 33) (l : Fin 128),
    (outsAt0 m c n hn).2 (ix2 h l) = upto m c a h (128 * (n % 33) + 128) := by
  induction n with
  | zero => exact fun hn a ha l => (first m c hl ⟨0, hn⟩ (Nat.zero_mod 33) a ha h l).2
  | succ n ih =>
    intro hn a ha l
    by_cases h0 : (n + 1) % 33 = 0
    · exact (first m c hl ⟨n + 1, hn⟩ h0 a ha h l).2
    · refine (later m c hl ⟨n + 1, hn⟩ h0 a ha h l fun l => ?_).2
      refine (ih (by omega) a (by omega) l).trans (congrArg (upto m c a h) ?_)
      show 128 * (n % 33) + 128 = 128 * ((n + 1) % 33)
      omega
theorem point (hl : NoTop m c) (t : Fin cfg0.N) (a : Fin 2) (ha : a.val = t.val / 33) (h : Fin 16) (l : Fin 128) :
    (outsAt0 m c t.val t.isLt).1 (ix2 h l) = upto m c a h (128 * (t.val % 33) + (l.val + 1)) * factor := by
  by_cases h0 : t.val % 33 = 0
  · exact (first m c hl t h0 a ha h l).1
  · refine (later m c hl t h0 a ha h l fun l => ?_).1
    refine (carried m c hl h (t.val - 1) _ a (by omega) l).trans (congrArg (upto m c a h) ?_)
    omega

/-- The array the call leaves: the sums of both prompts, side by side. -/
def sums : Vec Ideal S16x8448 .f32 := fun i =>
  upto m c ⟨(i 1).val / 4224, by have h : (i 1).val < 8448 := (i 1).isLt; omega⟩ (i 0) ((i 1).val % 4224 + 1) * factor

theorem final (hl : NoTop m c) : (dats m 0 c).arrAt 1 cfg0.N = sums m c := by
  refine (dats m 0 c).arrAt_eq_of_covers 1 _ (by decide +kernel) fun t hf y => ?_
  have e := idx1 t
  have ht : t.val < 66 := t.isLt
  have y1 : ((y : S16x128.Idx) 1).val < 128 := ((y : S16x128.Idx) 1).isLt
  have ey : ((cfg0.win 1).blk t).view.emb y = (ix2 ((y : S16x128.Idx) 0) ⟨128 * t.val + ((y : S16x128.Idx) 1).val, by omega⟩ : S16x8448.Idx) := by
    refine funext fun a => Fin.ext ((win0_1.rect_emb_val_off t _ a).trans ?_)
    rw [e]
    fin_cases a
    · show 0 * 16 + ((y : S16x128.Idx) 0).val = ((y : S16x128.Idx) 0).val
      omega
    · show t.val * 128 + ((y : S16x128.Idx) 1).val = 128 * t.val + ((y : S16x128.Idx) 1).val
      omega
  rw [ey]
  blk_simp; rw [after0_1]
  have hy : (y : S16x128.Idx) = ix2 ((y : S16x128.Idx) 0) ((y : S16x128.Idx) 1) := by
    funext a; fin_cases a <;> rfl
  refine (congrArg (outsAt0 m c t.val t.isLt).1 hy).trans ?_
  refine (point m c hl t ⟨t.val / 33, by omega⟩ rfl _ _).trans ?_
  refine congrArg (· * factor) (congrArg₂ (fun a n => upto m c a ((y : S16x128.Idx) 0) n) (Fin.ext ?_) ?_)
  · show t.val / 33 = (128 * t.val + ((y : S16x128.Idx) 1).val) / 4224
    omega
  · show 128 * (t.val % 33) + (((y : S16x128.Idx) 1).val + 1) = (128 * t.val + ((y : S16x128.Idx) 1).val) % 4224 + 1
    omega

/-- What the host takes of an array: each prompt's rows, the heads last. -/
def taken (x : FVec Ideal S16x8448 .f32) : FVec Ideal S2x4112x16 .f32 :=
  extractStridedSlice S2x4112x16 ![0, 0, 0] (shapeCast S2x4224x16 (transpose S8448x16 [1, 0] x transposes_S16x8448_S8448x16_1_0) shapeCasts_S8448x16_S2x4224x16) slices_S2x4224x16_S2x4112x16_0_0_0

theorem tail_eq (V : Valuation τ sig (Elt Ideal)) : StableHlo.after hostOps1 V (Proc.devRef .tc main_v7) = taken (V (Proc.devRef .tc main_v4) : S16x8448.Idx → EReal) := by
  after_results
  rfl
theorem taken_sums : taken (sums m c) = RefValue.want (arg0 m c) := by
  funext y
  obtain ⟨a, r, l, rfl⟩ : ∃ (a : Fin 2) (r : Fin 4112) (l : Fin 16), y = ix3 a r l := ⟨y 0, y 1, y 2, by funext a; fin_cases a <;> rfl⟩
  have e : taken (sums m c) (ix3 a r l) = sums m c (ix2 l ⟨4224 * a.val + r.val, by omega⟩) := by
    unfold taken
    generalize sums m c = z
    pointwise
    exact congrArg z (congrArg (ix2 l) (Fin.ext (by show a.val * 4224 + r.val = 4224 * a.val + r.val; omega)))
  refine e.trans (congrArg (· * factor) (congrArg₂ (fun a n => upto m c a l n) (Fin.ext ?_) ?_))
  · show (4224 * a.val + r.val) / 4224 = a.val
    omega
  · show (4224 * a.val + r.val) % 4224 + 1 = r.val + 1
    omega
theorem tail (hl : NoTop m c) : Pipeline.afterTail₀ cfgs (dats m) 0 (V0 m) [hostOps1] c main_v7 = RefValue.want (arg0 m c) := by
  have e : Pipeline.withArrays spec0 c (V0 m c) (fun w => (dats m 0 c).arrAt w cfg0.N) (Proc.devRef .tc main_v4) = sums m c :=
    (Pipeline.withArrays_arr spec0 launch0.win.arr_inj c _ _ 1).trans (final m c hl)
  refine (tail_eq _).trans ?_
  refine (congrArg (fun x : S16x8448.Idx → EReal => taken x) e).trans ?_
  exact taken_sums m c

/-- The precondition's host function takes a broadcast of a scalar. -/
instance pre_facts : Cert.Pre_below_infinity.Facts := ⟨by decide⟩

/-- The precondition says that no entry is `∞`. -/
theorem ne_top_of (h : Cert.Pre_CumIdeal_below_infinity (hPre_below_infinity := pre_facts) m) : NoTop m c := by
  intro i hi
  have h' := congrFun (h c) i
  have e : Cert.Pre_below_infinity.fn (F := Ideal) (arg0 m c) i = 0#1 := by
    show BitVec.ofBool (decide (arg0 m c i < _)) = 0#1
    rw [hi]
    simp
  exact absurd (e.symm.trans h') (by decide)

/-- The kernel and the reference, on arguments that agree and hold no `∞`, leave the same results, and each its arguments. -/
theorem claim : Cert.algebraic_CumIdeal_CumRefIdeal_pre_below_infinity (hPre_below_infinity := pre_facts) := by
  intro m ρ m' ρ' hpre hagree
  refine ⟨fun c => RefValue.want (arg0 m c), ?_, ?_⟩
  · exact (θ_run defs _ _).mono (fun r h c => ⟨((h.2 c).2 main_v7 (Pipeline.mem_restRefs_of main_v7 (by decide) (by decide))).trans (tail m c (ne_top_of m c hpre)), h.1 c⟩)
      (θ_run_and (unchanged (F := Ideal) m ρ) (run_main (F := Ideal) m ρ))
  · refine (θ_run Cert.CumRefIdeal.defs _ _).mono (fun r h c => ⟨(h c).1.trans ?_, (h c).2⟩) (Cert.CumRefIdeal.Value.run (F := Ideal) m' ρ')
    refine (RefValue.run_apply _ _ _ _ _).trans ?_
    rw [hagree c]

/-- The reference's run leaves its arguments and its counters as they were. -/
theorem frame_reference : Cert.quiescent_CumRefIdeal := fun m ρ _ =>
  (θ_run Cert.CumRefIdeal.defs _ _).mono (fun r h => ⟨fun c => (h c).2, Idealize.ShloMosaic.sem_eq_zero_of_no_sems (by decide) r.2⟩)
    (Cert.CumRefIdeal.Value.run (F := Ideal) m ρ)
/-- The same frames, on arguments of the precondition. -/
theorem frame_reference_pre : Cert.quiescent_CumRefIdeal_pre_below_infinity (hPre_below_infinity := pre_facts) := fun m ρ _ => frame_reference m ρ trivial
theorem frame_ideal_pre : Cert.quiescent_CumIdeal_pre_below_infinity (hPre_below_infinity := pre_facts) := fun m ρ _ => frame (F := Ideal) m ρ

end Cert.CumRun

end
-- ==== Proof.ProjValue.lean ====
module

public import proofs.«01_k».proof.Defs
public import proofs.«01_k».proof.Proof.Gen.ProjIdeal.Frame
public import proofs.«01_k».proof.Proof.Gen.ProjIdeal.Value
public import proofs.«01_k».proof.Proof.Gen.ProjRefIdeal.Run
public import Idealize.ShloMosaic.Lib.Pipeline.ValueKit
public import Idealize.ShloMosaic.Lib.Pipeline.ReadBack
public import Idealize.ShloMosaic.Lib.Quiescent

/-!
# The scaled projection of normalised rows

The call keeps the weights, cast once at the first point, and takes 528 rows at each point: it normalises each row,
multiplies it with the weights and scales the product.

-/

@[expose] public section

noncomputable section

set_option maxRecDepth 16384

namespace Cert.ProjRefIdeal.RefValue

open Idealize.ShloMosaic Idealize.ShloMosaic.TcCoe
open Idealize.SL Idealize.SL.Sem
open Idealize.ShloMosaic.StableHlo
open Cert.ProjRefIdeal Cert.ProjRefIdeal.Gen

/-- One value of the result: a row `x` normalised by its mean square, scaled by `g`, times a column `w`, scaled. -/
def line (x g w : Fin 2048 → EReal) : EReal :=
  (∑ k, x k * Ideal.rsqrt (Ideal.div (∑ j, x j * x j) (Ideal.ofBits FTy.f32 1157627904#32) + Ideal.ofBits FTy.f32 897988541#32) * g k * w k)
    * Ideal.ofBits FTy.f32 1040356334#32

/-- The result the reference computes. -/
def want (x : FVec Ideal S8448x2048 .f32) (g : FVec Ideal S2048 .f32) (w : FVec Ideal S2048x2048 .f32) : FVec Ideal S8448x2048 .bf16 :=
  truncf .bf16 (mulf (Host.dotGeneral (φ₁ := .f32) (φ₂ := .f32) dot_S8448x2048_S2048x2048_S8448x2048_1_0_0_1_n_n none (mulf (mulf x (broadcastInDim S8448x2048 ![0, 1] bcast_S8448x1_S8448x2048_0_1 (Host.rsqrt (addf (Host.divf (broadcastInDim S8448x1 ![0] bcast_S8448_S8448x1_0 (Host.reduceAdd (mulf x x) (constant S_ .f32 0x00000000#32) reducesTo_S8448x2048_S8448_d1 h_S_)) (broadcastInDim S8448x1 ![] bcast_S_S8448x1 (constant S_ .f32 0x45000000#32))) (broadcastInDim S8448x1 ![] bcast_S_S8448x1 (constant S_ .f32 0x358637BD#32)))))) (broadcastInDim S8448x2048 ![0, 1] bcast_S1x2048_S8448x2048_0_1 (broadcastInDim S1x2048 ![1] bcast_S2048_S1x2048_1 g))) w) (broadcastInDim S8448x2048 ![] bcast_S_S8448x2048 (constant S_ .f32 0x3E0293EE#32))) bitsLt_bf16_f32

theorem want_apply (x : FVec Ideal S8448x2048 .f32) (g : FVec Ideal S2048 .f32) (w : FVec Ideal S2048x2048 .f32) (r : Fin 8448) (l : Fin 2048) :
    want x g w (ix2 r l) = line (fun k => x (ix2 r k)) (fun k => g (ix1 k)) (fun k => w (ix2 k l)) := by
  pointwise [want, line]

end Cert.ProjRefIdeal.RefValue

namespace Cert.ProjRun

open Idealize.ShloMosaic Idealize.ShloMosaic.TcCoe
open Idealize.SL Idealize.SL.Sem
open Cert.ProjIdeal Cert.ProjIdeal.Gen
open Cert.ProjRefIdeal (RefValue.want)

variable (m : (ℓ : Loc nD τ sig) → Buf (Elt Ideal) ℓ) (ρ : Dev nD → PrngReg) (c : Dev nD)

abbrev arg0 : FVec Ideal S8448x2048 .f32 := m ((c.tc : Thread nD τ).loc main_arg0)
abbrev arg1 : FVec Ideal S2048 .f32 := m ((c.tc : Thread nD τ).loc main_arg1)
abbrev arg2 : FVec Ideal S2048x2048 .f32 := m ((c.tc : Thread nD τ).loc main_arg2)

theorem cast_apply (w : Vec Ideal S2048x2048 .f32) (k l : Fin 2048) : k0_pay1 (F := Ideal) w (ix2 k l) = w (ix2 k l) := by
  pointwise [k0_pay1]
theorem row_apply (x : Vec Ideal S528x2048 .f32) (g : Vec Ideal S1x2048 .f32) (w : Vec Ideal S2048x2048 .bf16) (r : Fin 528) (l : Fin 2048) :
    k0_pay2 (F := Ideal) x g w (ix2 r l)
      = Cert.ProjRefIdeal.RefValue.line (fun k => x (ix2 r k)) (fun k => g (ix2 0 k)) (fun k => w (ix2 k l)) := by
  pointwise [k0_pay2, Cert.ProjRefIdeal.RefValue.line]

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![t.val, 0] := by decide +kernel

/-- The rows that a point reads. -/
theorem block0 (t : Fin cfg0.N) (r : Fin 528) (l : Fin 2048) (p : Fin 8448) (hp : p.val = 528 * t.val + r.val) :
    (iblk m c 0 t : S528x2048.Idx → _) (ix2 r l) = arg0 m c (ix2 p l) := by
  have e := idx0 t
  refine Eq.trans ?_ (congrFun (V_main_arg0 m c) (ix2 p l))
  refine congrArg (V m c main_arg0 : S8448x2048.Idx → _) (funext fun a => Fin.ext ?_)
  refine (win0_0.rect_emb_val_off t _ a).trans ?_
  rw [e]
  fin_cases a
  · show t.val * 528 + r.val = p.val
    omega
  · show 0 * 2048 + l.val = l.val
    omega
/-- A vector laid out as one row, whole at every point. -/
theorem block1 (t : Fin cfg0.N) (l : Fin 2048) : (iblk m c 1 t : S1x2048.Idx → _) (ix2 0 l) = arg1 m c (ix1 l) := by
  have ei := idx1 t
  have e : (V m c main_v0 : S1x2048.Idx → _) (ix2 0 l) = arg1 m c (ix1 l) := by
    unfold V
    after_results
    pointwise
  rw [← e]
  blk_ext [iblk, ei]
/-- The weights, whole at every point. -/
theorem block2 (t : Fin cfg0.N) (k l : Fin 2048) : (iblk m c 2 t : S2048x2048.Idx → _) (ix2 k l) = arg2 m c (ix2 k l) := by
  have e := idx2 t
  refine Eq.trans ?_ (congrFun (V_main_arg2 m c) (ix2 k l))
  refine congrArg (V m c main_arg2 : S2048x2048.Idx → _) (funext fun a => Fin.ext ?_)
  refine (win0_2.rect_emb_val_off t _ a).trans ?_
  rw [e]
  fin_cases a
  · show 0 * 2048 + k.val = k.val
    omega
  · show 0 * 2048 + l.val = l.val
    omega

/-- The kept weights after the first point, and after a later one from those before it. -/
theorem kept_zero (t : Fin cfg0.N) (h : t.val % 16 = 0) (k l : Fin 2048) : (outsAt0 m c t.val t.isLt).2 (ix2 k l) = arg2 m c (ix2 k l) := by
  rw [outsAt0_A m c t h]
  frame_out
  exact (cast_apply _ _ _).trans (block2 m c _ _ _)
theorem kept_succ (t : Fin cfg0.N) (h : ¬t.val % 16 = 0) (k l : Fin 2048) : (outsAt0 m c t.val t.isLt).2 (ix2 k l)
    = (outsAt0 m c (t.val - 1) (Nat.lt_of_le_of_lt (Nat.sub_le _ _) t.isLt)).2 (ix2 k l) := by
  rw [outsAt0_B m c t h]
  rfl
/-- The kept weights after any point. -/
theorem kept (k l : Fin 2048) (n : ℕ) : ∀ hn : n < cfg0.N, (outsAt0 m c n hn).2 (ix2 k l) = arg2 m c (ix2 k l) := by
  induction n with
  | zero => exact fun hn => kept_zero m c ⟨0, hn⟩ (Nat.zero_mod 16) k l
  | succ n ih =>
    intro hn
    have h16 : n + 1 < 16 := hn.trans_eq N_0
    exact (kept_succ m c ⟨n + 1, hn⟩ (by show ¬(n + 1) % 16 = 0; omega) k l).trans (ih _)

theorem cast_kept (t : Fin cfg0.N) (k l : Fin 2048) : k0_pay1 (F := Ideal) (iblk m c 2 t) (ix2 k l) = arg2 m c (ix2 k l) :=
  (cast_apply _ _ _).trans (block2 m c t k l)

/-- The rows that a point writes. -/
theorem point (t : Fin cfg0.N) (r : Fin 528) (l : Fin 2048) (p : Fin 8448) (hp : p.val = 528 * t.val + r.val) :
    (outsAt0 m c t.val t.isLt).1 (ix2 r l) = RefValue.want (arg0 m c) (arg1 m c) (arg2 m c) (ix2 p l) := by
  have h0 := fun k => block0 m c t r k p hp
  have h1 := fun k => block1 m c t k
  rw [Cert.ProjRefIdeal.RefValue.want_apply]
  by_cases h : t.val % 16 = 0
  · rw [outsAt0_A m c t h]
    frame_out
    refine (row_apply _ _ _ _ _).trans ?_
    have h2 := fun k => cast_kept m c t k l
    simp only [h0, h1, h2]
  · rw [outsAt0_B m c t h]
    frame_out
    refine (row_apply _ _ _ _ _).trans ?_
    have h2 := fun k => kept m c k l (t.val - 1) (Nat.lt_of_le_of_lt (Nat.sub_le _ _) t.isLt)
    simp only [read_unread_whole, h0, h1, h2]

theorem final : (dats m 0 c).arrAt 3 cfg0.N = RefValue.want (arg0 m c) (arg1 m c) (arg2 m c) := by
  refine (dats m 0 c).arrAt_eq_of_covers 3 _ (by decide +kernel) fun t hf y => ?_
  have e := idx3 t
  have ht : t.val < 16 := t.isLt
  have y0 : ((y : S528x2048.Idx) 0).val < 528 := ((y : S528x2048.Idx) 0).isLt
  blk_simp; rw [after0_3]
  have hy : (y : S528x2048.Idx) = ix2 ((y : S528x2048.Idx) 0) ((y : S528x2048.Idx) 1) := by funext a; fin_cases a <;> rfl
  refine (congrArg (outsAt0 m c t.val t.isLt).1 hy).trans ?_
  refine (point m c t _ _ ⟨528 * t.val + ((y : S528x2048.Idx) 0).val, by omega⟩ rfl).trans (congrArg _ ?_)
  refine funext fun a => Fin.ext (Eq.symm ((win0_3.rect_emb_val_off t _ a).trans ?_))
  rw [e]
  fin_cases a
  · show t.val * 528 + ((y : S528x2048.Idx) 0).val = 528 * t.val + ((y : S528x2048.Idx) 0).val
    omega
  · show 0 * 2048 + ((y : S528x2048.Idx) 1).val = ((y : S528x2048.Idx) 1).val
    omega

/-- The kernel and the reference, on arguments that agree, leave the same result, and each its arguments. -/
theorem claim : Cert.algebraic_ProjIdeal_ProjRefIdeal := by
  intro m ρ m' ρ' _ hagree
  refine ⟨fun c => RefValue.want (arg0 m c) (arg1 m c) (arg2 m c), ?_, ?_⟩
  · exact (θ_run defs _ _).mono (fun r h c => ⟨(h c).1.trans (final m c), (h c).2⟩) (Cert.ProjIdeal.Value.run_blocks (F := Ideal) m ρ)
  · refine (θ_run Cert.ProjRefIdeal.defs _ _).mono (fun r h c => ⟨(h c).1.trans ?_, (h c).2⟩) (Cert.ProjRefIdeal.Value.run (F := Ideal) m' ρ')
    rw [(hagree c).1, (hagree c).2.1, (hagree c).2.2]
    rfl

/-- The reference's run leaves its arguments and its counters as they were. -/
theorem frame_reference : Cert.quiescent_ProjRefIdeal := fun m ρ _ =>
  (θ_run Cert.ProjRefIdeal.defs _ _).mono (fun r h => ⟨fun c => (h c).2, Idealize.ShloMosaic.sem_eq_zero_of_no_sems (by decide) r.2⟩)
    (Cert.ProjRefIdeal.Value.run (F := Ideal) m ρ)

end Cert.ProjRun

end
-- ==== Proof.ResValue.lean ====
module

public import proofs.«01_k».proof.Defs
public import proofs.«01_k».proof.Proof.Gen.ResIdeal.Frame
public import proofs.«01_k».proof.Proof.Gen.ResIdeal.Value
public import proofs.«01_k».proof.Proof.Gen.ResRefIdeal.Run
public import Idealize.ShloMosaic.Lib.Pipeline.ValueKit
public import Idealize.ShloMosaic.Lib.Pipeline.ReadBack
public import Idealize.ShloMosaic.Lib.Quiescent

/-!
# The product added to the residual

The call keeps the weights, cast once at the first point, and takes 528 rows at each point: it adds the rows' product
with the weights to the residual's rows.

-/

@[expose] public section

noncomputable section

set_option maxRecDepth 16384

namespace Cert.ResRefIdeal.RefValue

open Idealize.ShloMosaic Idealize.ShloMosaic.TcCoe
open Idealize.SL Idealize.SL.Sem
open Idealize.ShloMosaic.StableHlo
open Cert.ResRefIdeal Cert.ResRefIdeal.Gen

/-- The result the reference computes. -/
def want (x : FVec Ideal S8448x2048 .bf16) (w : FVec Ideal S2048x2048 .f32) (h : FVec Ideal S8448x2048 .f32) : FVec Ideal S8448x2048 .f32 :=
  addf h (Host.dotGeneral (φ₁ := .f32) (φ₂ := .f32) dot_S8448x2048_S2048x2048_S8448x2048_1_0_0_1_n_n none (extf .f32 x bitsLt_bf16_f32) w)

theorem want_apply (x : FVec Ideal S8448x2048 .bf16) (w : FVec Ideal S2048x2048 .f32) (h : FVec Ideal S8448x2048 .f32) (r : Fin 8448) (l : Fin 2048) :
    want x w h (ix2 r l) = h (ix2 r l) + ∑ k : Fin 2048, x (ix2 r k) * w (ix2 k l) := by
  pointwise [want]

end Cert.ResRefIdeal.RefValue

namespace Cert.ResRun

open Idealize.ShloMosaic Idealize.ShloMosaic.TcCoe
open Idealize.SL Idealize.SL.Sem
open Cert.ResIdeal Cert.ResIdeal.Gen
open Cert.ResRefIdeal (RefValue.want)

variable (m : (ℓ : Loc nD τ sig) → Buf (Elt Ideal) ℓ) (ρ : Dev nD → PrngReg) (c : Dev nD)

abbrev argX : FVec Ideal S8448x2048 .bf16 := m ((c.tc : Thread nD τ).loc main_arg0)
abbrev argW : FVec Ideal S2048x2048 .f32 := m ((c.tc : Thread nD τ).loc main_arg1)
abbrev argH : FVec Ideal S8448x2048 .f32 := m ((c.tc : Thread nD τ).loc main_arg2)

theorem cast_apply (w : Vec Ideal S2048x2048 .f32) (k l : Fin 2048) : k0_pay1 (F := Ideal) w (ix2 k l) = w (ix2 k l) := by
  pointwise [k0_pay1]
theorem row_apply (h : Vec Ideal S528x2048 .f32) (x : Vec Ideal S528x2048 .bf16) (w : Vec Ideal S2048x2048 .bf16) (r : Fin 528) (l : Fin 2048) :
    k0_pay2 (F := Ideal) h x w (ix2 r l) = h (ix2 r l) + ∑ k, x (ix2 r k) * w (ix2 k l) := by
  pointwise [k0_pay2]

theorem idx : ∀ t : Fin grid0.N, win0_0.index t = ![t.val, 0] ∧ win0_1.index t = ![0, 0] ∧ win0_2.index t = ![t.val, 0]
    ∧ win0_3.index t = ![t.val, 0] := by
  decide +kernel

/-- The rows that a point reads. -/
theorem block0 (t : Fin cfg0.N) (r : Fin 528) (l : Fin 2048) (p : Fin 8448) (hp : p.val = 528 * t.val + r.val) :
    (iblk m c 0 t : S528x2048.Idx → _) (ix2 r l) = argX m c (ix2 p l) := by
  obtain ⟨e, -⟩ := idx t
  refine Eq.trans ?_ (congrFun (V_main_arg0 m c) (ix2 p l))
  refine congrArg (V m c main_arg0 : S8448x2048.Idx → _) (funext fun a => Fin.ext ?_)
  refine (win0_0.rect_emb_val_off t _ a).trans ?_
  rw [e]
  fin_cases a
  · show t.val * 528 + r.val = p.val
    omega
  · show 0 * 2048 + l.val = l.val
    omega
theorem block2 (t : Fin cfg0.N) (r : Fin 528) (l : Fin 2048) (p : Fin 8448) (hp : p.val = 528 * t.val + r.val) :
    (iblk m c 2 t : S528x2048.Idx → _) (ix2 r l) = argH m c (ix2 p l) := by
  obtain ⟨-, -, e, -⟩ := idx t
  refine Eq.trans ?_ (congrFun (V_main_arg2 m c) (ix2 p l))
  refine congrArg (V m c main_arg2 : S8448x2048.Idx → _) (funext fun a => Fin.ext ?_)
  refine (win0_2.rect_emb_val_off t _ a).trans ?_
  rw [e]
  fin_cases a
  · show t.val * 528 + r.val = p.val
    omega
  · show 0 * 2048 + l.val = l.val
    omega
/-- The weights, whole at every point. -/
theorem block1 (t : Fin cfg0.N) (k l : Fin 2048) : (iblk m c 1 t : S2048x2048.Idx → _) (ix2 k l) = argW m c (ix2 k l) := by
  obtain ⟨-, e, -⟩ := idx t
  refine Eq.trans ?_ (congrFun (V_main_arg1 m c) (ix2 k l))
  refine congrArg (V m c main_arg1 : S2048x2048.Idx → _) (funext fun a => Fin.ext ?_)
  refine (win0_1.rect_emb_val_off t _ a).trans ?_
  rw [e]
  fin_cases a
  · show 0 * 2048 + k.val = k.val
    omega
  · show 0 * 2048 + l.val = l.val
    omega

/-- The kept weights after the first point, and after a later one from those before it. -/
theorem kept_zero (t : Fin cfg0.N) (h : t.val % 16 = 0) (k l : Fin 2048) : (outsAt0 m c t.val t.isLt).2 (ix2 k l) = argW m c (ix2 k l) := by
  rw [outsAt0_A m c t h]
  frame_out
  exact (cast_apply _ _ _).trans (block1 m c _ _ _)
theorem kept_succ (t : Fin cfg0.N) (h : ¬t.val % 16 = 0) (k l : Fin 2048) : (outsAt0 m c t.val t.isLt).2 (ix2 k l)
    = (outsAt0 m c (t.val - 1) (Nat.lt_of_le_of_lt (Nat.sub_le _ _) t.isLt)).2 (ix2 k l) := by
  rw [outsAt0_B m c t h]
  rfl
/-- The kept weights after any point. -/
theorem kept (k l : Fin 2048) (n : ℕ) : ∀ hn : n < cfg0.N, (outsAt0 m c n hn).2 (ix2 k l) = argW m c (ix2 k l) := by
  induction n with
  | zero => exact fun hn => kept_zero m c ⟨0, hn⟩ (Nat.zero_mod 16) k l
  | succ n ih =>
    intro hn
    have h16 : n + 1 < 16 := hn.trans_eq N_0
    exact (kept_succ m c ⟨n + 1, hn⟩ (by show ¬(n + 1) % 16 = 0; omega) k l).trans (ih _)

/-- The rows that a point writes. -/
theorem point (t : Fin cfg0.N) (r : Fin 528) (l : Fin 2048) (p : Fin 8448) (hp : p.val = 528 * t.val + r.val) :
    (outsAt0 m c t.val t.isLt).1 (ix2 r l) = RefValue.want (argX m c) (argW m c) (argH m c) (ix2 p l) := by
  have h0 := fun k => block0 m c t r k p hp
  rw [Cert.ResRefIdeal.RefValue.want_apply]
  by_cases h : t.val % 16 = 0
  · rw [outsAt0_A m c t h]
    frame_out
    refine (row_apply _ _ _ _ _).trans ?_
    have h1 : ∀ k : Fin 2048, k0_pay1 (iblk m c 1 t) (ix2 k l) = argW m c (ix2 k l) := fun k => (cast_apply _ _ _).trans (block1 m c t k l)
    rw [block2 m c t r l p hp]
    simp only [h0, h1]
  · rw [outsAt0_B m c t h]
    frame_out
    refine (row_apply _ _ _ _ _).trans ?_
    have h1 := fun k => kept m c k l (t.val - 1) (Nat.lt_of_le_of_lt (Nat.sub_le _ _) t.isLt)
    rw [block2 m c t r l p hp]
    simp only [read_unread_whole, h0, h1]

theorem final : (dats m 0 c).arrAt 3 cfg0.N = RefValue.want (argX m c) (argW m c) (argH m c) := by
  refine (dats m 0 c).arrAt_eq_of_covers 3 _ (by decide +kernel) fun t hf y => ?_
  obtain ⟨-, -, -, e⟩ := idx t
  have ht : t.val < 16 := t.isLt
  have y0 : ((y : S528x2048.Idx) 0).val < 528 := ((y : S528x2048.Idx) 0).isLt
  blk_simp; rw [after0_3]
  have hy : (y : S528x2048.Idx) = ix2 ((y : S528x2048.Idx) 0) ((y : S528x2048.Idx) 1) := by funext a; fin_cases a <;> rfl
  refine (congrArg (outsAt0 m c t.val t.isLt).1 hy).trans ?_
  refine (point m c t _ _ ⟨528 * t.val + ((y : S528x2048.Idx) 0).val, by omega⟩ rfl).trans (congrArg _ ?_)
  refine funext fun a => Fin.ext (Eq.symm ((win0_3.rect_emb_val_off t _ a).trans ?_))
  rw [e]
  fin_cases a
  · show t.val * 528 + ((y : S528x2048.Idx) 0).val = 528 * t.val + ((y : S528x2048.Idx) 0).val
    omega
  · show 0 * 2048 + ((y : S528x2048.Idx) 1).val = ((y : S528x2048.Idx) 1).val
    omega

/-- The kernel and the reference, on arguments that agree, leave the same result, and each its arguments. -/
theorem claim : Cert.algebraic_ResIdeal_ResRefIdeal := by
  intro m ρ m' ρ' _ hagree
  refine ⟨fun c => RefValue.want (argX m c) (argW m c) (argH m c), ?_, ?_⟩
  · exact (θ_run defs _ _).mono (fun r h c => ⟨(h c).1.trans (final m c), (h c).2⟩) (Cert.ResIdeal.Value.run_blocks (F := Ideal) m ρ)
  · refine (θ_run Cert.ResRefIdeal.defs _ _).mono (fun r h c => ⟨(h c).1.trans ?_, (h c).2⟩) (Cert.ResRefIdeal.Value.run (F := Ideal) m' ρ')
    rw [(hagree c).1, (hagree c).2.1, (hagree c).2.2]
    rfl

/-- The reference's run leaves its arguments and its counters as they were. -/
theorem frame_reference : Cert.quiescent_ResRefIdeal := fun m ρ _ =>
  (θ_run Cert.ResRefIdeal.defs _ _).mono (fun r h => ⟨fun c => (h c).2, Idealize.ShloMosaic.sem_eq_zero_of_no_sems (by decide) r.2⟩)
    (Cert.ResRefIdeal.Value.run (F := Ideal) m ρ)

end Cert.ResRun

end
-- ==== Proof.LnValue.lean ====
module

public import proofs.«01_k».proof.Defs
public import proofs.«01_k».proof.Proof.Gen.LnIdeal.Frame
public import proofs.«01_k».proof.Proof.Gen.LnIdeal.Value
public import proofs.«01_k».proof.Proof.Gen.LnRefIdeal.Run
public import Idealize.ShloMosaic.Lib.Pipeline.ValueKit
public import Idealize.ShloMosaic.Lib.Pipeline.ReadBack
public import Idealize.ShloMosaic.Lib.Quiescent

/-!
# The projection of activated rows, added to the residual

The call keeps the weights, cast once at the first point, and takes 528 rows at each point: it centres each row, divides
it by the root of its variance, scales and moves it, multiplies each value with its logistic, multiplies the rows with the
weights, and adds the product and the bias to the residual's rows.

-/

@[expose] public section

noncomputable section

set_option maxRecDepth 16384

namespace Cert.LnRefIdeal.RefValue

open Idealize.ShloMosaic Idealize.ShloMosaic.TcCoe
open Idealize.SL Idealize.SL.Sem
open Idealize.ShloMosaic.StableHlo
open Cert.LnRefIdeal Cert.LnRefIdeal.Gen

/-- One value of a row `x` less its mean, over the root of its variance, scaled by `g` and moved by `b`. -/
def norm (x g b : Fin 2048 → EReal) (k : Fin 2048) : EReal :=
  (x k - Ideal.div (∑ j, x j) (Ideal.ofBits FTy.f32 1157627904#32))
    * Ideal.rsqrt (Ideal.div (∑ i, (x i - Ideal.div (∑ j, x j) (Ideal.ofBits FTy.f32 1157627904#32))
        * (x i - Ideal.div (∑ j, x j) (Ideal.ofBits FTy.f32 1157627904#32))) (Ideal.ofBits FTy.f32 1157627904#32) + Ideal.ofBits FTy.f32 925353388#32)
    * g k + b k
/-- Such a row, each value times its logistic, times a column `w`. -/
def line (x g b w : Fin 2048 → EReal) : EReal := ∑ k, norm x g b k * Ideal.logistic (norm x g b k) * w k

/-- The result the reference computes. -/
def want (x : FVec Ideal S8448x2048 .f32) (g b : FVec Ideal S2048 .f32) (w : FVec Ideal S2048x2048 .f32) (d : FVec Ideal S2048 .f32) (h : FVec Ideal S8448x2048 .f32) : FVec Ideal S8448x2048 .f32 :=
  addf h (addf (Host.dotGeneral (φ₁ := .f32) (φ₂ := .f32) dot_S8448x2048_S2048x2048_S8448x2048_1_0_0_1_n_n none (mulf (addf (mulf (mulf (subf x (broadcastInDim S8448x2048 ![0, 1] bcast_S8448x1_S8448x2048_0_1 (Host.divf (broadcastInDim S8448x1 ![0] bcast_S8448_S8448x1_0 (Host.reduceAdd x (constant S_ .f32 0x00000000#32) reducesTo_S8448x2048_S8448_d1 h_S_)) (broadcastInDim S8448x1 ![] bcast_S_S8448x1 (constant S_ .f32 0x45000000#32))))) (broadcastInDim S8448x2048 ![0, 1] bcast_S8448x1_S8448x2048_0_1 (Host.rsqrt (addf (Host.divf (broadcastInDim S8448x1 ![0] bcast_S8448_S8448x1_0 (Host.reduceAdd (mulf (subf x (broadcastInDim S8448x2048 ![0, 1] bcast_S8448x1_S8448x2048_0_1 (Host.divf (broadcastInDim S8448x1 ![0] bcast_S8448_S8448x1_0 (Host.reduceAdd x (constant S_ .f32 0x00000000#32) reducesTo_S8448x2048_S8448_d1 h_S_)) (broadcastInDim S8448x1 ![] bcast_S_S8448x1 (constant S_ .f32 0x45000000#32))))) (subf x (broadcastInDim S8448x2048 ![0, 1] bcast_S8448x1_S8448x2048_0_1 (Host.divf (broadcastInDim S8448x1 ![0] bcast_S8448_S8448x1_0 (Host.reduceAdd x (constant S_ .f32 0x00000000#32) reducesTo_S8448x2048_S8448_d1 h_S_)) (broadcastInDim S8448x1 ![] bcast_S_S8448x1 (constant S_ .f32 0x45000000#32)))))) (constant S_ .f32 0x00000000#32) reducesTo_S8448x2048_S8448_d1 h_S_)) (broadcastInDim S8448x1 ![] bcast_S_S8448x1 (constant S_ .f32 0x45000000#32))) (broadcastInDim S8448x1 ![] bcast_S_S8448x1 (constant S_ .f32 0x3727C5AC#32)))))) (broadcastInDim S8448x2048 ![0, 1] bcast_S1x2048_S8448x2048_0_1 (broadcastInDim S1x2048 ![1] bcast_S2048_S1x2048_1 g))) (broadcastInDim S8448x2048 ![0, 1] bcast_S1x2048_S8448x2048_0_1 (broadcastInDim S1x2048 ![1] bcast_S2048_S1x2048_1 b))) (Host.divf (broadcastInDim S8448x2048 ![] bcast_S_S8448x2048 (constant S_ .f32 0x3F800000#32)) (addf (broadcastInDim S8448x2048 ![] bcast_S_S8448x2048 (constant S_ .f32 0x3F800000#32)) (Host.exp (Host.negf (addf (mulf (mulf (subf x (broadcastInDim S8448x2048 ![0, 1] bcast_S8448x1_S8448x2048_0_1 (Host.divf (broadcastInDim S8448x1 ![0] bcast_S8448_S8448x1_0 (Host.reduceAdd x (constant S_ .f32 0x00000000#32) reducesTo_S8448x2048_S8448_d1 h_S_)) (broadcastInDim S8448x1 ![] bcast_S_S8448x1 (constant S_ .f32 0x45000000#32))))) (broadcastInDim S8448x2048 ![0, 1] bcast_S8448x1_S8448x2048_0_1 (Host.rsqrt (addf (Host.divf (broadcastInDim S8448x1 ![0] bcast_S8448_S8448x1_0 (Host.reduceAdd (mulf (subf x (broadcastInDim S8448x2048 ![0, 1] bcast_S8448x1_S8448x2048_0_1 (Host.divf (broadcastInDim S8448x1 ![0] bcast_S8448_S8448x1_0 (Host.reduceAdd x (constant S_ .f32 0x00000000#32) reducesTo_S8448x2048_S8448_d1 h_S_)) (broadcastInDim S8448x1 ![] bcast_S_S8448x1 (constant S_ .f32 0x45000000#32))))) (subf x (broadcastInDim S8448x2048 ![0, 1] bcast_S8448x1_S8448x2048_0_1 (Host.divf (broadcastInDim S8448x1 ![0] bcast_S8448_S8448x1_0 (Host.reduceAdd x (constant S_ .f32 0x00000000#32) reducesTo_S8448x2048_S8448_d1 h_S_)) (broadcastInDim S8448x1 ![] bcast_S_S8448x1 (constant S_ .f32 0x45000000#32)))))) (constant S_ .f32 0x00000000#32) reducesTo_S8448x2048_S8448_d1 h_S_)) (broadcastInDim S8448x1 ![] bcast_S_S8448x1 (constant S_ .f32 0x45000000#32))) (broadcastInDim S8448x1 ![] bcast_S_S8448x1 (constant S_ .f32 0x3727C5AC#32)))))) (broadcastInDim S8448x2048 ![0, 1] bcast_S1x2048_S8448x2048_0_1 (broadcastInDim S1x2048 ![1] bcast_S2048_S1x2048_1 g))) (broadcastInDim S8448x2048 ![0, 1] bcast_S1x2048_S8448x2048_0_1 (broadcastInDim S1x2048 ![1] bcast_S2048_S1x2048_1 b)))))))) w) (broadcastInDim S8448x2048 ![0, 1] bcast_S1x2048_S8448x2048_0_1 (broadcastInDim S1x2048 ![1] bcast_S2048_S1x2048_1 d)))

theorem want_apply (x : FVec Ideal S8448x2048 .f32) (g b : FVec Ideal S2048 .f32) (w : FVec Ideal S2048x2048 .f32) (d : FVec Ideal S2048 .f32) (h : FVec Ideal S8448x2048 .f32) (r : Fin 8448) (l : Fin 2048) :
    want x g b w d h (ix2 r l) = h (ix2 r l)
      + (line (fun k => x (ix2 r k)) (fun k => g (ix1 k)) (fun k => b (ix1 k)) (fun k => w (ix2 k l)) + d (ix1 l)) := by
  pointwise [want, line, norm, Ideal.logistic]

end Cert.LnRefIdeal.RefValue

namespace Cert.LnRun

open Idealize.ShloMosaic Idealize.ShloMosaic.TcCoe
open Idealize.SL Idealize.SL.Sem
open Cert.LnIdeal Cert.LnIdeal.Gen
open Cert.LnRefIdeal (RefValue.want)

variable (m : (ℓ : Loc nD τ sig) → Buf (Elt Ideal) ℓ) (ρ : Dev nD → PrngReg) (c : Dev nD)

abbrev arg0 : FVec Ideal S8448x2048 .f32 := m ((c.tc : Thread nD τ).loc main_arg0)
abbrev arg1 : FVec Ideal S2048 .f32 := m ((c.tc : Thread nD τ).loc main_arg1)
abbrev arg2 : FVec Ideal S2048 .f32 := m ((c.tc : Thread nD τ).loc main_arg2)
abbrev arg3 : FVec Ideal S2048x2048 .f32 := m ((c.tc : Thread nD τ).loc main_arg3)
abbrev arg4 : FVec Ideal S2048 .f32 := m ((c.tc : Thread nD τ).loc main_arg4)
abbrev arg5 : FVec Ideal S8448x2048 .f32 := m ((c.tc : Thread nD τ).loc main_arg5)

theorem cast_apply (w : Vec Ideal S2048x2048 .f32) (k l : Fin 2048) : k0_pay2 (F := Ideal) w (ix2 k l) = w (ix2 k l) := by
  pointwise [k0_pay2]
theorem row_apply (x : Vec Ideal S528x2048 .f32) (g b : Vec Ideal S1x2048 .f32) (h : Vec Ideal S528x2048 .f32) (w : Vec Ideal S2048x2048 .bf16)
    (d : Vec Ideal S1x2048 .f32) (r : Fin 528) (l : Fin 2048) :
    k0_pay1 (F := Ideal) (k0_pay3 x g b h w) (k0_pay4 d) (ix2 r l) = h (ix2 r l)
      + Cert.LnRefIdeal.RefValue.line (fun k => x (ix2 r k)) (fun k => g (ix2 0 k)) (fun k => b (ix2 0 k)) (fun k => w (ix2 k l)) + d (ix2 0 l) := by
  pointwise [k0_pay1, k0_pay3, k0_pay4, Cert.LnRefIdeal.RefValue.line, Cert.LnRefIdeal.RefValue.norm]

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![t.val, 0] := by decide +kernel
theorem idx6 : ∀ t : Fin grid0.N, win0_6.index t = ![t.val, 0] := by decide +kernel

/-- The rows that a point reads. -/
theorem block0 (t : Fin cfg0.N) (r : Fin 528) (l : Fin 2048) (p : Fin 8448) (hp : p.val = 528 * t.val + r.val) :
    (iblk m c 0 t : S528x2048.Idx → _) (ix2 r l) = arg0 m c (ix2 p l) := by
  have e := idx0 t
  refine Eq.trans ?_ (congrFun (V_main_arg0 m c) (ix2 p l))
  refine congrArg (V m c main_arg0 : S8448x2048.Idx → _) (funext fun a => Fin.ext ?_)
  refine (win0_0.rect_emb_val_off t _ a).trans ?_
  rw [e]
  fin_cases a
  · show t.val * 528 + r.val = p.val
    omega
  · show 0 * 2048 + l.val = l.val
    omega
/-- A vector laid out as one row, whole at every point. -/
theorem block1 (t : Fin cfg0.N) (l : Fin 2048) : (iblk m c 1 t : S1x2048.Idx → _) (ix2 0 l) = arg1 m c (ix1 l) := by
  have ei := idx1 t
  have e : (V m c main_v0 : S1x2048.Idx → _) (ix2 0 l) = arg1 m c (ix1 l) := by
    unfold V
    after_results
    pointwise
  rw [← e]
  blk_ext [iblk, ei]
/-- A vector laid out as one row, whole at every point. -/
theorem block2 (t : Fin cfg0.N) (l : Fin 2048) : (iblk m c 2 t : S1x2048.Idx → _) (ix2 0 l) = arg2 m c (ix1 l) := by
  have ei := idx2 t
  have e : (V m c main_v1 : S1x2048.Idx → _) (ix2 0 l) = arg2 m c (ix1 l) := by
    unfold V
    after_results
    pointwise
  rw [← e]
  blk_ext [iblk, ei]
/-- The weights, whole at every point. -/
theorem block3 (t : Fin cfg0.N) (k l : Fin 2048) : (iblk m c 3 t : S2048x2048.Idx → _) (ix2 k l) = arg3 m c (ix2 k l) := by
  have e := idx3 t
  refine Eq.trans ?_ (congrFun (V_main_arg3 m c) (ix2 k l))
  refine congrArg (V m c main_arg3 : S2048x2048.Idx → _) (funext fun a => Fin.ext ?_)
  refine (win0_3.rect_emb_val_off t _ a).trans ?_
  rw [e]
  fin_cases a
  · show 0 * 2048 + k.val = k.val
    omega
  · show 0 * 2048 + l.val = l.val
    omega
/-- A vector laid out as one row, whole at every point. -/
theorem block4 (t : Fin cfg0.N) (l : Fin 2048) : (iblk m c 4 t : S1x2048.Idx → _) (ix2 0 l) = arg4 m c (ix1 l) := by
  have ei := idx4 t
  have e : (V m c main_v2 : S1x2048.Idx → _) (ix2 0 l) = arg4 m c (ix1 l) := by
    unfold V
    after_results
    pointwise
  rw [← e]
  blk_ext [iblk, ei]
theorem block5 (t : Fin cfg0.N) (r : Fin 528) (l : Fin 2048) (p : Fin 8448) (hp : p.val = 528 * t.val + r.val) :
    (iblk m c 5 t : S528x2048.Idx → _) (ix2 r l) = arg5 m c (ix2 p l) := by
  have e := idx5 t
  refine Eq.trans ?_ (congrFun (V_main_arg5 m c) (ix2 p l))
  refine congrArg (V m c main_arg5 : S8448x2048.Idx → _) (funext fun a => Fin.ext ?_)
  refine (win0_5.rect_emb_val_off t _ a).trans ?_
  rw [e]
  fin_cases a
  · show t.val * 528 + r.val = p.val
    omega
  · show 0 * 2048 + l.val = l.val
    omega

/-- The kept weights after the first point, and after a later one from those before it. -/
theorem kept_zero (t : Fin cfg0.N) (h : t.val % 16 = 0) (k l : Fin 2048) : (outsAt0 m c t.val t.isLt).2 (ix2 k l) = arg3 m c (ix2 k l) := by
  rw [outsAt0_A m c t h]
  frame_out
  exact (cast_apply _ _ _).trans (block3 m c _ _ _)
theorem kept_succ (t : Fin cfg0.N) (h : ¬t.val % 16 = 0) (k l : Fin 2048) : (outsAt0 m c t.val t.isLt).2 (ix2 k l)
    = (outsAt0 m c (t.val - 1) (Nat.lt_of_le_of_lt (Nat.sub_le _ _) t.isLt)).2 (ix2 k l) := by
  rw [outsAt0_B m c t h]
  rfl
/-- The kept weights after any point. -/
theorem kept (k l : Fin 2048) (n : ℕ) : ∀ hn : n < cfg0.N, (outsAt0 m c n hn).2 (ix2 k l) = arg3 m c (ix2 k l) := by
  induction n with
  | zero => exact fun hn => kept_zero m c ⟨0, hn⟩ (Nat.zero_mod 16) k l
  | succ n ih =>
    intro hn
    have h16 : n + 1 < 16 := hn.trans_eq N_0
    exact (kept_succ m c ⟨n + 1, hn⟩ (by show ¬(n + 1) % 16 = 0; omega) k l).trans (ih _)

theorem cast_kept (t : Fin cfg0.N) (k l : Fin 2048) : k0_pay2 (F := Ideal) (iblk m c 3 t) (ix2 k l) = arg3 m c (ix2 k l) :=
  (cast_apply _ _ _).trans (block3 m c t k l)

/-- The rows that a point writes. -/
theorem point (t : Fin cfg0.N) (r : Fin 528) (l : Fin 2048) (p : Fin 8448) (hp : p.val = 528 * t.val + r.val) :
    (outsAt0 m c t.val t.isLt).1 (ix2 r l) = RefValue.want (arg0 m c) (arg1 m c) (arg2 m c) (arg3 m c) (arg4 m c) (arg5 m c) (ix2 p l) := by
  have h0 := fun k => block0 m c t r k p hp
  have h1 := fun k => block1 m c t k
  have h2 := fun k => block2 m c t k
  have h4 := fun k => block4 m c t k
  have h5 := fun k => block5 m c t r k p hp
  rw [Cert.LnRefIdeal.RefValue.want_apply, ← add_assoc]
  by_cases h : t.val % 16 = 0
  · rw [outsAt0_A m c t h]
    frame_out
    refine (row_apply _ _ _ _ _ _ _ _).trans ?_
    have h3 := fun k => cast_kept m c t k l
    simp only [h0, h1, h2, h3, h4, h5]
  · rw [outsAt0_B m c t h]
    frame_out
    refine (row_apply _ _ _ _ _ _ _ _).trans ?_
    have h3 := fun k => kept m c k l (t.val - 1) (Nat.lt_of_le_of_lt (Nat.sub_le _ _) t.isLt)
    simp only [read_unread_whole, h0, h1, h2, h3, h4, h5]

theorem final : (dats m 0 c).arrAt 6 cfg0.N = RefValue.want (arg0 m c) (arg1 m c) (arg2 m c) (arg3 m c) (arg4 m c) (arg5 m c) := by
  refine (dats m 0 c).arrAt_eq_of_covers 6 _ (by decide +kernel) fun t hf y => ?_
  have e := idx6 t
  have ht : t.val < 16 := t.isLt
  have y0 : ((y : S528x2048.Idx) 0).val < 528 := ((y : S528x2048.Idx) 0).isLt
  blk_simp; rw [after0_6]
  have hy : (y : S528x2048.Idx) = ix2 ((y : S528x2048.Idx) 0) ((y : S528x2048.Idx) 1) := by funext a; fin_cases a <;> rfl
  refine (congrArg (outsAt0 m c t.val t.isLt).1 hy).trans ?_
  refine (point m c t _ _ ⟨528 * t.val + ((y : S528x2048.Idx) 0).val, by omega⟩ rfl).trans (congrArg _ ?_)
  refine funext fun a => Fin.ext (Eq.symm ((win0_6.rect_emb_val_off t _ a).trans ?_))
  rw [e]
  fin_cases a
  · show t.val * 528 + ((y : S528x2048.Idx) 0).val = 528 * t.val + ((y : S528x2048.Idx) 0).val
    omega
  · show 0 * 2048 + ((y : S528x2048.Idx) 1).val = ((y : S528x2048.Idx) 1).val
    omega

/-- The kernel and the reference, on arguments that agree, leave the same result, and each its arguments. -/
theorem claim : Cert.algebraic_LnIdeal_LnRefIdeal := by
  intro m ρ m' ρ' _ hagree
  refine ⟨fun c => RefValue.want (arg0 m c) (arg1 m c) (arg2 m c) (arg3 m c) (arg4 m c) (arg5 m c), ?_, ?_⟩
  · exact (θ_run defs _ _).mono (fun r h c => ⟨(h c).1.trans (final m c), (h c).2⟩) (Cert.LnIdeal.Value.run_blocks (F := Ideal) m ρ)
  · refine (θ_run Cert.LnRefIdeal.defs _ _).mono (fun r h c => ⟨(h c).1.trans ?_, (h c).2⟩) (Cert.LnRefIdeal.Value.run (F := Ideal) m' ρ')
    refine Eq.trans (b := RefValue.want (m' ((c.tc : Thread Cert.LnRefIdeal.nD Cert.LnRefIdeal.τ).loc Cert.LnRefIdeal.main_arg0)) (m' ((c.tc : Thread Cert.LnRefIdeal.nD Cert.LnRefIdeal.τ).loc Cert.LnRefIdeal.main_arg1))
      (m' ((c.tc : Thread Cert.LnRefIdeal.nD Cert.LnRefIdeal.τ).loc Cert.LnRefIdeal.main_arg2)) (m' ((c.tc : Thread Cert.LnRefIdeal.nD Cert.LnRefIdeal.τ).loc Cert.LnRefIdeal.main_arg3)) (m' ((c.tc : Thread Cert.LnRefIdeal.nD Cert.LnRefIdeal.τ).loc Cert.LnRefIdeal.main_arg4))
      (m' ((c.tc : Thread Cert.LnRefIdeal.nD Cert.LnRefIdeal.τ).loc Cert.LnRefIdeal.main_arg5))) rfl ?_
    rw [(hagree c).1, (hagree c).2.1, (hagree c).2.2.1, (hagree c).2.2.2.1, (hagree c).2.2.2.2.1, (hagree c).2.2.2.2.2]

/-- The reference's run leaves its arguments and its counters as they were. -/
theorem frame_reference : Cert.quiescent_LnRefIdeal := fun m ρ _ =>
  (θ_run Cert.LnRefIdeal.defs _ _).mono (fun r h => ⟨fun c => (h c).2, Idealize.ShloMosaic.sem_eq_zero_of_no_sems (by decide) r.2⟩)
    (Cert.LnRefIdeal.Value.run (F := Ideal) m ρ)

end Cert.LnRun

end
-- ==== Proof.FfnBase.lean ====
/-
  The feed-forward call: its operands under short names, the user algebra its proof runs at, and the three conditions
  of its body on the second grid coordinate.
-/
module

public import proofs.«01_k».proof.Proof.Gen.FfnIdeal.Launch
public import proofs.«01_k».proof.Proof.Gen.FfnIdeal.Skeleton
public import proofs.«01_k».proof.Proof.Gen.FfnIdeal.Points
public import proofs.«01_k».proof.Proof.Gen.FfnIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section

noncomputable section

namespace Cert.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The residual stream read, the result written (both left in HBM), the accumulator, the normed tile, the gate. -/
abbrev hM : Memref sig .tc .hbm S8448x2048 .f32 := Memref.whole main_arg0
abbrev oM : Memref sig .tc .hbm S8448x2048 .f32 := Memref.whole main_v1
abbrev accM : Memref sig .tc .vmem S2112x2048 .f32 := Memref.whole cc0_scratch0
abbrev xnM : Memref sig .tc .vmem S2112x2048 .bf16 := Memref.whole cc0_scratch1
abbrev gateM : Memref sig .tc .vmem S2112x256 .bf16 := Memref.whole cc0_scratch2

abbrev BufOf (F : FTy → Type) [FloatOps F] (c : Dev nD) {sp : Space} {S : Shape} {e : EltTy} (M : Memref sig .tc sp S e) : Type :=
  Buf (Elt F) (M.view.loc (c : Thread nD τ))

/-- The body's middle condition: neither the first nor the last step along the second grid axis. -/
def cond2 (i : grid0.Coords) : BitVec 1 :=
  Scalar.cmpi .ne (Scalar.extui (Scalar.andi (Scalar.cmpi .sgt (BitVec.ofNat 32 (i 1).val) 0#32)
    (Scalar.cmpi .slt (BitVec.ofNat 32 (i 1).val) 22#32)) : BitVec 32) 0#32

theorem cond1_iff (i : grid0.Coords) : k0_cond1 i = 1#1 ↔ (i 1).val = 0 := by
  have h : ∀ f : Fin 23, Scalar.cmpi .ne (Scalar.extui (Scalar.cmpi .eq (BitVec.ofNat 32 f.val) 0#32) : BitVec 32) 0#32 = 1#1 ↔ f.val = 0 := by
    decide
  exact h (i 1)
theorem cond2_iff (i : grid0.Coords) : cond2 i = 1#1 ↔ 0 < (i 1).val ∧ (i 1).val < 22 := by
  have h : ∀ f : Fin 23, Scalar.cmpi .ne (Scalar.extui (Scalar.andi (Scalar.cmpi .sgt (BitVec.ofNat 32 f.val) 0#32)
      (Scalar.cmpi .slt (BitVec.ofNat 32 f.val) 22#32)) : BitVec 32) 0#32 = 1#1 ↔ 0 < f.val ∧ f.val < 22 := by decide
  exact h (i 1)
theorem cond3_iff (i : grid0.Coords) : k0_cond3 i = 1#1 ↔ (i 1).val = 22 := by
  have h : ∀ f : Fin 23, Scalar.cmpi .ne (Scalar.extui (Scalar.cmpi .eq (BitVec.ofNat 32 f.val) 22#32) : BitVec 32) 0#32 = 1#1 ↔ f.val = 22 := by
    decide
  exact h (i 1)

/-- The four row blocks of the read side and of the written side begin at row `2112 i + 528 r`. -/
theorem off1_eq (i : grid0.Coords) (r : Fin 4) : k0_off1 i (BitVec.ofNat 32 (528 * r.val)) = ![2112 * (i 0).val + 528 * r.val, 0] := by
  have h : ∀ a : Fin 4, ∀ r : Fin 4, (Scalar.addi (Scalar.muli (BitVec.ofNat 32 a.val) 2112#32) (BitVec.ofNat 32 (528 * r.val))).toNat
      = 2112 * a.val + 528 * r.val := by decide
  unfold k0_off1; dsimp only; rw [h (i 0) r]
theorem off2_eq (i : grid0.Coords) (r : Fin 4) : k0_off2 i (BitVec.ofNat 32 (528 * r.val)) = ![2112 * (i 0).val + 528 * r.val, 0] := by
  have h : ∀ a : Fin 4, ∀ r : Fin 4, (Scalar.addi (Scalar.muli (BitVec.ofNat 32 a.val) 2112#32) (BitVec.ofNat 32 (528 * r.val))).toNat
      = 2112 * a.val + 528 * r.val := by decide
  unfold k0_off2; dsimp only; rw [h (i 0) r]

end Cert.FfnRun

end
-- ==== Proof.FfnRows.lean ====
/-
  Arrays of 2048 columns put together from four bands of 528 rows: what the feed-forward call's copies and its four
  chunked passes leave, stated as plain functions of the bands.
-/
module

public import proofs.«01_k».proof.Proof.FfnBase
public import Idealize.ShloMosaic.Lib.VecWindow

@[expose] public section

noncomputable section

namespace Cert.FfnRun

open Cert.FfnIdeal Cert.FfnIdeal.Gen
open Idealize.ShloMosaic
open VecWindow

variable {α : Type}

/-- The index of row `p`, column `q` of a band. -/
abbrev bandIx (p : Fin 528) (q : Fin 2048) : S528x2048.Idx := fun a => match a with | 0 => p | 1 => q

/-- Band `r` of a tile of 2112 rows. -/
def band (x : S2112x2048.Idx → α) (r : Fin 4) : S528x2048.Idx → α :=
  window x ![528 * r.val, 0] S528x2048.size (by intro a; fin_cases a <;> (show _ ≤ _; simp <;> omega))
/-- Band `r` of a tile of 2112 rows of 256 columns. -/
def gband (x : S2112x256.Idx → α) (r : Fin 4) : S528x256.Idx → α :=
  window x ![528 * r.val, 0] S528x256.size (by intro a; fin_cases a <;> (show _ ≤ _; simp <;> omega))
/-- Band `r` of the tile `i` of an array of 8448 rows. -/
def tband (x : S8448x2048.Idx → α) (i r : Fin 4) : S528x2048.Idx → α :=
  window x ![2112 * i.val + 528 * r.val, 0] S528x2048.size (by intro a; fin_cases a <;> (show _ ≤ _; simp <;> omega))

/-- Four bands over the rows `b … b + 2111` of an array, the last put first in the text. -/
def put4 {R : ℕ} (b : ℕ) (ch : Fin 4 → S528x2048.Idx → α) (x : (⟨2, ![R, 2048]⟩ : Shape).Idx → α) : (⟨2, ![R, 2048]⟩ : Shape).Idx → α :=
  put (s := ⟨2, ![R, 2048]⟩) (put (s := ⟨2, ![R, 2048]⟩) (put (s := ⟨2, ![R, 2048]⟩) (put (s := ⟨2, ![R, 2048]⟩) x
    ![b, 0] S528x2048.size (ch 0)) ![b + 528, 0] S528x2048.size (ch 1)) ![b + 1056, 0] S528x2048.size (ch 2)) ![b + 1584, 0] S528x2048.size (ch 3)

theorem put_in {R : ℕ} (n : ℕ) (w : S528x2048.Idx → α) (x : (⟨2, ![R, 2048]⟩ : Shape).Idx → α) (y : (⟨2, ![R, 2048]⟩ : Shape).Idx)
    (h1 : n ≤ (y 0).val) (h2 : (y 0).val < n + 528) :
    put (s := ⟨2, ![R, 2048]⟩) x ![n, 0] S528x2048.size w y = w (bandIx ⟨(y 0).val - n, by omega⟩ (y 1)) := by
  have h : ∀ a : Fin 2, (![n, 0] : Fin 2 → ℕ) a ≤ (y a).val ∧ (y a).val < (![n, 0] : Fin 2 → ℕ) a + S528x2048.size a := by
    intro a
    fin_cases a
    · exact ⟨h1, h2⟩
    · exact ⟨Nat.zero_le _, by show (y 1).val < 0 + 2048; have : (y 1).val < 2048 := (y 1).isLt; omega⟩
  refine (dif_pos h).trans (congrArg w (funext fun a => Fin.ext ?_))
  fin_cases a <;> rfl

theorem put_out {R : ℕ} (n : ℕ) (w : S528x2048.Idx → α) (x : (⟨2, ![R, 2048]⟩ : Shape).Idx → α) (y : (⟨2, ![R, 2048]⟩ : Shape).Idx)
    (h : (y 0).val < n ∨ n + 528 ≤ (y 0).val) :
    put (s := ⟨2, ![R, 2048]⟩) x ![n, 0] S528x2048.size w y = x y := by
  refine dif_neg fun hall => ?_
  have h0 : n ≤ (y 0).val ∧ (y 0).val < n + 528 := hall 0
  omega

/-- A row of the four bands is a row of its band. -/
theorem put4_in {R : ℕ} (b : ℕ) (ch : Fin 4 → S528x2048.Idx → α) (x : (⟨2, ![R, 2048]⟩ : Shape).Idx → α) (y : (⟨2, ![R, 2048]⟩ : Shape).Idx)
    (r : Fin 4) (h1 : b + 528 * r.val ≤ (y 0).val) (h2 : (y 0).val < b + 528 * r.val + 528) :
    put4 b ch x y = ch r (bandIx ⟨(y 0).val - (b + 528 * r.val), by omega⟩ (y 1)) := by
  unfold put4
  match r, h1, h2 with
  | 0, h1, h2 =>
    have h1 : b + 528 * 0 ≤ (y 0).val := h1
    have h2 : (y 0).val < b + 528 * 0 + 528 := h2
    rw [put_out _ _ _ _ (Or.inl (by omega)), put_out _ _ _ _ (Or.inl (by omega)), put_out _ _ _ _ (Or.inl (by omega)), put_in _ _ _ _ (by omega) (by omega)]; rfl
  | 1, h1, h2 =>
    have h1 : b + 528 * 1 ≤ (y 0).val := h1
    have h2 : (y 0).val < b + 528 * 1 + 528 := h2
    rw [put_out _ _ _ _ (Or.inl (by omega)), put_out _ _ _ _ (Or.inl (by omega)), put_in _ _ _ _ (by omega) (by omega)]; rfl
  | 2, h1, h2 =>
    have h1 : b + 528 * 2 ≤ (y 0).val := h1
    have h2 : (y 0).val < b + 528 * 2 + 528 := h2
    rw [put_out _ _ _ _ (Or.inl (by omega)), put_in _ _ _ _ (by omega) (by omega)]; rfl
  | 3, h1, h2 =>
    have h1 : b + 528 * 3 ≤ (y 0).val := h1
    have h2 : (y 0).val < b + 528 * 3 + 528 := h2
    rw [put_in _ _ _ _ (by omega) (by omega)]; rfl

/-- A row beside the four bands is as it was. -/
theorem put4_out {R : ℕ} (b : ℕ) (ch : Fin 4 → S528x2048.Idx → α) (x : (⟨2, ![R, 2048]⟩ : Shape).Idx → α) (y : (⟨2, ![R, 2048]⟩ : Shape).Idx)
    (h : (y 0).val < b ∨ b + 2112 ≤ (y 0).val) : put4 b ch x y = x y := by
  unfold put4
  rw [put_out _ _ _ _ (by omega), put_out _ _ _ _ (by omega), put_out _ _ _ _ (by omega), put_out _ _ _ _ (by omega)]

/-- A row of the four bands does not depend on what was there. -/
theorem put4_congr {R : ℕ} (b : ℕ) (ch : Fin 4 → S528x2048.Idx → α) (x x' : (⟨2, ![R, 2048]⟩ : Shape).Idx → α) (y : (⟨2, ![R, 2048]⟩ : Shape).Idx)
    (h1 : b ≤ (y 0).val) (h2 : (y 0).val < b + 2112) : put4 b ch x y = put4 b ch x' y := by
  have hr : ((y 0).val - b) / 528 < 4 := by omega
  have e1 : b + 528 * (⟨((y 0).val - b) / 528, hr⟩ : Fin 4).val ≤ (y 0).val := by show b + 528 * (((y 0).val - b) / 528) ≤ _; omega
  have e2 : (y 0).val < b + 528 * (⟨((y 0).val - b) / 528, hr⟩ : Fin 4).val + 528 := by show _ < b + 528 * (((y 0).val - b) / 528) + 528; omega
  rw [put4_in b ch x y ⟨_, hr⟩ e1 e2, put4_in b ch x' y ⟨_, hr⟩ e1 e2]

/-- Four bands make a tile of 2112 rows. -/
def join4 (ch : Fin 4 → S528x2048.Idx → α) : S2112x2048.Idx → α := put4 (R := 2112) 0 ch (fun y => ch 0 (bandIx 0 0))

theorem put4_join (ch : Fin 4 → S528x2048.Idx → α) (x : S2112x2048.Idx → α) : put4 (R := 2112) 0 ch x = join4 ch :=
  funext fun y => put4_congr 0 ch x _ y (Nat.zero_le _) (by have : (y 0).val < 2112 := (y 0).isLt; omega)

theorem join4_apply (ch : Fin 4 → S528x2048.Idx → α) (y : S2112x2048.Idx) :
    join4 ch y = ch ⟨(y 0).val / 528, by have : (y 0).val < 2112 := (y 0).isLt; omega⟩ (bandIx ⟨(y 0).val % 528, by omega⟩ (y 1)) := by
  have hy : (y 0).val < 2112 := (y 0).isLt
  have hr : (y 0).val / 528 < 4 := by omega
  refine (put4_in 0 ch _ y ⟨_, hr⟩ (by show 0 + 528 * ((y 0).val / 528) ≤ _; omega) (by show _ < 0 + 528 * ((y 0).val / 528) + 528; omega)).trans ?_
  refine congrArg (ch _) ?_
  congr 1
  exact Fin.ext (by show (y 0).val - (0 + 528 * ((y 0).val / 528)) = (y 0).val % 528; omega)

/-- A band of four joined bands is the band. -/
theorem band_join4 (ch : Fin 4 → S528x2048.Idx → α) (r : Fin 4) : band (join4 ch) r = ch r := by
  funext y
  have hy : (y 0).val < 528 := (y 0).isLt
  have e0 : (((Rect.unit (s := S2112x2048) ![528 * r.val, 0] S528x2048.size (by intro a; fin_cases a <;> (show _ ≤ _; simp <;> omega))).emb y) 0).val
      = 528 * r.val + (y 0).val := by show 528 * r.val + 1 * (y 0).val = _; omega
  refine (put4_in 0 ch _ _ r (by rw [e0]; omega) (by rw [e0]; omega)).trans (congrArg (ch r) (funext fun a => Fin.ext ?_))
  match a with
  | 0 => show (((Rect.unit (s := S2112x2048) ![528 * r.val, 0] S528x2048.size _).emb y) 0).val - (0 + 528 * r.val) = (y 0).val; rw [e0]; omega
  | 1 => show 0 + 1 * (y 1).val = (y 1).val; omega

/-- Putting through a window of an array held whole: what the array then reads. -/
theorem read_write_slice {sig : RefSig} {κ : Kind} {sp : Space} {s : Shape} {e : EltTy} {Val : EltTy → Type} (M : Memref sig κ sp s e)
    (f : M.view.ty.Contents Val) {off off' size : Fin s.rank → ℕ} (inb : ∀ a, off a + size a ≤ s.size a) (h : off = off')
    (w : (Rect.unit off size inb).shape.Idx → Val e) :
    M.view.read Val ((M.slice (Rect.unit off size inb) (fun _ => rfl)).view.write Val f w Finset.univ) = put (M.view.read Val f) off' size w :=
  (View.read_writes_cons_put M.view f inb w [] h).trans rfl

/-- Four bands stored over a tile held whole: what the tile then reads. -/
theorem read_bands {sig : RefSig} {κ : Kind} {sp : Space} {e : EltTy} {Val : EltTy → Type} (M : Memref sig κ sp S2112x2048 e)
    (f : M.view.ty.Contents Val) (ch : Fin 4 → S528x2048.Idx → Val e)
    (i0 : ∀ a, (![0, 0] : Fin 2 → ℕ) a + S528x2048.size a ≤ S2112x2048.size a) (i1 : ∀ a, (![528, 0] : Fin 2 → ℕ) a + S528x2048.size a ≤ S2112x2048.size a)
    (i2 : ∀ a, (![1056, 0] : Fin 2 → ℕ) a + S528x2048.size a ≤ S2112x2048.size a) (i3 : ∀ a, (![1584, 0] : Fin 2 → ℕ) a + S528x2048.size a ≤ S2112x2048.size a) :
    M.view.read Val (M.view.writes Val f [⟨Rect.unit (s := S2112x2048) ![1584, 0] S528x2048.size i3, ch 3⟩,
      ⟨Rect.unit (s := S2112x2048) ![1056, 0] S528x2048.size i2, ch 2⟩, ⟨Rect.unit (s := S2112x2048) ![528, 0] S528x2048.size i1, ch 1⟩,
      ⟨Rect.unit (s := S2112x2048) ![0, 0] S528x2048.size i0, ch 0⟩]) = join4 ch := by
  rw [View.read_writes_cons_put _ _ _ _ _ rfl, View.read_writes_cons_put _ _ _ _ _ rfl, View.read_writes_cons_put _ _ _ _ _ rfl,
    View.read_writes_cons_put _ _ _ _ _ rfl]
  exact put4_join ch _

/-- A band loaded from a tile that reads four joined bands. -/
theorem readAt_band {sig : RefSig} {κ : Kind} {sp : Space} {e : EltTy} {Val : EltTy → Type} (M : Memref sig κ sp S2112x2048 e)
    (f : M.view.ty.Contents Val) (ch : Fin 4 → S528x2048.Idx → Val e) (hf : M.view.read Val f = join4 ch) (r : Fin 4) {off : Fin 2 → ℕ}
    (inb : ∀ a, off a + S528x2048.size a ≤ S2112x2048.size a) (h : off = ![528 * r.val, 0]) :
    M.view.readAt Val (Rect.unit (s := S2112x2048) off S528x2048.size inb).toLoadRect f = ch r := by
  subst h
  rw [View.readAt_unit _ _ _ rfl inb, hf]
  exact band_join4 ch r

variable {F : FTy → Type} [FloatOps F]

/-- The four bands are normed the same way, and the first gate is computed as the others are. -/
theorem pay5_eq (a : Vec F S528x2048 .f32) (g : Vec F S1x1x2048 .f32) : k0_pay5 a g = k0_pay4 a g := rfl
theorem pay8_eq (a : Vec F S528x2048 .f32) (g : Vec F S1x1x2048 .f32) : k0_pay8 (k0_pay6 a) (k0_pay7 g) = k0_pay4 a g := rfl
theorem pay9_eq (a : Vec F S528x2048 .f32) (g : Vec F S1x1x2048 .f32) : k0_pay9 a g = k0_pay4 a g := rfl
theorem pay1_eq (x : Vec F S2112x2048 .bf16) (a b : Vec F S1x2048x256 .f32) : k0_pay1 x (k0_pay10 a) b = k0_pay2 x a b := rfl

/-- The tile's normed rows at entry: each band of the residual stream, normed. -/
def xnOf (xh : Vec F S8448x2048 .f32) (g : Vec F S1x1x2048 .f32) (i : Fin 4) : Vec F S2112x2048 .bf16 :=
  join4 fun r => k0_pay4 (tband xh i r) g
/-- The bands the last point sends out: the tile's bands with the last product added. -/
def lastBands (x3 : Vec F S1x256x2048 .f32) (acc : Vec F S2112x2048 .f32) (gate : Vec F S2112x256 .bf16) (r : Fin 4) : Vec F S528x2048 .f32 :=
  k0_pay12 x3 (band acc r) (gband gate r)

end Cert.FfnRun

end
-- ==== Proof.FfnFirst.lean ====
/-
  The feed-forward call's body at a point that is first along the second grid axis.
-/
module

public import proofs.«01_k».proof.Proof.FfnRows

@[expose] public section

noncomputable section

namespace Cert.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Window `r` of the residual stream's rows a first point reads. -/
abbrev hW (i : grid0.Coords) (h1 : k0_cond1 i = 1#1) (r : Fin 4) : Memref sig .tc .hbm S528x2048 .f32 :=
  hM.slice (Rect.unit (s := S8448x2048) (k0_off1 i (BitVec.ofNat 32 (528 * r.val))) S528x2048.size (k0_off1_inb i h1 r)) (fun _ => rfl)

set_option maxHeartbeats 600000 in
set_option sl_exec.dmaWindow true in
set_option sl_exec.dmaWindowLent true in
set_option sl_exec.dmaWindowSet true in
/-- A first point: four copies bring the tile's rows, each band is normed once its copy has landed, and the first gate
    is computed. -/
theorem runA (c : Dev nD) (i : grid0.Coords) (hc1 : k0_cond1 i = 1#1) (hc2 : ¬ cond2 i = 1#1) (hc3 : ¬ k0_cond3 i = 1#1)
    (hd : ∀ r s : Fin 4, r ≠ s → Disjoint (hW i hc1 r).view.set (hW i hc1 s).view.set)
    (arg3 : Memref sig .tc .vmem S1x1x2048 .f32) (harg3 : arg3.IsWhole)
    (arg4 : Memref sig .tc .vmem S1x2048x256 .f32) (harg4 : arg4.IsWhole) (arg5 : Memref sig .tc .vmem S1x2048x256 .f32) (harg5 : arg5.IsWhole)
    (arg6 : Memref sig .tc .vmem S1x256x2048 .f32) (harg6 : arg6.IsWhole)
    (xh : Vec F S8448x2048 .f32) (g : Vec F S1x1x2048 .f32) (x1 : Vec F S1x2048x256 .f32) (x2 : Vec F S1x2048x256 .f32)
    (acc : Vec F S2112x2048 .f32) (xn : Vec F S2112x2048 .bf16) (gate : Vec F S2112x256 .bf16) (W : Waits sig Unit) (K : PUnit → sProp 𝕄) :
    iprop(owns (c : Thread nD τ) arg3 fullShare g
        ∗ owns (c : Thread nD τ) arg4 fullShare x1 ∗ owns (c : Thread nD τ) arg5 fullShare x2
        ∗ owns (c : Thread nD τ) accM fullShare acc ∗ owns (c : Thread nD τ) xnM fullShare xn ∗ owns (c : Thread nD τ) gateM fullShare gate
        ∗ owns (c : Thread nD τ) hM fullShare xh
        ∗ semVal ((c : Thread nD τ), SemLoc.dma 7) 0 ∗ semVal ((c : Thread nD τ), SemLoc.dma 8) 0
        ∗ semVal ((c : Thread nD τ), SemLoc.dma 9) 0 ∗ semVal ((c : Thread nD τ), SemLoc.dma 10) 0
        ∗ owes (c : Thread nD τ) 0 W
        ∗ (iprop(owns (c : Thread nD τ) arg3 fullShare g
            ∗ owns (c : Thread nD τ) arg4 fullShare x1 ∗ owns (c : Thread nD τ) arg5 fullShare x2
            ∗ owns (c : Thread nD τ) accM fullShare (join4 (tband xh (i 0))) ∗ owns (c : Thread nD τ) xnM fullShare (xnOf xh g (i 0))
            ∗ owns (c : Thread nD τ) gateM fullShare (k0_pay2 (xnOf xh g (i 0)) x1 x2)
            ∗ owns (c : Thread nD τ) hM fullShare xh
            ∗ semVal ((c : Thread nD τ), SemLoc.dma 7) 0 ∗ semVal ((c : Thread nD τ), SemLoc.dma 8) 0
            ∗ semVal ((c : Thread nD τ), SemLoc.dma 9) 0 ∗ semVal ((c : Thread nD τ), SemLoc.dma 10) 0
            ∗ ∃ W', owes (c : Thread nD τ) 0 W') -∗ K ⟨⟩))
      ⊢ wp frame (wpE (defs₀ (F := F)) Variants.none c none) Set.univ
          (cc0_ffn i hM (Memref.isWhole_whole _) arg3 harg3 arg4 harg4 arg5 harg5 arg6 harg6 oM (Memref.isWhole_whole _)
            accM (Memref.isWhole_whole _) xnM (Memref.isWhole_whole _) gateM (Memref.isWhole_whole _) cc0_scratch3) K := by
  simp only [cc0_ffn_eq_skeleton]; unfold cc0_ffn_skel
  simp only [k0_part1_eq_skeleton, k0_part2_eq_skeleton, k0_part3_eq_skeleton, k0_part4_eq_skeleton]
  unfold cond2 at hc2
  unfold owns
  iintro ⟨⟨%f0, %hf0, H0⟩, ⟨%f1, %hf1, H1⟩, ⟨%f2, %hf2, H2⟩, ⟨%fa, %hfa, HA⟩, ⟨%fx, %hfx, HX⟩, ⟨%fg, %hfg, HG⟩, ⟨%fh, %hfh, HH⟩, Hq0, Hq1, Hq2, Hq3, HW, Hk⟩
  obtain rfl := harg3.eq_unread hf0
  obtain rfl := harg4.eq_unread hf1; obtain rfl := harg5.eq_unread hf2
  obtain rfl := (Memref.isWhole_whole _).eq_unread hfa; obtain rfl := (Memref.isWhole_whole _).eq_unread hfx
  obtain rfl := (Memref.isWhole_whole _).eq_unread hfg
  obtain rfl := (Memref.isWhole_whole _).eq_unread hfh
  have d10 := hd 1 0 (by decide); have d20 := hd 2 0 (by decide); have d21 := hd 2 1 (by decide)
  have d30 := hd 3 0 (by decide); have d31 := hd 3 1 (by decide); have d32 := hd 3 2 (by decide)
  sl_exec
  sl_step
  have e3 : View.readAt (Elt F) arg3.view (Rect.unit ![0, 0, 0] S1x1x2048.size inb_S1x1x2048_S1x1x2048_0_0_0).toLoadRect (harg3.unread g) = g := by
    rw [View.readAt_full]; exact hf0
  have e4 : runA.sl.r_2 c arg4 harg4 x1 = k0_pay10 x1 := congrArg k0_pay10 (by rw [View.readAt_full]; exact hf1)
  have ed0 : runA.sl.dma0 c i hc1 xh = tband xh (i 0) 0 :=
    (View.readAt_unit (Val := Elt F) hM.view _ _ (off1_eq i 0) _).trans (by rw [hfh]; rfl)
  have ed1 : runA.sl.dma0_1 c i hc1 xh = tband xh (i 0) 1 :=
    (View.readAt_unit (Val := Elt F) hM.view _ _ (off1_eq i 1) _).trans (by rw [hfh]; rfl)
  have ed2 : runA.sl.dma0_2 c i hc1 xh = tband xh (i 0) 2 :=
    (View.readAt_unit (Val := Elt F) hM.view _ _ (off1_eq i 2) _).trans (by rw [hfh]; rfl)
  have ed3 : runA.sl.dma0_3 c i hc1 xh = tband xh (i 0) 3 :=
    (View.readAt_unit (Val := Elt F) hM.view _ _ (off1_eq i 3) _).trans (by rw [hfh]; rfl)
  have ea : ∀ f : accM.view.ty.Contents (Elt F), accM.view.read (Elt F) (accM.view.writes (Elt F) f
      [⟨Rect.unit ![1584, 0] S528x2048.size inb_S2112x2048_S528x2048_1584_0, runA.sl.dma0_3 c i hc1 xh⟩,
        ⟨Rect.unit ![1056, 0] S528x2048.size inb_S2112x2048_S528x2048_1056_0, runA.sl.dma0_2 c i hc1 xh⟩,
        ⟨Rect.unit ![528, 0] S528x2048.size inb_S2112x2048_S528x2048_528_0, runA.sl.dma0_1 c i hc1 xh⟩,
        ⟨Rect.unit ![0, 0] S528x2048.size inb_S2112x2048_S528x2048_0_0, runA.sl.dma0 c i hc1 xh⟩]) = join4 (tband xh (i 0)) := fun f => by
    rw [ed0, ed1, ed2, ed3]
    exact read_bands accM f (tband xh (i 0)) _ _ _ _
  have ev0 : runA.sl.v46 c i hc1 xh = tband xh (i 0) 0 := by
    unfold runA.sl.v46 View.readCov
    exact readAt_band accM _ _ (ea _) 0 _ rfl
  have ev1 : runA.sl.v72 c i hc1 xh = tband xh (i 0) 1 := by
    unfold runA.sl.v72 View.readCov
    exact readAt_band accM _ _ (ea _) 1 _ rfl
  have ev2 : runA.sl.v98 c i hc1 xh = tband xh (i 0) 2 := by
    unfold runA.sl.v98 View.readCov
    exact readAt_band accM _ _ (ea _) 2 _ rfl
  have ev3 : runA.sl.v124 c i hc1 xh = tband xh (i 0) 3 := by
    unfold runA.sl.v124 View.readCov
    exact readAt_band accM _ _ (ea _) 3 _ rfl
  have ex : ∀ f : xnM.view.ty.Contents (Elt F), xnM.view.read (Elt F) (xnM.view.writes (Elt F) f (runA.sl.HX_4 c i hc1 arg3 harg3 xh g)) = xnOf xh g (i 0) := fun f => by
    unfold runA.sl.HX_4 runA.sl.r runA.sl.r_1
    rw [ev0, ev1, ev2, ev3, e3, pay5_eq, pay8_eq, pay9_eq]
    exact read_bands xnM f (fun r => k0_pay4 (tband xh (i 0) r) g) _ _ _ _
  have e143 : runA.sl.v143 c i hc1 arg3 harg3 xh g = xnOf xh g (i 0) := by
    unfold runA.sl.v143 View.readCov
    rw [View.readAt_full]
    exact ex _
  iapply Hk
  isplitl [H0]
  · iexists _; isplitr; swap
    · iexact H0
    · ipureintro; exact hf0
  isplitl [H1]
  · iexists _; isplitr; swap
    · iexact H1
    · ipureintro; exact hf1
  isplitl [H2]
  · iexists _; isplitr; swap
    · iexact H2
    · ipureintro; exact hf2
  isplitl [HA]
  · iexists _; isplitr; swap
    · iexact HA
    · ipureintro; exact ea _
  isplitl [HX]
  · iexists _; isplitr; swap
    · iexact HX
    · ipureintro; exact ex _
  isplitl [HG]
  · iexists _; isplitr; swap
    · iexact HG
    · ipureintro; rw [View.read_writes_full, e143, e4, View.readAt_full, hf2, pay1_eq]
  isplitl [HH]
  · iexists _; isplitr; swap
    · iexact HH
    · ipureintro; exact hfh
  isplitl [Hq0]
  · iexact Hq0
  isplitl [Hq1]
  · iexact Hq1
  isplitl [Hq2]
  · iexact Hq2
  isplitl [Hq3]
  · iexact Hq3
  iexists _; iexact HW

end Cert.FfnRun

end
-- ==== Proof.FfnMid.lean ====
/-
  The feed-forward call's body at a point that is neither the first nor the last along the second grid axis.
-/
module

public import proofs.«01_k».proof.Proof.FfnRows

@[expose] public section

noncomputable section

namespace Cert.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A middle point: the tile takes the product of the last gate and this point's rows of the third weight, and this
    point's gate is computed of the normed tile. -/
theorem runB (c : Dev nD) (i : grid0.Coords) (hc1 : ¬ k0_cond1 i = 1#1) (hc2 : cond2 i = 1#1) (hc3 : ¬ k0_cond3 i = 1#1)
    (arg3 : Memref sig .tc .vmem S1x1x2048 .f32) (harg3 : arg3.IsWhole)
    (arg4 : Memref sig .tc .vmem S1x2048x256 .f32) (harg4 : arg4.IsWhole) (arg5 : Memref sig .tc .vmem S1x2048x256 .f32) (harg5 : arg5.IsWhole)
    (arg6 : Memref sig .tc .vmem S1x256x2048 .f32) (harg6 : arg6.IsWhole)
    (x1 : Vec F S1x2048x256 .f32) (x2 : Vec F S1x2048x256 .f32) (x3 : Vec F S1x256x2048 .f32)
    (acc : Vec F S2112x2048 .f32) (xn : Vec F S2112x2048 .bf16) (gate : Vec F S2112x256 .bf16) (K : PUnit → sProp 𝕄) :
    iprop(owns (c : Thread nD τ) arg4 fullShare x1 ∗ owns (c : Thread nD τ) arg5 fullShare x2 ∗ owns (c : Thread nD τ) arg6 fullShare x3
        ∗ owns (c : Thread nD τ) accM fullShare acc ∗ owns (c : Thread nD τ) xnM fullShare xn ∗ owns (c : Thread nD τ) gateM fullShare gate
        ∗ (iprop(owns (c : Thread nD τ) arg4 fullShare x1 ∗ owns (c : Thread nD τ) arg5 fullShare x2 ∗ owns (c : Thread nD τ) arg6 fullShare x3
            ∗ owns (c : Thread nD τ) accM fullShare (k0_pay3 gate acc x3) ∗ owns (c : Thread nD τ) xnM fullShare xn
            ∗ owns (c : Thread nD τ) gateM fullShare (k0_pay2 xn x1 x2)) -∗ K ⟨⟩))
      ⊢ wp frame (wpE (defs₀ (F := F)) Variants.none c none) Set.univ
          (cc0_ffn i hM (Memref.isWhole_whole _) arg3 harg3 arg4 harg4 arg5 harg5 arg6 harg6 oM (Memref.isWhole_whole _)
            accM (Memref.isWhole_whole _) xnM (Memref.isWhole_whole _) gateM (Memref.isWhole_whole _) cc0_scratch3) K := by
  simp only [cc0_ffn_eq_skeleton]; unfold cc0_ffn_skel
  unfold cond2 at hc2
  unfold owns
  iintro ⟨⟨%f1, %hf1, H1⟩, ⟨%f2, %hf2, H2⟩, ⟨%f3, %hf3, H3⟩, ⟨%fa, %hfa, HA⟩, ⟨%fx, %hfx, HX⟩, ⟨%fg, %hfg, HG⟩, Hk⟩
  obtain rfl := harg4.eq_unread hf1; obtain rfl := harg5.eq_unread hf2; obtain rfl := harg6.eq_unread hf3
  obtain rfl := (Memref.isWhole_whole _).eq_unread hfa; obtain rfl := (Memref.isWhole_whole _).eq_unread hfx
  obtain rfl := (Memref.isWhole_whole _).eq_unread hfg
  sl_exec
  sl_step
  have eg : runB.sl.v11 c gate = gate := by unfold runB.sl.v11; rw [View.readAt_full]; exact hfg
  have ea : runB.sl.v30 c acc = acc := by unfold runB.sl.v30; rw [View.readAt_full]; exact hfa
  have ex : runB.sl.v12 c xn = xn := by unfold runB.sl.v12; rw [View.readAt_full]; exact hfx
  iapply Hk
  isplitl [H1]
  · iexists _; isplitr; swap
    · iexact H1
    · ipureintro; exact hf1
  isplitl [H2]
  · iexists _; isplitr; swap
    · iexact H2
    · ipureintro; exact hf2
  isplitl [H3]
  · iexists _; isplitr; swap
    · iexact H3
    · ipureintro; exact hf3
  isplitl [HA]
  · iexists _; isplitr; swap
    · iexact HA
    · ipureintro; rw [View.read_writes_full, eg, ea, View.readAt_full, hf3]
  isplitl [HX]
  · iexists _; isplitr; swap
    · iexact HX
    · ipureintro; exact hfx
  iexists _; isplitr; swap
  · iexact HG
  · ipureintro; rw [View.read_writes_full, ex, View.readAt_full, View.readAt_full, hf1, hf2]

end Cert.FfnRun

end
-- ==== Proof.FfnLast.lean ====
/-
  The feed-forward call's body at a point that is last along the second grid axis.
-/
module

public import proofs.«01_k».proof.Proof.FfnRows

@[expose] public section

noncomputable section

namespace Cert.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Window `r` of the result's rows a last point writes. -/
abbrev oW (i : grid0.Coords) (h3 : k0_cond3 i = 1#1) (r : Fin 4) : Memref sig .tc .hbm S528x2048 .f32 :=
  oM.slice (Rect.unit (s := S8448x2048) (k0_off2 i (BitVec.ofNat 32 (528 * r.val))) S528x2048.size (k0_off2_inb i h3 r)) (fun _ => rfl)

set_option sl_exec.dmaWindow true in
set_option sl_exec.dmaWindowLent true in
/-- A last point: each band takes its last product and is sent to the result's rows; the four copies fly together and
    are all waited for. -/
theorem runC (c : Dev nD) (i : grid0.Coords) (hc1 : ¬ k0_cond1 i = 1#1) (hc2 : ¬ cond2 i = 1#1) (hc3 : k0_cond3 i = 1#1)
    (hd : ∀ r s : Fin 4, r ≠ s → Disjoint (oW i hc3 r).view.set (oW i hc3 s).view.set)
    (arg3 : Memref sig .tc .vmem S1x1x2048 .f32) (harg3 : arg3.IsWhole)
    (arg4 : Memref sig .tc .vmem S1x2048x256 .f32) (harg4 : arg4.IsWhole) (arg5 : Memref sig .tc .vmem S1x2048x256 .f32) (harg5 : arg5.IsWhole)
    (arg6 : Memref sig .tc .vmem S1x256x2048 .f32) (harg6 : arg6.IsWhole)
    (x3 : Vec F S1x256x2048 .f32)
    (acc : Vec F S2112x2048 .f32) (gate : Vec F S2112x256 .bf16) (out : Vec F S8448x2048 .f32) (W : Waits sig Unit) (K : PUnit → sProp 𝕄) :
    iprop(owns (c : Thread nD τ) arg6 fullShare x3
        ∗ owns (c : Thread nD τ) accM fullShare acc ∗ owns (c : Thread nD τ) gateM fullShare gate
        ∗ owns (c : Thread nD τ) oM fullShare out
        ∗ semVal ((c : Thread nD τ), SemLoc.dma 7) 0 ∗ semVal ((c : Thread nD τ), SemLoc.dma 8) 0
        ∗ semVal ((c : Thread nD τ), SemLoc.dma 9) 0 ∗ semVal ((c : Thread nD τ), SemLoc.dma 10) 0
        ∗ owes (c : Thread nD τ) 0 W
        ∗ (iprop(owns (c : Thread nD τ) arg6 fullShare x3
            ∗ (∃ d, owns (c : Thread nD τ) accM fullShare d) ∗ owns (c : Thread nD τ) gateM fullShare gate
            ∗ owns (c : Thread nD τ) oM fullShare (put4 (2112 * (i 0).val) (lastBands x3 acc gate) out)
            ∗ semVal ((c : Thread nD τ), SemLoc.dma 7) 0 ∗ semVal ((c : Thread nD τ), SemLoc.dma 8) 0
            ∗ semVal ((c : Thread nD τ), SemLoc.dma 9) 0 ∗ semVal ((c : Thread nD τ), SemLoc.dma 10) 0
            ∗ ∃ W', owes (c : Thread nD τ) 0 W') -∗ K ⟨⟩))
      ⊢ wp frame (wpE (defs₀ (F := F)) Variants.none c none) Set.univ
          (cc0_ffn i hM (Memref.isWhole_whole _) arg3 harg3 arg4 harg4 arg5 harg5 arg6 harg6 oM (Memref.isWhole_whole _)
            accM (Memref.isWhole_whole _) xnM (Memref.isWhole_whole _) gateM (Memref.isWhole_whole _) cc0_scratch3) K := by
  have d10 := hd 1 0 (by decide)
  have d20 := hd 2 0 (by decide)
  have d21 := hd 2 1 (by decide)
  have d30 := hd 3 0 (by decide)
  have d31 := hd 3 1 (by decide)
  have d32 := hd 3 2 (by decide)
  simp only [cc0_ffn_eq_skeleton]; unfold cc0_ffn_skel
  simp only [k0_part7_eq_skeleton, k0_part5_eq_skeleton, k0_part6_eq_skeleton]
  unfold cond2 at hc2
  unfold owns
  iintro ⟨⟨%f3, %hf3, H3⟩, ⟨%fa, %hfa, HA⟩, ⟨%fg, %hfg, HG⟩, ⟨%fo, %hfo, HO⟩, Hq0, Hq1, Hq2, Hq3, HW, Hk⟩
  obtain rfl := harg6.eq_unread hf3
  obtain rfl := (Memref.isWhole_whole _).eq_unread hfa
  obtain rfl := (Memref.isWhole_whole _).eq_unread hfg
  obtain rfl := (Memref.isWhole_whole _).eq_unread hfo
  sl_exec
  sl_step
  have e3 : View.readAt (Elt F) arg6.view (Rect.unit ![0, 0, 0] S1x256x2048.size inb_S1x256x2048_S1x256x2048_0_0_0).toLoadRect (harg6.unread x3) = x3 := by
    rw [View.readAt_full]; exact hf3
  have er : runC.sl.r c arg6 harg6 x3 = k0_pay11 x3 := congrArg k0_pay11 e3
  have ea0 : runC.sl.v14 c acc = band acc 0 := (View.readAt_unit (Val := Elt F) accM.view _ _ rfl _).trans (by rw [hfa]; rfl)
  have eg0 : runC.sl.v15 c gate = gband gate 0 := (View.readAt_unit (Val := Elt F) gateM.view _ _ rfl _).trans (by rw [hfg]; rfl)
  have ed0 : runC.sl.dma5 c arg6 harg6 x3 acc gate = lastBands x3 acc gate 0 := by
    refine (funext fun y => View.read_writes_cons_emb accM.view _ (Rect.unit ![0, 0] S528x2048.size inb_S2112x2048_S528x2048_0_0) _ _ y : _).trans ?_
    rw [ea0, eg0, e3]; rfl
  have ea1 : runC.sl.v28 c acc = band acc 1 := (View.readAt_unit (Val := Elt F) accM.view _ _ rfl _).trans (by rw [hfa]; rfl)
  have eg1 : runC.sl.v29 c gate = gband gate 1 := (View.readAt_unit (Val := Elt F) gateM.view _ _ rfl _).trans (by rw [hfg]; rfl)
  have ed1 : runC.sl.dma9 c arg6 harg6 x3 acc gate = lastBands x3 acc gate 1 := by
    refine (funext fun y => View.read_writes_cons_emb accM.view _ (Rect.unit ![528, 0] S528x2048.size inb_S2112x2048_S528x2048_528_0) _ _ y : _).trans ?_
    rw [ea1, eg1, e3]; rfl
  have ea2 : runC.sl.v42 c acc = band acc 2 := (View.readAt_unit (Val := Elt F) accM.view _ _ rfl _).trans (by rw [hfa]; rfl)
  have eg2 : runC.sl.v43 c gate = gband gate 2 := (View.readAt_unit (Val := Elt F) gateM.view _ _ rfl _).trans (by rw [hfg]; rfl)
  have ed2 : runC.sl.dma13 c arg6 harg6 x3 acc gate = lastBands x3 acc gate 2 := by
    refine (funext fun y => View.read_writes_cons_emb accM.view _ (Rect.unit ![1056, 0] S528x2048.size inb_S2112x2048_S528x2048_1056_0) _ _ y : _).trans ?_
    rw [ea2, eg2, er]; rfl
  have ea3 : runC.sl.v56 c acc = band acc 3 := (View.readAt_unit (Val := Elt F) accM.view _ _ rfl _).trans (by rw [hfa]; rfl)
  have eg3 : runC.sl.v57 c gate = gband gate 3 := (View.readAt_unit (Val := Elt F) gateM.view _ _ rfl _).trans (by rw [hfg]; rfl)
  have ed3 : runC.sl.dma17 c arg6 harg6 x3 acc gate = lastBands x3 acc gate 3 := by
    refine (funext fun y => View.read_writes_cons_emb accM.view _ (Rect.unit ![1584, 0] S528x2048.size inb_S2112x2048_S528x2048_1584_0) _ _ y : _).trans ?_
    rw [ea3, eg3, er]; rfl
  have eo : oM.view.read (Elt F) (runC.sl.HO_w3 c i hc3 arg6 harg6 x3 acc gate out) = put4 (2112 * (i 0).val) (lastBands x3 acc gate) out := by
    unfold put4
    refine (read_write_slice oM _ _ (off2_eq i 3) _).trans ?_
    rw [ed3]
    refine congrArg (fun z => VecWindow.put z _ _ _) ?_
    refine (read_write_slice oM _ _ (off2_eq i 2) _).trans ?_
    rw [ed2]
    refine congrArg (fun z => VecWindow.put z _ _ _) ?_
    refine (read_write_slice oM _ _ (off2_eq i 1) _).trans ?_
    rw [ed1]
    refine congrArg (fun z => VecWindow.put z _ _ _) ?_
    refine (read_write_slice oM _ _ (off2_eq i 0) _).trans ?_
    rw [ed0, hfo]
    rfl
  iapply Hk
  isplitl [H3]
  · iexists _; isplitr; swap
    · iexact H3
    · ipureintro; exact hf3
  isplitl [HA]
  · iexists _; iexists _; isplitr; swap
    · iexact HA
    · ipureintro; rfl
  isplitl [HG]
  · iexists _; isplitr; swap
    · iexact HG
    · ipureintro; exact hfg
  isplitl [HO]
  · iexists _; isplitr; swap
    · iexact HO
    · ipureintro; exact eo
  isplitl [Hq0]
  · iexact Hq0
  isplitl [Hq1]
  · iexact Hq1
  isplitl [Hq2]
  · iexact Hq2
  isplitl [Hq3]
  · iexact Hq3
  iexists _; iexact HW

end Cert.FfnRun

end
-- ==== Proof.FfnSpec.lean ====
/-
  What the feed-forward call computes, step by step, as plain functions of the arrays it reads: the grid's points are
  numbered `23 i + f`, tile `i` being normed and opened at `f = 0`, accumulated at `f = 1 … 21`, and sent out at `f = 22`.
-/
module

public import proofs.«01_k».proof.Proof.FfnRows

@[expose] public section

noncomputable section

namespace Cert.FfnRun

open Cert.FfnIdeal Cert.FfnIdeal.Gen
open Idealize.ShloMosaic

variable {F : FTy → Type} [FloatOps F]

/-- The arrays the call reads: the residual stream, and at each point the staged blocks of the norm's scale and of the
    three weights. -/
structure Reads (F : FTy → Type) [FloatOps F] where
  h : Vec F S8448x2048 .f32
  g : ℕ → Vec F S1x1x2048 .f32
  w1 : ℕ → Vec F S1x2048x256 .f32
  w3 : ℕ → Vec F S1x2048x256 .f32
  w2 : ℕ → Vec F S1x256x2048 .f32

namespace Reads

variable (R : Reads F)

/-- Tile `i`'s normed rows. -/
def xn (i : Fin 4) : Vec F S2112x2048 .bf16 := xnOf R.h (R.g (23 * i.val)) i
/-- Tile `i`'s gate over the `k`-th chunk of the hidden columns. -/
def gate (i : Fin 4) (k : ℕ) : Vec F S2112x256 .bf16 := k0_pay2 (R.xn i) (R.w1 (23 * i.val + k)) (R.w3 (23 * i.val + k))
/-- Tile `i`'s accumulator after the first `k` chunks. -/
def acc (i : Fin 4) : ℕ → Vec F S2112x2048 .f32
  | 0 => join4 (tband R.h i)
  | k + 1 => k0_pay3 (R.gate i k) (acc i k) (R.w2 (23 * i.val + (k + 1)))
/-- The four bands tile `i` sends out. -/
def bands (i : Fin 4) : Fin 4 → Vec F S528x2048 .f32 := lastBands (R.w2 (23 * i.val + 22)) (R.acc i 21) (R.gate i 21)

/-- The tile a row of the result lies in. -/
def tile (y : S8448x2048.Idx) : Fin 4 := ⟨(y 0).val / 2112, by have : (y 0).val < 8448 := (y 0).isLt; omega⟩
/-- The result. -/
def out : Vec F S8448x2048 .f32 := fun y => put4 (R := 8448) (2112 * (tile y).val) (R.bands (tile y)) R.h y

/-- What holds when `n` points have run: inside tile `n / 23` the scratch buffers hold the accumulator, the normed rows
    and the gate of the last point run, and the rows of the tiles finished hold the result. -/
def Inv (n : ℕ) (a : Vec F S2112x2048 .f32) (x : Vec F S2112x2048 .bf16) (g : Vec F S2112x256 .bf16) (o : Vec F S8448x2048 .f32) : Prop :=
  (∀ (i : Fin 4) (k : ℕ), n = 23 * i.val + (k + 1) → k < 22 → a = R.acc i k ∧ x = R.xn i ∧ g = R.gate i k)
  ∧ ∀ y : S8448x2048.Idx, (y 0).val < 2112 * (n / 23) → o y = R.out y

theorem inv_zero (a x g o) : R.Inv 0 a x g o :=
  ⟨fun i k h _ => absurd h (by omega), fun y h => absurd h (by omega)⟩

variable {R}

theorem inv_first {n : ℕ} {a x g o} (i : Fin 4) (hn : n = 23 * i.val) (h : R.Inv n a x g o) :
    R.Inv (n + 1) (join4 (tband R.h i)) (xnOf R.h (R.g n) i) (k0_pay2 (xnOf R.h (R.g n) i) (R.w1 n) (R.w3 n)) o := by
  subst hn
  refine ⟨fun j k hj hk => ?_, fun y hy => h.2 y (by omega)⟩
  obtain rfl : i = j := Fin.ext (by omega)
  obtain rfl : k = 0 := by omega
  exact ⟨rfl, rfl, rfl⟩

theorem inv_mid {n : ℕ} {a x g o} (i : Fin 4) (f : ℕ) (hn : n = 23 * i.val + f) (h0 : 0 < f) (h1 : f < 22) (h : R.Inv n a x g o) :
    R.Inv (n + 1) (k0_pay3 g a (R.w2 n)) x (k0_pay2 x (R.w1 n) (R.w3 n)) o := by
  subst hn
  obtain ⟨k, rfl⟩ : ∃ k, f = k + 1 := ⟨f - 1, by omega⟩
  obtain ⟨rfl, rfl, rfl⟩ := h.1 i k rfl (by omega)
  refine ⟨fun j k' hj hk => ?_, fun y hy => h.2 y (by omega)⟩
  obtain rfl : i = j := Fin.ext (by omega)
  obtain rfl : k' = k + 1 := by omega
  exact ⟨rfl, rfl, rfl⟩

theorem inv_last {n : ℕ} {a x g o} (i : Fin 4) (hn : n = 23 * i.val + 22) (h : R.Inv n a x g o) (a' x' g') :
    R.Inv (n + 1) a' x' g' (put4 (R := 8448) (2112 * i.val) (lastBands (R.w2 n) a g) o) := by
  subst hn
  obtain ⟨rfl, rfl, rfl⟩ := h.1 i 21 rfl (by omega)
  refine ⟨fun j k hj hk => absurd hj (by omega), fun y hy => ?_⟩
  by_cases hlt : (y 0).val < 2112 * i.val
  · exact (put4_out _ _ _ _ (Or.inl hlt)).trans (h.2 y (by omega))
  have ht : tile y = i := Fin.ext (by show (y 0).val / 2112 = _; omega)
  refine (put4_congr _ _ _ R.h _ (by omega) (by omega)).trans ?_
  show _ = put4 (R := 8448) (2112 * (tile y).val) (R.bands (tile y)) R.h y
  rw [ht]; rfl

theorem inv_end {a x g o} (h : R.Inv 92 a x g o) : o = R.out :=
  funext fun y => h.2 y (by have : (y 0).val < 8448 := (y 0).isLt; omega)

end Reads

/-- The grid's points by number. -/
def pt (n : ℕ) : Fin grid0.N := ⟨n % 92, by rw [N_0]; omega⟩
theorem pt_val (t : Fin grid0.N) : pt t.val = t := Fin.ext (by have := t.isLt.trans_eq N_0; show t.val % 92 = t.val; omega)

theorem coords_eq : ∀ t : Fin grid0.N, ((grid0.coords t) 0).val = t.val / 23 ∧ ((grid0.coords t) 1).val = t.val % 23 := by decide +kernel

/-- What core `c` reads of the memory `m`. -/
def readsOf (m : (ℓ : Loc nD τ sig) → Buf (Elt F) ℓ) (c : Dev nD) : Reads F where
  h := V m c main_arg0
  g n := iblk m c 0 (pt n)
  w1 n := iblk m c 1 (pt n)
  w3 n := iblk m c 2 (pt n)
  w2 n := iblk m c 3 (pt n)

theorem readsOf_g (m : (ℓ : Loc nD τ sig) → Buf (Elt F) ℓ) (c : Dev nD) (t : Fin grid0.N) : (readsOf m c).g t.val = iblk m c 0 t := by
  show iblk m c 0 (pt t.val) = _; rw [pt_val]
theorem readsOf_w1 (m : (ℓ : Loc nD τ sig) → Buf (Elt F) ℓ) (c : Dev nD) (t : Fin grid0.N) : (readsOf m c).w1 t.val = iblk m c 1 t := by
  show iblk m c 1 (pt t.val) = _; rw [pt_val]
theorem readsOf_w3 (m : (ℓ : Loc nD τ sig) → Buf (Elt F) ℓ) (c : Dev nD) (t : Fin grid0.N) : (readsOf m c).w3 t.val = iblk m c 2 t := by
  show iblk m c 2 (pt t.val) = _; rw [pt_val]
theorem readsOf_w2 (m : (ℓ : Loc nD τ sig) → Buf (Elt F) ℓ) (c : Dev nD) (t : Fin grid0.N) : (readsOf m c).w2 t.val = iblk m c 3 t := by
  show iblk m c 3 (pt t.val) = _; rw [pt_val]

end Cert.FfnRun

end
-- ==== Proof.FfnFrame.lean ====
/-
  The feed-forward call from launch to end: its residual stream stays where it is and is read by the body's own copies, its
  result is written by the body's own copies, and between two points the scratch buffers and the rows written hold what
  `Reads.Inv` says. Stated at any floats, so that both programs of this text cite it.
-/
module

public import proofs.«01_k».proof.Proof.FfnFirst
public import proofs.«01_k».proof.Proof.FfnMid
public import proofs.«01_k».proof.Proof.FfnLast
public import proofs.«01_k».proof.Proof.FfnSpec

@[expose] public section

noncomputable section

namespace Cert.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The windows of one point's four copies lie apart -/

theorem hW_disj (i : grid0.Coords) (h1 : k0_cond1 i = 1#1) (r s : Fin 4) (h : r ≠ s) : Disjoint (hW i h1 r).view.set (hW i h1 s).view.set := by
  apply View.disjoint_slice_of_sep _ _ _ ⟨0, by decide⟩ rfl rfl
  have hv : r.val ≠ s.val := fun e => h (Fin.ext e)
  have e1 : k0_off1 i (BitVec.ofNat 32 (528 * r.val)) 0 = 2112 * (i 0).val + 528 * r.val := congrFun (off1_eq i r) 0
  have e2 : k0_off1 i (BitVec.ofNat 32 (528 * s.val)) 0 = 2112 * (i 0).val + 528 * s.val := congrFun (off1_eq i s) 0
  show k0_off1 i (BitVec.ofNat 32 (528 * r.val)) 0 + 528 ≤ k0_off1 i (BitVec.ofNat 32 (528 * s.val)) 0
    ∨ k0_off1 i (BitVec.ofNat 32 (528 * s.val)) 0 + 528 ≤ k0_off1 i (BitVec.ofNat 32 (528 * r.val)) 0
  omega
theorem oW_disj (i : grid0.Coords) (h3 : k0_cond3 i = 1#1) (r s : Fin 4) (h : r ≠ s) : Disjoint (oW i h3 r).view.set (oW i h3 s).view.set := by
  apply View.disjoint_slice_of_sep _ _ _ ⟨0, by decide⟩ rfl rfl
  have hv : r.val ≠ s.val := fun e => h (Fin.ext e)
  have e1 : k0_off2 i (BitVec.ofNat 32 (528 * r.val)) 0 = 2112 * (i 0).val + 528 * r.val := congrFun (off2_eq i r) 0
  have e2 : k0_off2 i (BitVec.ofNat 32 (528 * s.val)) 0 = 2112 * (i 0).val + 528 * s.val := congrFun (off2_eq i s) 0
  show k0_off2 i (BitVec.ofNat 32 (528 * r.val)) 0 + 528 ≤ k0_off2 i (BitVec.ofNat 32 (528 * s.val)) 0
    ∨ k0_off2 i (BitVec.ofNat 32 (528 * s.val)) 0 + 528 ≤ k0_off2 i (BitVec.ofNat 32 (528 * r.val)) 0
  omega

/-! ## What the region is entered with and left with -/

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The array the body's copies read, and the array they write. -/
def H0 : Finset (Ref sig .tc) := {main_arg0}
def R0 : Finset (Ref sig .tc) := {main_v1}
theorem H0_sub : H0 ⊆ Pipeline.restRefs sig spec0 := by decide
theorem R0_sub : R0 ⊆ Pipeline.restRefs sig spec0 \ H0 := by decide

/-- The body's four copy semaphores. -/
abbrev osem0 : Fin 4 → SemLoc sig := fun j => (![SemLoc.dma 7, SemLoc.dma 8, SemLoc.dma 9, SemLoc.dma 10] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0
          ∗ semVal ((c : Thread nD τ), SemLoc.dma 9) 0 ∗ semVal ((c : Thread nD τ), SemLoc.dma 10) 0) := by
  rw [Pipeline.ownSems0_eq_of_list c osem0 [0, 1, 2, 3] (by decide) (by decide)]; rfl
theorem hbmPts0_eq (c : Dev nD) :
    (bigSep H0 (fun b => ((c : Thread nD τ).loc b) ↦{fullShare} V m c b) : sProp 𝕄) = owns (c : Thread nD τ) hM fullShare (V m c main_arg0) := by
  rw [BI.bigSep_eq_bigSepL_of_eq [main_arg0] (by decide) (by decide), owns_whole]; rfl
theorem routedPts0_eq (c : Dev nD) (G : (b : Ref sig .tc) → Buf (Elt F) ((c : Thread nD τ).loc b)) :
    (Pipeline.routed R0 c G : sProp 𝕄) = owns (c : Thread nD τ) oM fullShare (G main_v1) := by
  unfold Pipeline.routed; rw [BI.bigSep_eq_bigSepL_of_eq [main_v1] (by decide) (by decide), owns_whole]; rfl

theorem PhiDRG0_eq (G : (c : Dev nD) → (b : Ref sig .tc) → Buf (Elt F) ((c : Thread nD τ).loc b)) (c : Dev nD) :
    (Pipeline.ΦDRG osem0 spec0 H0 R0 (V m) G c : sProp 𝕄)
      = iprop(iprop((∃ d, owns (c : Thread nD τ) accM fullShare d) ∗ (∃ d, owns (c : Thread nD τ) xnM fullShare d)
                ∗ (∃ d, owns (c : Thread nD τ) gateM fullShare d))
          ∗ (∃ r, prngReg c r)
          ∗ iprop(semVal ((c : Thread nD τ), SemLoc.dma 7) 0 ∗ semVal ((c : Thread nD τ), SemLoc.dma 8) 0
              ∗ semVal ((c : Thread nD τ), SemLoc.dma 9) 0 ∗ semVal ((c : Thread nD τ), SemLoc.dma 10) 0)
          ∗ owns (c : Thread nD τ) hM fullShare (V m c main_arg0) ∗ owns (c : Thread nD τ) oM fullShare (G c main_v1)) := by
  rw [Pipeline.ΦDRG_eq, scopedRest0_eq, ownSems00_eq, hbmPts0_eq, routedPts0_eq]
  simp only [accM, xnM, gateM, owns_whole]; rfl

/-- The memory's contents at the end, the result named. -/
def G (c : Dev nD) : (b : Ref sig .tc) → Buf (Elt F) ((c : Thread nD τ).loc b) :=
  Function.update (V m c) main_v1 (readsOf m c).out
theorem G_out (c : Dev nD) : G m c main_v1 = (readsOf m c).out := Function.update_self ..

/-! ## The invariant and the proof data -/

/-- What is held between two points, `n` of them run. -/
def Phi (c : Dev nD) (n : ℕ) : sProp 𝕄 :=
  iprop(∃ a x g o, ⌜(readsOf m c).Inv n a x g o⌝
    ∗ owns (c : Thread nD τ) accM fullShare a ∗ owns (c : Thread nD τ) xnM fullShare x ∗ owns (c : Thread nD τ) gateM fullShare g
    ∗ (∃ r, prngReg c r)
    ∗ semVal ((c : Thread nD τ), SemLoc.dma 7) 0 ∗ semVal ((c : Thread nD τ), SemLoc.dma 8) 0
    ∗ semVal ((c : Thread nD τ), SemLoc.dma 9) 0 ∗ semVal ((c : Thread nD τ), SemLoc.dma 10) 0
    ∗ owns (c : Thread nD τ) hM fullShare (readsOf m c).h ∗ owns (c : Thread nD τ) oM fullShare o)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ n := Phi m c n.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_first (c : Dev nD) (t : Fin cfg0.N) (hf : t.val % 23 = 0) :
    bodyPre m c t ⊢ wp frame (wpE (defs₀ (F := F)) Variants.none c none) Set.univ (bodyAt0 t) (fun _ => bodyPost m c t) := by
  have ht : t.val < 92 := t.isLt.trans_eq N_0
  obtain ⟨q0, q1⟩ := coords_eq t
  have c1 : k0_cond1 (grid0.coords t) = 1#1 := (cond1_iff _).2 (by omega)
  have c2 : ¬ cond2 (grid0.coords t) = 1#1 := fun h => by have := (cond2_iff _).1 h; omega
  have c3 : ¬ k0_cond3 (grid0.coords t) = 1#1 := fun h => by have := (cond3_iff _).1 h; omega
  have hn : t.val = 23 * ((grid0.coords t) 0).val := by omega
  unfold bodyPre bodyPost bodyAt0
  simp only [before_0, before_1, before_2, before_3, after_0, after_1, after_2, after_3]
  rw [show (dats m 0 c).Φ t.castSucc = Phi m c t.val from rfl, show (dats m 0 c).Φ t.succ = Phi m c (t.val + 1) from rfl]
  unfold Phi
  unfold Dat.owesAt Pipeline.owesWithin
  rw [show (dats m 0 c).owed t.castSucc = 0 from rfl, show (dats m 0 c).owed t.succ = 0 from rfl]
  iintro ⟨⟨%a, %x, %g, %o, %hi, HA, HX, HG, Hr, Hq0, Hq1, Hq2, Hq3, HH, HO⟩, ⟨%W, -, HW⟩, ⟨%d0, H0⟩, ⟨%d1, H1⟩, ⟨%d2, H2⟩, ⟨%d3, H3⟩⟩
  iapply (runA c (grid0.coords t) c1 c2 c3 (hW_disj _ c1) (st0_0 t) _ (st0_1 t) _ (st0_2 t) _ (st0_3 t) _ (readsOf m c).h (iblk m c 0 t)
    (iblk m c 1 t) (iblk m c 2 t) a x g W _)
  isplitl [H0]; · iexact H0
  isplitl [H1]; · iexact H1
  isplitl [H2]; · iexact H2
  isplitl [HA]; · iexact HA
  isplitl [HX]; · iexact HX
  isplitl [HG]; · iexact HG
  isplitl [HH]; · iexact HH
  isplitl [Hq0]; · iexact Hq0
  isplitl [Hq1]; · iexact Hq1
  isplitl [Hq2]; · iexact Hq2
  isplitl [Hq3]; · iexact Hq3
  isplitl [HW]; · iexact HW
  iintro ⟨H0, H1, H2, HA, HX, HG, HH, Hq0, Hq1, Hq2, Hq3, ⟨%W', HW'⟩⟩
  have hi' := Reads.inv_first ((grid0.coords t) 0) hn hi
  rw [readsOf_g, readsOf_w1, readsOf_w3] at hi'
  isplitl [HA HX HG Hr Hq0 Hq1 Hq2 Hq3 HH HO]
  · iexists _, _, _, _
    isplitr; swap
    · isplitl [HA]; · iexact HA
      isplitl [HX]; · iexact HX
      isplitl [HG]; · iexact HG
      isplitl [Hr]; · iexact Hr
      isplitl [Hq0]; · iexact Hq0
      isplitl [Hq1]; · iexact Hq1
      isplitl [Hq2]; · iexact Hq2
      isplitl [Hq3]; · iexact Hq3
      isplitl [HH]; · iexact HH
      iexact HO
    ipureintro; exact hi'
  isplitl [HW']
  · iexists W'; isplitr; · ipureintro; exact fun _ _ => Or.inl trivial
    iexact HW'
  isplitl [H0]; · iexact H0
  isplitl [H1]; · iexact H1
  isplitl [H2]; · iexact H2
  iexact H3

theorem sound_mid (c : Dev nD) (t : Fin cfg0.N) (h0 : 0 < t.val % 23) (h1 : t.val % 23 < 22) :
    bodyPre m c t ⊢ wp frame (wpE (defs₀ (F := F)) Variants.none c none) Set.univ (bodyAt0 t) (fun _ => bodyPost m c t) := by
  have ht : t.val < 92 := t.isLt.trans_eq N_0
  obtain ⟨q0, q1⟩ := coords_eq t
  have c1 : ¬ k0_cond1 (grid0.coords t) = 1#1 := fun h => by have := (cond1_iff _).1 h; omega
  have c2 : cond2 (grid0.coords t) = 1#1 := (cond2_iff _).2 (by omega)
  have c3 : ¬ k0_cond3 (grid0.coords t) = 1#1 := fun h => by have := (cond3_iff _).1 h; omega
  have hn : t.val = 23 * ((grid0.coords t) 0).val + t.val % 23 := by omega
  unfold bodyPre bodyPost bodyAt0
  simp only [before_0, before_1, before_2, before_3, after_0, after_1, after_2, after_3]
  rw [show (dats m 0 c).Φ t.castSucc = Phi m c t.val from rfl, show (dats m 0 c).Φ t.succ = Phi m c (t.val + 1) from rfl]
  rw [show (dats m 0 c).owesAt () t.succ = (dats m 0 c).owesAt () t.castSucc from rfl]
  unfold Phi
  iintro ⟨⟨%a, %x, %g, %o, %hi, HA, HX, HG, Hr, Hq0, Hq1, Hq2, Hq3, HH, HO⟩, HW, ⟨%d0, H0⟩, ⟨%d1, H1⟩, ⟨%d2, H2⟩, ⟨%d3, H3⟩⟩
  iapply (runB c (grid0.coords t) c1 c2 c3 (st0_0 t) _ (st0_1 t) _ (st0_2 t) _ (st0_3 t) _
    (iblk m c 1 t) (iblk m c 2 t) (iblk m c 3 t) a x g _)
  isplitl [H1]; · iexact H1
  isplitl [H2]; · iexact H2
  isplitl [H3]; · iexact H3
  isplitl [HA]; · iexact HA
  isplitl [HX]; · iexact HX
  isplitl [HG]; · iexact HG
  iintro ⟨H1, H2, H3, HA, HX, HG⟩
  have hi' := Reads.inv_mid ((grid0.coords t) 0) _ hn h0 h1 hi
  rw [readsOf_w1, readsOf_w3, readsOf_w2] at hi'
  isplitl [HA HX HG Hr Hq0 Hq1 Hq2 Hq3 HH HO]
  · iexists _, _, _, _
    isplitr; swap
    · isplitl [HA]; · iexact HA
      isplitl [HX]; · iexact HX
      isplitl [HG]; · iexact HG
      isplitl [Hr]; · iexact Hr
      isplitl [Hq0]; · iexact Hq0
      isplitl [Hq1]; · iexact Hq1
      isplitl [Hq2]; · iexact Hq2
      isplitl [Hq3]; · iexact Hq3
      isplitl [HH]; · iexact HH
      iexact HO
    ipureintro; exact hi'
  isplitl [HW]; · iexact HW
  isplitl [H0]; · iexact H0
  isplitl [H1]; · iexact H1
  isplitl [H2]; · iexact H2
  iexact H3

theorem sound_last (c : Dev nD) (t : Fin cfg0.N) (hf : t.val % 23 = 22) :
    bodyPre m c t ⊢ wp frame (wpE (defs₀ (F := F)) Variants.none c none) Set.univ (bodyAt0 t) (fun _ => bodyPost m c t) := by
  have ht : t.val < 92 := t.isLt.trans_eq N_0
  obtain ⟨q0, q1⟩ := coords_eq t
  have c1 : ¬ k0_cond1 (grid0.coords t) = 1#1 := fun h => by have := (cond1_iff _).1 h; omega
  have c2 : ¬ cond2 (grid0.coords t) = 1#1 := fun h => by have := (cond2_iff _).1 h; omega
  have c3 : k0_cond3 (grid0.coords t) = 1#1 := (cond3_iff _).2 (by omega)
  have hn : t.val = 23 * ((grid0.coords t) 0).val + 22 := by omega
  unfold bodyPre bodyPost bodyAt0
  simp only [before_0, before_1, before_2, before_3, after_0, after_1, after_2, after_3]
  rw [show (dats m 0 c).Φ t.castSucc = Phi m c t.val from rfl, show (dats m 0 c).Φ t.succ = Phi m c (t.val + 1) from rfl]
  unfold Phi
  unfold Dat.owesAt Pipeline.owesWithin
  rw [show (dats m 0 c).owed t.castSucc = 0 from rfl, show (dats m 0 c).owed t.succ = 0 from rfl]
  iintro ⟨⟨%a, %x, %g, %o, %hi, HA, HX, HG, Hr, Hq0, Hq1, Hq2, Hq3, HH, HO⟩, ⟨%W, -, HW⟩, ⟨%d0, H0⟩, ⟨%d1, H1⟩, ⟨%d2, H2⟩, ⟨%d3, H3⟩⟩
  iapply (runC c (grid0.coords t) c1 c2 c3 (oW_disj _ c3) (st0_0 t) _ (st0_1 t) _ (st0_2 t) _ (st0_3 t) _
    (iblk m c 3 t) a g o W _)
  isplitl [H3]; · iexact H3
  isplitl [HA]; · iexact HA
  isplitl [HG]; · iexact HG
  isplitl [HO]; · iexact HO
  isplitl [Hq0]; · iexact Hq0
  isplitl [Hq1]; · iexact Hq1
  isplitl [Hq2]; · iexact Hq2
  isplitl [Hq3]; · iexact Hq3
  isplitl [HW]; · iexact HW
  iintro ⟨H3, ⟨%a', HA⟩, HG, HO, Hq0, Hq1, Hq2, Hq3, ⟨%W', HW'⟩⟩
  have hi' := Reads.inv_last ((grid0.coords t) 0) hn hi a' x g
  rw [readsOf_w2] at hi'
  isplitl [HA HX HG Hr Hq0 Hq1 Hq2 Hq3 HH HO]
  · iexists _, _, _, _
    isplitr; swap
    · isplitl [HA]; · iexact HA
      isplitl [HX]; · iexact HX
      isplitl [HG]; · iexact HG
      isplitl [Hr]; · iexact Hr
      isplitl [Hq0]; · iexact Hq0
      isplitl [Hq1]; · iexact Hq1
      isplitl [Hq2]; · iexact Hq2
      isplitl [Hq3]; · iexact Hq3
      isplitl [HH]; · iexact HH
      iexact HO
    ipureintro; exact hi'
  isplitl [HW']
  · iexists W'; isplitr; · ipureintro; exact fun _ _ => Or.inl trivial
    iexact HW'
  isplitl [H0]; · iexact H0
  isplitl [H1]; · iexact H1
  isplitl [H2]; · iexact H2
  iexact H3

theorem sound_body (c : Dev nD) (t : Fin cfg0.N) :
    bodyPre m c t ⊢ wp frame (wpE (defs₀ (F := F)) Variants.none c none) Set.univ (bodyAt0 t) (fun _ => bodyPost m c t) := by
  rcases Nat.eq_zero_or_pos (t.val % 23) with h | h
  · exact sound_first m c t h
  rcases Nat.lt_or_ge (t.val % 23) 22 with h' | h'
  · exact sound_mid m c t h h'
  · exact sound_last m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : (Pipeline.ΦDRG osem0 spec0 H0 R0 (V m) (V m) c : sProp 𝕄) ⊢ Phi m c 0 := by
  rw [PhiDRG0_eq]; unfold Phi
  iintro ⟨⟨⟨%a, HA⟩, ⟨%x, HX⟩, ⟨%g, HG⟩⟩, Hr, ⟨Hq0, Hq1, Hq2, Hq3⟩, HH, HO⟩
  iexists a, x, g, _
  isplitr; swap
  · isplitl [HA]; · iexact HA
    isplitl [HX]; · iexact HX
    isplitl [HG]; · iexact HG
    isplitl [Hr]; · iexact Hr
    isplitl [Hq0]; · iexact Hq0
    isplitl [Hq1]; · iexact Hq1
    isplitl [Hq2]; · iexact Hq2
    isplitl [Hq3]; · iexact Hq3
    isplitl [HH]; · iexact HH
    iexact HO
  ipureintro; exact (readsOf m c).inv_zero a x g _

theorem phi_out (c : Dev nD) : Phi m c 92 ⊢ (Pipeline.ΦDRG osem0 spec0 H0 R0 (V m) (G m) c : sProp 𝕄) := by
  rw [PhiDRG0_eq, G_out]; unfold Phi
  iintro ⟨%a, %x, %g, %o, %hi, HA, HX, HG, Hr, Hq0, Hq1, Hq2, Hq3, HH, HO⟩
  obtain rfl := Reads.inv_end hi
  isplitl [HA HX HG]
  · isplitl [HA]; · iexists _; iexact HA
    isplitl [HX]; · iexists _; iexact HX
    iexists _; iexact HG
  isplitl [Hr]; · iexact Hr
  isplitl [Hq0 Hq1 Hq2 Hq3]
  · isplitl [Hq0]; · iexact Hq0
    isplitl [Hq1]; · iexact Hq1
    isplitl [Hq2]; · iexact Hq2
    iexact Hq3
  isplitl [HH]; · iexact HH
  iexact HO

/-! ## The run -/

set_option backward.isDefEq.respectTransparency.types false in
theorem run_region : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := phi_in m) (hout := fun c => by
      rw [show (dats m 0 c).Φ (Fin.last cfg0.N) = Phi m c 92 from congrArg (Phi m c) N_0]; exact phi_out m c)

/-- The run of the call: the result is `Reads.out` of what the core read, the arguments end as they began, every
    semaphore ends at zero. -/
theorem run_main : θ_run defs (onTc (τ := τ) (main (F := F))) ⟨m, fun _ => 0, ρ⟩ (fun r => (∀ c : Dev nD,
      r.2.mem ((c.tc : Thread nD τ).loc main_v1) = (readsOf m c).out
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1.2 c main_v1 (by decide)).trans (G_out m c),
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).1 1).trans (((dats m 0 c).arrAt_in 1 rfl _).trans ((A_eq m c 1).trans (V_main_arg2 m c))),
      ((h.1.1 c).1 2).trans (((dats m 0 c).arrAt_in 2 rfl _).trans ((A_eq m c 2).trans (V_main_arg3 m c))),
      ((h.1.1 c).1 3).trans (((dats m 0 c).arrAt_in 3 rfl _).trans ((A_eq m c 3).trans (V_main_arg4 m c)))⟩, h.2⟩) (run_region m ρ)

end Cert.FfnRun

end
-- ==== Proof.FfnValue.lean ====
module

public import proofs.«01_k».proof.Defs
public import proofs.«01_k».proof.Proof.FfnFrame
public import proofs.«01_k».proof.Proof.Gen.Ffn
public import proofs.«01_k».proof.Proof.Gen.FfnRefIdeal.Run
public import Idealize.ShloMosaic.Lib.Pipeline.ValueKit
public import Idealize.ShloMosaic.Lib.Quiescent

/-!
# What the feed-forward call computes

The call holds 2112 rows at a time and takes the 5632 hidden columns 256 at a time. Per row and result column it starts
at the residual and adds, chunk after chunk, the products of the gated hidden values, each already halved, with the
second weights. The reference halves the whole sum once. In the extended reals a finite non-negative factor passes
through a sum, so the two agree.
-/

@[expose] public section

noncomputable section

set_option maxRecDepth 16384

namespace Cert.FfnRefIdeal.RefValue

open Idealize.ShloMosaic Idealize.ShloMosaic.TcCoe
open Idealize.SL Idealize.SL.Sem
open Idealize.ShloMosaic.StableHlo
open Cert.FfnRefIdeal Cert.FfnRefIdeal.Gen

/-- The normed rows. -/
def xn (h : FVec Ideal S8448x2048 .f32) (g : FVec Ideal S2x2048 .f32) : FVec Ideal S8448x2048 .f32 :=
  mulf (mulf h (broadcastInDim S8448x2048 ![0, 1] bcast_S8448x1_S8448x2048_0_1 (Host.rsqrt (addf (Host.divf (broadcastInDim S8448x1 ![0] bcast_S8448_S8448x1_0 (Host.reduceAdd (mulf h h) (constant S_ .f32 0x00000000#32) reducesTo_S8448x2048_S8448_d1 h_S_)) (broadcastInDim S8448x1 ![] bcast_S_S8448x1 (constant S_ .f32 0x45000000#32))) (broadcastInDim S8448x1 ![] bcast_S_S8448x1 (constant S_ .f32 0x358637BD#32)))))) (broadcastInDim S8448x2048 ![0, 1] bcast_S1x2048_S8448x2048_0_1 (broadcastInDim S1x2048 ![1] bcast_S2048_S1x2048_1 (shapeCast _ (extractStridedSlice S1x2048 ![0, 0] g slices_S2x2048_S1x2048_0_0) shapeCasts_S1x2048_S2048)))
/-- The product with the first member of a stack of weights. -/
def up (x : FVec Ideal S8448x2048 .f32) (w : FVec Ideal S2x2048x5632 .f32) : FVec Ideal S8448x5632 .f32 :=
  Host.dotGeneral (φ₁ := .f32) (φ₂ := .f32) dot_S8448x2048_S2048x5632_S8448x5632_1_0_0_1_n_n none x (shapeCast _ (extractStridedSlice S1x2048x5632 ![0, 0, 0] w slices_S2x2048x5632_S1x2048x5632_0_0_0) shapeCasts_S1x2048x5632_S2048x5632)
/-- The gated hidden values. -/
def gated (a b : FVec Ideal S8448x5632 .f32) : FVec Ideal S8448x5632 .f32 :=
  mulf (mulf a (Host.divf (broadcastInDim S8448x5632 ![] bcast_S_S8448x5632 (constant S_ .f32 0x3F800000#32)) (addf (broadcastInDim S8448x5632 ![] bcast_S_S8448x5632 (constant S_ .f32 0x3F800000#32)) (Host.exp (Host.negf a))))) b
/-- The result the reference computes. -/
def want (h : FVec Ideal S8448x2048 .f32) (g : FVec Ideal S2x2048 .f32) (w1 w3 : FVec Ideal S2x2048x5632 .f32) (w2 : FVec Ideal S2x5632x2048 .f32) :
    FVec Ideal S8448x2048 .f32 :=
  addf h (mulf (broadcastInDim S8448x2048 ![] bcast_S_S8448x2048 (constant S_ .f32 0x3F000000#32)) (Host.dotGeneral (φ₁ := .f32) (φ₂ := .f32) dot_S8448x5632_S5632x2048_S8448x2048_1_0_0_1_n_n none (gated (up (xn h g) w1) (up (xn h g) w3)) (shapeCast _ (extractStridedSlice S1x5632x2048 ![0, 0, 0] w2 slices_S2x5632x2048_S1x5632x2048_0_0_0) shapeCasts_S1x5632x2048_S5632x2048)))

theorem xn_apply (h : FVec Ideal S8448x2048 .f32) (g : FVec Ideal S2x2048 .f32) (r : Fin 8448) (l : Fin 2048) :
    xn h g (ix2 r l) = h (ix2 r l) * Ideal.rsqrt (Ideal.div (∑ x, h (ix2 r x) * h (ix2 r x)) (Ideal.ofBits FTy.f32 1157627904#32)
      + Ideal.ofBits FTy.f32 897988541#32) * g (ix2 0 l) := by
  pointwise [xn]
theorem up_apply (x : FVec Ideal S8448x2048 .f32) (w : FVec Ideal S2x2048x5632 .f32) (r : Fin 8448) (j : Fin 5632) :
    up x w (ix2 r j) = ∑ l : Fin 2048, x (ix2 r l) * w (ix3 0 l j) := by
  pointwise [up]
theorem gated_apply (a b : FVec Ideal S8448x5632 .f32) (r : Fin 8448) (j : Fin 5632) :
    gated a b (ix2 r j) = a (ix2 r j) * Ideal.logistic (a (ix2 r j)) * b (ix2 r j) := by
  pointwise [gated, Ideal.logistic]
theorem want_apply (h : FVec Ideal S8448x2048 .f32) (g : FVec Ideal S2x2048 .f32) (w1 w3 : FVec Ideal S2x2048x5632 .f32)
    (w2 : FVec Ideal S2x5632x2048 .f32) (r : Fin 8448) (q : Fin 2048) :
    want h g w1 w3 w2 (ix2 r q) = h (ix2 r q) + Ideal.ofBits FTy.f32 1056964608#32
      * ∑ j : Fin 5632, gated (up (xn h g) w1) (up (xn h g) w3) (ix2 r j) * w2 (ix3 0 j q) := by
  pointwise [want]

end Cert.FfnRefIdeal.RefValue

namespace Cert.FfnRun

open Idealize.ShloMosaic Idealize.ShloMosaic.TcCoe
open Idealize.SL Idealize.SL.Sem
open Cert.FfnIdeal Cert.FfnIdeal.Gen
open Cert.FfnRefIdeal (RefValue.xn RefValue.up RefValue.gated RefValue.want)

/-! ## The constant, and a factor passing through a sum -/

theorem half_eq : Ideal.ofBits FTy.f32 1056964608#32 = (((1 : ℝ) / 2 : ℝ) : EReal) := by
  simp [Ideal.ofBits, Ideal.ieee, -EReal.coe_mul]
  norm_num

/-- A finite non-negative factor passes through a finite sum. -/
theorem mul_sum_of_nonneg {ι : Type} (s : Finset ι) (c : ℝ) (hc : 0 ≤ c) (f : ι → EReal) :
    ((c : EReal)) * ∑ j ∈ s, f j = ∑ j ∈ s, (c : EReal) * f j := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-! ## The four computed pieces, element by element -/

theorem norm_apply (x : Vec Ideal S528x2048 .f32) (g : Vec Ideal S1x1x2048 .f32) (r : Fin 528) (l : Fin 2048) :
    k0_pay4 (F := Ideal) x g (ix2 r l) = x (ix2 r l) * Ideal.rsqrt (Ideal.div (∑ k, x (ix2 r k) * x (ix2 r k)) (Ideal.ofBits FTy.f32 1157627904#32)
      + Ideal.ofBits FTy.f32 897988541#32) * g (ix3 0 0 l) := by
  pointwise [k0_pay4]
theorem gate_apply (x : Vec Ideal S2112x2048 .bf16) (w1 w3 : Vec Ideal S1x2048x256 .f32) (r : Fin 2112) (l : Fin 256) :
    k0_pay2 (F := Ideal) x w1 w3 (ix2 r l) = (Ideal.ofBits FTy.f32 1056964608#32 * ∑ k, x (ix2 r k) * w1 (ix3 0 k l))
      * Ideal.logistic (∑ k, x (ix2 r k) * w1 (ix3 0 k l)) * ∑ k, x (ix2 r k) * w3 (ix3 0 k l) := by
  pointwise [k0_pay2]
theorem add_apply (g : Vec Ideal S2112x256 .bf16) (a : Vec Ideal S2112x2048 .f32) (w2 : Vec Ideal S1x256x2048 .f32) (r : Fin 2112) (q : Fin 2048) :
    k0_pay3 (F := Ideal) g a w2 (ix2 r q) = a (ix2 r q) + ∑ k, g (ix2 r k) * w2 (ix3 0 k q) := by
  pointwise [k0_pay3]
theorem last_apply (w2 : Vec Ideal S1x256x2048 .f32) (a : Vec Ideal S528x2048 .f32) (g : Vec Ideal S528x256 .bf16) (r : Fin 528) (q : Fin 2048) :
    k0_pay12 (F := Ideal) w2 a g (ix2 r q) = a (ix2 r q) + ∑ k, g (ix2 r k) * w2 (ix3 0 k q) := by
  pointwise [k0_pay12, k0_pay11]

/-! ## The staged blocks -/

variable (m : (ℓ : Loc nD τ sig) → Buf (Elt Ideal) ℓ) (c : Dev nD)

/-- At the point `23 i + f` the call holds the scale's first row, the hidden columns of chunk `f` (the last chunk at
    `f = 22`) of the two first weights, and the rows of chunk `f - 1` of the second. -/
theorem idx : ∀ t : Fin grid0.N, win0_0.index t = ![0, 0, 0] ∧ win0_1.index t = ![0, 0, min (t.val % 23) 21]
    ∧ win0_2.index t = ![0, 0, min (t.val % 23) 21] ∧ win0_3.index t = ![0, t.val % 23 - 1, 0] := by
  decide +kernel

theorem scale (t : Fin cfg0.N) (l : Fin 2048) :
    (iblk m c 0 t : S1x1x2048.Idx → _) (ix3 0 0 l) = m ((c.tc : Thread nD τ).loc main_arg1) (ix2 0 l) := by
  obtain ⟨e0, -, -, -⟩ := idx t
  have e : (V m c main_v0 : S2x1x2048.Idx → _) (ix3 0 0 l) = m ((c.tc : Thread nD τ).loc main_arg1) (ix2 0 l) := by
    entry_read
    pointwise
  rw [← e]
  blk_ext [iblk, e0]

theorem weights1 (t : Fin cfg0.N) (k : Fin 2048) (l : Fin 256) (j : Fin 5632) (hj : j.val = 256 * min (t.val % 23) 21 + l.val) :
    (iblk m c 1 t : S1x2048x256.Idx → _) (ix3 0 k l) = m ((c.tc : Thread nD τ).loc main_arg2) (ix3 0 k j) := by
  obtain ⟨-, e1, -, -⟩ := idx t
  rw [← V_main_arg2 m c]
  refine congrArg (V m c main_arg2 : S2x2048x5632.Idx → _) (funext fun a => Fin.ext ?_)
  refine (win0_1.rect_emb_val_off t _ a).trans ?_
  rw [e1]
  fin_cases a
  · show 0 * 1 + 0 = 0
    omega
  · show 0 * 2048 + k.val = k.val
    omega
  · show min (t.val % 23) 21 * 256 + l.val = j.val
    omega
theorem weights3 (t : Fin cfg0.N) (k : Fin 2048) (l : Fin 256) (j : Fin 5632) (hj : j.val = 256 * min (t.val % 23) 21 + l.val) :
    (iblk m c 2 t : S1x2048x256.Idx → _) (ix3 0 k l) = m ((c.tc : Thread nD τ).loc main_arg3) (ix3 0 k j) := by
  obtain ⟨-, -, e2, -⟩ := idx t
  rw [← V_main_arg3 m c]
  refine congrArg (V m c main_arg3 : S2x2048x5632.Idx → _) (funext fun a => Fin.ext ?_)
  refine (win0_2.rect_emb_val_off t _ a).trans ?_
  rw [e2]
  fin_cases a
  · show 0 * 1 + 0 = 0
    omega
  · show 0 * 2048 + k.val = k.val
    omega
  · show min (t.val % 23) 21 * 256 + l.val = j.val
    omega
theorem weights2 (t : Fin cfg0.N) (l : Fin 256) (q : Fin 2048) (j : Fin 5632) (hj : j.val = 256 * (t.val % 23 - 1) + l.val) :
    (iblk m c 3 t : S1x256x2048.Idx → _) (ix3 0 l q) = m ((c.tc : Thread nD τ).loc main_arg4) (ix3 0 j q) := by
  obtain ⟨-, -, -, e3⟩ := idx t
  rw [← V_main_arg4 m c]
  refine congrArg (V m c main_arg4 : S2x5632x2048.Idx → _) (funext fun a => Fin.ext ?_)
  refine (win0_3.rect_emb_val_off t _ a).trans ?_
  rw [e3]
  fin_cases a
  · show 0 * 1 + 0 = 0
    omega
  · show (t.val % 23 - 1) * 256 + l.val = j.val
    omega
  · show 0 * 2048 + q.val = q.val
    omega

/-! ## The tile's values -/

/-- The arguments, as the reference takes them. -/
abbrev argH : FVec Ideal S8448x2048 .f32 := m ((c.tc : Thread nD τ).loc main_arg0)
abbrev argG : FVec Ideal S2x2048 .f32 := m ((c.tc : Thread nD τ).loc main_arg1)
abbrev argW1 : FVec Ideal S2x2048x5632 .f32 := m ((c.tc : Thread nD τ).loc main_arg2)
abbrev argW3 : FVec Ideal S2x2048x5632 .f32 := m ((c.tc : Thread nD τ).loc main_arg3)
abbrev argW2 : FVec Ideal S2x5632x2048 .f32 := m ((c.tc : Thread nD τ).loc main_arg4)

/-- The reference's gated hidden values. -/
def hid : FVec Ideal Cert.FfnRefIdeal.S8448x5632 .f32 :=
  RefValue.gated (RefValue.up (RefValue.xn (argH m c) (argG m c)) (argW1 m c)) (RefValue.up (RefValue.xn (argH m c) (argG m c)) (argW3 m c))

/-- Row `r` of tile `i`. -/
abbrev row (i : Fin 4) (r : Fin 2112) : Fin 8448 := ⟨2112 * i.val + r.val, by omega⟩
/-- Column `l` of chunk `k`. -/
abbrev col (k : ℕ) (hk : k < 22) (l : Fin 256) : Fin 5632 := ⟨256 * k + l.val, by omega⟩

theorem bandIx_eq (p : Fin 528) (q : Fin 2048) : bandIx p q = ix2 p q := by
  funext a
  fin_cases a <;> rfl

theorem tband_apply (x : S8448x2048.Idx → EReal) (i s : Fin 4) (p : Fin 528) (q : Fin 2048) :
    tband x i s (ix2 p q) = x (ix2 ⟨2112 * i.val + 528 * s.val + p.val, by omega⟩ q) := by
  refine congrArg x (funext fun a => Fin.ext ?_)
  fin_cases a
  · show 2112 * i.val + 528 * s.val + 1 * p.val = _
    simp
  · show 0 + 1 * q.val = q.val
    omega

theorem open_apply (x : S8448x2048.Idx → EReal) (i : Fin 4) (r : Fin 2112) (q : Fin 2048) :
    join4 (tband x i) (ix2 r q) = x (ix2 (row i r) q) := by
  refine (join4_apply _ _).trans ?_
  refine (congrArg (tband x i ⟨r.val / 528, by omega⟩) (bandIx_eq ⟨r.val % 528, by omega⟩ q)).trans ?_
  refine (tband_apply _ _ _ _ _).trans ?_
  refine congrArg (fun p => x (ix2 p q)) (Fin.ext ?_)
  show 2112 * i.val + 528 * (r.val / 528) + r.val % 528 = 2112 * i.val + r.val
  omega

theorem xn_at (i : Fin 4) (r : Fin 2112) (l : Fin 2048) :
    (readsOf m c).xn i (ix2 r l) = RefValue.xn (argH m c) (argG m c) (ix2 (row i r) l) := by
  have hp : 2112 * i.val + 528 * (r.val / 528) + r.val % 528 = 2112 * i.val + r.val := by omega
  have hr : ∀ q : Fin 2048, tband (readsOf m c).h i ⟨r.val / 528, by omega⟩ (ix2 ⟨r.val % 528, by omega⟩ q) = argH m c (ix2 (row i r) q) := fun q => by
    refine (tband_apply _ _ _ _ _).trans ?_
    refine (congrArg (fun p => (V m c main_arg0 : S8448x2048.Idx → EReal) (ix2 p q)) (show (⟨2112 * i.val + 528 * (r.val / 528) + r.val % 528, by omega⟩ : Fin 8448) = row i r from Fin.ext hp)).trans ?_
    rw [V_main_arg0]
  show join4 (fun s => k0_pay4 (tband (readsOf m c).h i s) ((readsOf m c).g (23 * i.val))) (ix2 r l) = _
  refine (join4_apply _ _).trans ?_
  refine (congrArg (k0_pay4 (tband (readsOf m c).h i ⟨r.val / 528, by omega⟩) ((readsOf m c).g (23 * i.val)))
    (bandIx_eq ⟨r.val % 528, by omega⟩ l)).trans ?_
  refine (norm_apply _ _ _ _).trans ?_
  rw [Cert.FfnRefIdeal.RefValue.xn_apply]
  have hg : (readsOf m c).g (23 * i.val) (ix3 0 0 l) = argG m c (ix2 0 l) := by
    have e := scale m c (pt (23 * i.val)) l
    exact e
  simp only [hr, hg]

theorem gate_at (i : Fin 4) (k : ℕ) (hk : k < 22) (r : Fin 2112) (l : Fin 256) :
    (readsOf m c).gate i k (ix2 r l) = Ideal.ofBits FTy.f32 1056964608#32 * hid m c (ix2 (row i r) (col k hk l)) := by
  have hp : (pt (23 * i.val + k)).val % 23 = k := by show (23 * i.val + k) % 92 % 23 = k; omega
  have h1 : ∀ x : Fin 2048, (readsOf m c).w1 (23 * i.val + k) (ix3 0 x l) = argW1 m c (ix3 0 x (col k hk l)) := fun x => by
    have e := weights1 m c (pt (23 * i.val + k)) x l (col k hk l) (by rw [hp]; show 256 * k + l.val = _; omega)
    exact e
  have h3 : ∀ x : Fin 2048, (readsOf m c).w3 (23 * i.val + k) (ix3 0 x l) = argW3 m c (ix3 0 x (col k hk l)) := fun x => by
    have e := weights3 m c (pt (23 * i.val + k)) x l (col k hk l) (by rw [hp]; show 256 * k + l.val = _; omega)
    exact e
  refine (gate_apply _ _ _ _ _).trans ?_
  unfold hid
  rw [Cert.FfnRefIdeal.RefValue.gated_apply, Cert.FfnRefIdeal.RefValue.up_apply, Cert.FfnRefIdeal.RefValue.up_apply]
  simp only [h1, h3, xn_at]
  simp only [mul_assoc]

/-- One hidden column's part of a result, halved. -/
def term (p : Fin 8448) (q : Fin 2048) (j : ℕ) : EReal :=
  if h : j < 5632 then (Ideal.ofBits FTy.f32 1056964608#32 * hid m c (ix2 p ⟨j, h⟩)) * argW2 m c (ix3 0 ⟨j, h⟩ q) else 0

/-- One chunk's product, the gate's columns against the rows staged for it. -/
theorem chunk (i : Fin 4) (k : ℕ) (hk : k < 22) (r : Fin 2112) (q : Fin 2048) :
    ∑ l : Fin 256, (readsOf m c).gate i k (ix2 r l) * (readsOf m c).w2 (23 * i.val + (k + 1)) (ix3 0 l q)
      = ∑ l ∈ Finset.range 256, term m c (row i r) q (256 * k + l) := by
  rw [Finset.sum_range]
  refine Finset.sum_congr rfl fun l _ => ?_
  have hp : (pt (23 * i.val + (k + 1))).val % 23 = k + 1 := by show (23 * i.val + (k + 1)) % 92 % 23 = k + 1; omega
  have h2 : (readsOf m c).w2 (23 * i.val + (k + 1)) (ix3 0 l q) = argW2 m c (ix3 0 (col k hk l) q) := by
    have e := weights2 m c (pt (23 * i.val + (k + 1))) l q (col k hk l) (by rw [hp]; show 256 * k + l.val = _; omega)
    exact e
  rw [gate_at m c i k hk, h2]
  unfold term
  rw [dif_pos (by omega)]

theorem acc_at (i : Fin 4) (r : Fin 2112) (q : Fin 2048) : ∀ k : ℕ, k < 22 →
    (readsOf m c).acc i k (ix2 r q) = argH m c (ix2 (row i r) q) + ∑ j ∈ Finset.range (256 * k), term m c (row i r) q j
  | 0, _ => by
    refine (open_apply _ _ _ _).trans ?_
    have e : (readsOf m c).h = argH m c := V_main_arg0 m c
    rw [e]; simp
  | k + 1, hk => by
    refine (add_apply _ _ _ _ _).trans ?_
    rw [acc_at i r q k (by omega), chunk m c i k (by omega), show 256 * (k + 1) = 256 * k + 256 by omega, Finset.sum_range_add, add_assoc]

theorem band_apply (x : S2112x2048.Idx → EReal) (s : Fin 4) (p : Fin 528) (q : Fin 2048) :
    band x s (ix2 p q) = x (ix2 ⟨528 * s.val + p.val, by omega⟩ q) := by
  refine congrArg x (funext fun a => Fin.ext ?_)
  fin_cases a
  · show 528 * s.val + 1 * p.val = _
    simp
  · show 0 + 1 * q.val = q.val
    omega
theorem gband_apply (x : S2112x256.Idx → EReal) (s : Fin 4) (p : Fin 528) (q : Fin 256) :
    gband x s (ix2 p q) = x (ix2 ⟨528 * s.val + p.val, by omega⟩ q) := by
  refine congrArg x (funext fun a => Fin.ext ?_)
  fin_cases a
  · show 528 * s.val + 1 * p.val = _
    simp
  · show 0 + 1 * q.val = q.val
    omega

theorem out_at (p : Fin 8448) (q : Fin 2048) :
    (readsOf m c).out (ix2 p q) = argH m c (ix2 p q) + ∑ j ∈ Finset.range 5632, term m c p q j := by
  have hp := p.isLt
  obtain ⟨i, hi⟩ : ∃ i : Fin 4, i.val = p.val / 2112 := ⟨⟨p.val / 2112, by omega⟩, rfl⟩
  obtain ⟨s, hs⟩ : ∃ s : Fin 4, s.val = p.val % 2112 / 528 := ⟨⟨p.val % 2112 / 528, by omega⟩, rfl⟩
  obtain ⟨r, hr⟩ : ∃ r : Fin 2112, r.val = p.val % 2112 := ⟨⟨p.val % 2112, by omega⟩, rfl⟩
  obtain ⟨b, hb⟩ : ∃ b : Fin 528, b.val = p.val % 528 := ⟨⟨p.val % 528, by omega⟩, rfl⟩
  have hrow : row i r = p := Fin.ext (by show 2112 * i.val + r.val = p.val; omega)
  have ht : Reads.tile (ix2 p q) = i := Fin.ext hi.symm
  have hsr : (⟨528 * s.val + b.val, by omega⟩ : Fin 2112) = r := Fin.ext (by show 528 * s.val + b.val = r.val; omega)
  unfold Reads.out
  rw [ht]
  refine (put4_in (R := 8448) (2112 * i.val) _ _ _ s (by show 2112 * i.val + 528 * s.val ≤ p.val; omega)
    (by show p.val < 2112 * i.val + 528 * s.val + 528; omega)).trans ?_
  have hix : (⟨p.val - (2112 * i.val + 528 * s.val), by omega⟩ : Fin 528) = b := Fin.ext (by show p.val - (2112 * i.val + 528 * s.val) = b.val; omega)
  refine (congrArg (fun z => (readsOf m c).bands i s (ix2 z q)) hix).trans ?_
  unfold Reads.bands lastBands
  refine (last_apply _ _ _ _ _).trans ?_
  have ea : band ((readsOf m c).acc i 21) s (ix2 b q) = (readsOf m c).acc i 21 (ix2 r q) := by
    rw [band_apply, hsr]
  have eg : ∀ l : Fin 256, gband ((readsOf m c).gate i 21) s (ix2 b l) = (readsOf m c).gate i 21 (ix2 r l) := fun l => by
    refine (gband_apply _ _ _ _).trans ?_; rw [hsr]
  rw [ea]
  simp only [eg]
  rw [acc_at m c i r q 21 (by omega), chunk m c i 21 (by omega), hrow, add_assoc, ← Finset.sum_range_add]

/-- The call's result is the reference's. -/
theorem out_eq : (readsOf m c).out = RefValue.want (argH m c) (argG m c) (argW1 m c) (argW3 m c) (argW2 m c) := by
  funext y
  obtain ⟨p, q, rfl⟩ : ∃ (p : Fin 8448) (q : Fin 2048), y = ix2 p q := ⟨y 0, y 1, by funext a; fin_cases a <;> rfl⟩
  rw [out_at, Cert.FfnRefIdeal.RefValue.want_apply, half_eq, mul_sum_of_nonneg _ _ (by norm_num), Finset.sum_range]
  refine congrArg _ (Finset.sum_congr rfl fun j _ => ?_)
  unfold term
  rw [dif_pos j.isLt, half_eq, mul_assoc]
  rfl

theorem claim : Cert.algebraic_FfnIdeal_FfnRefIdeal := by
  intro m ρ m' ρ' _ hagree
  refine ⟨fun c => RefValue.want (argH m c) (argG m c) (argW1 m c) (argW3 m c) (argW2 m c), ?_, ?_⟩
  · exact (θ_run defs _ _).mono (fun r h c => ⟨(h.1 c).1.trans (out_eq m c), (h.1 c).2⟩) (run_main (F := Ideal) m ρ)
  · refine (θ_run Cert.FfnRefIdeal.defs _ _).mono (fun r h c => ⟨(h c).1.trans ?_, (h c).2⟩) (Cert.FfnRefIdeal.Value.run (F := Ideal) m' ρ')
    rw [(hagree c).1, (hagree c).2.1, (hagree c).2.2.1, (hagree c).2.2.2.1, (hagree c).2.2.2.2]
    rfl

theorem frame_ideal : Cert.quiescent_FfnIdeal := fun m ρ _ =>
  (θ_run defs _ _).mono (fun r h => ⟨fun c => (h.1 c).2, h.2⟩) (run_main (F := Ideal) m ρ)

/-! ## The program at machine floats has the same text -/

theorem body_eq (i a b c1 d e f g h j k l mm n o q r s t u) : Cert.Ffn.cc0_ffn (F := Bits) i a b c1 d e f g h j k l mm n o q r s t u = cc0_ffn (F := Bits) i a b c1 d e f g h j k l mm n o q r s t u := rfl

theorem defs₀_eq : Cert.Ffn.defs₀ (F := Bits) = defs₀ (F := Bits) := by
  refine congrArg (Defs.onTc (nD := nD) (τ := τ) (sig := sig) (Λ := Λ₀)) ?_
  funext l a
  match l, a with
  | 0, (t, s) => exact body_eq _ _ _ _ _ _ _ _ _ _ _ _ _ _ _ _ _ _ _ _
  | ⟨k + 1, hk⟩, _ => exact absurd hk (by omega)

theorem defs_eq : Cert.Ffn.defs (F := Bits) = defs (F := Bits) :=
  congrArg (Pipeline.defs (pcfgs (F := Bits))) defs₀_eq

/-- So its frame is the same run. -/
theorem frame_kernel : Cert.quiescent_Ffn := fun m ρ _ => by
  have h := run_main (F := Bits) m ρ
  rw [← defs_eq] at h
  exact (θ_run Cert.Ffn.defs _ _).mono (fun r h => ⟨fun c => (h.1 c).2, h.2⟩) h

theorem frame_reference : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

end Cert.FfnRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.Rows
public import proofs.«01_k».proof.Proof.Gen.Rows.Frame
public import proofs.«01_k».proof.Proof.Gen.RowsIdeal
public import proofs.«01_k».proof.Proof.Gen.RowsIdeal.Frame
public import proofs.«01_k».proof.Proof.Gen.RowsRefIdeal
public import proofs.«01_k».proof.Proof.Gen.RowsRefIdeal.Run
public import proofs.«01_k».proof.Proof.Gen.Kvs
public import proofs.«01_k».proof.Proof.Gen.Kvs.Frame
public import proofs.«01_k».proof.Proof.Gen.KvsIdeal
public import proofs.«01_k».proof.Proof.Gen.KvsIdeal.Frame
public import proofs.«01_k».proof.Proof.Gen.KvsRefIdeal
public import proofs.«01_k».proof.Proof.Gen.KvsRefIdeal.Run
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvRefIdeal
public import proofs.«01_k».proof.Proof.Gen.KvRefIdeal.Run
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluRefIdeal
public import proofs.«01_k».proof.Proof.Gen.GluRefIdeal.Run
public import proofs.«01_k».proof.Proof.Gen.Step
public import proofs.«01_k».proof.Proof.Gen.Step.Frame
public import proofs.«01_k».proof.Proof.Gen.StepIdeal
public import proofs.«01_k».proof.Proof.Gen.StepIdeal.Frame
public import proofs.«01_k».proof.Proof.Gen.StepRefIdeal
public import proofs.«01_k».proof.Proof.Gen.StepRefIdeal.Run
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvRefIdeal
public import proofs.«01_k».proof.Proof.Gen.ConvRefIdeal.Run
public import proofs.«01_k».proof.Proof.Gen.Cum
public import proofs.«01_k».proof.Proof.Gen.Cum.Frame
public import proofs.«01_k».proof.Proof.Gen.CumIdeal
public import proofs.«01_k».proof.Proof.Gen.CumIdeal.Frame
public import proofs.«01_k».proof.Proof.Gen.CumRefIdeal
public import proofs.«01_k».proof.Proof.Gen.CumRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjIdeal.Value
public import proofs.«01_k».proof.Proof.Gen.Res
public import proofs.«01_k».proof.Proof.Gen.Res.Frame
public import proofs.«01_k».proof.Proof.Gen.ResIdeal
public import proofs.«01_k».proof.Proof.Gen.ResIdeal.Frame
public import proofs.«01_k».proof.Proof.Gen.ResRefIdeal
public import proofs.«01_k».proof.Proof.Gen.ResRefIdeal.Run
public import proofs.«01_k».proof.Proof.Gen.ResIdeal.Value
public import proofs.«01_k».proof.Proof.Gen.Ln
public import proofs.«01_k».proof.Proof.Gen.Ln.Frame
public import proofs.«01_k».proof.Proof.Gen.LnIdeal
public import proofs.«01_k».proof.Proof.Gen.LnIdeal.Frame
public import proofs.«01_k».proof.Proof.Gen.LnRefIdeal
public import proofs.«01_k».proof.Proof.Gen.LnRefIdeal.Run
public import proofs.«01_k».proof.Proof.Gen.LnIdeal.Value
public import proofs.«01_k».proof.Proof.RowsValue
public import proofs.«01_k».proof.Proof.KvsValue
public import proofs.«01_k».proof.Proof.KvValue
public import proofs.«01_k».proof.Proof.GluValue
public import proofs.«01_k».proof.Proof.StepValue
public import proofs.«01_k».proof.Proof.ConvValue
public import proofs.«01_k».proof.Proof.CumValue
public import proofs.«01_k».proof.Proof.ProjValue
public import proofs.«01_k».proof.Proof.ResValue
public import proofs.«01_k».proof.Proof.LnValue
public import proofs.«01_k».proof.Proof.RmsOut
public import proofs.«01_k».proof.Proof.FfnValue
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Rows.Gen.facts, Cert.RowsIdeal.Gen.facts, Cert.RowsRefIdeal.Gen.facts,
  Cert.Kvs.Gen.facts, Cert.KvsIdeal.Gen.facts, Cert.KvsRefIdeal.Gen.facts,
  Cert.Kv.Gen.facts, Cert.KvIdeal.Gen.facts, Cert.KvRefIdeal.Gen.facts,
  Cert.Glu.Gen.facts, Cert.GluIdeal.Gen.facts, Cert.GluRefIdeal.Gen.facts,
  Cert.Step.Gen.facts, Cert.StepIdeal.Gen.facts, Cert.StepRefIdeal.Gen.facts,
  Cert.Conv.Gen.facts, Cert.ConvIdeal.Gen.facts, Cert.ConvRefIdeal.Gen.facts,
  Cert.Cum.Gen.facts, Cert.CumIdeal.Gen.facts, Cert.CumRefIdeal.Gen.facts,
  Cert.Proj.Gen.facts, Cert.ProjIdeal.Gen.facts, Cert.ProjRefIdeal.Gen.facts,
  Cert.Res.Gen.facts, Cert.ResIdeal.Gen.facts, Cert.ResRefIdeal.Gen.facts,
  Cert.Ln.Gen.facts, Cert.LnIdeal.Gen.facts, Cert.LnRefIdeal.Gen.facts,
  Cert.CumRun.pre_facts,
  fun m ρ _ => Cert.Kernel.Gen.frame m ρ,
  fun m ρ _ => Cert.KernelIdeal.Gen.frame m ρ,
  Cert.RmsOut.frame_reference,
  Cert.FfnRun.frame_kernel, Cert.FfnRun.frame_ideal, Cert.FfnRun.frame_reference,
  fun m ρ _ => Cert.Rows.Gen.frame m ρ, fun m ρ _ => Cert.RowsIdeal.Gen.frame m ρ, Cert.RowsRun.frame_reference,
  fun m ρ _ => Cert.Kvs.Gen.frame m ρ, fun m ρ _ => Cert.KvsIdeal.Gen.frame m ρ, Cert.KvsRun.frame_reference,
  Cert.KvRun.frame_kernel, Cert.KvRun.frame_ideal, Cert.KvRun.frame_reference,
  fun m ρ _ => Cert.Glu.Gen.frame m ρ, fun m ρ _ => Cert.GluIdeal.Gen.frame m ρ, Cert.GluRun.frame_reference,
  fun m ρ _ => Cert.Step.Gen.frame m ρ, fun m ρ _ => Cert.StepIdeal.Gen.frame m ρ, Cert.StepRun.frame_reference,
  fun m ρ _ => Cert.Conv.Gen.frame m ρ, fun m ρ _ => Cert.ConvIdeal.Gen.frame m ρ, Cert.ConvRun.frame_reference,
  fun m ρ _ => Cert.Cum.Gen.frame m ρ, fun m ρ _ => Cert.CumIdeal.Gen.frame m ρ, Cert.CumRun.frame_ideal_pre, Cert.CumRun.frame_reference, Cert.CumRun.frame_reference_pre,
  fun m ρ _ => Cert.Proj.Gen.frame m ρ, fun m ρ _ => Cert.ProjIdeal.Gen.frame m ρ, Cert.ProjRun.frame_reference,
  fun m ρ _ => Cert.Res.Gen.frame m ρ, fun m ρ _ => Cert.ResIdeal.Gen.frame m ρ, Cert.ResRun.frame_reference,
  fun m ρ _ => Cert.Ln.Gen.frame m ρ, fun m ρ _ => Cert.LnIdeal.Gen.frame m ρ, Cert.LnRun.frame_reference,
  trivial, Cert.RmsOut.claim, trivial, Cert.FfnRun.claim,
  trivial, Cert.RowsRun.claim, trivial, Cert.KvsRun.claim, trivial, Cert.KvRun.claim, trivial, Cert.GluRun.claim, trivial, Cert.StepRun.claim, trivial, Cert.ConvRun.claim, trivial, Cert.CumRun.claim, trivial, Cert.ProjRun.claim, trivial, Cert.ResRun.claim, trivial, Cert.LnRun.claim⟩

end Cert.Proof

end
